-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_real_branch [hPre_real_branch : Cert.Pre_real_branch.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_real_branch.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_real_branch [hPre_real_branch : Cert.Pre_real_branch.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_real_branch.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_WinGrad (m : (ℓ : Loc Cert.WinGrad.nD Cert.WinGrad.τ Cert.WinGrad.sig) → Buf (Elt Bits) ℓ) : Prop :=
  True

def Pre_WinGradIdeal (m : (ℓ : Loc Cert.WinGradIdeal.nD Cert.WinGradIdeal.τ Cert.WinGradIdeal.sig) → Buf (Elt Ideal) ℓ) : Prop :=
  True

def Pre_WinGradRefIdeal (m : (ℓ : Loc Cert.WinGradRefIdeal.nD Cert.WinGradRefIdeal.τ Cert.WinGradRefIdeal.sig) → Buf (Elt Ideal) ℓ) : Prop :=
  True

def Pre_HnGrad (m : (ℓ : Loc Cert.HnGrad.nD Cert.HnGrad.τ Cert.HnGrad.sig) → Buf (Elt Bits) ℓ) : Prop :=
  True

def Pre_HnGradIdeal (m : (ℓ : Loc Cert.HnGradIdeal.nD Cert.HnGradIdeal.τ Cert.HnGradIdeal.sig) → Buf (Elt Ideal) ℓ) : Prop :=
  True

def Pre_HnGradRefIdeal (m : (ℓ : Loc Cert.HnGradRefIdeal.nD Cert.HnGradRefIdeal.τ Cert.HnGradRefIdeal.sig) → Buf (Elt Ideal) ℓ) : Prop :=
  True

def Pre_Hn2Grad (m : (ℓ : Loc Cert.Hn2Grad.nD Cert.Hn2Grad.τ Cert.Hn2Grad.sig) → Buf (Elt Bits) ℓ) : Prop :=
  True

def Pre_Hn2GradIdeal (m : (ℓ : Loc Cert.Hn2GradIdeal.nD Cert.Hn2GradIdeal.τ Cert.Hn2GradIdeal.sig) → Buf (Elt Ideal) ℓ) : Prop :=
  True

def Pre_Hn2GradRefIdeal (m : (ℓ : Loc Cert.Hn2GradRefIdeal.nD Cert.Hn2GradRefIdeal.τ Cert.Hn2GradRefIdeal.sig) → Buf (Elt Ideal) ℓ) : Prop :=
  True

def Pre_WoutGrad (m : (ℓ : Loc Cert.WoutGrad.nD Cert.WoutGrad.τ Cert.WoutGrad.sig) → Buf (Elt Bits) ℓ) : Prop :=
  True

def Pre_WoutGradIdeal (m : (ℓ : Loc Cert.WoutGradIdeal.nD Cert.WoutGradIdeal.τ Cert.WoutGradIdeal.sig) → Buf (Elt Ideal) ℓ) : Prop :=
  True

def Pre_WoutGradRefIdeal (m : (ℓ : Loc Cert.WoutGradRefIdeal.nD Cert.WoutGradRefIdeal.τ Cert.WoutGradRefIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradRefIdeal (m : (ℓ : Loc Cert.MixGradRefIdeal.nD Cert.MixGradRefIdeal.τ Cert.MixGradRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_SmallAdam (m : (ℓ : Loc Cert.SmallAdam.nD Cert.SmallAdam.τ Cert.SmallAdam.sig) → Buf (Elt Bits) ℓ) : Prop :=
  True

def Pre_SmallAdamIdeal (m : (ℓ : Loc Cert.SmallAdamIdeal.nD Cert.SmallAdamIdeal.τ Cert.SmallAdamIdeal.sig) → Buf (Elt Ideal) ℓ) : Prop :=
  True

def Pre_SmallAdamRefIdeal (m : (ℓ : Loc Cert.SmallAdamRefIdeal.nD Cert.SmallAdamRefIdeal.τ Cert.SmallAdamRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_real_branch [hSwigluIdeal : Cert.SwigluIdeal.Facts] [hPre_real_branch : Cert.Pre_real_branch.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_real_branch m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_real_branch [hSwigluRefIdeal : Cert.SwigluRefIdeal.Facts] [hPre_real_branch : Cert.Pre_real_branch.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_real_branch m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_WinGrad [hWinGrad : Cert.WinGrad.Facts] : Prop :=
  ∀ (m : (ℓ : Loc Cert.WinGrad.nD Cert.WinGrad.τ Cert.WinGrad.sig) → Buf (Elt Bits) ℓ) (g : Dev Cert.WinGrad.nD → PrngReg), Pre_WinGrad m →
    θ_run (Cert.WinGrad.defs (F := Bits)) (onTc (τ := Cert.WinGrad.τ) (Cert.WinGrad.main (F := Bits))) ⟨m, fun _ => 0, g⟩ (fun r => (∀ c : Dev Cert.WinGrad.nD,
      r.2.mem ((c.tc : Thread Cert.WinGrad.nD Cert.WinGrad.τ).loc Cert.WinGrad.main_arg0) = m ((c.tc : Thread Cert.WinGrad.nD Cert.WinGrad.τ).loc Cert.WinGrad.main_arg0)
      ∧ r.2.mem ((c.tc : Thread Cert.WinGrad.nD Cert.WinGrad.τ).loc Cert.WinGrad.main_arg1) = m ((c.tc : Thread Cert.WinGrad.nD Cert.WinGrad.τ).loc Cert.WinGrad.main_arg1))
      ∧ r.2.sem = fun _ => 0)

def quiescent_WinGradIdeal [hWinGradIdeal : Cert.WinGradIdeal.Facts] : Prop :=
  ∀ (m : (ℓ : Loc Cert.WinGradIdeal.nD Cert.WinGradIdeal.τ Cert.WinGradIdeal.sig) → Buf (Elt Ideal) ℓ) (g : Dev Cert.WinGradIdeal.nD → PrngReg), Pre_WinGradIdeal m →
    θ_run (Cert.WinGradIdeal.defs (F := Ideal)) (onTc (τ := Cert.WinGradIdeal.τ) (Cert.WinGradIdeal.main (F := Ideal))) ⟨m, fun _ => 0, g⟩ (fun r => (∀ c : Dev Cert.WinGradIdeal.nD,
      r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
      ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1))
      ∧ r.2.sem = fun _ => 0)

def quiescent_WinGradRefIdeal [hWinGradRefIdeal : Cert.WinGradRefIdeal.Facts] : Prop :=
  ∀ (m : (ℓ : Loc Cert.WinGradRefIdeal.nD Cert.WinGradRefIdeal.τ Cert.WinGradRefIdeal.sig) → Buf (Elt Ideal) ℓ) (g : Dev Cert.WinGradRefIdeal.nD → PrngReg), Pre_WinGradRefIdeal m →
    θ_run (Cert.WinGradRefIdeal.defs (F := Ideal)) (onTc (τ := Cert.WinGradRefIdeal.τ) (Cert.WinGradRefIdeal.main (F := Ideal))) ⟨m, fun _ => 0, g⟩ (fun r => (∀ c : Dev Cert.WinGradRefIdeal.nD,
      r.2.mem ((c.tc : Thread Cert.WinGradRefIdeal.nD Cert.WinGradRefIdeal.τ).loc Cert.WinGradRefIdeal.main_arg0) = m ((c.tc : Thread Cert.WinGradRefIdeal.nD Cert.WinGradRefIdeal.τ).loc Cert.WinGradRefIdeal.main_arg0)
      ∧ r.2.mem ((c.tc : Thread Cert.WinGradRefIdeal.nD Cert.WinGradRefIdeal.τ).loc Cert.WinGradRefIdeal.main_arg1) = m ((c.tc : Thread Cert.WinGradRefIdeal.nD Cert.WinGradRefIdeal.τ).loc Cert.WinGradRefIdeal.main_arg1))
      ∧ r.2.sem = fun _ => 0)

def quiescent_HnGrad [hHnGrad : Cert.HnGrad.Facts] : Prop :=
  ∀ (m : (ℓ : Loc Cert.HnGrad.nD Cert.HnGrad.τ Cert.HnGrad.sig) → Buf (Elt Bits) ℓ) (g : Dev Cert.HnGrad.nD → PrngReg), Pre_HnGrad m →
    θ_run (Cert.HnGrad.defs (F := Bits)) (onTc (τ := Cert.HnGrad.τ) (Cert.HnGrad.main (F := Bits))) ⟨m, fun _ => 0, g⟩ (fun r => (∀ c : Dev Cert.HnGrad.nD,
      r.2.mem ((c.tc : Thread Cert.HnGrad.nD Cert.HnGrad.τ).loc Cert.HnGrad.main_arg0) = m ((c.tc : Thread Cert.HnGrad.nD Cert.HnGrad.τ).loc Cert.HnGrad.main_arg0)
      ∧ r.2.mem ((c.tc : Thread Cert.HnGrad.nD Cert.HnGrad.τ).loc Cert.HnGrad.main_arg1) = m ((c.tc : Thread Cert.HnGrad.nD Cert.HnGrad.τ).loc Cert.HnGrad.main_arg1))
      ∧ r.2.sem = fun _ => 0)

def quiescent_HnGradIdeal [hHnGradIdeal : Cert.HnGradIdeal.Facts] : Prop :=
  ∀ (m : (ℓ : Loc Cert.HnGradIdeal.nD Cert.HnGradIdeal.τ Cert.HnGradIdeal.sig) → Buf (Elt Ideal) ℓ) (g : Dev Cert.HnGradIdeal.nD → PrngReg), Pre_HnGradIdeal m →
    θ_run (Cert.HnGradIdeal.defs (F := Ideal)) (onTc (τ := Cert.HnGradIdeal.τ) (Cert.HnGradIdeal.main (F := Ideal))) ⟨m, fun _ => 0, g⟩ (fun r => (∀ c : Dev Cert.HnGradIdeal.nD,
      r.2.mem ((c.tc : Thread Cert.HnGradIdeal.nD Cert.HnGradIdeal.τ).loc Cert.HnGradIdeal.main_arg0) = m ((c.tc : Thread Cert.HnGradIdeal.nD Cert.HnGradIdeal.τ).loc Cert.HnGradIdeal.main_arg0)
      ∧ r.2.mem ((c.tc : Thread Cert.HnGradIdeal.nD Cert.HnGradIdeal.τ).loc Cert.HnGradIdeal.main_arg1) = m ((c.tc : Thread Cert.HnGradIdeal.nD Cert.HnGradIdeal.τ).loc Cert.HnGradIdeal.main_arg1))
      ∧ r.2.sem = fun _ => 0)

def quiescent_HnGradRefIdeal [hHnGradRefIdeal : Cert.HnGradRefIdeal.Facts] : Prop :=
  ∀ (m : (ℓ : Loc Cert.HnGradRefIdeal.nD Cert.HnGradRefIdeal.τ Cert.HnGradRefIdeal.sig) → Buf (Elt Ideal) ℓ) (g : Dev Cert.HnGradRefIdeal.nD → PrngReg), Pre_HnGradRefIdeal m →
    θ_run (Cert.HnGradRefIdeal.defs (F := Ideal)) (onTc (τ := Cert.HnGradRefIdeal.τ) (Cert.HnGradRefIdeal.main (F := Ideal))) ⟨m, fun _ => 0, g⟩ (fun r => (∀ c : Dev Cert.HnGradRefIdeal.nD,
      r.2.mem ((c.tc : Thread Cert.HnGradRefIdeal.nD Cert.HnGradRefIdeal.τ).loc Cert.HnGradRefIdeal.main_arg0) = m ((c.tc : Thread Cert.HnGradRefIdeal.nD Cert.HnGradRefIdeal.τ).loc Cert.HnGradRefIdeal.main_arg0)
      ∧ r.2.mem ((c.tc : Thread Cert.HnGradRefIdeal.nD Cert.HnGradRefIdeal.τ).loc Cert.HnGradRefIdeal.main_arg1) = m ((c.tc : Thread Cert.HnGradRefIdeal.nD Cert.HnGradRefIdeal.τ).loc Cert.HnGradRefIdeal.main_arg1))
      ∧ r.2.sem = fun _ => 0)

def quiescent_Hn2Grad [hHn2Grad : Cert.Hn2Grad.Facts] : Prop :=
  ∀ (m : (ℓ : Loc Cert.Hn2Grad.nD Cert.Hn2Grad.τ Cert.Hn2Grad.sig) → Buf (Elt Bits) ℓ) (g : Dev Cert.Hn2Grad.nD → PrngReg), Pre_Hn2Grad m →
    θ_run (Cert.Hn2Grad.defs (F := Bits)) (onTc (τ := Cert.Hn2Grad.τ) (Cert.Hn2Grad.main (F := Bits))) ⟨m, fun _ => 0, g⟩ (fun r => (∀ c : Dev Cert.Hn2Grad.nD,
      r.2.mem ((c.tc : Thread Cert.Hn2Grad.nD Cert.Hn2Grad.τ).loc Cert.Hn2Grad.main_arg0) = m ((c.tc : Thread Cert.Hn2Grad.nD Cert.Hn2Grad.τ).loc Cert.Hn2Grad.main_arg0)
      ∧ r.2.mem ((c.tc : Thread Cert.Hn2Grad.nD Cert.Hn2Grad.τ).loc Cert.Hn2Grad.main_arg1) = m ((c.tc : Thread Cert.Hn2Grad.nD Cert.Hn2Grad.τ).loc Cert.Hn2Grad.main_arg1))
      ∧ r.2.sem = fun _ => 0)

def quiescent_Hn2GradIdeal [hHn2GradIdeal : Cert.Hn2GradIdeal.Facts] : Prop :=
  ∀ (m : (ℓ : Loc Cert.Hn2GradIdeal.nD Cert.Hn2GradIdeal.τ Cert.Hn2GradIdeal.sig) → Buf (Elt Ideal) ℓ) (g : Dev Cert.Hn2GradIdeal.nD → PrngReg), Pre_Hn2GradIdeal m →
    θ_run (Cert.Hn2GradIdeal.defs (F := Ideal)) (onTc (τ := Cert.Hn2GradIdeal.τ) (Cert.Hn2GradIdeal.main (F := Ideal))) ⟨m, fun _ => 0, g⟩ (fun r => (∀ c : Dev Cert.Hn2GradIdeal.nD,
      r.2.mem ((c.tc : Thread Cert.Hn2GradIdeal.nD Cert.Hn2GradIdeal.τ).loc Cert.Hn2GradIdeal.main_arg0) = m ((c.tc : Thread Cert.Hn2GradIdeal.nD Cert.Hn2GradIdeal.τ).loc Cert.Hn2GradIdeal.main_arg0)
      ∧ r.2.mem ((c.tc : Thread Cert.Hn2GradIdeal.nD Cert.Hn2GradIdeal.τ).loc Cert.Hn2GradIdeal.main_arg1) = m ((c.tc : Thread Cert.Hn2GradIdeal.nD Cert.Hn2GradIdeal.τ).loc Cert.Hn2GradIdeal.main_arg1))
      ∧ r.2.sem = fun _ => 0)

def quiescent_Hn2GradRefIdeal [hHn2GradRefIdeal : Cert.Hn2GradRefIdeal.Facts] : Prop :=
  ∀ (m : (ℓ : Loc Cert.Hn2GradRefIdeal.nD Cert.Hn2GradRefIdeal.τ Cert.Hn2GradRefIdeal.sig) → Buf (Elt Ideal) ℓ) (g : Dev Cert.Hn2GradRefIdeal.nD → PrngReg), Pre_Hn2GradRefIdeal m →
    θ_run (Cert.Hn2GradRefIdeal.defs (F := Ideal)) (onTc (τ := Cert.Hn2GradRefIdeal.τ) (Cert.Hn2GradRefIdeal.main (F := Ideal))) ⟨m, fun _ => 0, g⟩ (fun r => (∀ c : Dev Cert.Hn2GradRefIdeal.nD,
      r.2.mem ((c.tc : Thread Cert.Hn2GradRefIdeal.nD Cert.Hn2GradRefIdeal.τ).loc Cert.Hn2GradRefIdeal.main_arg0) = m ((c.tc : Thread Cert.Hn2GradRefIdeal.nD Cert.Hn2GradRefIdeal.τ).loc Cert.Hn2GradRefIdeal.main_arg0)
      ∧ r.2.mem ((c.tc : Thread Cert.Hn2GradRefIdeal.nD Cert.Hn2GradRefIdeal.τ).loc Cert.Hn2GradRefIdeal.main_arg1) = m ((c.tc : Thread Cert.Hn2GradRefIdeal.nD Cert.Hn2GradRefIdeal.τ).loc Cert.Hn2GradRefIdeal.main_arg1))
      ∧ r.2.sem = fun _ => 0)

def quiescent_WoutGrad [hWoutGrad : Cert.WoutGrad.Facts] : Prop :=
  ∀ (m : (ℓ : Loc Cert.WoutGrad.nD Cert.WoutGrad.τ Cert.WoutGrad.sig) → Buf (Elt Bits) ℓ) (g : Dev Cert.WoutGrad.nD → PrngReg), Pre_WoutGrad m →
    θ_run (Cert.WoutGrad.defs (F := Bits)) (onTc (τ := Cert.WoutGrad.τ) (Cert.WoutGrad.main (F := Bits))) ⟨m, fun _ => 0, g⟩ (fun r => (∀ c : Dev Cert.WoutGrad.nD,
      r.2.mem ((c.tc : Thread Cert.WoutGrad.nD Cert.WoutGrad.τ).loc Cert.WoutGrad.main_arg0) = m ((c.tc : Thread Cert.WoutGrad.nD Cert.WoutGrad.τ).loc Cert.WoutGrad.main_arg0)
      ∧ r.2.mem ((c.tc : Thread Cert.WoutGrad.nD Cert.WoutGrad.τ).loc Cert.WoutGrad.main_arg1) = m ((c.tc : Thread Cert.WoutGrad.nD Cert.WoutGrad.τ).loc Cert.WoutGrad.main_arg1))
      ∧ r.2.sem = fun _ => 0)

def quiescent_WoutGradIdeal [hWoutGradIdeal : Cert.WoutGradIdeal.Facts] : Prop :=
  ∀ (m : (ℓ : Loc Cert.WoutGradIdeal.nD Cert.WoutGradIdeal.τ Cert.WoutGradIdeal.sig) → Buf (Elt Ideal) ℓ) (g : Dev Cert.WoutGradIdeal.nD → PrngReg), Pre_WoutGradIdeal m →
    θ_run (Cert.WoutGradIdeal.defs (F := Ideal)) (onTc (τ := Cert.WoutGradIdeal.τ) (Cert.WoutGradIdeal.main (F := Ideal))) ⟨m, fun _ => 0, g⟩ (fun r => (∀ c : Dev Cert.WoutGradIdeal.nD,
      r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
      ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1))
      ∧ r.2.sem = fun _ => 0)

def quiescent_WoutGradRefIdeal [hWoutGradRefIdeal : Cert.WoutGradRefIdeal.Facts] : Prop :=
  ∀ (m : (ℓ : Loc Cert.WoutGradRefIdeal.nD Cert.WoutGradRefIdeal.τ Cert.WoutGradRefIdeal.sig) → Buf (Elt Ideal) ℓ) (g : Dev Cert.WoutGradRefIdeal.nD → PrngReg), Pre_WoutGradRefIdeal m →
    θ_run (Cert.WoutGradRefIdeal.defs (F := Ideal)) (onTc (τ := Cert.WoutGradRefIdeal.τ) (Cert.WoutGradRefIdeal.main (F := Ideal))) ⟨m, fun _ => 0, g⟩ (fun r => (∀ c : Dev Cert.WoutGradRefIdeal.nD,
      r.2.mem ((c.tc : Thread Cert.WoutGradRefIdeal.nD Cert.WoutGradRefIdeal.τ).loc Cert.WoutGradRefIdeal.main_arg0) = m ((c.tc : Thread Cert.WoutGradRefIdeal.nD Cert.WoutGradRefIdeal.τ).loc Cert.WoutGradRefIdeal.main_arg0)
      ∧ r.2.mem ((c.tc : Thread Cert.WoutGradRefIdeal.nD Cert.WoutGradRefIdeal.τ).loc Cert.WoutGradRefIdeal.main_arg1) = m ((c.tc : Thread Cert.WoutGradRefIdeal.nD Cert.WoutGradRefIdeal.τ).loc Cert.WoutGradRefIdeal.main_arg1))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ r.2.sem = fun _ => 0)

def quiescent_MixGradRefIdeal [hMixGradRefIdeal : Cert.MixGradRefIdeal.Facts] : Prop :=
  ∀ (m : (ℓ : Loc Cert.MixGradRefIdeal.nD Cert.MixGradRefIdeal.τ Cert.MixGradRefIdeal.sig) → Buf (Elt Ideal) ℓ) (g : Dev Cert.MixGradRefIdeal.nD → PrngReg), Pre_MixGradRefIdeal m →
    θ_run (Cert.MixGradRefIdeal.defs (F := Ideal)) (onTc (τ := Cert.MixGradRefIdeal.τ) (Cert.MixGradRefIdeal.main (F := Ideal))) ⟨m, fun _ => 0, g⟩ (fun r => (∀ c : Dev Cert.MixGradRefIdeal.nD,
      r.2.mem ((c.tc : Thread Cert.MixGradRefIdeal.nD Cert.MixGradRefIdeal.τ).loc Cert.MixGradRefIdeal.main_arg0) = m ((c.tc : Thread Cert.MixGradRefIdeal.nD Cert.MixGradRefIdeal.τ).loc Cert.MixGradRefIdeal.main_arg0)
      ∧ r.2.mem ((c.tc : Thread Cert.MixGradRefIdeal.nD Cert.MixGradRefIdeal.τ).loc Cert.MixGradRefIdeal.main_arg1) = m ((c.tc : Thread Cert.MixGradRefIdeal.nD Cert.MixGradRefIdeal.τ).loc Cert.MixGradRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2)
      ∧ r.2.mem ((c.tc : Thread Cert.NormMix.nD Cert.NormMix.τ).loc Cert.NormMix.main_arg3) = m ((c.tc : Thread Cert.NormMix.nD Cert.NormMix.τ).loc Cert.NormMix.main_arg3))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2)
      ∧ r.2.mem ((c.tc : Thread Cert.NormFfn.nD Cert.NormFfn.τ).loc Cert.NormFfn.main_arg3) = m ((c.tc : Thread Cert.NormFfn.nD Cert.NormFfn.τ).loc Cert.NormFfn.main_arg3))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
      ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4))
      ∧ r.2.sem = fun _ => 0)

def quiescent_SmallAdam [hSmallAdam : Cert.SmallAdam.Facts] : Prop :=
  ∀ (m : (ℓ : Loc Cert.SmallAdam.nD Cert.SmallAdam.τ Cert.SmallAdam.sig) → Buf (Elt Bits) ℓ) (g : Dev Cert.SmallAdam.nD → PrngReg), Pre_SmallAdam m →
    θ_run (Cert.SmallAdam.defs (F := Bits)) (onTc (τ := Cert.SmallAdam.τ) (Cert.SmallAdam.main (F := Bits))) ⟨m, fun _ => 0, g⟩ (fun r => (∀ c : Dev Cert.SmallAdam.nD,
      r.2.mem ((c.tc : Thread Cert.SmallAdam.nD Cert.SmallAdam.τ).loc Cert.SmallAdam.main_arg0) = m ((c.tc : Thread Cert.SmallAdam.nD Cert.SmallAdam.τ).loc Cert.SmallAdam.main_arg0)
      ∧ r.2.mem ((c.tc : Thread Cert.SmallAdam.nD Cert.SmallAdam.τ).loc Cert.SmallAdam.main_arg1) = m ((c.tc : Thread Cert.SmallAdam.nD Cert.SmallAdam.τ).loc Cert.SmallAdam.main_arg1)
      ∧ r.2.mem ((c.tc : Thread Cert.SmallAdam.nD Cert.SmallAdam.τ).loc Cert.SmallAdam.main_arg2) = m ((c.tc : Thread Cert.SmallAdam.nD Cert.SmallAdam.τ).loc Cert.SmallAdam.main_arg2)
      ∧ r.2.mem ((c.tc : Thread Cert.SmallAdam.nD Cert.SmallAdam.τ).loc Cert.SmallAdam.main_arg3) = m ((c.tc : Thread Cert.SmallAdam.nD Cert.SmallAdam.τ).loc Cert.SmallAdam.main_arg3)
      ∧ r.2.mem ((c.tc : Thread Cert.SmallAdam.nD Cert.SmallAdam.τ).loc Cert.SmallAdam.main_arg4) = m ((c.tc : Thread Cert.SmallAdam.nD Cert.SmallAdam.τ).loc Cert.SmallAdam.main_arg4)
      ∧ r.2.mem ((c.tc : Thread Cert.SmallAdam.nD Cert.SmallAdam.τ).loc Cert.SmallAdam.main_arg5) = m ((c.tc : Thread Cert.SmallAdam.nD Cert.SmallAdam.τ).loc Cert.SmallAdam.main_arg5)
      ∧ r.2.mem ((c.tc : Thread Cert.SmallAdam.nD Cert.SmallAdam.τ).loc Cert.SmallAdam.main_arg6) = m ((c.tc : Thread Cert.SmallAdam.nD Cert.SmallAdam.τ).loc Cert.SmallAdam.main_arg6)
      ∧ r.2.mem ((c.tc : Thread Cert.SmallAdam.nD Cert.SmallAdam.τ).loc Cert.SmallAdam.main_arg7) = m ((c.tc : Thread Cert.SmallAdam.nD Cert.SmallAdam.τ).loc Cert.SmallAdam.main_arg7)
      ∧ r.2.mem ((c.tc : Thread Cert.SmallAdam.nD Cert.SmallAdam.τ).loc Cert.SmallAdam.main_arg8) = m ((c.tc : Thread Cert.SmallAdam.nD Cert.SmallAdam.τ).loc Cert.SmallAdam.main_arg8)
      ∧ r.2.mem ((c.tc : Thread Cert.SmallAdam.nD Cert.SmallAdam.τ).loc Cert.SmallAdam.main_arg9) = m ((c.tc : Thread Cert.SmallAdam.nD Cert.SmallAdam.τ).loc Cert.SmallAdam.main_arg9)
      ∧ r.2.mem ((c.tc : Thread Cert.SmallAdam.nD Cert.SmallAdam.τ).loc Cert.SmallAdam.main_arg10) = m ((c.tc : Thread Cert.SmallAdam.nD Cert.SmallAdam.τ).loc Cert.SmallAdam.main_arg10)
      ∧ r.2.mem ((c.tc : Thread Cert.SmallAdam.nD Cert.SmallAdam.τ).loc Cert.SmallAdam.main_arg11) = m ((c.tc : Thread Cert.SmallAdam.nD Cert.SmallAdam.τ).loc Cert.SmallAdam.main_arg11)
      ∧ r.2.mem ((c.tc : Thread Cert.SmallAdam.nD Cert.SmallAdam.τ).loc Cert.SmallAdam.main_arg12) = m ((c.tc : Thread Cert.SmallAdam.nD Cert.SmallAdam.τ).loc Cert.SmallAdam.main_arg12)
      ∧ r.2.mem ((c.tc : Thread Cert.SmallAdam.nD Cert.SmallAdam.τ).loc Cert.SmallAdam.main_arg13) = m ((c.tc : Thread Cert.SmallAdam.nD Cert.SmallAdam.τ).loc Cert.SmallAdam.main_arg13)
      ∧ r.2.mem ((c.tc : Thread Cert.SmallAdam.nD Cert.SmallAdam.τ).loc Cert.SmallAdam.main_arg14) = m ((c.tc : Thread Cert.SmallAdam.nD Cert.SmallAdam.τ).loc Cert.SmallAdam.main_arg14)
      ∧ r.2.mem ((c.tc : Thread Cert.SmallAdam.nD Cert.SmallAdam.τ).loc Cert.SmallAdam.main_arg15) = m ((c.tc : Thread Cert.SmallAdam.nD Cert.SmallAdam.τ).loc Cert.SmallAdam.main_arg15))
      ∧ r.2.sem = fun _ => 0)

def quiescent_SmallAdamIdeal [hSmallAdamIdeal : Cert.SmallAdamIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg), Pre_SmallAdamIdeal m →
    θ_run (Cert.SmallAdamIdeal.defs (F := Ideal)) (onTc (τ := Cert.SmallAdamIdeal.τ) (Cert.SmallAdamIdeal.main (F := Ideal))) ⟨m, fun _ => 0, g⟩ (fun r => (∀ c : Dev Cert.SmallAdamIdeal.nD,
      r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
      ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
      ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
      ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3)
      ∧ r.2.mem ((c.tc : Thread Cert.SmallAdamIdeal.nD Cert.SmallAdamIdeal.τ).loc Cert.SmallAdamIdeal.main_arg4) = m ((c.tc : Thread Cert.SmallAdamIdeal.nD Cert.SmallAdamIdeal.τ).loc Cert.SmallAdamIdeal.main_arg4)
      ∧ r.2.mem ((c.tc : Thread Cert.SmallAdamIdeal.nD Cert.SmallAdamIdeal.τ).loc Cert.SmallAdamIdeal.main_arg5) = m ((c.tc : Thread Cert.SmallAdamIdeal.nD Cert.SmallAdamIdeal.τ).loc Cert.SmallAdamIdeal.main_arg5)
      ∧ r.2.mem ((c.tc : Thread Cert.SmallAdamIdeal.nD Cert.SmallAdamIdeal.τ).loc Cert.SmallAdamIdeal.main_arg6) = m ((c.tc : Thread Cert.SmallAdamIdeal.nD Cert.SmallAdamIdeal.τ).loc Cert.SmallAdamIdeal.main_arg6)
      ∧ r.2.mem ((c.tc : Thread Cert.SmallAdamIdeal.nD Cert.SmallAdamIdeal.τ).loc Cert.SmallAdamIdeal.main_arg7) = m ((c.tc : Thread Cert.SmallAdamIdeal.nD Cert.SmallAdamIdeal.τ).loc Cert.SmallAdamIdeal.main_arg7)
      ∧ r.2.mem ((c.tc : Thread Cert.SmallAdamIdeal.nD Cert.SmallAdamIdeal.τ).loc Cert.SmallAdamIdeal.main_arg8) = m ((c.tc : Thread Cert.SmallAdamIdeal.nD Cert.SmallAdamIdeal.τ).loc Cert.SmallAdamIdeal.main_arg8)
      ∧ r.2.mem ((c.tc : Thread Cert.SmallAdamIdeal.nD Cert.SmallAdamIdeal.τ).loc Cert.SmallAdamIdeal.main_arg9) = m ((c.tc : Thread Cert.SmallAdamIdeal.nD Cert.SmallAdamIdeal.τ).loc Cert.SmallAdamIdeal.main_arg9)
      ∧ r.2.mem ((c.tc : Thread Cert.SmallAdamIdeal.nD Cert.SmallAdamIdeal.τ).loc Cert.SmallAdamIdeal.main_arg10) = m ((c.tc : Thread Cert.SmallAdamIdeal.nD Cert.SmallAdamIdeal.τ).loc Cert.SmallAdamIdeal.main_arg10)
      ∧ r.2.mem ((c.tc : Thread Cert.SmallAdamIdeal.nD Cert.SmallAdamIdeal.τ).loc Cert.SmallAdamIdeal.main_arg11) = m ((c.tc : Thread Cert.SmallAdamIdeal.nD Cert.SmallAdamIdeal.τ).loc Cert.SmallAdamIdeal.main_arg11)
      ∧ r.2.mem ((c.tc : Thread Cert.SmallAdamIdeal.nD Cert.SmallAdamIdeal.τ).loc Cert.SmallAdamIdeal.main_arg12) = m ((c.tc : Thread Cert.SmallAdamIdeal.nD Cert.SmallAdamIdeal.τ).loc Cert.SmallAdamIdeal.main_arg12)
      ∧ r.2.mem ((c.tc : Thread Cert.SmallAdamIdeal.nD Cert.SmallAdamIdeal.τ).loc Cert.SmallAdamIdeal.main_arg13) = m ((c.tc : Thread Cert.SmallAdamIdeal.nD Cert.SmallAdamIdeal.τ).loc Cert.SmallAdamIdeal.main_arg13)
      ∧ r.2.mem ((c.tc : Thread Cert.SmallAdamIdeal.nD Cert.SmallAdamIdeal.τ).loc Cert.SmallAdamIdeal.main_arg14) = m ((c.tc : Thread Cert.SmallAdamIdeal.nD Cert.SmallAdamIdeal.τ).loc Cert.SmallAdamIdeal.main_arg14)
      ∧ r.2.mem ((c.tc : Thread Cert.SmallAdamIdeal.nD Cert.SmallAdamIdeal.τ).loc Cert.SmallAdamIdeal.main_arg15) = m ((c.tc : Thread Cert.SmallAdamIdeal.nD Cert.SmallAdamIdeal.τ).loc Cert.SmallAdamIdeal.main_arg15))
      ∧ r.2.sem = fun _ => 0)

def quiescent_SmallAdamRefIdeal [hSmallAdamRefIdeal : Cert.SmallAdamRefIdeal.Facts] : Prop :=
  ∀ (m : (ℓ : Loc Cert.SmallAdamRefIdeal.nD Cert.SmallAdamRefIdeal.τ Cert.SmallAdamRefIdeal.sig) → Buf (Elt Ideal) ℓ) (g : Dev Cert.SmallAdamRefIdeal.nD → PrngReg), Pre_SmallAdamRefIdeal m →
    θ_run (Cert.SmallAdamRefIdeal.defs (F := Ideal)) (onTc (τ := Cert.SmallAdamRefIdeal.τ) (Cert.SmallAdamRefIdeal.main (F := Ideal))) ⟨m, fun _ => 0, g⟩ (fun r => (∀ c : Dev Cert.SmallAdamRefIdeal.nD,
      r.2.mem ((c.tc : Thread Cert.SmallAdamRefIdeal.nD Cert.SmallAdamRefIdeal.τ).loc Cert.SmallAdamRefIdeal.main_arg0) = m ((c.tc : Thread Cert.SmallAdamRefIdeal.nD Cert.SmallAdamRefIdeal.τ).loc Cert.SmallAdamRefIdeal.main_arg0)
      ∧ r.2.mem ((c.tc : Thread Cert.SmallAdamRefIdeal.nD Cert.SmallAdamRefIdeal.τ).loc Cert.SmallAdamRefIdeal.main_arg1) = m ((c.tc : Thread Cert.SmallAdamRefIdeal.nD Cert.SmallAdamRefIdeal.τ).loc Cert.SmallAdamRefIdeal.main_arg1)
      ∧ r.2.mem ((c.tc : Thread Cert.SmallAdamRefIdeal.nD Cert.SmallAdamRefIdeal.τ).loc Cert.SmallAdamRefIdeal.main_arg2) = m ((c.tc : Thread Cert.SmallAdamRefIdeal.nD Cert.SmallAdamRefIdeal.τ).loc Cert.SmallAdamRefIdeal.main_arg2)
      ∧ r.2.mem ((c.tc : Thread Cert.SmallAdamRefIdeal.nD Cert.SmallAdamRefIdeal.τ).loc Cert.SmallAdamRefIdeal.main_arg3) = m ((c.tc : Thread Cert.SmallAdamRefIdeal.nD Cert.SmallAdamRefIdeal.τ).loc Cert.SmallAdamRefIdeal.main_arg3)
      ∧ r.2.mem ((c.tc : Thread Cert.SmallAdamRefIdeal.nD Cert.SmallAdamRefIdeal.τ).loc Cert.SmallAdamRefIdeal.main_arg4) = m ((c.tc : Thread Cert.SmallAdamRefIdeal.nD Cert.SmallAdamRefIdeal.τ).loc Cert.SmallAdamRefIdeal.main_arg4)
      ∧ r.2.mem ((c.tc : Thread Cert.SmallAdamRefIdeal.nD Cert.SmallAdamRefIdeal.τ).loc Cert.SmallAdamRefIdeal.main_arg5) = m ((c.tc : Thread Cert.SmallAdamRefIdeal.nD Cert.SmallAdamRefIdeal.τ).loc Cert.SmallAdamRefIdeal.main_arg5)
      ∧ r.2.mem ((c.tc : Thread Cert.SmallAdamRefIdeal.nD Cert.SmallAdamRefIdeal.τ).loc Cert.SmallAdamRefIdeal.main_arg6) = m ((c.tc : Thread Cert.SmallAdamRefIdeal.nD Cert.SmallAdamRefIdeal.τ).loc Cert.SmallAdamRefIdeal.main_arg6)
      ∧ r.2.mem ((c.tc : Thread Cert.SmallAdamRefIdeal.nD Cert.SmallAdamRefIdeal.τ).loc Cert.SmallAdamRefIdeal.main_arg7) = m ((c.tc : Thread Cert.SmallAdamRefIdeal.nD Cert.SmallAdamRefIdeal.τ).loc Cert.SmallAdamRefIdeal.main_arg7)
      ∧ r.2.mem ((c.tc : Thread Cert.SmallAdamRefIdeal.nD Cert.SmallAdamRefIdeal.τ).loc Cert.SmallAdamRefIdeal.main_arg8) = m ((c.tc : Thread Cert.SmallAdamRefIdeal.nD Cert.SmallAdamRefIdeal.τ).loc Cert.SmallAdamRefIdeal.main_arg8)
      ∧ r.2.mem ((c.tc : Thread Cert.SmallAdamRefIdeal.nD Cert.SmallAdamRefIdeal.τ).loc Cert.SmallAdamRefIdeal.main_arg9) = m ((c.tc : Thread Cert.SmallAdamRefIdeal.nD Cert.SmallAdamRefIdeal.τ).loc Cert.SmallAdamRefIdeal.main_arg9)
      ∧ r.2.mem ((c.tc : Thread Cert.SmallAdamRefIdeal.nD Cert.SmallAdamRefIdeal.τ).loc Cert.SmallAdamRefIdeal.main_arg10) = m ((c.tc : Thread Cert.SmallAdamRefIdeal.nD Cert.SmallAdamRefIdeal.τ).loc Cert.SmallAdamRefIdeal.main_arg10)
      ∧ r.2.mem ((c.tc : Thread Cert.SmallAdamRefIdeal.nD Cert.SmallAdamRefIdeal.τ).loc Cert.SmallAdamRefIdeal.main_arg11) = m ((c.tc : Thread Cert.SmallAdamRefIdeal.nD Cert.SmallAdamRefIdeal.τ).loc Cert.SmallAdamRefIdeal.main_arg11)
      ∧ r.2.mem ((c.tc : Thread Cert.SmallAdamRefIdeal.nD Cert.SmallAdamRefIdeal.τ).loc Cert.SmallAdamRefIdeal.main_arg12) = m ((c.tc : Thread Cert.SmallAdamRefIdeal.nD Cert.SmallAdamRefIdeal.τ).loc Cert.SmallAdamRefIdeal.main_arg12)
      ∧ r.2.mem ((c.tc : Thread Cert.SmallAdamRefIdeal.nD Cert.SmallAdamRefIdeal.τ).loc Cert.SmallAdamRefIdeal.main_arg13) = m ((c.tc : Thread Cert.SmallAdamRefIdeal.nD Cert.SmallAdamRefIdeal.τ).loc Cert.SmallAdamRefIdeal.main_arg13)
      ∧ r.2.mem ((c.tc : Thread Cert.SmallAdamRefIdeal.nD Cert.SmallAdamRefIdeal.τ).loc Cert.SmallAdamRefIdeal.main_arg14) = m ((c.tc : Thread Cert.SmallAdamRefIdeal.nD Cert.SmallAdamRefIdeal.τ).loc Cert.SmallAdamRefIdeal.main_arg14)
      ∧ r.2.mem ((c.tc : Thread Cert.SmallAdamRefIdeal.nD Cert.SmallAdamRefIdeal.τ).loc Cert.SmallAdamRefIdeal.main_arg15) = m ((c.tc : Thread Cert.SmallAdamRefIdeal.nD Cert.SmallAdamRefIdeal.τ).loc Cert.SmallAdamRefIdeal.main_arg15))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v6) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Swiglu_SwigluIdeal : Prop :=
  True

def algebraic_SwigluIdeal_SwigluRefIdeal_pre_real_branch [hSwigluIdeal : Cert.SwigluIdeal.Facts] [hSwigluRefIdeal : Cert.SwigluRefIdeal.Facts] [hPre_real_branch : Cert.Pre_real_branch.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_real_branch m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v11) = v0 c
          ∧ r.2.mem ((c.tc : Thread Cert.SwigluRefIdeal.nD Cert.SwigluRefIdeal.τ).loc Cert.SwigluRefIdeal.main_v12) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)) (v2 : (c : Dev Cert.GateUpIdeal.nD) → Buf (Elt Ideal) ((c.tc : Thread Cert.GateUpIdeal.nD Cert.GateUpIdeal.τ).loc Cert.GateUpIdeal.main_v2_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_v2_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v8) = v0 c
          ∧ r.2.mem ((c.tc : Thread Cert.GateUpRefIdeal.nD Cert.GateUpRefIdeal.τ).loc Cert.GateUpRefIdeal.main_v9) = v1 c
          ∧ r.2.mem ((c.tc : Thread Cert.GateUpRefIdeal.nD Cert.GateUpRefIdeal.τ).loc Cert.GateUpRefIdeal.main_v10) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_WinGrad_WinGradIdeal : Prop :=
  True

def algebraic_WinGradIdeal_WinGradRefIdeal [hWinGradIdeal : Cert.WinGradIdeal.Facts] [hWinGradRefIdeal : Cert.WinGradRefIdeal.Facts] : Prop :=
  ∀ (m : (ℓ : Loc Cert.WinGradIdeal.nD Cert.WinGradIdeal.τ Cert.WinGradIdeal.sig) → Buf (Elt Ideal) ℓ) (g : Dev Cert.WinGradIdeal.nD → PrngReg)
    (m' : (ℓ : Loc Cert.WinGradRefIdeal.nD Cert.WinGradRefIdeal.τ Cert.WinGradRefIdeal.sig) → Buf (Elt Ideal) ℓ) (g' : Dev Cert.WinGradRefIdeal.nD → PrngReg), Pre_WinGradIdeal m →
    (∀ c : Dev Cert.WinGradIdeal.nD,
      m' ((c.tc : Thread Cert.WinGradRefIdeal.nD Cert.WinGradRefIdeal.τ).loc Cert.WinGradRefIdeal.main_arg0) = m ((c.tc : Thread Cert.WinGradIdeal.nD Cert.WinGradIdeal.τ).loc Cert.WinGradIdeal.main_arg0)
      ∧ m' ((c.tc : Thread Cert.WinGradRefIdeal.nD Cert.WinGradRefIdeal.τ).loc Cert.WinGradRefIdeal.main_arg1) = m ((c.tc : Thread Cert.WinGradIdeal.nD Cert.WinGradIdeal.τ).loc Cert.WinGradIdeal.main_arg1)) →
    ∃ (v0 : (c : Dev Cert.WinGradIdeal.nD) → Buf (Elt Ideal) ((c.tc : Thread Cert.WinGradIdeal.nD Cert.WinGradIdeal.τ).loc Cert.WinGradIdeal.main_v0)),
      θ_run (Cert.WinGradIdeal.defs (F := Ideal)) (onTc (τ := Cert.WinGradIdeal.τ) (Cert.WinGradIdeal.main (F := Ideal))) ⟨m, fun _ => 0, g⟩ (fun r => ∀ c : Dev Cert.WinGradIdeal.nD,
          r.2.mem ((c.tc : Thread Cert.WinGradIdeal.nD Cert.WinGradIdeal.τ).loc Cert.WinGradIdeal.main_v0) = v0 c
          ∧ r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
          ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1))
      ∧ θ_run (Cert.WinGradRefIdeal.defs (F := Ideal)) (onTc (τ := Cert.WinGradRefIdeal.τ) (Cert.WinGradRefIdeal.main (F := Ideal))) ⟨m', fun _ => 0, g'⟩ (fun r => ∀ c : Dev Cert.WinGradRefIdeal.nD,
          r.2.mem ((c.tc : Thread Cert.WinGradRefIdeal.nD Cert.WinGradRefIdeal.τ).loc Cert.WinGradRefIdeal.main_v6) = v0 c
          ∧ r.2.mem ((c.tc : Thread Cert.WinGradRefIdeal.nD Cert.WinGradRefIdeal.τ).loc Cert.WinGradRefIdeal.main_arg0) = m' ((c.tc : Thread Cert.WinGradRefIdeal.nD Cert.WinGradRefIdeal.τ).loc Cert.WinGradRefIdeal.main_arg0)
          ∧ r.2.mem ((c.tc : Thread Cert.WinGradRefIdeal.nD Cert.WinGradRefIdeal.τ).loc Cert.WinGradRefIdeal.main_arg1) = m' ((c.tc : Thread Cert.WinGradRefIdeal.nD Cert.WinGradRefIdeal.τ).loc Cert.WinGradRefIdeal.main_arg1))

def preserves_HnGrad_HnGradIdeal : Prop :=
  True

def algebraic_HnGradIdeal_HnGradRefIdeal [hHnGradIdeal : Cert.HnGradIdeal.Facts] [hHnGradRefIdeal : Cert.HnGradRefIdeal.Facts] : Prop :=
  ∀ (m : (ℓ : Loc Cert.HnGradIdeal.nD Cert.HnGradIdeal.τ Cert.HnGradIdeal.sig) → Buf (Elt Ideal) ℓ) (g : Dev Cert.HnGradIdeal.nD → PrngReg)
    (m' : (ℓ : Loc Cert.HnGradRefIdeal.nD Cert.HnGradRefIdeal.τ Cert.HnGradRefIdeal.sig) → Buf (Elt Ideal) ℓ) (g' : Dev Cert.HnGradRefIdeal.nD → PrngReg), Pre_HnGradIdeal m →
    (∀ c : Dev Cert.HnGradIdeal.nD,
      m' ((c.tc : Thread Cert.HnGradRefIdeal.nD Cert.HnGradRefIdeal.τ).loc Cert.HnGradRefIdeal.main_arg0) = m ((c.tc : Thread Cert.HnGradIdeal.nD Cert.HnGradIdeal.τ).loc Cert.HnGradIdeal.main_arg0)
      ∧ m' ((c.tc : Thread Cert.HnGradRefIdeal.nD Cert.HnGradRefIdeal.τ).loc Cert.HnGradRefIdeal.main_arg1) = m ((c.tc : Thread Cert.HnGradIdeal.nD Cert.HnGradIdeal.τ).loc Cert.HnGradIdeal.main_arg1)) →
    ∃ (v0 : (c : Dev Cert.HnGradIdeal.nD) → Buf (Elt Ideal) ((c.tc : Thread Cert.HnGradIdeal.nD Cert.HnGradIdeal.τ).loc Cert.HnGradIdeal.main_v0)),
      θ_run (Cert.HnGradIdeal.defs (F := Ideal)) (onTc (τ := Cert.HnGradIdeal.τ) (Cert.HnGradIdeal.main (F := Ideal))) ⟨m, fun _ => 0, g⟩ (fun r => ∀ c : Dev Cert.HnGradIdeal.nD,
          r.2.mem ((c.tc : Thread Cert.HnGradIdeal.nD Cert.HnGradIdeal.τ).loc Cert.HnGradIdeal.main_v0) = v0 c
          ∧ r.2.mem ((c.tc : Thread Cert.HnGradIdeal.nD Cert.HnGradIdeal.τ).loc Cert.HnGradIdeal.main_arg0) = m ((c.tc : Thread Cert.HnGradIdeal.nD Cert.HnGradIdeal.τ).loc Cert.HnGradIdeal.main_arg0)
          ∧ r.2.mem ((c.tc : Thread Cert.HnGradIdeal.nD Cert.HnGradIdeal.τ).loc Cert.HnGradIdeal.main_arg1) = m ((c.tc : Thread Cert.HnGradIdeal.nD Cert.HnGradIdeal.τ).loc Cert.HnGradIdeal.main_arg1))
      ∧ θ_run (Cert.HnGradRefIdeal.defs (F := Ideal)) (onTc (τ := Cert.HnGradRefIdeal.τ) (Cert.HnGradRefIdeal.main (F := Ideal))) ⟨m', fun _ => 0, g'⟩ (fun r => ∀ c : Dev Cert.HnGradRefIdeal.nD,
          r.2.mem ((c.tc : Thread Cert.HnGradRefIdeal.nD Cert.HnGradRefIdeal.τ).loc Cert.HnGradRefIdeal.main_v4) = v0 c
          ∧ r.2.mem ((c.tc : Thread Cert.HnGradRefIdeal.nD Cert.HnGradRefIdeal.τ).loc Cert.HnGradRefIdeal.main_arg0) = m' ((c.tc : Thread Cert.HnGradRefIdeal.nD Cert.HnGradRefIdeal.τ).loc Cert.HnGradRefIdeal.main_arg0)
          ∧ r.2.mem ((c.tc : Thread Cert.HnGradRefIdeal.nD Cert.HnGradRefIdeal.τ).loc Cert.HnGradRefIdeal.main_arg1) = m' ((c.tc : Thread Cert.HnGradRefIdeal.nD Cert.HnGradRefIdeal.τ).loc Cert.HnGradRefIdeal.main_arg1))

def preserves_Hn2Grad_Hn2GradIdeal : Prop :=
  True

def algebraic_Hn2GradIdeal_Hn2GradRefIdeal [hHn2GradIdeal : Cert.Hn2GradIdeal.Facts] [hHn2GradRefIdeal : Cert.Hn2GradRefIdeal.Facts] : Prop :=
  ∀ (m : (ℓ : Loc Cert.Hn2GradIdeal.nD Cert.Hn2GradIdeal.τ Cert.Hn2GradIdeal.sig) → Buf (Elt Ideal) ℓ) (g : Dev Cert.Hn2GradIdeal.nD → PrngReg)
    (m' : (ℓ : Loc Cert.Hn2GradRefIdeal.nD Cert.Hn2GradRefIdeal.τ Cert.Hn2GradRefIdeal.sig) → Buf (Elt Ideal) ℓ) (g' : Dev Cert.Hn2GradRefIdeal.nD → PrngReg), Pre_Hn2GradIdeal m →
    (∀ c : Dev Cert.Hn2GradIdeal.nD,
      m' ((c.tc : Thread Cert.Hn2GradRefIdeal.nD Cert.Hn2GradRefIdeal.τ).loc Cert.Hn2GradRefIdeal.main_arg0) = m ((c.tc : Thread Cert.Hn2GradIdeal.nD Cert.Hn2GradIdeal.τ).loc Cert.Hn2GradIdeal.main_arg0)
      ∧ m' ((c.tc : Thread Cert.Hn2GradRefIdeal.nD Cert.Hn2GradRefIdeal.τ).loc Cert.Hn2GradRefIdeal.main_arg1) = m ((c.tc : Thread Cert.Hn2GradIdeal.nD Cert.Hn2GradIdeal.τ).loc Cert.Hn2GradIdeal.main_arg1)) →
    ∃ (v0 : (c : Dev Cert.Hn2GradIdeal.nD) → Buf (Elt Ideal) ((c.tc : Thread Cert.Hn2GradIdeal.nD Cert.Hn2GradIdeal.τ).loc Cert.Hn2GradIdeal.main_v1)),
      θ_run (Cert.Hn2GradIdeal.defs (F := Ideal)) (onTc (τ := Cert.Hn2GradIdeal.τ) (Cert.Hn2GradIdeal.main (F := Ideal))) ⟨m, fun _ => 0, g⟩ (fun r => ∀ c : Dev Cert.Hn2GradIdeal.nD,
          r.2.mem ((c.tc : Thread Cert.Hn2GradIdeal.nD Cert.Hn2GradIdeal.τ).loc Cert.Hn2GradIdeal.main_v1) = v0 c
          ∧ r.2.mem ((c.tc : Thread Cert.Hn2GradIdeal.nD Cert.Hn2GradIdeal.τ).loc Cert.Hn2GradIdeal.main_arg0) = m ((c.tc : Thread Cert.Hn2GradIdeal.nD Cert.Hn2GradIdeal.τ).loc Cert.Hn2GradIdeal.main_arg0)
          ∧ r.2.mem ((c.tc : Thread Cert.Hn2GradIdeal.nD Cert.Hn2GradIdeal.τ).loc Cert.Hn2GradIdeal.main_arg1) = m ((c.tc : Thread Cert.Hn2GradIdeal.nD Cert.Hn2GradIdeal.τ).loc Cert.Hn2GradIdeal.main_arg1))
      ∧ θ_run (Cert.Hn2GradRefIdeal.defs (F := Ideal)) (onTc (τ := Cert.Hn2GradRefIdeal.τ) (Cert.Hn2GradRefIdeal.main (F := Ideal))) ⟨m', fun _ => 0, g'⟩ (fun r => ∀ c : Dev Cert.Hn2GradRefIdeal.nD,
          r.2.mem ((c.tc : Thread Cert.Hn2GradRefIdeal.nD Cert.Hn2GradRefIdeal.τ).loc Cert.Hn2GradRefIdeal.main_v4) = v0 c
          ∧ r.2.mem ((c.tc : Thread Cert.Hn2GradRefIdeal.nD Cert.Hn2GradRefIdeal.τ).loc Cert.Hn2GradRefIdeal.main_arg0) = m' ((c.tc : Thread Cert.Hn2GradRefIdeal.nD Cert.Hn2GradRefIdeal.τ).loc Cert.Hn2GradRefIdeal.main_arg0)
          ∧ r.2.mem ((c.tc : Thread Cert.Hn2GradRefIdeal.nD Cert.Hn2GradRefIdeal.τ).loc Cert.Hn2GradRefIdeal.main_arg1) = m' ((c.tc : Thread Cert.Hn2GradRefIdeal.nD Cert.Hn2GradRefIdeal.τ).loc Cert.Hn2GradRefIdeal.main_arg1))

def preserves_WoutGrad_WoutGradIdeal : Prop :=
  True

def algebraic_WoutGradIdeal_WoutGradRefIdeal [hWoutGradIdeal : Cert.WoutGradIdeal.Facts] [hWoutGradRefIdeal : Cert.WoutGradRefIdeal.Facts] : Prop :=
  ∀ (m : (ℓ : Loc Cert.WoutGradIdeal.nD Cert.WoutGradIdeal.τ Cert.WoutGradIdeal.sig) → Buf (Elt Ideal) ℓ) (g : Dev Cert.WoutGradIdeal.nD → PrngReg)
    (m' : (ℓ : Loc Cert.WoutGradRefIdeal.nD Cert.WoutGradRefIdeal.τ Cert.WoutGradRefIdeal.sig) → Buf (Elt Ideal) ℓ) (g' : Dev Cert.WoutGradRefIdeal.nD → PrngReg), Pre_WoutGradIdeal m →
    (∀ c : Dev Cert.WoutGradIdeal.nD,
      m' ((c.tc : Thread Cert.WoutGradRefIdeal.nD Cert.WoutGradRefIdeal.τ).loc Cert.WoutGradRefIdeal.main_arg0) = m ((c.tc : Thread Cert.WoutGradIdeal.nD Cert.WoutGradIdeal.τ).loc Cert.WoutGradIdeal.main_arg0)
      ∧ m' ((c.tc : Thread Cert.WoutGradRefIdeal.nD Cert.WoutGradRefIdeal.τ).loc Cert.WoutGradRefIdeal.main_arg1) = m ((c.tc : Thread Cert.WoutGradIdeal.nD Cert.WoutGradIdeal.τ).loc Cert.WoutGradIdeal.main_arg1)) →
    ∃ (v0 : (c : Dev Cert.WoutGradIdeal.nD) → Buf (Elt Ideal) ((c.tc : Thread Cert.WoutGradIdeal.nD Cert.WoutGradIdeal.τ).loc Cert.WoutGradIdeal.main_v0)),
      θ_run (Cert.WoutGradIdeal.defs (F := Ideal)) (onTc (τ := Cert.WoutGradIdeal.τ) (Cert.WoutGradIdeal.main (F := Ideal))) ⟨m, fun _ => 0, g⟩ (fun r => ∀ c : Dev Cert.WoutGradIdeal.nD,
          r.2.mem ((c.tc : Thread Cert.WoutGradIdeal.nD Cert.WoutGradIdeal.τ).loc Cert.WoutGradIdeal.main_v0) = v0 c
          ∧ r.2.mem ((c.tc : Thread Cert.WoutGradIdeal.nD Cert.WoutGradIdeal.τ).loc Cert.WoutGradIdeal.main_arg0) = m ((c.tc : Thread Cert.WoutGradIdeal.nD Cert.WoutGradIdeal.τ).loc Cert.WoutGradIdeal.main_arg0)
          ∧ r.2.mem ((c.tc : Thread Cert.WoutGradIdeal.nD Cert.WoutGradIdeal.τ).loc Cert.WoutGradIdeal.main_arg1) = m ((c.tc : Thread Cert.WoutGradIdeal.nD Cert.WoutGradIdeal.τ).loc Cert.WoutGradIdeal.main_arg1))
      ∧ θ_run (Cert.WoutGradRefIdeal.defs (F := Ideal)) (onTc (τ := Cert.WoutGradRefIdeal.τ) (Cert.WoutGradRefIdeal.main (F := Ideal))) ⟨m', fun _ => 0, g'⟩ (fun r => ∀ c : Dev Cert.WoutGradRefIdeal.nD,
          r.2.mem ((c.tc : Thread Cert.WoutGradRefIdeal.nD Cert.WoutGradRefIdeal.τ).loc Cert.WoutGradRefIdeal.main_v6) = v0 c
          ∧ r.2.mem ((c.tc : Thread Cert.WoutGradRefIdeal.nD Cert.WoutGradRefIdeal.τ).loc Cert.WoutGradRefIdeal.main_arg0) = m' ((c.tc : Thread Cert.WoutGradRefIdeal.nD Cert.WoutGradRefIdeal.τ).loc Cert.WoutGradRefIdeal.main_arg0)
          ∧ r.2.mem ((c.tc : Thread Cert.WoutGradRefIdeal.nD Cert.WoutGradRefIdeal.τ).loc Cert.WoutGradRefIdeal.main_arg1) = m' ((c.tc : Thread Cert.WoutGradRefIdeal.nD Cert.WoutGradRefIdeal.τ).loc Cert.WoutGradRefIdeal.main_arg1))

def preserves_MixGrad_MixGradIdeal : Prop :=
  True

def algebraic_MixGradIdeal_MixGradRefIdeal [hMixGradIdeal : Cert.MixGradIdeal.Facts] [hMixGradRefIdeal : Cert.MixGradRefIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradRefIdeal.nD Cert.MixGradRefIdeal.τ Cert.MixGradRefIdeal.sig) → Buf (Elt Ideal) ℓ) (g' : Dev Cert.MixGradRefIdeal.nD → PrngReg), Pre_MixGradIdeal m →
    (∀ c : Dev Cert.MixGradIdeal.nD,
      m' ((c.tc : Thread Cert.MixGradRefIdeal.nD Cert.MixGradRefIdeal.τ).loc Cert.MixGradRefIdeal.main_arg0) = m ((c.tc : Thread Cert.MixGradIdeal.nD Cert.MixGradIdeal.τ).loc Cert.MixGradIdeal.main_arg0)
      ∧ m' ((c.tc : Thread Cert.MixGradRefIdeal.nD Cert.MixGradRefIdeal.τ).loc Cert.MixGradRefIdeal.main_arg1) = m ((c.tc : Thread Cert.MixGradIdeal.nD Cert.MixGradIdeal.τ).loc Cert.MixGradIdeal.main_arg1)) →
    ∃ (v0 : (c : Dev Cert.MixGradIdeal.nD) → Buf (Elt Ideal) ((c.tc : Thread Cert.MixGradIdeal.nD Cert.MixGradIdeal.τ).loc Cert.MixGradIdeal.main_v0)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v0) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ θ_run (Cert.MixGradRefIdeal.defs (F := Ideal)) (onTc (τ := Cert.MixGradRefIdeal.τ) (Cert.MixGradRefIdeal.main (F := Ideal))) ⟨m', fun _ => 0, g'⟩ (fun r => ∀ c : Dev Cert.MixGradRefIdeal.nD,
          r.2.mem ((c.tc : Thread Cert.MixGradRefIdeal.nD Cert.MixGradRefIdeal.τ).loc Cert.MixGradRefIdeal.main_v5) = v0 c
          ∧ r.2.mem ((c.tc : Thread Cert.MixGradRefIdeal.nD Cert.MixGradRefIdeal.τ).loc Cert.MixGradRefIdeal.main_arg0) = m' ((c.tc : Thread Cert.MixGradRefIdeal.nD Cert.MixGradRefIdeal.τ).loc Cert.MixGradRefIdeal.main_arg0)
          ∧ r.2.mem ((c.tc : Thread Cert.MixGradRefIdeal.nD Cert.MixGradRefIdeal.τ).loc Cert.MixGradRefIdeal.main_arg1) = m' ((c.tc : Thread Cert.MixGradRefIdeal.nD Cert.MixGradRefIdeal.τ).loc Cert.MixGradRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)
      ∧ m' ((c.tc : Thread Cert.NormMixRefIdeal.nD Cert.NormMixRefIdeal.τ).loc Cert.NormMixRefIdeal.main_arg3) = m ((c.tc : Thread Cert.NormMixIdeal.nD Cert.NormMixIdeal.τ).loc Cert.NormMixIdeal.main_arg3)) →
    ∃ (v0 : (c : Dev Cert.NormMixIdeal.nD) → Buf (Elt Ideal) ((c.tc : Thread Cert.NormMixIdeal.nD Cert.NormMixIdeal.τ).loc Cert.NormMixIdeal.main_v0_0)) (v1 : (c : Dev Cert.NormMixIdeal.nD) → Buf (Elt Ideal) ((c.tc : Thread Cert.NormMixIdeal.nD Cert.NormMixIdeal.τ).loc Cert.NormMixIdeal.main_v0_1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0_0) = v0 c
          ∧ r.2.mem ((c.tc : Thread Cert.NormMixIdeal.nD Cert.NormMixIdeal.τ).loc Cert.NormMixIdeal.main_v0_1) = v1 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
          ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v51) = v0 c
          ∧ r.2.mem ((c.tc : Thread Cert.NormMixRefIdeal.nD Cert.NormMixRefIdeal.τ).loc Cert.NormMixRefIdeal.main_v50) = v1 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)
      ∧ m' ((c.tc : Thread Cert.NormFfnRefIdeal.nD Cert.NormFfnRefIdeal.τ).loc Cert.NormFfnRefIdeal.main_arg3) = m ((c.tc : Thread Cert.NormFfnIdeal.nD Cert.NormFfnIdeal.τ).loc Cert.NormFfnIdeal.main_arg3)) →
    ∃ (v0 : (c : Dev Cert.NormFfnIdeal.nD) → Buf (Elt Ideal) ((c.tc : Thread Cert.NormFfnIdeal.nD Cert.NormFfnIdeal.τ).loc Cert.NormFfnIdeal.main_v0_0)) (v1 : (c : Dev Cert.NormFfnIdeal.nD) → Buf (Elt Ideal) ((c.tc : Thread Cert.NormFfnIdeal.nD Cert.NormFfnIdeal.τ).loc Cert.NormFfnIdeal.main_v0_1)) (v2 : (c : Dev Cert.NormFfnIdeal.nD) → Buf (Elt Ideal) ((c.tc : Thread Cert.NormFfnIdeal.nD Cert.NormFfnIdeal.τ).loc Cert.NormFfnIdeal.main_v0_2)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v0_0) = v0 c
          ∧ r.2.mem ((c.tc : Thread Cert.NormFfnIdeal.nD Cert.NormFfnIdeal.τ).loc Cert.NormFfnIdeal.main_v0_1) = v1 c
          ∧ r.2.mem ((c.tc : Thread Cert.NormFfnIdeal.nD Cert.NormFfnIdeal.τ).loc Cert.NormFfnIdeal.main_v0_2) = v2 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
          ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v51) = v0 c
          ∧ r.2.mem ((c.tc : Thread Cert.NormFfnRefIdeal.nD Cert.NormFfnRefIdeal.τ).loc Cert.NormFfnRefIdeal.main_v52) = v1 c
          ∧ r.2.mem ((c.tc : Thread Cert.NormFfnRefIdeal.nD Cert.NormFfnRefIdeal.τ).loc Cert.NormFfnRefIdeal.main_v50) = v2 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2)
          ∧ r.2.mem ((c.tc : Thread Cert.NormFfnRefIdeal.nD Cert.NormFfnRefIdeal.τ).loc Cert.NormFfnRefIdeal.main_arg3) = m' ((c.tc : Thread Cert.NormFfnRefIdeal.nD Cert.NormFfnRefIdeal.τ).loc Cert.NormFfnRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)
      ∧ m' ((c.tc : Thread Cert.AdamFfnRefIdeal.nD Cert.AdamFfnRefIdeal.τ).loc Cert.AdamFfnRefIdeal.main_arg4) = m ((c.tc : Thread Cert.AdamFfnIdeal.nD Cert.AdamFfnIdeal.τ).loc Cert.AdamFfnIdeal.main_arg4)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v0) = v0 c
          ∧ r.2.mem ((c.tc : Thread Cert.AdamFfnRefIdeal.nD Cert.AdamFfnRefIdeal.τ).loc Cert.AdamFfnRefIdeal.main_v24) = v1 c
          ∧ r.2.mem ((c.tc : Thread Cert.AdamFfnRefIdeal.nD Cert.AdamFfnRefIdeal.τ).loc Cert.AdamFfnRefIdeal.main_v5) = v2 c
          ∧ r.2.mem ((c.tc : Thread Cert.AdamFfnRefIdeal.nD Cert.AdamFfnRefIdeal.τ).loc Cert.AdamFfnRefIdeal.main_v11) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3)
          ∧ r.2.mem ((c.tc : Thread Cert.AdamFfnRefIdeal.nD Cert.AdamFfnRefIdeal.τ).loc Cert.AdamFfnRefIdeal.main_arg4) = m' ((c.tc : Thread Cert.AdamFfnRefIdeal.nD Cert.AdamFfnRefIdeal.τ).loc Cert.AdamFfnRefIdeal.main_arg4))

def preserves_SmallAdam_SmallAdamIdeal : Prop :=
  True

def algebraic_SmallAdamIdeal_SmallAdamRefIdeal [hSmallAdamIdeal : Cert.SmallAdamIdeal.Facts] [hSmallAdamRefIdeal : Cert.SmallAdamRefIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg)
    (m' : (ℓ : Loc Cert.SmallAdamRefIdeal.nD Cert.SmallAdamRefIdeal.τ Cert.SmallAdamRefIdeal.sig) → Buf (Elt Ideal) ℓ) (g' : Dev Cert.SmallAdamRefIdeal.nD → PrngReg), Pre_SmallAdamIdeal m →
    (∀ c : Dev Cert.SmallAdamIdeal.nD,
      m' ((c.tc : Thread Cert.SmallAdamRefIdeal.nD Cert.SmallAdamRefIdeal.τ).loc Cert.SmallAdamRefIdeal.main_arg0) = m ((c.tc : Thread Cert.SmallAdamIdeal.nD Cert.SmallAdamIdeal.τ).loc Cert.SmallAdamIdeal.main_arg0)
      ∧ m' ((c.tc : Thread Cert.SmallAdamRefIdeal.nD Cert.SmallAdamRefIdeal.τ).loc Cert.SmallAdamRefIdeal.main_arg1) = m ((c.tc : Thread Cert.SmallAdamIdeal.nD Cert.SmallAdamIdeal.τ).loc Cert.SmallAdamIdeal.main_arg1)
      ∧ m' ((c.tc : Thread Cert.SmallAdamRefIdeal.nD Cert.SmallAdamRefIdeal.τ).loc Cert.SmallAdamRefIdeal.main_arg2) = m ((c.tc : Thread Cert.SmallAdamIdeal.nD Cert.SmallAdamIdeal.τ).loc Cert.SmallAdamIdeal.main_arg2)
      ∧ m' ((c.tc : Thread Cert.SmallAdamRefIdeal.nD Cert.SmallAdamRefIdeal.τ).loc Cert.SmallAdamRefIdeal.main_arg3) = m ((c.tc : Thread Cert.SmallAdamIdeal.nD Cert.SmallAdamIdeal.τ).loc Cert.SmallAdamIdeal.main_arg3)
      ∧ m' ((c.tc : Thread Cert.SmallAdamRefIdeal.nD Cert.SmallAdamRefIdeal.τ).loc Cert.SmallAdamRefIdeal.main_arg4) = m ((c.tc : Thread Cert.SmallAdamIdeal.nD Cert.SmallAdamIdeal.τ).loc Cert.SmallAdamIdeal.main_arg4)
      ∧ m' ((c.tc : Thread Cert.SmallAdamRefIdeal.nD Cert.SmallAdamRefIdeal.τ).loc Cert.SmallAdamRefIdeal.main_arg5) = m ((c.tc : Thread Cert.SmallAdamIdeal.nD Cert.SmallAdamIdeal.τ).loc Cert.SmallAdamIdeal.main_arg5)
      ∧ m' ((c.tc : Thread Cert.SmallAdamRefIdeal.nD Cert.SmallAdamRefIdeal.τ).loc Cert.SmallAdamRefIdeal.main_arg6) = m ((c.tc : Thread Cert.SmallAdamIdeal.nD Cert.SmallAdamIdeal.τ).loc Cert.SmallAdamIdeal.main_arg6)
      ∧ m' ((c.tc : Thread Cert.SmallAdamRefIdeal.nD Cert.SmallAdamRefIdeal.τ).loc Cert.SmallAdamRefIdeal.main_arg7) = m ((c.tc : Thread Cert.SmallAdamIdeal.nD Cert.SmallAdamIdeal.τ).loc Cert.SmallAdamIdeal.main_arg7)
      ∧ m' ((c.tc : Thread Cert.SmallAdamRefIdeal.nD Cert.SmallAdamRefIdeal.τ).loc Cert.SmallAdamRefIdeal.main_arg8) = m ((c.tc : Thread Cert.SmallAdamIdeal.nD Cert.SmallAdamIdeal.τ).loc Cert.SmallAdamIdeal.main_arg8)
      ∧ m' ((c.tc : Thread Cert.SmallAdamRefIdeal.nD Cert.SmallAdamRefIdeal.τ).loc Cert.SmallAdamRefIdeal.main_arg9) = m ((c.tc : Thread Cert.SmallAdamIdeal.nD Cert.SmallAdamIdeal.τ).loc Cert.SmallAdamIdeal.main_arg9)
      ∧ m' ((c.tc : Thread Cert.SmallAdamRefIdeal.nD Cert.SmallAdamRefIdeal.τ).loc Cert.SmallAdamRefIdeal.main_arg10) = m ((c.tc : Thread Cert.SmallAdamIdeal.nD Cert.SmallAdamIdeal.τ).loc Cert.SmallAdamIdeal.main_arg10)
      ∧ m' ((c.tc : Thread Cert.SmallAdamRefIdeal.nD Cert.SmallAdamRefIdeal.τ).loc Cert.SmallAdamRefIdeal.main_arg11) = m ((c.tc : Thread Cert.SmallAdamIdeal.nD Cert.SmallAdamIdeal.τ).loc Cert.SmallAdamIdeal.main_arg11)
      ∧ m' ((c.tc : Thread Cert.SmallAdamRefIdeal.nD Cert.SmallAdamRefIdeal.τ).loc Cert.SmallAdamRefIdeal.main_arg12) = m ((c.tc : Thread Cert.SmallAdamIdeal.nD Cert.SmallAdamIdeal.τ).loc Cert.SmallAdamIdeal.main_arg12)
      ∧ m' ((c.tc : Thread Cert.SmallAdamRefIdeal.nD Cert.SmallAdamRefIdeal.τ).loc Cert.SmallAdamRefIdeal.main_arg13) = m ((c.tc : Thread Cert.SmallAdamIdeal.nD Cert.SmallAdamIdeal.τ).loc Cert.SmallAdamIdeal.main_arg13)
      ∧ m' ((c.tc : Thread Cert.SmallAdamRefIdeal.nD Cert.SmallAdamRefIdeal.τ).loc Cert.SmallAdamRefIdeal.main_arg14) = m ((c.tc : Thread Cert.SmallAdamIdeal.nD Cert.SmallAdamIdeal.τ).loc Cert.SmallAdamIdeal.main_arg14)
      ∧ m' ((c.tc : Thread Cert.SmallAdamRefIdeal.nD Cert.SmallAdamRefIdeal.τ).loc Cert.SmallAdamRefIdeal.main_arg15) = m ((c.tc : Thread Cert.SmallAdamIdeal.nD Cert.SmallAdamIdeal.τ).loc Cert.SmallAdamIdeal.main_arg15)) →
    ∃ (v0 : (c : Dev Cert.SmallAdamIdeal.nD) → Buf (Elt Ideal) ((c.tc : Thread Cert.SmallAdamIdeal.nD Cert.SmallAdamIdeal.τ).loc Cert.SmallAdamIdeal.main_v0_0)) (v1 : (c : Dev Cert.SmallAdamIdeal.nD) → Buf (Elt Ideal) ((c.tc : Thread Cert.SmallAdamIdeal.nD Cert.SmallAdamIdeal.τ).loc Cert.SmallAdamIdeal.main_v0_1)) (v2 : (c : Dev Cert.SmallAdamIdeal.nD) → Buf (Elt Ideal) ((c.tc : Thread Cert.SmallAdamIdeal.nD Cert.SmallAdamIdeal.τ).loc Cert.SmallAdamIdeal.main_v0_2)) (v3 : (c : Dev Cert.SmallAdamIdeal.nD) → Buf (Elt Ideal) ((c.tc : Thread Cert.SmallAdamIdeal.nD Cert.SmallAdamIdeal.τ).loc Cert.SmallAdamIdeal.main_v0_3)) (v4 : (c : Dev Cert.SmallAdamIdeal.nD) → Buf (Elt Ideal) ((c.tc : Thread Cert.SmallAdamIdeal.nD Cert.SmallAdamIdeal.τ).loc Cert.SmallAdamIdeal.main_v0_4)) (v5 : (c : Dev Cert.SmallAdamIdeal.nD) → Buf (Elt Ideal) ((c.tc : Thread Cert.SmallAdamIdeal.nD Cert.SmallAdamIdeal.τ).loc Cert.SmallAdamIdeal.main_v0_5)) (v6 : (c : Dev Cert.SmallAdamIdeal.nD) → Buf (Elt Ideal) ((c.tc : Thread Cert.SmallAdamIdeal.nD Cert.SmallAdamIdeal.τ).loc Cert.SmallAdamIdeal.main_v0_6)) (v7 : (c : Dev Cert.SmallAdamIdeal.nD) → Buf (Elt Ideal) ((c.tc : Thread Cert.SmallAdamIdeal.nD Cert.SmallAdamIdeal.τ).loc Cert.SmallAdamIdeal.main_v0_7)) (v8 : (c : Dev Cert.SmallAdamIdeal.nD) → Buf (Elt Ideal) ((c.tc : Thread Cert.SmallAdamIdeal.nD Cert.SmallAdamIdeal.τ).loc Cert.SmallAdamIdeal.main_v0_8)) (v9 : (c : Dev Cert.SmallAdamIdeal.nD) → Buf (Elt Ideal) ((c.tc : Thread Cert.SmallAdamIdeal.nD Cert.SmallAdamIdeal.τ).loc Cert.SmallAdamIdeal.main_v0_9)) (v10 : (c : Dev Cert.SmallAdamIdeal.nD) → Buf (Elt Ideal) ((c.tc : Thread Cert.SmallAdamIdeal.nD Cert.SmallAdamIdeal.τ).loc Cert.SmallAdamIdeal.main_v0_10)) (v11 : (c : Dev Cert.SmallAdamIdeal.nD) → Buf (Elt Ideal) ((c.tc : Thread Cert.SmallAdamIdeal.nD Cert.SmallAdamIdeal.τ).loc Cert.SmallAdamIdeal.main_v0_11)) (v12 : (c : Dev Cert.SmallAdamIdeal.nD) → Buf (Elt Ideal) ((c.tc : Thread Cert.SmallAdamIdeal.nD Cert.SmallAdamIdeal.τ).loc Cert.SmallAdamIdeal.main_v0_12)) (v13 : (c : Dev Cert.SmallAdamIdeal.nD) → Buf (Elt Ideal) ((c.tc : Thread Cert.SmallAdamIdeal.nD Cert.SmallAdamIdeal.τ).loc Cert.SmallAdamIdeal.main_v0_13)) (v14 : (c : Dev Cert.SmallAdamIdeal.nD) → Buf (Elt Ideal) ((c.tc : Thread Cert.SmallAdamIdeal.nD Cert.SmallAdamIdeal.τ).loc Cert.SmallAdamIdeal.main_v0_14)) (v15 : (c : Dev Cert.SmallAdamIdeal.nD) → Buf (Elt Ideal) ((c.tc : Thread Cert.SmallAdamIdeal.nD Cert.SmallAdamIdeal.τ).loc Cert.SmallAdamIdeal.main_v0_15)) (v16 : (c : Dev Cert.SmallAdamIdeal.nD) → Buf (Elt Ideal) ((c.tc : Thread Cert.SmallAdamIdeal.nD Cert.SmallAdamIdeal.τ).loc Cert.SmallAdamIdeal.main_v0_16)) (v17 : (c : Dev Cert.SmallAdamIdeal.nD) → Buf (Elt Ideal) ((c.tc : Thread Cert.SmallAdamIdeal.nD Cert.SmallAdamIdeal.τ).loc Cert.SmallAdamIdeal.main_v0_17)) (v18 : (c : Dev Cert.SmallAdamIdeal.nD) → Buf (Elt Ideal) ((c.tc : Thread Cert.SmallAdamIdeal.nD Cert.SmallAdamIdeal.τ).loc Cert.SmallAdamIdeal.main_v0_18)) (v19 : (c : Dev Cert.SmallAdamIdeal.nD) → Buf (Elt Ideal) ((c.tc : Thread Cert.SmallAdamIdeal.nD Cert.SmallAdamIdeal.τ).loc Cert.SmallAdamIdeal.main_v0_19)),
      θ_run (Cert.SmallAdamIdeal.defs (F := Ideal)) (onTc (τ := Cert.SmallAdamIdeal.τ) (Cert.SmallAdamIdeal.main (F := Ideal))) ⟨m, fun _ => 0, g⟩ (fun r => ∀ c : Dev Cert.SmallAdamIdeal.nD,
          r.2.mem ((c.tc : Thread Cert.SmallAdamIdeal.nD Cert.SmallAdamIdeal.τ).loc Cert.SmallAdamIdeal.main_v0_0) = v0 c
          ∧ r.2.mem ((c.tc : Thread Cert.SmallAdamIdeal.nD Cert.SmallAdamIdeal.τ).loc Cert.SmallAdamIdeal.main_v0_1) = v1 c
          ∧ r.2.mem ((c.tc : Thread Cert.SmallAdamIdeal.nD Cert.SmallAdamIdeal.τ).loc Cert.SmallAdamIdeal.main_v0_2) = v2 c
          ∧ r.2.mem ((c.tc : Thread Cert.SmallAdamIdeal.nD Cert.SmallAdamIdeal.τ).loc Cert.SmallAdamIdeal.main_v0_3) = v3 c
          ∧ r.2.mem ((c.tc : Thread Cert.SmallAdamIdeal.nD Cert.SmallAdamIdeal.τ).loc Cert.SmallAdamIdeal.main_v0_4) = v4 c
          ∧ r.2.mem ((c.tc : Thread Cert.SmallAdamIdeal.nD Cert.SmallAdamIdeal.τ).loc Cert.SmallAdamIdeal.main_v0_5) = v5 c
          ∧ r.2.mem ((c.tc : Thread Cert.SmallAdamIdeal.nD Cert.SmallAdamIdeal.τ).loc Cert.SmallAdamIdeal.main_v0_6) = v6 c
          ∧ r.2.mem ((c.tc : Thread Cert.SmallAdamIdeal.nD Cert.SmallAdamIdeal.τ).loc Cert.SmallAdamIdeal.main_v0_7) = v7 c
          ∧ r.2.mem ((c.tc : Thread Cert.SmallAdamIdeal.nD Cert.SmallAdamIdeal.τ).loc Cert.SmallAdamIdeal.main_v0_8) = v8 c
          ∧ r.2.mem ((c.tc : Thread Cert.SmallAdamIdeal.nD Cert.SmallAdamIdeal.τ).loc Cert.SmallAdamIdeal.main_v0_9) = v9 c
          ∧ r.2.mem ((c.tc : Thread Cert.SmallAdamIdeal.nD Cert.SmallAdamIdeal.τ).loc Cert.SmallAdamIdeal.main_v0_10) = v10 c
          ∧ r.2.mem ((c.tc : Thread Cert.SmallAdamIdeal.nD Cert.SmallAdamIdeal.τ).loc Cert.SmallAdamIdeal.main_v0_11) = v11 c
          ∧ r.2.mem ((c.tc : Thread Cert.SmallAdamIdeal.nD Cert.SmallAdamIdeal.τ).loc Cert.SmallAdamIdeal.main_v0_12) = v12 c
          ∧ r.2.mem ((c.tc : Thread Cert.SmallAdamIdeal.nD Cert.SmallAdamIdeal.τ).loc Cert.SmallAdamIdeal.main_v0_13) = v13 c
          ∧ r.2.mem ((c.tc : Thread Cert.SmallAdamIdeal.nD Cert.SmallAdamIdeal.τ).loc Cert.SmallAdamIdeal.main_v0_14) = v14 c
          ∧ r.2.mem ((c.tc : Thread Cert.SmallAdamIdeal.nD Cert.SmallAdamIdeal.τ).loc Cert.SmallAdamIdeal.main_v0_15) = v15 c
          ∧ r.2.mem ((c.tc : Thread Cert.SmallAdamIdeal.nD Cert.SmallAdamIdeal.τ).loc Cert.SmallAdamIdeal.main_v0_16) = v16 c
          ∧ r.2.mem ((c.tc : Thread Cert.SmallAdamIdeal.nD Cert.SmallAdamIdeal.τ).loc Cert.SmallAdamIdeal.main_v0_17) = v17 c
          ∧ r.2.mem ((c.tc : Thread Cert.SmallAdamIdeal.nD Cert.SmallAdamIdeal.τ).loc Cert.SmallAdamIdeal.main_v0_18) = v18 c
          ∧ r.2.mem ((c.tc : Thread Cert.SmallAdamIdeal.nD Cert.SmallAdamIdeal.τ).loc Cert.SmallAdamIdeal.main_v0_19) = v19 c
          ∧ r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
          ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
          ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
          ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3)
          ∧ r.2.mem ((c.tc : Thread Cert.SmallAdamIdeal.nD Cert.SmallAdamIdeal.τ).loc Cert.SmallAdamIdeal.main_arg4) = m ((c.tc : Thread Cert.SmallAdamIdeal.nD Cert.SmallAdamIdeal.τ).loc Cert.SmallAdamIdeal.main_arg4)
          ∧ r.2.mem ((c.tc : Thread Cert.SmallAdamIdeal.nD Cert.SmallAdamIdeal.τ).loc Cert.SmallAdamIdeal.main_arg5) = m ((c.tc : Thread Cert.SmallAdamIdeal.nD Cert.SmallAdamIdeal.τ).loc Cert.SmallAdamIdeal.main_arg5)
          ∧ r.2.mem ((c.tc : Thread Cert.SmallAdamIdeal.nD Cert.SmallAdamIdeal.τ).loc Cert.SmallAdamIdeal.main_arg6) = m ((c.tc : Thread Cert.SmallAdamIdeal.nD Cert.SmallAdamIdeal.τ).loc Cert.SmallAdamIdeal.main_arg6)
          ∧ r.2.mem ((c.tc : Thread Cert.SmallAdamIdeal.nD Cert.SmallAdamIdeal.τ).loc Cert.SmallAdamIdeal.main_arg7) = m ((c.tc : Thread Cert.SmallAdamIdeal.nD Cert.SmallAdamIdeal.τ).loc Cert.SmallAdamIdeal.main_arg7)
          ∧ r.2.mem ((c.tc : Thread Cert.SmallAdamIdeal.nD Cert.SmallAdamIdeal.τ).loc Cert.SmallAdamIdeal.main_arg8) = m ((c.tc : Thread Cert.SmallAdamIdeal.nD Cert.SmallAdamIdeal.τ).loc Cert.SmallAdamIdeal.main_arg8)
          ∧ r.2.mem ((c.tc : Thread Cert.SmallAdamIdeal.nD Cert.SmallAdamIdeal.τ).loc Cert.SmallAdamIdeal.main_arg9) = m ((c.tc : Thread Cert.SmallAdamIdeal.nD Cert.SmallAdamIdeal.τ).loc Cert.SmallAdamIdeal.main_arg9)
          ∧ r.2.mem ((c.tc : Thread Cert.SmallAdamIdeal.nD Cert.SmallAdamIdeal.τ).loc Cert.SmallAdamIdeal.main_arg10) = m ((c.tc : Thread Cert.SmallAdamIdeal.nD Cert.SmallAdamIdeal.τ).loc Cert.SmallAdamIdeal.main_arg10)
          ∧ r.2.mem ((c.tc : Thread Cert.SmallAdamIdeal.nD Cert.SmallAdamIdeal.τ).loc Cert.SmallAdamIdeal.main_arg11) = m ((c.tc : Thread Cert.SmallAdamIdeal.nD Cert.SmallAdamIdeal.τ).loc Cert.SmallAdamIdeal.main_arg11)
          ∧ r.2.mem ((c.tc : Thread Cert.SmallAdamIdeal.nD Cert.SmallAdamIdeal.τ).loc Cert.SmallAdamIdeal.main_arg12) = m ((c.tc : Thread Cert.SmallAdamIdeal.nD Cert.SmallAdamIdeal.τ).loc Cert.SmallAdamIdeal.main_arg12)
          ∧ r.2.mem ((c.tc : Thread Cert.SmallAdamIdeal.nD Cert.SmallAdamIdeal.τ).loc Cert.SmallAdamIdeal.main_arg13) = m ((c.tc : Thread Cert.SmallAdamIdeal.nD Cert.SmallAdamIdeal.τ).loc Cert.SmallAdamIdeal.main_arg13)
          ∧ r.2.mem ((c.tc : Thread Cert.SmallAdamIdeal.nD Cert.SmallAdamIdeal.τ).loc Cert.SmallAdamIdeal.main_arg14) = m ((c.tc : Thread Cert.SmallAdamIdeal.nD Cert.SmallAdamIdeal.τ).loc Cert.SmallAdamIdeal.main_arg14)
          ∧ r.2.mem ((c.tc : Thread Cert.SmallAdamIdeal.nD Cert.SmallAdamIdeal.τ).loc Cert.SmallAdamIdeal.main_arg15) = m ((c.tc : Thread Cert.SmallAdamIdeal.nD Cert.SmallAdamIdeal.τ).loc Cert.SmallAdamIdeal.main_arg15))
      ∧ θ_run (Cert.SmallAdamRefIdeal.defs (F := Ideal)) (onTc (τ := Cert.SmallAdamRefIdeal.τ) (Cert.SmallAdamRefIdeal.main (F := Ideal))) ⟨m', fun _ => 0, g'⟩ (fun r => ∀ c : Dev Cert.SmallAdamRefIdeal.nD,
          r.2.mem ((c.tc : Thread Cert.SmallAdamRefIdeal.nD Cert.SmallAdamRefIdeal.τ).loc Cert.SmallAdamRefIdeal.main_v0) = v0 c
          ∧ r.2.mem ((c.tc : Thread Cert.SmallAdamRefIdeal.nD Cert.SmallAdamRefIdeal.τ).loc Cert.SmallAdamRefIdeal.main_v28) = v1 c
          ∧ r.2.mem ((c.tc : Thread Cert.SmallAdamRefIdeal.nD Cert.SmallAdamRefIdeal.τ).loc Cert.SmallAdamRefIdeal.main_v9) = v2 c
          ∧ r.2.mem ((c.tc : Thread Cert.SmallAdamRefIdeal.nD Cert.SmallAdamRefIdeal.τ).loc Cert.SmallAdamRefIdeal.main_v15) = v3 c
          ∧ r.2.mem ((c.tc : Thread Cert.SmallAdamRefIdeal.nD Cert.SmallAdamRefIdeal.τ).loc Cert.SmallAdamRefIdeal.main_v1) = v4 c
          ∧ r.2.mem ((c.tc : Thread Cert.SmallAdamRefIdeal.nD Cert.SmallAdamRefIdeal.τ).loc Cert.SmallAdamRefIdeal.main_v52) = v5 c
          ∧ r.2.mem ((c.tc : Thread Cert.SmallAdamRefIdeal.nD Cert.SmallAdamRefIdeal.τ).loc Cert.SmallAdamRefIdeal.main_v33) = v6 c
          ∧ r.2.mem ((c.tc : Thread Cert.SmallAdamRefIdeal.nD Cert.SmallAdamRefIdeal.τ).loc Cert.SmallAdamRefIdeal.main_v39) = v7 c
          ∧ r.2.mem ((c.tc : Thread Cert.SmallAdamRefIdeal.nD Cert.SmallAdamRefIdeal.τ).loc Cert.SmallAdamRefIdeal.main_v2) = v8 c
          ∧ r.2.mem ((c.tc : Thread Cert.SmallAdamRefIdeal.nD Cert.SmallAdamRefIdeal.τ).loc Cert.SmallAdamRefIdeal.main_v76) = v9 c
          ∧ r.2.mem ((c.tc : Thread Cert.SmallAdamRefIdeal.nD Cert.SmallAdamRefIdeal.τ).loc Cert.SmallAdamRefIdeal.main_v57) = v10 c
          ∧ r.2.mem ((c.tc : Thread Cert.SmallAdamRefIdeal.nD Cert.SmallAdamRefIdeal.τ).loc Cert.SmallAdamRefIdeal.main_v63) = v11 c
          ∧ r.2.mem ((c.tc : Thread Cert.SmallAdamRefIdeal.nD Cert.SmallAdamRefIdeal.τ).loc Cert.SmallAdamRefIdeal.main_v3) = v12 c
          ∧ r.2.mem ((c.tc : Thread Cert.SmallAdamRefIdeal.nD Cert.SmallAdamRefIdeal.τ).loc Cert.SmallAdamRefIdeal.main_v100) = v13 c
          ∧ r.2.mem ((c.tc : Thread Cert.SmallAdamRefIdeal.nD Cert.SmallAdamRefIdeal.τ).loc Cert.SmallAdamRefIdeal.main_v81) = v14 c
          ∧ r.2.mem ((c.tc : Thread Cert.SmallAdamRefIdeal.nD Cert.SmallAdamRefIdeal.τ).loc Cert.SmallAdamRefIdeal.main_v87) = v15 c
          ∧ r.2.mem ((c.tc : Thread Cert.SmallAdamRefIdeal.nD Cert.SmallAdamRefIdeal.τ).loc Cert.SmallAdamRefIdeal.main_v4) = v16 c
          ∧ r.2.mem ((c.tc : Thread Cert.SmallAdamRefIdeal.nD Cert.SmallAdamRefIdeal.τ).loc Cert.SmallAdamRefIdeal.main_v124) = v17 c
          ∧ r.2.mem ((c.tc : Thread Cert.SmallAdamRefIdeal.nD Cert.SmallAdamRefIdeal.τ).loc Cert.SmallAdamRefIdeal.main_v105) = v18 c
          ∧ r.2.mem ((c.tc : Thread Cert.SmallAdamRefIdeal.nD Cert.SmallAdamRefIdeal.τ).loc Cert.SmallAdamRefIdeal.main_v111) = v19 c
          ∧ r.2.mem ((c.tc : Thread Cert.SmallAdamRefIdeal.nD Cert.SmallAdamRefIdeal.τ).loc Cert.SmallAdamRefIdeal.main_arg0) = m' ((c.tc : Thread Cert.SmallAdamRefIdeal.nD Cert.SmallAdamRefIdeal.τ).loc Cert.SmallAdamRefIdeal.main_arg0)
          ∧ r.2.mem ((c.tc : Thread Cert.SmallAdamRefIdeal.nD Cert.SmallAdamRefIdeal.τ).loc Cert.SmallAdamRefIdeal.main_arg1) = m' ((c.tc : Thread Cert.SmallAdamRefIdeal.nD Cert.SmallAdamRefIdeal.τ).loc Cert.SmallAdamRefIdeal.main_arg1)
          ∧ r.2.mem ((c.tc : Thread Cert.SmallAdamRefIdeal.nD Cert.SmallAdamRefIdeal.τ).loc Cert.SmallAdamRefIdeal.main_arg2) = m' ((c.tc : Thread Cert.SmallAdamRefIdeal.nD Cert.SmallAdamRefIdeal.τ).loc Cert.SmallAdamRefIdeal.main_arg2)
          ∧ r.2.mem ((c.tc : Thread Cert.SmallAdamRefIdeal.nD Cert.SmallAdamRefIdeal.τ).loc Cert.SmallAdamRefIdeal.main_arg3) = m' ((c.tc : Thread Cert.SmallAdamRefIdeal.nD Cert.SmallAdamRefIdeal.τ).loc Cert.SmallAdamRefIdeal.main_arg3)
          ∧ r.2.mem ((c.tc : Thread Cert.SmallAdamRefIdeal.nD Cert.SmallAdamRefIdeal.τ).loc Cert.SmallAdamRefIdeal.main_arg4) = m' ((c.tc : Thread Cert.SmallAdamRefIdeal.nD Cert.SmallAdamRefIdeal.τ).loc Cert.SmallAdamRefIdeal.main_arg4)
          ∧ r.2.mem ((c.tc : Thread Cert.SmallAdamRefIdeal.nD Cert.SmallAdamRefIdeal.τ).loc Cert.SmallAdamRefIdeal.main_arg5) = m' ((c.tc : Thread Cert.SmallAdamRefIdeal.nD Cert.SmallAdamRefIdeal.τ).loc Cert.SmallAdamRefIdeal.main_arg5)
          ∧ r.2.mem ((c.tc : Thread Cert.SmallAdamRefIdeal.nD Cert.SmallAdamRefIdeal.τ).loc Cert.SmallAdamRefIdeal.main_arg6) = m' ((c.tc : Thread Cert.SmallAdamRefIdeal.nD Cert.SmallAdamRefIdeal.τ).loc Cert.SmallAdamRefIdeal.main_arg6)
          ∧ r.2.mem ((c.tc : Thread Cert.SmallAdamRefIdeal.nD Cert.SmallAdamRefIdeal.τ).loc Cert.SmallAdamRefIdeal.main_arg7) = m' ((c.tc : Thread Cert.SmallAdamRefIdeal.nD Cert.SmallAdamRefIdeal.τ).loc Cert.SmallAdamRefIdeal.main_arg7)
          ∧ r.2.mem ((c.tc : Thread Cert.SmallAdamRefIdeal.nD Cert.SmallAdamRefIdeal.τ).loc Cert.SmallAdamRefIdeal.main_arg8) = m' ((c.tc : Thread Cert.SmallAdamRefIdeal.nD Cert.SmallAdamRefIdeal.τ).loc Cert.SmallAdamRefIdeal.main_arg8)
          ∧ r.2.mem ((c.tc : Thread Cert.SmallAdamRefIdeal.nD Cert.SmallAdamRefIdeal.τ).loc Cert.SmallAdamRefIdeal.main_arg9) = m' ((c.tc : Thread Cert.SmallAdamRefIdeal.nD Cert.SmallAdamRefIdeal.τ).loc Cert.SmallAdamRefIdeal.main_arg9)
          ∧ r.2.mem ((c.tc : Thread Cert.SmallAdamRefIdeal.nD Cert.SmallAdamRefIdeal.τ).loc Cert.SmallAdamRefIdeal.main_arg10) = m' ((c.tc : Thread Cert.SmallAdamRefIdeal.nD Cert.SmallAdamRefIdeal.τ).loc Cert.SmallAdamRefIdeal.main_arg10)
          ∧ r.2.mem ((c.tc : Thread Cert.SmallAdamRefIdeal.nD Cert.SmallAdamRefIdeal.τ).loc Cert.SmallAdamRefIdeal.main_arg11) = m' ((c.tc : Thread Cert.SmallAdamRefIdeal.nD Cert.SmallAdamRefIdeal.τ).loc Cert.SmallAdamRefIdeal.main_arg11)
          ∧ r.2.mem ((c.tc : Thread Cert.SmallAdamRefIdeal.nD Cert.SmallAdamRefIdeal.τ).loc Cert.SmallAdamRefIdeal.main_arg12) = m' ((c.tc : Thread Cert.SmallAdamRefIdeal.nD Cert.SmallAdamRefIdeal.τ).loc Cert.SmallAdamRefIdeal.main_arg12)
          ∧ r.2.mem ((c.tc : Thread Cert.SmallAdamRefIdeal.nD Cert.SmallAdamRefIdeal.τ).loc Cert.SmallAdamRefIdeal.main_arg13) = m' ((c.tc : Thread Cert.SmallAdamRefIdeal.nD Cert.SmallAdamRefIdeal.τ).loc Cert.SmallAdamRefIdeal.main_arg13)
          ∧ r.2.mem ((c.tc : Thread Cert.SmallAdamRefIdeal.nD Cert.SmallAdamRefIdeal.τ).loc Cert.SmallAdamRefIdeal.main_arg14) = m' ((c.tc : Thread Cert.SmallAdamRefIdeal.nD Cert.SmallAdamRefIdeal.τ).loc Cert.SmallAdamRefIdeal.main_arg14)
          ∧ r.2.mem ((c.tc : Thread Cert.SmallAdamRefIdeal.nD Cert.SmallAdamRefIdeal.τ).loc Cert.SmallAdamRefIdeal.main_arg15) = m' ((c.tc : Thread Cert.SmallAdamRefIdeal.nD Cert.SmallAdamRefIdeal.τ).loc Cert.SmallAdamRefIdeal.main_arg15))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v45) = v0 c
          ∧ r.2.mem ((c.tc : Thread Cert.LossHeadRefIdeal.nD Cert.LossHeadRefIdeal.τ).loc Cert.LossHeadRefIdeal.main_v81) = v1 c
          ∧ r.2.mem ((c.tc : Thread Cert.LossHeadRefIdeal.nD Cert.LossHeadRefIdeal.τ).loc Cert.LossHeadRefIdeal.main_v82) = v2 c
          ∧ r.2.mem ((c.tc : Thread Cert.LossHeadRefIdeal.nD Cert.LossHeadRefIdeal.τ).loc Cert.LossHeadRefIdeal.main_v80) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v24)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v24) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v79) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hKernel : Cert.Kernel.Facts) (hKernelIdeal : Cert.KernelIdeal.Facts) (hReferenceIdeal : Cert.ReferenceIdeal.Facts) (hWgrad : Cert.Wgrad.Facts) (hWgradIdeal : Cert.WgradIdeal.Facts) (hWgradRefIdeal : Cert.WgradRefIdeal.Facts) (hSwiglu : Cert.Swiglu.Facts) (hSwigluIdeal : Cert.SwigluIdeal.Facts) (hSwigluRefIdeal : Cert.SwigluRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hWinGrad : Cert.WinGrad.Facts) (hWinGradIdeal : Cert.WinGradIdeal.Facts) (hWinGradRefIdeal : Cert.WinGradRefIdeal.Facts) (hHnGrad : Cert.HnGrad.Facts) (hHnGradIdeal : Cert.HnGradIdeal.Facts) (hHnGradRefIdeal : Cert.HnGradRefIdeal.Facts) (hHn2Grad : Cert.Hn2Grad.Facts) (hHn2GradIdeal : Cert.Hn2GradIdeal.Facts) (hHn2GradRefIdeal : Cert.Hn2GradRefIdeal.Facts) (hWoutGrad : Cert.WoutGrad.Facts) (hWoutGradIdeal : Cert.WoutGradIdeal.Facts) (hWoutGradRefIdeal : Cert.WoutGradRefIdeal.Facts) (hMixGrad : Cert.MixGrad.Facts) (hMixGradIdeal : Cert.MixGradIdeal.Facts) (hMixGradRefIdeal : Cert.MixGradRefIdeal.Facts) (hOutProj : Cert.OutProj.Facts) (hOutProjIdeal : Cert.OutProjIdeal.Facts) (hOutProjRefIdeal : Cert.OutProjRefIdeal.Facts) (hNormMix : Cert.NormMix.Facts) (hNormMixIdeal : Cert.NormMixIdeal.Facts) (hNormMixRefIdeal : Cert.NormMixRefIdeal.Facts) (hNormFfn : Cert.NormFfn.Facts) (hNormFfnIdeal : Cert.NormFfnIdeal.Facts) (hNormFfnRefIdeal : Cert.NormFfnRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamFfn : Cert.AdamFfn.Facts) (hAdamFfnIdeal : Cert.AdamFfnIdeal.Facts) (hAdamFfnRefIdeal : Cert.AdamFfnRefIdeal.Facts) (hSmallAdam : Cert.SmallAdam.Facts) (hSmallAdamIdeal : Cert.SmallAdamIdeal.Facts) (hSmallAdamRefIdeal : Cert.SmallAdamRefIdeal.Facts) (hNormFwd : Cert.NormFwd.Facts) (hNormFwdIdeal : Cert.NormFwdIdeal.Facts) (hNormFwdRefIdeal : Cert.NormFwdRefIdeal.Facts) (hLossHead : Cert.LossHead.Facts) (hLossHeadIdeal : Cert.LossHeadIdeal.Facts) (hLossHeadRefIdeal : Cert.LossHeadRefIdeal.Facts) (hInProj : Cert.InProj.Facts) (hInProjIdeal : Cert.InProjIdeal.Facts) (hInProjRefIdeal : Cert.InProjRefIdeal.Facts) (hPre_finite : Cert.Pre_finite.Facts) (hPre_real_branch : Cert.Pre_real_branch.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Wgrad (hWgrad := hWgrad)
    ∧ quiescent_WgradIdeal (hWgradIdeal := hWgradIdeal)
    ∧ quiescent_WgradRefIdeal (hWgradRefIdeal := hWgradRefIdeal)
    ∧ quiescent_Swiglu (hSwiglu := hSwiglu)
    ∧ quiescent_SwigluIdeal (hSwigluIdeal := hSwigluIdeal)
    ∧ quiescent_SwigluIdeal_pre_real_branch (hSwigluIdeal := hSwigluIdeal) (hPre_real_branch := hPre_real_branch)
    ∧ quiescent_SwigluRefIdeal (hSwigluRefIdeal := hSwigluRefIdeal)
    ∧ quiescent_SwigluRefIdeal_pre_real_branch (hSwigluRefIdeal := hSwigluRefIdeal) (hPre_real_branch := hPre_real_branch)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_WinGrad (hWinGrad := hWinGrad)
    ∧ quiescent_WinGradIdeal (hWinGradIdeal := hWinGradIdeal)
    ∧ quiescent_WinGradRefIdeal (hWinGradRefIdeal := hWinGradRefIdeal)
    ∧ quiescent_HnGrad (hHnGrad := hHnGrad)
    ∧ quiescent_HnGradIdeal (hHnGradIdeal := hHnGradIdeal)
    ∧ quiescent_HnGradRefIdeal (hHnGradRefIdeal := hHnGradRefIdeal)
    ∧ quiescent_Hn2Grad (hHn2Grad := hHn2Grad)
    ∧ quiescent_Hn2GradIdeal (hHn2GradIdeal := hHn2GradIdeal)
    ∧ quiescent_Hn2GradRefIdeal (hHn2GradRefIdeal := hHn2GradRefIdeal)
    ∧ quiescent_WoutGrad (hWoutGrad := hWoutGrad)
    ∧ quiescent_WoutGradIdeal (hWoutGradIdeal := hWoutGradIdeal)
    ∧ quiescent_WoutGradRefIdeal (hWoutGradRefIdeal := hWoutGradRefIdeal)
    ∧ quiescent_MixGrad (hMixGrad := hMixGrad)
    ∧ quiescent_MixGradIdeal (hMixGradIdeal := hMixGradIdeal)
    ∧ quiescent_MixGradRefIdeal (hMixGradRefIdeal := hMixGradRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_SmallAdam (hSmallAdam := hSmallAdam)
    ∧ quiescent_SmallAdamIdeal (hSmallAdamIdeal := hSmallAdamIdeal)
    ∧ quiescent_SmallAdamRefIdeal (hSmallAdamRefIdeal := hSmallAdamRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Wgrad_WgradIdeal
    ∧ algebraic_WgradIdeal_WgradRefIdeal (hWgradIdeal := hWgradIdeal) (hWgradRefIdeal := hWgradRefIdeal)
    ∧ preserves_Swiglu_SwigluIdeal
    ∧ algebraic_SwigluIdeal_SwigluRefIdeal_pre_real_branch (hSwigluIdeal := hSwigluIdeal) (hSwigluRefIdeal := hSwigluRefIdeal) (hPre_real_branch := hPre_real_branch)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_WinGrad_WinGradIdeal
    ∧ algebraic_WinGradIdeal_WinGradRefIdeal (hWinGradIdeal := hWinGradIdeal) (hWinGradRefIdeal := hWinGradRefIdeal)
    ∧ preserves_HnGrad_HnGradIdeal
    ∧ algebraic_HnGradIdeal_HnGradRefIdeal (hHnGradIdeal := hHnGradIdeal) (hHnGradRefIdeal := hHnGradRefIdeal)
    ∧ preserves_Hn2Grad_Hn2GradIdeal
    ∧ algebraic_Hn2GradIdeal_Hn2GradRefIdeal (hHn2GradIdeal := hHn2GradIdeal) (hHn2GradRefIdeal := hHn2GradRefIdeal)
    ∧ preserves_WoutGrad_WoutGradIdeal
    ∧ algebraic_WoutGradIdeal_WoutGradRefIdeal (hWoutGradIdeal := hWoutGradIdeal) (hWoutGradRefIdeal := hWoutGradRefIdeal)
    ∧ preserves_MixGrad_MixGradIdeal
    ∧ algebraic_MixGradIdeal_MixGradRefIdeal (hMixGradIdeal := hMixGradIdeal) (hMixGradRefIdeal := hMixGradRefIdeal)
    ∧ preserves_OutProj_OutProjIdeal
    ∧ algebraic_OutProjIdeal_OutProjRefIdeal (hOutProjIdeal := hOutProjIdeal) (hOutProjRefIdeal := hOutProjRefIdeal)
    ∧ preserves_NormMix_NormMixIdeal
    ∧ algebraic_NormMixIdeal_NormMixRefIdeal (hNormMixIdeal := hNormMixIdeal) (hNormMixRefIdeal := hNormMixRefIdeal)
    ∧ preserves_NormFfn_NormFfnIdeal
    ∧ algebraic_NormFfnIdeal_NormFfnRefIdeal (hNormFfnIdeal := hNormFfnIdeal) (hNormFfnRefIdeal := hNormFfnRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_SmallAdam_SmallAdamIdeal
    ∧ algebraic_SmallAdamIdeal_SmallAdamRefIdeal (hSmallAdamIdeal := hSmallAdamIdeal) (hSmallAdamRefIdeal := hSmallAdamRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_InProj_InProjIdeal
    ∧ algebraic_InProjIdeal_InProjRefIdeal (hInProjIdeal := hInProjIdeal) (hInProjRefIdeal := hInProjRefIdeal)
-- ==== Pre_finite.lean ====
abbrev S2x2048x12288 : Shape := ⟨3, ![2, 2048, 12288]⟩
abbrev S2x2048x4096 : Shape := ⟨3, ![2, 2048, 4096]⟩
abbrev S_ : Shape := ⟨0, ![]⟩

class Facts : Prop where
  bitsLt_bf16_f32 : FTy.bits .bf16 < FTy.bits .f32
  bcast_S_S2x2048x12288 : S_.BroadcastsInDim S2x2048x12288 (![] : Fin 0 → Fin S2x2048x12288.rank)
  reducesTo_S2x2048x12288_S_d0_1_2 : S2x2048x12288.ReducesTo [0, 1, 2] S_
  h_S_ : 0 < S_.numel
  bcast_S_S2x2048x4096 : S_.BroadcastsInDim S2x2048x4096 (![] : Fin 0 → Fin S2x2048x4096.rank)
  reducesTo_S2x2048x4096_S_d0_1_2 : S2x2048x4096.ReducesTo [0, 1, 2] S_

variable [Facts]

def fn {F : FTy → Type} [FloatOps F] (main_arg0 : FVec F S2x2048x12288 .bf16) (main_arg1 : FVec F S2x2048x4096 .f32) : IVec S_ 1 :=
  let main_v0 : FVec F S2x2048x12288 .f32 := (extf .f32 · bitsLt_bf16_f32) main_arg0
  let main_v1 : FVec F S2x2048x12288 .f32 := Host.absf main_v0
  let main_cst : FVec F S_ .f32 := constant S_ .f32 0x7F800000#32
  let main_v2 : FVec F S2x2048x12288 .f32 := broadcastInDim S2x2048x12288 ![] bcast_S_S2x2048x12288 main_cst
  let main_v3 : IVec S2x2048x12288 1 := cmpf .olt main_v1 main_v2
  let main_c : IVec S_ 1 := constantI S_ 1 1#1
  let main_v4 : IVec S_ 1 := (fun x v => Host.reduce IntOp.andi x v reducesTo_S2x2048x12288_S_d0_1_2 h_S_) main_v3 main_c
  let main_v5 : FVec F S2x2048x4096 .f32 := Host.absf main_arg1
  let main_cst_0 : FVec F S_ .f32 := constant S_ .f32 0x7F800000#32
  let main_v6 : FVec F S2x2048x4096 .f32 := broadcastInDim S2x2048x4096 ![] bcast_S_S2x2048x4096 main_cst_0
  let main_v7 : IVec S2x2048x4096 1 := cmpf .olt main_v5 main_v6
  let main_c_1 : IVec S_ 1 := constantI S_ 1 1#1
  let main_v8 : IVec S_ 1 := (fun x v => Host.reduce IntOp.andi x v reducesTo_S2x2048x4096_S_d0_1_2 h_S_) main_v7 main_c_1
  let main_v9 : IVec S_ 1 := andi main_v4 main_v8
  main_v9
-- ==== Pre_real_branch.lean ====
abbrev S4096x11264 : Shape := ⟨2, ![4096, 11264]⟩
abbrev S11264x4096 : Shape := ⟨2, ![11264, 4096]⟩
abbrev S4096x4096 : Shape := ⟨2, ![4096, 4096]⟩
abbrev S_ : Shape := ⟨0, ![]⟩

class Facts : Prop where
  bitsLt_bf16_f32 : FTy.bits .bf16 < FTy.bits .f32
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S11264x4096 : S_.BroadcastsInDim S11264x4096 (![] : Fin 0 → Fin S11264x4096.rank)
  reducesTo_S11264x4096_S_d0_1 : S11264x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x11264 .bf16) (main_arg1 : FVec F S4096x11264 .bf16) (main_arg2 : FVec F S11264x4096 .bf16) (main_arg3 : FVec F S4096x4096 .bf16) : IVec S_ 1 :=
  let main_v0 : FVec F S4096x11264 .f32 := (extf .f32 · bitsLt_bf16_f32) main_arg1
  let main_v1 : FVec F S4096x11264 .f32 := Host.absf main_v0
  let main_cst : FVec F S_ .f32 := constant S_ .f32 0x7F800000#32
  let main_v2 : FVec F S4096x11264 .f32 := broadcastInDim S4096x11264 ![] bcast_S_S4096x11264 main_cst
  let main_v3 : IVec S4096x11264 1 := cmpf .olt main_v1 main_v2
  let main_c : IVec S_ 1 := constantI S_ 1 1#1
  let main_v4 : IVec S_ 1 := (fun x v => Host.reduce IntOp.andi x v reducesTo_S4096x11264_S_d0_1 h_S_) main_v3 main_c
  let main_v5 : FVec F S11264x4096 .f32 := (extf .f32 · bitsLt_bf16_f32) main_arg2
  let main_v6 : FVec F S11264x4096 .f32 := Host.absf main_v5
  let main_cst_0 : FVec F S_ .f32 := constant S_ .f32 0x7F800000#32
  let main_v7 : FVec F S11264x4096 .f32 := broadcastInDim S11264x4096 ![] bcast_S_S11264x4096 main_cst_0
  let main_v8 : IVec S11264x4096 1 := cmpf .olt main_v6 main_v7
  let main_c_1 : IVec S_ 1 := constantI S_ 1 1#1
  let main_v9 : IVec S_ 1 := (fun x v => Host.reduce IntOp.andi x v reducesTo_S11264x4096_S_d0_1 h_S_) main_v8 main_c_1
  let main_v10 : IVec S_ 1 := andi main_v4 main_v9
  let main_v11 : FVec F S4096x4096 .f32 := (extf .f32 · bitsLt_bf16_f32) main_arg3
  let main_v12 : FVec F S4096x4096 .f32 := Host.absf main_v11
  let main_cst_2 : FVec F S_ .f32 := constant S_ .f32 0x7F800000#32
  let main_v13 : FVec F S4096x4096 .f32 := broadcastInDim S4096x4096 ![] bcast_S_S4096x4096 main_cst_2
  let main_v14 : IVec S4096x4096 1 := cmpf .olt main_v12 main_v13
  let main_c_3 : IVec S_ 1 := constantI S_ 1 1#1
  let main_v15 : IVec S_ 1 := (fun x v => Host.reduce IntOp.andi x v reducesTo_S4096x4096_S_d0_1 h_S_) main_v14 main_c_3
  let main_v16 : IVec S_ 1 := andi main_v10 main_v15
  main_v16
-- ==== Kernel.lean ====
abbrev S2x2048x12288 : Shape := ⟨3, ![2, 2048, 12288]⟩
abbrev S2x2048x4096 : Shape := ⟨3, ![2, 2048, 4096]⟩
abbrev S2x2048x2048 : Shape := ⟨3, ![2, 2048, 2048]⟩
abbrev S2x2048x16x128 : Shape := ⟨4, ![2, 2048, 16, 128]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048 : Shape := ⟨3, ![2, 16, 2048]⟩
abbrev S2x2048x16 : Shape := ⟨3, ![2, 2048, 16]⟩
abbrev S2x2048x16x1 : Shape := ⟨4, ![2, 2048, 16, 1]⟩
abbrev S1x512x128 : Shape := ⟨3, ![1, 512, 128]⟩
abbrev S1x2048x128 : Shape := ⟨3, ![1, 2048, 128]⟩
abbrev S2048x128 : Shape := ⟨2, ![2048, 128]⟩
abbrev S512x128 : Shape := ⟨2, ![512, 128]⟩
abbrev S512x256 : Shape := ⟨2, ![512, 256]⟩
abbrev S256x256 : Shape := ⟨2, ![256, 256]⟩
abbrev S512x1 : Shape := ⟨2, ![512, 1]⟩
abbrev S1x256x128 : Shape := ⟨3, ![1, 256, 128]⟩
abbrev S256x128 : Shape := ⟨2, ![256, 128]⟩
abbrev S1024x256 : Shape := ⟨2, ![1024, 256]⟩
abbrev S512 : Shape := ⟨1, ![512]⟩
abbrev S256x1 : Shape := ⟨2, ![256, 1]⟩

abbrev nBuf : Space → Nat
  | .hbm => 48
  | .vmem => 18
  | .smem => 0
  | _ => 0

abbrev bufTy : (tb : Table) → Fin (tcTables nBuf tb) → BufTy
  | .hbm, ⟨0, _⟩ => ⟨S2x2048x12288, .bf16⟩
  | .hbm, ⟨1, _⟩ => ⟨S2x2048x4096, .f32⟩
  | .hbm, ⟨2, _⟩ => ⟨S2x2048x2048, .bf16⟩
  | .hbm, ⟨3, _⟩ => ⟨S2x2048x2048, .f32⟩
  | .hbm, ⟨4, _⟩ => ⟨S2x2048x16x128, .f32⟩
  | .hbm, ⟨5, _⟩ => ⟨S2x2048x2048, .bf16⟩
  | .hbm, ⟨6, _⟩ => ⟨S2x2048x2048, .f32⟩
  | .hbm, ⟨7, _⟩ => ⟨S2x2048x16x128, .f32⟩
  | .hbm, ⟨8, _⟩ => ⟨S2x16x2048x2048, .f32⟩
  | .hbm, ⟨9, _⟩ => ⟨S_, .f32⟩
  | .hbm, ⟨10, _⟩ => ⟨S2x16x2048x2048, .f32⟩
  | .hbm, ⟨11, _⟩ => ⟨S2x16x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .i1⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S_, .f32⟩
  | .hbm, ⟨36, _⟩ => ⟨S2x16x2048x2048, .i1⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x2048x16, .f32⟩
  | .hbm, ⟨42, _⟩ => ⟨S2x2048x16x1, .f32⟩
  | .hbm, ⟨43, _⟩ => ⟨S2x2048x16x128, .f32⟩
  | .hbm, ⟨44, _⟩ => ⟨S2x2048x2048, .f32⟩
  | .hbm, ⟨45, _⟩ => ⟨S2x2048x2048, .bf16⟩
  | .hbm, ⟨46, _⟩ => ⟨S2x2048x2048, .bf16⟩
  | .hbm, ⟨47, _⟩ => ⟨S2x2048x2048, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .bf16⟩
  | .local _ .vmem, ⟨11, _⟩ => ⟨S1x512x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S2048x128, .f32⟩
  | .local _ .vmem, ⟨17, _⟩ => ⟨S2048x128, .f32⟩
  | _, _ => ⟨S2x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 16, 4], ![false, false, false]⟩

@[reducible] def k0_t1_loop (i : grid0.Coords) : Scf.Loop 32 :=
  let c0_i32_13 : BitVec 32 := 0#32
  let c2_i32 : BitVec 32 := 2#32
  let arg2 : BitVec 32 := BitVec.ofNat 32 (i 2).val
  let v21 : BitVec 32 := Scalar.muli c2_i32 arg2
  let v23 : BitVec 32 := Scalar.subi v21 c0_i32_13
  let c1_i32 : BitVec 32 := 1#32
  let v25 : BitVec 32 := Scalar.divsi v23 c1_i32
  let v26 : BitVec 32 := Scalar.muli v25 c1_i32
  let v27 : BitVec 32 := Scalar.addi c0_i32_13 v26
  let c1_i32_14 : BitVec 32 := 1#32
  ⟨c0_i32_13, v27, c1_i32_14⟩
def k0_mult1 (i : grid0.Coords) (k0_t1 : Fin (k0_t1_loop i).trips) : BitVec 32 :=
  let c0_i32_13 : BitVec 32 := 0#32
  let c1_i32_14 : BitVec 32 := 1#32
  let arg13 : BitVec 32 := Scf.iv c0_i32_13 c1_i32_14 k0_t1
  let c256_i32_78 : BitVec 32 := 256#32
  let v228 : BitVec 32 := Scalar.muli arg13 c256_i32_78
  v228
def k0_off1 (i : grid0.Coords) (k0_t1 : Fin (k0_t1_loop i).trips) : Fin 3 → Nat :=
  let c0_79 : Index := 0#32
  let c0_i32_13 : BitVec 32 := 0#32
  let c1_i32_14 : BitVec 32 := 1#32
  let arg13 : BitVec 32 := Scf.iv c0_i32_13 c1_i32_14 k0_t1
  let c256_i32_78 : BitVec 32 := 256#32
  let v228 : BitVec 32 := Scalar.muli arg13 c256_i32_78
  let v229 : BitVec 32 := v228
  let v230 : Index := Scalar.indexCast v229
  let c0_80 : Index := 0#32
  ![0, v230.toNat, 0]
def k0_off2 (i : grid0.Coords) (k0_t1 : Fin (k0_t1_loop i).trips) : Fin 2 → Nat :=
  let c0_i32_13 : BitVec 32 := 0#32
  let c1_i32_14 : BitVec 32 := 1#32
  let arg13 : BitVec 32 := Scf.iv c0_i32_13 c1_i32_14 k0_t1
  let c256_i32_78 : BitVec 32 := 256#32
  let v228 : BitVec 32 := Scalar.muli arg13 c256_i32_78
  let v229 : BitVec 32 := v228
  let v279 : Index := Scalar.indexCast v229
  let c0_92 : Index := 0#32
  ![v279.toNat, 0]
@[reducible] def k0_t2_loop (i : grid0.Coords) : Scf.Loop 32 :=
  let c0_i32_13 : BitVec 32 := 0#32
  let c2_i32 : BitVec 32 := 2#32
  let arg2 : BitVec 32 := BitVec.ofNat 32 (i 2).val
  let v21 : BitVec 32 := Scalar.muli c2_i32 arg2
  let v23 : BitVec 32 := Scalar.subi v21 c0_i32_13
  let c1_i32 : BitVec 32 := 1#32
  let v25 : BitVec 32 := Scalar.divsi v23 c1_i32
  let v26 : BitVec 32 := Scalar.muli v25 c1_i32
  let v27 : BitVec 32 := Scalar.addi c0_i32_13 v26
  let v24 : BitVec 32 := Scalar.addi c0_i32_13 v23
  let c1_i32_15 : BitVec 32 := 1#32
  ⟨v27, v24, c1_i32_15⟩
def k0_mult2 (i : grid0.Coords) (k0_t2 : Fin (k0_t2_loop i).trips) : BitVec 32 :=
  let c0_i32_13 : BitVec 32 := 0#32
  let c2_i32 : BitVec 32 := 2#32
  let arg2 : BitVec 32 := BitVec.ofNat 32 (i 2).val
  let v21 : BitVec 32 := Scalar.muli c2_i32 arg2
  let v23 : BitVec 32 := Scalar.subi v21 c0_i32_13
  let c1_i32 : BitVec 32 := 1#32
  let v25 : BitVec 32 := Scalar.divsi v23 c1_i32
  let v26 : BitVec 32 := Scalar.muli v25 c1_i32
  let v27 : BitVec 32 := Scalar.addi c0_i32_13 v26
  let c1_i32_15 : BitVec 32 := 1#32
  let arg13 : BitVec 32 := Scf.iv v27 c1_i32_15 k0_t2
  let c256_i32_78 : BitVec 32 := 256#32
  let v228 : BitVec 32 := Scalar.muli arg13 c256_i32_78
  v228
def k0_off3 (i : grid0.Coords) (k0_t2 : Fin (k0_t2_loop i).trips) : Fin 3 → Nat :=
  let c0_79 : Index := 0#32
  let c0_i32_13 : BitVec 32 := 0#32
  let c2_i32 : BitVec 32 := 2#32
  let arg2 : BitVec 32 := BitVec.ofNat 32 (i 2).val
  let v21 : BitVec 32 := Scalar.muli c2_i32 arg2
  let v23 : BitVec 32 := Scalar.subi v21 c0_i32_13
  let c1_i32 : BitVec 32 := 1#32
  let v25 : BitVec 32 := Scalar.divsi v23 c1_i32
  let v26 : BitVec 32 := Scalar.muli v25 c1_i32
  let v27 : BitVec 32 := Scalar.addi c0_i32_13 v26
  let c1_i32_15 : BitVec 32 := 1#32
  let arg13 : BitVec 32 := Scf.iv v27 c1_i32_15 k0_t2
  let c256_i32_78 : BitVec 32 := 256#32
  let v228 : BitVec 32 := Scalar.muli arg13 c256_i32_78
  let v229 : BitVec 32 := v228
  let v230 : Index := Scalar.indexCast v229
  let c0_80 : Index := 0#32
  ![0, v230.toNat, 0]
def k0_off4 (i : grid0.Coords) (k0_t2 : Fin (k0_t2_loop i).trips) : Fin 2 → Nat :=
  let c0_i32_13 : BitVec 32 := 0#32
  let c2_i32 : BitVec 32 := 2#32
  let arg2 : BitVec 32 := BitVec.ofNat 32 (i 2).val
  let v21 : BitVec 32 := Scalar.muli c2_i32 arg2
  let v23 : BitVec 32 := Scalar.subi v21 c0_i32_13
  let c1_i32 : BitVec 32 := 1#32
  let v25 : BitVec 32 := Scalar.divsi v23 c1_i32
  let v26 : BitVec 32 := Scalar.muli v25 c1_i32
  let v27 : BitVec 32 := Scalar.addi c0_i32_13 v26
  let c1_i32_15 : BitVec 32 := 1#32
  let arg13 : BitVec 32 := Scf.iv v27 c1_i32_15 k0_t2
  let c256_i32_78 : BitVec 32 := 256#32
  let v228 : BitVec 32 := Scalar.muli arg13 c256_i32_78
  let v229 : BitVec 32 := v228
  let v279 : Index := Scalar.indexCast v229
  let c0_92 : Index := 0#32
  ![v279.toNat, 0]
def k0_mult3 (i : grid0.Coords) : BitVec 32 :=
  let c2_i32_16 : BitVec 32 := 2#32
  let arg2 : BitVec 32 := BitVec.ofNat 32 (i 2).val
  let v30 : BitVec 32 := Scalar.muli c2_i32_16 arg2
  let c256_i32 : BitVec 32 := 256#32
  let v31 : BitVec 32 := Scalar.muli v30 c256_i32
  v31
def k0_off5 (i : grid0.Coords) : Fin 3 → Nat :=
  let c0_17 : Index := 0#32
  let c2_i32_16 : BitVec 32 := 2#32
  let arg2 : BitVec 32 := BitVec.ofNat 32 (i 2).val
  let v30 : BitVec 32 := Scalar.muli c2_i32_16 arg2
  let c256_i32 : BitVec 32 := 256#32
  let v31 : BitVec 32 := Scalar.muli v30 c256_i32
  let v32 : BitVec 32 := v31
  let v33 : Index := Scalar.indexCast v32
  let c0_18 : Index := 0#32
  ![0, v33.toNat, 0]
def k0_off6 (i : grid0.Coords) : Fin 2 → Nat :=
  let c2_i32_16 : BitVec 32 := 2#32
  let arg2 : BitVec 32 := BitVec.ofNat 32 (i 2).val
  let v30 : BitVec 32 := Scalar.muli c2_i32_16 arg2
  let c256_i32 : BitVec 32 := 256#32
  let v31 : BitVec 32 := Scalar.muli v30 c256_i32
  let v32 : BitVec 32 := v31
  let v98 : Index := Scalar.indexCast v32
  let c0_35 : Index := 0#32
  ![v98.toNat, 0]
def k0_mult4 (i : grid0.Coords) : BitVec 32 :=
  let c2_i32_44 : BitVec 32 := 2#32
  let arg2 : BitVec 32 := BitVec.ofNat 32 (i 2).val
  let v123 : BitVec 32 := Scalar.muli c2_i32_44 arg2
  let c1_i32_45 : BitVec 32 := 1#32
  let v124 : BitVec 32 := Scalar.addi v123 c1_i32_45
  let c256_i32_46 : BitVec 32 := 256#32
  let v131 : BitVec 32 := Scalar.muli v124 c256_i32_46
  v131
def k0_off7 (i : grid0.Coords) : Fin 3 → Nat :=
  let c0_47 : Index := 0#32
  let c2_i32_44 : BitVec 32 := 2#32
  let arg2 : BitVec 32 := BitVec.ofNat 32 (i 2).val
  let v123 : BitVec 32 := Scalar.muli c2_i32_44 arg2
  let c1_i32_45 : BitVec 32 := 1#32
  let v124 : BitVec 32 := Scalar.addi v123 c1_i32_45
  let c256_i32_46 : BitVec 32 := 256#32
  let v131 : BitVec 32 := Scalar.muli v124 c256_i32_46
  let v132 : BitVec 32 := v131
  let v133 : Index := Scalar.indexCast v132
  let c0_48 : Index := 0#32
  ![0, v133.toNat, 0]
def k0_off8 (i : grid0.Coords) : Fin 2 → Nat :=
  let c2_i32_44 : BitVec 32 := 2#32
  let arg2 : BitVec 32 := BitVec.ofNat 32 (i 2).val
  let v123 : BitVec 32 := Scalar.muli c2_i32_44 arg2
  let c1_i32_45 : BitVec 32 := 1#32
  let v124 : BitVec 32 := Scalar.addi v123 c1_i32_45
  let c256_i32_46 : BitVec 32 := 256#32
  let v131 : BitVec 32 := Scalar.muli v124 c256_i32_46
  let v132 : BitVec 32 := v131
  let v198 : Index := Scalar.indexCast v132
  let c0_66 : Index := 0#32
  ![v198.toNat, 0]
def k0_cond2 (i : grid0.Coords) : BitVec 1 :=
  let arg2 : BitVec 32 := BitVec.ofNat 32 (i 2).val
  let c3_i32 : BitVec 32 := 3#32
  let v225 : BitVec 1 := Scalar.cmpi .eq arg2 c3_i32
  let v226 : BitVec 32 := Scalar.extui v225
  let c0_i32_77 : BitVec 32 := 0#32
  let v227 : BitVec 1 := Scalar.cmpi .ne v226 c0_i32_77
  v227

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S2x2048x12288 : Shape := ⟨3, ![2, 2048, 12288]⟩
abbrev S2x2048x4096 : Shape := ⟨3, ![2, 2048, 4096]⟩
abbrev S2x2048x2048 : Shape := ⟨3, ![2, 2048, 2048]⟩
abbrev S2x2048x16x128 : Shape := ⟨4, ![2, 2048, 16, 128]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x128x2048 : Shape := ⟨4, ![2, 16, 128, 2048]⟩
abbrev S2x16x2048x128 : Shape := ⟨4, ![2, 16, 2048, 128]⟩

abbrev nBuf : Space → Nat
  | .hbm => 176
  | .vmem => 0
  | .smem => 0
  | _ => 0

abbrev hbmTy0_0 (i : Nat) : BufTy := match i % 128 with
  | 0 => ⟨S2x2048x12288, .bf16⟩
  | 1 => ⟨S2x2048x4096, .f32⟩
  | 2 => ⟨S2x2048x2048, .bf16⟩
  | 3 => ⟨S2x2048x2048, .f32⟩
  | 4 => ⟨S2x2048x16x128, .f32⟩
  | 5 => ⟨S2x2048x2048, .bf16⟩
  | 6 => ⟨S2x2048x2048, .f32⟩
  | 7 => ⟨S2x2048x16x128, .f32⟩
  | 8 => ⟨S2x2048x2048, .bf16⟩
  | 9 => ⟨S2x2048x2048, .f32⟩
  | 10 => ⟨S2x2048x16x128, .f32⟩
  | 11 => ⟨S2x2048x2048, .f32⟩
  | 12 => ⟨S2x2048x16x128, .f32⟩
  | 13 => ⟨S2x16x2048x2048, .f32⟩
  | 14 => ⟨S_, .f32⟩
  | 15 => ⟨S2x16x2048x2048, .f32⟩
  | 16 => ⟨S2x16x2048x2048, .f32⟩
  | 17 => ⟨S2048, .i32⟩
  | 18 => ⟨S1x2048, .i32⟩
  | 19 => ⟨S2048, .i32⟩
  | 20 => ⟨S2048x1, .i32⟩
  | 21 => ⟨S2048x2048, .i32⟩
  | 22 => ⟨S2048x2048, .i32⟩
  | 23 => ⟨S2048x2048, .i1⟩
  | 24 => ⟨S_, .f32⟩
  | 25 => ⟨S2x16x2048x2048, .f32⟩
  | 26 => ⟨S2x16x2048x2048, .f32⟩
  | 27 => ⟨S2x16x2048x2048, .f32⟩
  | 28 => ⟨S2x16x2048x2048, .f32⟩
  | 29 => ⟨S2x16x2048x2048, .i1⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S2x16x2048x2048, .f32⟩
  | 36 => ⟨S2x16x2048x2048, .f32⟩
  | 37 => ⟨S2x16x2048x2048, .f32⟩
  | 38 => ⟨S_, .f32⟩
  | 39 => ⟨S2x16x2048x2048, .f32⟩
  | 40 => ⟨S2x16x2048x2048, .i1⟩
  | 41 => ⟨S_, .f32⟩
  | 42 => ⟨S2x16x2048x2048, .f32⟩
  | 43 => ⟨S2x16x2048x2048, .f32⟩
  | 44 => ⟨S_, .f32⟩
  | 45 => ⟨S2x16x2048x2048, .f32⟩
  | 46 => ⟨S2x16x2048x2048, .i1⟩
  | 47 => ⟨S_, .f32⟩
  | 48 => ⟨S2x16x2048x2048, .f32⟩
  | 49 => ⟨S2x16x2048x2048, .f32⟩
  | 50 => ⟨S2x16x2048x2048, .f32⟩
  | 51 => ⟨S2x16x2048x2048, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S2x16x2048x2048, .f32⟩
  | 60 => ⟨S2x16x2048x2048, .i1⟩
  | 61 => ⟨S_, .f32⟩
  | 62 => ⟨S2x16x2048x2048, .f32⟩
  | 63 => ⟨S2x16x2048x2048, .f32⟩
  | 64 => ⟨S2x16x2048x2048, .f32⟩
  | 65 => ⟨S2x16x2048x2048, .f32⟩
  | 66 => ⟨S2x16x2048x2048, .f32⟩
  | 67 => ⟨S_, .f32⟩
  | 68 => ⟨S2x16x2048x2048, .f32⟩
  | 69 => ⟨S2x16x2048x2048, .f32⟩
  | 70 => ⟨S2x16x2048x2048, .f32⟩
  | 71 => ⟨S_, .f32⟩
  | 72 => ⟨S_, .f32⟩
  | 73 => ⟨S2x16x2048x2048, .i1⟩
  | 74 => ⟨S2x16x2048x2048, .f32⟩
  | 75 => ⟨S2x16x2048x2048, .f32⟩
  | 76 => ⟨S_, .f32⟩
  | 77 => ⟨S2x16x2048x2048, .f32⟩
  | 78 => ⟨S_, .f32⟩
  | 79 => ⟨S_, .f32⟩
  | 80 => ⟨S2x16x2048x2048, .f32⟩
  | 81 => ⟨S2x16x2048x2048, .f32⟩
  | 82 => ⟨S2x16x2048x2048, .f32⟩
  | 83 => ⟨S_, .f32⟩
  | 84 => ⟨S2x16x2048x2048, .f32⟩
  | 85 => ⟨S2x16x2048x2048, .f32⟩
  | 86 => ⟨S2x16x2048x2048, .f32⟩
  | 87 => ⟨S2x16x2048x2048, .f32⟩
  | 88 => ⟨S2x16x2048x2048, .i1⟩
  | 89 => ⟨S2x16x2048x2048, .f32⟩
  | 90 => ⟨S2x16x2048x2048, .f32⟩
  | 91 => ⟨S2x16x2048x2048, .f32⟩
  | 92 => ⟨S2x16x2048x2048, .f32⟩
  | 93 => ⟨S2x16x2048x2048, .f32⟩
  | 94 => ⟨S2x16x2048x2048, .f32⟩
  | 95 => ⟨S2x16x2048x2048, .f32⟩
  | 96 => ⟨S2x16x2048x2048, .f32⟩
  | 97 => ⟨S_, .f32⟩
  | 98 => ⟨S2x16x2048x2048, .f32⟩
  | 99 => ⟨S2x16x2048x2048, .i1⟩
  | 100 => ⟨S_, .f32⟩
  | 101 => ⟨S2x16x2048x2048, .f32⟩
  | 102 => ⟨S2x16x2048x2048, .f32⟩
  | 103 => ⟨S_, .f32⟩
  | 104 => ⟨S2x16x2048x2048, .f32⟩
  | 105 => ⟨S2x16x2048x2048, .i1⟩
  | 106 => ⟨S_, .f32⟩
  | 107 => ⟨S2x16x2048x2048, .f32⟩
  | 108 => ⟨S2x16x2048x2048, .f32⟩
  | 109 => ⟨S2x16x2048x2048, .f32⟩
  | 110 => ⟨S2x16x2048x2048, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S2x16x2048x2048, .f32⟩
  | 119 => ⟨S2x16x2048x2048, .i1⟩
  | 120 => ⟨S_, .f32⟩
  | 121 => ⟨S2x16x2048x2048, .f32⟩
  | 122 => ⟨S2x16x2048x2048, .f32⟩
  | 123 => ⟨S2x16x2048x2048, .f32⟩
  | 124 => ⟨S2x16x2048x2048, .f32⟩
  | 125 => ⟨S2x16x2048x2048, .f32⟩
  | 126 => ⟨S_, .f32⟩
  | 127 => ⟨S2x16x2048x2048, .f32⟩
  | _ => ⟨S2x2048x12288, .bf16⟩

abbrev hbmTy0_1 (i : Nat) : BufTy := match i % 128 with
  | 0 => ⟨S2x16x2048x2048, .f32⟩
  | 1 => ⟨S2x16x2048x2048, .f32⟩
  | 2 => ⟨S2x16x2048x2048, .f32⟩
  | 3 => ⟨S2x16x2048x2048, .f32⟩
  | 4 => ⟨S_, .f32⟩
  | 5 => ⟨S_, .f32⟩
  | 6 => ⟨S2x16x2048x2048, .i1⟩
  | 7 => ⟨S2x16x2048x2048, .f32⟩
  | 8 => ⟨S2x16x2048x2048, .f32⟩
  | 9 => ⟨S_, .f32⟩
  | 10 => ⟨S2x16x2048x2048, .f32⟩
  | 11 => ⟨S2x16x128x2048, .f32⟩
  | 12 => ⟨S2x2048x16x128, .f32⟩
  | 13 => ⟨S2x16x128x2048, .f32⟩
  | 14 => ⟨S2x16x2048x2048, .f32⟩
  | 15 => ⟨S2x16x128x2048, .f32⟩
  | 16 => ⟨S2x2048x16x128, .f32⟩
  | 17 => ⟨S_, .f32⟩
  | 18 => ⟨S2x16x2048x2048, .f32⟩
  | 19 => ⟨S2x16x2048x2048, .f32⟩
  | 20 => ⟨S2x16x2048x2048, .f32⟩
  | 21 => ⟨S2x16x2048x2048, .f32⟩
  | 22 => ⟨S2x16x2048x2048, .f32⟩
  | 23 => ⟨S2x16x2048x2048, .f32⟩
  | 24 => ⟨S2x16x2048x2048, .f32⟩
  | 25 => ⟨S_, .f32⟩
  | 26 => ⟨S_, .f32⟩
  | 27 => ⟨S2x16x2048x2048, .f32⟩
  | 28 => ⟨S2x16x2048x2048, .f32⟩
  | 29 => ⟨S_, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S_, .f32⟩
  | 36 => ⟨S2x16x2048x2048, .f32⟩
  | 37 => ⟨S2x16x2048x2048, .f32⟩
  | 38 => ⟨S2x16x2048x128, .f32⟩
  | 39 => ⟨S2x2048x16x128, .f32⟩
  | 40 => ⟨S2x16x2048x128, .f32⟩
  | 41 => ⟨S2x2048x16x128, .f32⟩
  | 42 => ⟨S2x2048x2048, .f32⟩
  | 43 => ⟨S2x2048x2048, .bf16⟩
  | 44 => ⟨S2x2048x2048, .f32⟩
  | 45 => ⟨S2x2048x2048, .bf16⟩
  | 46 => ⟨S2x2048x2048, .f32⟩
  | 47 => ⟨S2x2048x2048, .bf16⟩
  | _ => ⟨S2x2048x12288, .bf16⟩

abbrev hbmTy (i : Nat) : BufTy := match i / 128 with
  | 0 => hbmTy0_0 i
  | 1 => hbmTy0_1 i
  | _ => ⟨S2x2048x12288, .bf16⟩

abbrev bufTy : (tb : Table) → Fin (tcTables nBuf tb) → BufTy
  | .hbm, ⟨i, _⟩ => hbmTy i
  | _, _ => ⟨S2x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v21_0 : Ref sig .tc := ⟨.hbm, 37, rfl⟩
abbrev main_call0_cst_0 : Ref sig .tc := ⟨.hbm, 38, rfl⟩
abbrev main_call0_v13 : Ref sig .tc := ⟨.hbm, 39, rfl⟩
abbrev main_call0_v14 : Ref sig .tc := ⟨.hbm, 40, rfl⟩
abbrev main_call0_cst_1 : Ref sig .tc := ⟨.hbm, 41, rfl⟩
abbrev main_call0_v15 : Ref sig .tc := ⟨.hbm, 42, rfl⟩
abbrev main_call0_v16 : Ref sig .tc := ⟨.hbm, 43, rfl⟩
abbrev main_call0_cst_2 : Ref sig .tc := ⟨.hbm, 44, rfl⟩
abbrev main_call0_v17 : Ref sig .tc := ⟨.hbm, 45, rfl⟩
abbrev main_call0_v18 : Ref sig .tc := ⟨.hbm, 46, rfl⟩
abbrev main_call0_cst_3 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_v21_1 : Ref sig .tc := ⟨.hbm, 51, rfl⟩
abbrev main_call0_cst_4 : Ref sig .tc := ⟨.hbm, 52, rfl⟩
abbrev main_call0_cst_5 : Ref sig .tc := ⟨.hbm, 53, rfl⟩
abbrev main_call0_v23 : Ref sig .tc := ⟨.hbm, 54, rfl⟩
abbrev main_call0_cst_6 : Ref sig .tc := ⟨.hbm, 55, rfl⟩
abbrev main_call0_cst_7 : Ref sig .tc := ⟨.hbm, 56, rfl⟩
abbrev main_call0_v24 : Ref sig .tc := ⟨.hbm, 57, rfl⟩
abbrev main_call0_cst_8 : Ref sig .tc := ⟨.hbm, 58, rfl⟩
abbrev main_call0_v25 : Ref sig .tc := ⟨.hbm, 59, rfl⟩
abbrev main_call0_v26 : Ref sig .tc := ⟨.hbm, 60, rfl⟩
abbrev main_call0_cst_9 : Ref sig .tc := ⟨.hbm, 61, rfl⟩
abbrev main_call0_v27 : Ref sig .tc := ⟨.hbm, 62, rfl⟩
abbrev main_call0_v28 : Ref sig .tc := ⟨.hbm, 63, rfl⟩
abbrev main_call0_v29 : Ref sig .tc := ⟨.hbm, 64, rfl⟩
abbrev main_call0_v30 : Ref sig .tc := ⟨.hbm, 65, rfl⟩
abbrev main_call0_v31 : Ref sig .tc := ⟨.hbm, 66, rfl⟩
abbrev main_call0_cst_10 : Ref sig .tc := ⟨.hbm, 67, rfl⟩
abbrev main_call0_v32 : Ref sig .tc := ⟨.hbm, 68, rfl⟩
abbrev main_v21_2 : Ref sig .tc := ⟨.hbm, 69, rfl⟩
abbrev main_v22 : Ref sig .tc := ⟨.hbm, 70, rfl⟩
abbrev main_cst_0 : Ref sig .tc := ⟨.hbm, 71, rfl⟩
abbrev main_call1_v0 : Ref sig .tc := ⟨.hbm, 72, rfl⟩
abbrev main_v23_1 : Ref sig .tc := ⟨.hbm, 73, rfl⟩
abbrev main_call1_v2 : Ref sig .tc := ⟨.hbm, 74, rfl⟩
abbrev main_v23_0 : Ref sig .tc := ⟨.hbm, 75, rfl⟩
abbrev main_call1_cst : Ref sig .tc := ⟨.hbm, 76, rfl⟩
abbrev main_v23_2 : Ref sig .tc := ⟨.hbm, 77, rfl⟩
abbrev main_call2_cst : Ref sig .tc := ⟨.hbm, 78, rfl⟩
abbrev main_call2_v0 : Ref sig .tc := ⟨.hbm, 79, rfl⟩
abbrev main_v24 : Ref sig .tc := ⟨.hbm, 80, rfl⟩
abbrev main_v25 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v26_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v26_2 : Ref sig .tc := ⟨.hbm, 128, rfl⟩
abbrev main_v26_0 : Ref sig .tc := ⟨.hbm, 129, rfl⟩
abbrev main_v27 : Ref sig .tc := ⟨.hbm, 130, rfl⟩
abbrev main_v28 : Ref sig .tc := ⟨.hbm, 131, rfl⟩
abbrev main_cst_1 : Ref sig .tc := ⟨.hbm, 132, rfl⟩
abbrev main_call4_v0 : Ref sig .tc := ⟨.hbm, 133, rfl⟩
abbrev main_v29_1 : Ref sig .tc := ⟨.hbm, 134, rfl⟩
abbrev main_call4_v2 : Ref sig .tc := ⟨.hbm, 135, rfl⟩
abbrev main_v29_0 : Ref sig .tc := ⟨.hbm, 136, rfl⟩
abbrev main_call4_cst : Ref sig .tc := ⟨.hbm, 137, rfl⟩
abbrev main_v29_2 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_call5_cst : Ref sig .tc := ⟨.hbm, 145, rfl⟩
abbrev main_call5_v0 : Ref sig .tc := ⟨.hbm, 146, rfl⟩
abbrev main_v36 : Ref sig .tc := ⟨.hbm, 147, rfl⟩
abbrev main_v37 : Ref sig .tc := ⟨.hbm, 148, rfl⟩
abbrev main_call6_v0 : Ref sig .tc := ⟨.hbm, 149, rfl⟩
abbrev main_call6_v1 : Ref sig .tc := ⟨.hbm, 150, rfl⟩
abbrev main_v38 : Ref sig .tc := ⟨.hbm, 151, rfl⟩
abbrev main_v39 : Ref sig .tc := ⟨.hbm, 152, rfl⟩
abbrev main_call7_cst : Ref sig .tc := ⟨.hbm, 153, rfl⟩
abbrev main_call7_v0 : Ref sig .tc := ⟨.hbm, 154, rfl⟩
abbrev main_v40 : Ref sig .tc := ⟨.hbm, 155, rfl⟩
abbrev main_v41 : Ref sig .tc := ⟨.hbm, 156, rfl⟩
abbrev main_call8_cst : Ref sig .tc := ⟨.hbm, 157, rfl⟩
abbrev main_call8_v0 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_cst_2 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩

abbrev nD : Nat := 1
abbrev τ : Topo := Topo.v7x

variable {F : FTy → Type} [FloatOps F]
-- ==== Wgrad.lean ====
abbrev S4096x11264 : Shape := ⟨2, ![4096, 11264]⟩
abbrev S4096x4096 : Shape := ⟨2, ![4096, 4096]⟩
abbrev S11264x4096 : Shape := ⟨2, ![11264, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S11264x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradIdeal.lean ====
abbrev S4096x11264 : Shape := ⟨2, ![4096, 11264]⟩
abbrev S4096x4096 : Shape := ⟨2, ![4096, 4096]⟩
abbrev S11264x4096 : Shape := ⟨2, ![11264, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S11264x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S4096x11264 : Shape := ⟨2, ![4096, 11264]⟩
abbrev S4096x4096 : Shape := ⟨2, ![4096, 4096]⟩
abbrev S_ : Shape := ⟨0, ![]⟩
abbrev S11264x4096 : Shape := ⟨2, ![11264, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S_, .f32⟩
  | .hbm, ⟨3, _⟩ => ⟨S11264x4096, .f32⟩
  | .hbm, ⟨4, _⟩ => ⟨S4096x11264, .f32⟩
  | .hbm, ⟨5, _⟩ => ⟨S4096x4096, .f32⟩
  | .hbm, ⟨6, _⟩ => ⟨S4096x4096, .f32⟩
  | .hbm, ⟨7, _⟩ => ⟨S4096x11264, .f32⟩
  | .hbm, ⟨8, _⟩ => ⟨S11264x4096, .f32⟩
  | .hbm, ⟨9, _⟩ => ⟨S11264x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Swiglu.lean ====
abbrev S4096x11264 : Shape := ⟨2, ![4096, 11264]⟩
abbrev S11264x4096 : Shape := ⟨2, ![11264, 4096]⟩
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S11264x4096, .bf16⟩
  | .hbm, ⟨3, _⟩ => ⟨S4096x4096, .bf16⟩
  | .hbm, ⟨4, _⟩ => ⟨S4096x11264, .bf16⟩
  | .hbm, ⟨5, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SwigluRefIdeal.lean ====
abbrev S4096x11264 : Shape := ⟨2, ![4096, 11264]⟩
abbrev S11264x4096 : Shape := ⟨2, ![11264, 4096]⟩
abbrev S4096x4096 : Shape := ⟨2, ![4096, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S11264x4096, .bf16⟩
  | .hbm, ⟨3, _⟩ => ⟨S4096x4096, .bf16⟩
  | .hbm, ⟨4, _⟩ => ⟨S4096x11264, .f32⟩
  | .hbm, ⟨5, _⟩ => ⟨S4096x11264, .f32⟩
  | .hbm, ⟨6, _⟩ => ⟨S4096x11264, .f32⟩
  | .hbm, ⟨7, _⟩ => ⟨S4096x11264, .f32⟩
  | .hbm, ⟨8, _⟩ => ⟨S_, .f32⟩
  | .hbm, ⟨9, _⟩ => ⟨S4096x11264, .f32⟩
  | .hbm, ⟨10, _⟩ => ⟨S4096x11264, .f32⟩
  | .hbm, ⟨11, _⟩ => ⟨S_, .f32⟩
  | .hbm, ⟨12, _⟩ => ⟨S4096x11264, .f32⟩
  | .hbm, ⟨13, _⟩ => ⟨S4096x11264, .f32⟩
  | .hbm, ⟨14, _⟩ => ⟨S_, .f32⟩
  | .hbm, ⟨15, _⟩ => ⟨S4096x11264, .f32⟩
  | .hbm, ⟨16, _⟩ => ⟨S4096x11264, .f32⟩
  | .hbm, ⟨17, _⟩ => ⟨S4096x11264, .f32⟩
  | .hbm, ⟨18, _⟩ => ⟨S4096x11264, .f32⟩
  | .hbm, ⟨19, _⟩ => ⟨S4096x11264, .f32⟩
  | .hbm, ⟨20, _⟩ => ⟨S11264x4096, .f32⟩
  | .hbm, ⟨21, _⟩ => ⟨S4096x4096, .f32⟩
  | .hbm, ⟨22, _⟩ => ⟨S4096x4096, .f32⟩
  | .hbm, ⟨23, _⟩ => ⟨S4096x11264, .f32⟩
  | .hbm, ⟨24, _⟩ => ⟨S4096x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S4096x11264, .f32⟩
  | .hbm, ⟨29, _⟩ => ⟨S4096x11264, .f32⟩
  | .hbm, ⟨30, _⟩ => ⟨S4096x11264, .bf16⟩
  | .hbm, ⟨31, _⟩ => ⟨S4096x11264, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== GateUp.lean ====
abbrev S4096x4096 : Shape := ⟨2, ![4096, 4096]⟩
abbrev S4096x11264 : Shape := ⟨2, ![4096, 11264]⟩
abbrev S11264x4096 : Shape := ⟨2, ![11264, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x11264, .bf16⟩
  | .hbm, ⟨2, _⟩ => ⟨S4096x11264, .bf16⟩
  | .hbm, ⟨3, _⟩ => ⟨S11264x4096, .bf16⟩
  | .hbm, ⟨4, _⟩ => ⟨S11264x4096, .bf16⟩
  | .hbm, ⟨5, _⟩ => ⟨S4096x11264, .bf16⟩
  | .hbm, ⟨6, _⟩ => ⟨S4096x11264, .bf16⟩
  | .hbm, ⟨7, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateUpRefIdeal.lean ====
abbrev S4096x4096 : Shape := ⟨2, ![4096, 4096]⟩
abbrev S4096x11264 : Shape := ⟨2, ![4096, 11264]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x11264, .bf16⟩
  | .hbm, ⟨2, _⟩ => ⟨S4096x11264, .bf16⟩
  | .hbm, ⟨3, _⟩ => ⟨S4096x4096, .f32⟩
  | .hbm, ⟨4, _⟩ => ⟨S4096x11264, .f32⟩
  | .hbm, ⟨5, _⟩ => ⟨S4096x11264, .f32⟩
  | .hbm, ⟨6, _⟩ => ⟨S4096x4096, .f32⟩
  | .hbm, ⟨7, _⟩ => ⟨S4096x11264, .f32⟩
  | .hbm, ⟨8, _⟩ => ⟨S4096x11264, .f32⟩
  | .hbm, ⟨9, _⟩ => ⟨S4096x11264, .f32⟩
  | .hbm, ⟨10, _⟩ => ⟨S4096x11264, .f32⟩
  | .hbm, ⟨11, _⟩ => ⟨S_, .f32⟩
  | .hbm, ⟨12, _⟩ => ⟨S4096x11264, .f32⟩
  | .hbm, ⟨13, _⟩ => ⟨S4096x11264, .f32⟩
  | .hbm, ⟨14, _⟩ => ⟨S_, .f32⟩
  | .hbm, ⟨15, _⟩ => ⟨S4096x11264, .f32⟩
  | .hbm, ⟨16, _⟩ => ⟨S4096x11264, .f32⟩
  | .hbm, ⟨17, _⟩ => ⟨S4096x11264, .f32⟩
  | .hbm, ⟨18, _⟩ => ⟨S4096x11264, .f32⟩
  | .hbm, ⟨19, _⟩ => ⟨S4096x11264, .bf16⟩
  | .hbm, ⟨20, _⟩ => ⟨S4096x11264, .bf16⟩
  | .hbm, ⟨21, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Down.lean ====
abbrev S4096x11264 : Shape := ⟨2, ![4096, 11264]⟩
abbrev S11264x4096 : Shape := ⟨2, ![11264, 4096]⟩
abbrev S4096x4096 : Shape := ⟨2, ![4096, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownIdeal.lean ====
abbrev S4096x11264 : Shape := ⟨2, ![4096, 11264]⟩
abbrev S11264x4096 : Shape := ⟨2, ![11264, 4096]⟩
abbrev S4096x4096 : Shape := ⟨2, ![4096, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x11264 : Shape := ⟨2, ![4096, 11264]⟩
abbrev S11264x4096 : Shape := ⟨2, ![11264, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x11264, .f32⟩
  | .hbm, ⟨4, _⟩ => ⟨S11264x4096, .f32⟩
  | .hbm, ⟨5, _⟩ => ⟨S4096x4096, .f32⟩
  | .hbm, ⟨6, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WinGrad.lean ====
abbrev S4096x4096 : Shape := ⟨2, ![4096, 4096]⟩
abbrev S4096x12288 : Shape := ⟨2, ![4096, 12288]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinGradRefIdeal.lean ====
abbrev S4096x4096 : Shape := ⟨2, ![4096, 4096]⟩
abbrev S4096x12288 : Shape := ⟨2, ![4096, 12288]⟩
abbrev S_ : Shape := ⟨0, ![]⟩
abbrev S12288x4096 : Shape := ⟨2, ![12288, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S_, .f32⟩
  | .hbm, ⟨3, _⟩ => ⟨S4096x12288, .f32⟩
  | .hbm, ⟨4, _⟩ => ⟨S4096x4096, .f32⟩
  | .hbm, ⟨5, _⟩ => ⟨S4096x12288, .f32⟩
  | .hbm, ⟨6, _⟩ => ⟨S4096x12288, .f32⟩
  | .hbm, ⟨7, _⟩ => ⟨S12288x4096, .f32⟩
  | .hbm, ⟨8, _⟩ => ⟨S4096x12288, .f32⟩
  | .hbm, ⟨9, _⟩ => ⟨S4096x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HnGrad.lean ====
abbrev S4096x12288 : Shape := ⟨2, ![4096, 12288]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4096x12288, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HnGradRefIdeal.lean ====
abbrev S4096x12288 : Shape := ⟨2, ![4096, 12288]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x12288, .bf16⟩
  | .hbm, ⟨2, _⟩ => ⟨S_, .f32⟩
  | .hbm, ⟨3, _⟩ => ⟨S4096x4096, .f32⟩
  | .hbm, ⟨4, _⟩ => ⟨S4096x12288, .f32⟩
  | .hbm, ⟨5, _⟩ => ⟨S4096x12288, .f32⟩
  | .hbm, ⟨6, _⟩ => ⟨S4096x12288, .f32⟩
  | .hbm, ⟨7, _⟩ => ⟨S4096x4096, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Hn2Grad.lean ====
abbrev S4096x11264 : Shape := ⟨2, ![4096, 11264]⟩
abbrev S11264x4096 : Shape := ⟨2, ![11264, 4096]⟩
abbrev S4096x4096 : Shape := ⟨2, ![4096, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S11264x4096, .bf16⟩
  | .hbm, ⟨3, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Hn2GradRefIdeal.lean ====
abbrev S4096x11264 : Shape := ⟨2, ![4096, 11264]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S_, .f32⟩
  | .hbm, ⟨3, _⟩ => ⟨S4096x4096, .f32⟩
  | .hbm, ⟨4, _⟩ => ⟨S4096x11264, .f32⟩
  | .hbm, ⟨5, _⟩ => ⟨S4096x11264, .f32⟩
  | .hbm, ⟨6, _⟩ => ⟨S4096x11264, .f32⟩
  | .hbm, ⟨7, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WoutGrad.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutGradRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixGrad.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixGradRefIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormMix.lean ====
abbrev S4096x4096 : Shape := ⟨2, ![4096, 4096]⟩
abbrev S1x4096 : Shape := ⟨2, ![1, 4096]⟩
abbrev S8x4096 : Shape := ⟨2, ![8, 4096]⟩
abbrev S128x4096 : Shape := ⟨2, ![128, 4096]⟩
abbrev S128 : Shape := ⟨1, ![128]⟩
abbrev S128x1 : Shape := ⟨2, ![128, 1]⟩
abbrev S16x8x4096 : Shape := ⟨3, ![16, 8, 4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S8x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMixRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S8x4096 : Shape := ⟨2, ![8, 4096]⟩
abbrev S512x8x4096 : Shape := ⟨3, ![512, 8, 4096]⟩
abbrev S512x8 : Shape := ⟨2, ![512, 8]⟩
abbrev S512x8x1 : Shape := ⟨3, ![512, 8, 1]⟩
abbrev S1x8x4096 : Shape := ⟨3, ![1, 8, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S8x4096, .f32⟩
  | .hbm, ⟨43, _⟩ => ⟨S512x8x4096, .f32⟩
  | .hbm, ⟨44, _⟩ => ⟨S512x8x4096, .f32⟩
  | .hbm, ⟨45, _⟩ => ⟨S_, .f32⟩
  | .hbm, ⟨46, _⟩ => ⟨S512x8, .f32⟩
  | .hbm, ⟨47, _⟩ => ⟨S512x8x1, .f32⟩
  | .hbm, ⟨48, _⟩ => ⟨S_, .f32⟩
  | .hbm, ⟨49, _⟩ => ⟨S512x8x1, .f32⟩
  | .hbm, ⟨50, _⟩ => ⟨S512x8x1, .f32⟩
  | .hbm, ⟨51, _⟩ => ⟨S_, .f32⟩
  | .hbm, ⟨52, _⟩ => ⟨S512x8x1, .f32⟩
  | .hbm, ⟨53, _⟩ => ⟨S512x8x1, .f32⟩
  | .hbm, ⟨54, _⟩ => ⟨S512x8x1, .f32⟩
  | .hbm, ⟨55, _⟩ => ⟨S512x8x4096, .f32⟩
  | .hbm, ⟨56, _⟩ => ⟨S512x8x4096, .f32⟩
  | .hbm, ⟨57, _⟩ => ⟨S1x8x4096, .f32⟩
  | .hbm, ⟨58, _⟩ => ⟨S512x8x4096, .f32⟩
  | .hbm, ⟨59, _⟩ => ⟨S512x8x4096, .f32⟩
  | .hbm, ⟨60, _⟩ => ⟨S512x8x4096, .f32⟩
  | .hbm, ⟨61, _⟩ => ⟨S512x8x4096, .f32⟩
  | .hbm, ⟨62, _⟩ => ⟨S_, .f32⟩
  | .hbm, ⟨63, _⟩ => ⟨S8x4096, .f32⟩
  | .hbm, ⟨64, _⟩ => ⟨S1x8x4096, .f32⟩
  | .hbm, ⟨65, _⟩ => ⟨S_, .f32⟩
  | .hbm, ⟨66, _⟩ => ⟨S8x4096, .f32⟩
  | .hbm, ⟨67, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== NormFfn.lean ====
abbrev S4096x4096 : Shape := ⟨2, ![4096, 4096]⟩
abbrev S1x4096 : Shape := ⟨2, ![1, 4096]⟩
abbrev S8x4096 : Shape := ⟨2, ![8, 4096]⟩
abbrev S128x4096 : Shape := ⟨2, ![128, 4096]⟩
abbrev S128 : Shape := ⟨1, ![128]⟩
abbrev S128x1 : Shape := ⟨2, ![128, 1]⟩
abbrev S16x8x4096 : Shape := ⟨3, ![16, 8, 4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S8x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_16 : BitVec 32 := 0#32
  let v39 : BitVec 1 := Scalar.cmpi .ne v38 c0_i32_16
  v39

def k0_cond2 (i : grid0.Coords) : BitVec 1 :=
  let arg0 : BitVec 32 := BitVec.ofNat 32 (i 0).val
  let c0_i32_17 : BitVec 32 := 0#32
  let v40 : BitVec 1 := Scalar.cmpi .sgt arg0 c0_i32_17
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormFfnRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S8x4096 : Shape := ⟨2, ![8, 4096]⟩
abbrev S512x8x4096 : Shape := ⟨3, ![512, 8, 4096]⟩
abbrev S512x8 : Shape := ⟨2, ![512, 8]⟩
abbrev S512x8x1 : Shape := ⟨3, ![512, 8, 1]⟩
abbrev S1x8x4096 : Shape := ⟨3, ![1, 8, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S8x4096, .f32⟩
  | .hbm, ⟨43, _⟩ => ⟨S512x8x4096, .f32⟩
  | .hbm, ⟨44, _⟩ => ⟨S512x8x4096, .f32⟩
  | .hbm, ⟨45, _⟩ => ⟨S_, .f32⟩
  | .hbm, ⟨46, _⟩ => ⟨S512x8, .f32⟩
  | .hbm, ⟨47, _⟩ => ⟨S512x8x1, .f32⟩
  | .hbm, ⟨48, _⟩ => ⟨S_, .f32⟩
  | .hbm, ⟨49, _⟩ => ⟨S512x8x1, .f32⟩
  | .hbm, ⟨50, _⟩ => ⟨S512x8x1, .f32⟩
  | .hbm, ⟨51, _⟩ => ⟨S_, .f32⟩
  | .hbm, ⟨52, _⟩ => ⟨S512x8x1, .f32⟩
  | .hbm, ⟨53, _⟩ => ⟨S512x8x1, .f32⟩
  | .hbm, ⟨54, _⟩ => ⟨S512x8x1, .f32⟩
  | .hbm, ⟨55, _⟩ => ⟨S512x8x4096, .f32⟩
  | .hbm, ⟨56, _⟩ => ⟨S512x8x4096, .f32⟩
  | .hbm, ⟨57, _⟩ => ⟨S1x8x4096, .f32⟩
  | .hbm, ⟨58, _⟩ => ⟨S512x8x4096, .f32⟩
  | .hbm, ⟨59, _⟩ => ⟨S512x8x4096, .f32⟩
  | .hbm, ⟨60, _⟩ => ⟨S512x8x4096, .f32⟩
  | .hbm, ⟨61, _⟩ => ⟨S512x8x4096, .f32⟩
  | .hbm, ⟨62, _⟩ => ⟨S_, .f32⟩
  | .hbm, ⟨63, _⟩ => ⟨S8x4096, .f32⟩
  | .hbm, ⟨64, _⟩ => ⟨S1x8x4096, .f32⟩
  | .hbm, ⟨65, _⟩ => ⟨S_, .f32⟩
  | .hbm, ⟨66, _⟩ => ⟨S8x4096, .f32⟩
  | .hbm, ⟨67, _⟩ => ⟨S4096x4096, .f32⟩
  | .hbm, ⟨68, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== AdamIn.lean ====
abbrev S4096x3072 : Shape := ⟨2, ![4096, 3072]⟩
abbrev S2048x3072 : Shape := ⟨2, ![2048, 3072]⟩
abbrev S128x3072 : Shape := ⟨2, ![128, 3072]⟩

abbrev nBuf : Space → Nat
  | .hbm => 9
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S2048x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | .local _ .vmem, ⟨17, _⟩ => ⟨S128x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c16_i32 : BitVec 32 := 16#32
  let c0_i32_2 : BitVec 32 := 0#32
  let v4 : BitVec 1 := Scalar.cmpi .eq c16_i32 c0_i32_2
  let c1_i32 : BitVec 32 := 1#32
  let v5 : BitVec 32 := Scalar.select v4 c1_i32 c16_i32
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c0_i32_6 : BitVec 32 := 0#32
  let c0_i32_7 : BitVec 32 := 0#32
  ![v13.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c16_i32 : BitVec 32 := 16#32
  let c0_i32_2 : BitVec 32 := 0#32
  let v4 : BitVec 1 := Scalar.cmpi .eq c16_i32 c0_i32_2
  let c1_i32 : BitVec 32 := 1#32
  let v5 : BitVec 32 := Scalar.select v4 c1_i32 c16_i32
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c0_i32_6 : BitVec 32 := 0#32
  let c0_i32_7 : BitVec 32 := 0#32
  ![v13.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c0_i32_2 : BitVec 32 := 0#32
  let c0_i32_3 : BitVec 32 := 0#32
  ![v3.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c0_i32_2 : BitVec 32 := 0#32
  let c0_i32_3 : BitVec 32 := 0#32
  ![v3.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c0_i32_2 : BitVec 32 := 0#32
  let c0_i32_3 : BitVec 32 := 0#32
  ![v3.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c31_i32 : BitVec 32 := 31#32
  let v2 : BitVec 32 := Scalar.select v1 c0_i32_1 c31_i32
  let v3 : BitVec 32 := Scalar.select v0 arg1 v2
  let c0_i32_2 : BitVec 32 := 0#32
  let c0_i32_3 : BitVec 32 := 0#32
  ![v3.toNat, c0_i32_2.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S4096x3072 : Shape := ⟨2, ![4096, 3072]⟩
abbrev S2048x3072 : Shape := ⟨2, ![2048, 3072]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S2048x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S_, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S4096x3072, .f32⟩
  | .hbm, ⟨38, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S1024x4096 : Shape := ⟨2, ![1024, 4096]⟩
abbrev S1024x2048 : Shape := ⟨2, ![1024, 2048]⟩
abbrev S128x4096 : Shape := ⟨2, ![128, 4096]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x4096, .f32⟩
  | .hbm, ⟨1, _⟩ => ⟨S1024x2048, .f32⟩
  | .hbm, ⟨2, _⟩ => ⟨S1024x2048, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S1024x4096 : Shape := ⟨2, ![1024, 4096]⟩
abbrev S1024x2048 : Shape := ⟨2, ![1024, 2048]⟩
abbrev S128x4096 : Shape := ⟨2, ![128, 4096]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x4096, .f32⟩
  | .hbm, ⟨1, _⟩ => ⟨S1024x2048, .f32⟩
  | .hbm, ⟨2, _⟩ => ⟨S1024x2048, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S1024x4096 : Shape := ⟨2, ![1024, 4096]⟩
abbrev S1024x2048 : Shape := ⟨2, ![1024, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x2048, .f32⟩
  | .hbm, ⟨2, _⟩ => ⟨S1024x2048, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S_, .f32⟩
  | .hbm, ⟨7, _⟩ => ⟨S1024x4096, .f32⟩
  | .hbm, ⟨8, _⟩ => ⟨S1024x4096, .f32⟩
  | .hbm, ⟨9, _⟩ => ⟨S_, .f32⟩
  | .hbm, ⟨10, _⟩ => ⟨S1024x4096, .f32⟩
  | .hbm, ⟨11, _⟩ => ⟨S1024x4096, .f32⟩
  | .hbm, ⟨12, _⟩ => ⟨S1024x4096, .f32⟩
  | .hbm, ⟨13, _⟩ => ⟨S_, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S_, .f32⟩
  | .hbm, ⟨22, _⟩ => ⟨S1024x4096, .f32⟩
  | .hbm, ⟨23, _⟩ => ⟨S1024x4096, .f32⟩
  | .hbm, ⟨24, _⟩ => ⟨S_, .f32⟩
  | .hbm, ⟨25, _⟩ => ⟨S1024x4096, .f32⟩
  | .hbm, ⟨26, _⟩ => ⟨S1024x4096, .f32⟩
  | .hbm, ⟨27, _⟩ => ⟨S1024x4096, .f32⟩
  | .hbm, ⟨28, _⟩ => ⟨S_, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S_, .f32⟩
  | .hbm, ⟨33, _⟩ => ⟨S1024x4096, .f32⟩
  | .hbm, ⟨34, _⟩ => ⟨S1024x4096, .f32⟩
  | .hbm, ⟨35, _⟩ => ⟨S1024x4096, .f32⟩
  | .hbm, ⟨36, _⟩ => ⟨S_, .f32⟩
  | .hbm, ⟨37, _⟩ => ⟨S1024x4096, .f32⟩
  | .hbm, ⟨38, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfn.lean ====
abbrev S2752x4096 : Shape := ⟨2, ![2752, 4096]⟩
abbrev S2752x2048 : Shape := ⟨2, ![2752, 2048]⟩
abbrev S64x4096 : Shape := ⟨2, ![64, 4096]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2752x4096, .f32⟩
  | .hbm, ⟨1, _⟩ => ⟨S2752x2048, .f32⟩
  | .hbm, ⟨2, _⟩ => ⟨S2752x2048, .f32⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .hbm, ⟨8, _⟩ => ⟨S2752x4096, .f32⟩
  | .local _ .vmem, ⟨0, _⟩ => ⟨S64x4096, .f32⟩
  | .local _ .vmem, ⟨1, _⟩ => ⟨S64x4096, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | _, _ => ⟨S2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 43], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c42_i32 : BitVec 32 := 42#32
  let v2 : BitVec 32 := Scalar.select v1 c0_i32_1 c42_i32
  let v3 : BitVec 32 := Scalar.select v0 arg1 v2
  let c0_i32_2 : BitVec 32 := 0#32
  let c0_i32_3 : BitVec 32 := 0#32
  ![v3.toNat, c0_i32_2.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnRefIdeal.lean ====
abbrev S2752x4096 : Shape := ⟨2, ![2752, 4096]⟩
abbrev S2752x2048 : Shape := ⟨2, ![2752, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2752x4096, .f32⟩
  | .hbm, ⟨1, _⟩ => ⟨S2752x2048, .f32⟩
  | .hbm, ⟨2, _⟩ => ⟨S2752x2048, .f32⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S_, .f32⟩
  | .hbm, ⟨7, _⟩ => ⟨S2752x4096, .f32⟩
  | .hbm, ⟨8, _⟩ => ⟨S2752x4096, .f32⟩
  | .hbm, ⟨9, _⟩ => ⟨S_, .f32⟩
  | .hbm, ⟨10, _⟩ => ⟨S2752x4096, .f32⟩
  | .hbm, ⟨11, _⟩ => ⟨S2752x4096, .f32⟩
  | .hbm, ⟨12, _⟩ => ⟨S2752x4096, .f32⟩
  | .hbm, ⟨13, _⟩ => ⟨S_, .f32⟩
  | .hbm, ⟨14, _⟩ => ⟨S2752x4096, .f32⟩
  | .hbm, ⟨15, _⟩ => ⟨S2752x4096, .f32⟩
  | .hbm, ⟨16, _⟩ => ⟨S2752x4096, .f32⟩
  | .hbm, ⟨17, _⟩ => ⟨S_, .f32⟩
  | .hbm, ⟨18, _⟩ => ⟨S2752x4096, .f32⟩
  | .hbm, ⟨19, _⟩ => ⟨S2752x4096, .f32⟩
  | .hbm, ⟨20, _⟩ => ⟨S2752x4096, .f32⟩
  | .hbm, ⟨21, _⟩ => ⟨S_, .f32⟩
  | .hbm, ⟨22, _⟩ => ⟨S2752x4096, .f32⟩
  | .hbm, ⟨23, _⟩ => ⟨S2752x4096, .f32⟩
  | .hbm, ⟨24, _⟩ => ⟨S_, .f32⟩
  | .hbm, ⟨25, _⟩ => ⟨S2752x4096, .f32⟩
  | .hbm, ⟨26, _⟩ => ⟨S2752x4096, .f32⟩
  | .hbm, ⟨27, _⟩ => ⟨S2752x4096, .f32⟩
  | .hbm, ⟨28, _⟩ => ⟨S_, .f32⟩
  | .hbm, ⟨29, _⟩ => ⟨S2752x4096, .f32⟩
  | .hbm, ⟨30, _⟩ => ⟨S2752x4096, .f32⟩
  | .hbm, ⟨31, _⟩ => ⟨S2752x4096, .f32⟩
  | .hbm, ⟨32, _⟩ => ⟨S_, .f32⟩
  | .hbm, ⟨33, _⟩ => ⟨S2752x4096, .f32⟩
  | .hbm, ⟨34, _⟩ => ⟨S2752x4096, .f32⟩
  | .hbm, ⟨35, _⟩ => ⟨S2752x4096, .f32⟩
  | .hbm, ⟨36, _⟩ => ⟨S_, .f32⟩
  | .hbm, ⟨37, _⟩ => ⟨S2752x4096, .f32⟩
  | .hbm, ⟨38, _⟩ => ⟨S2752x4096, .f32⟩
  | _, _ => ⟨S2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallAdam.lean ====
abbrev S8x4096 : Shape := ⟨2, ![8, 4096]⟩
abbrev S1x4096 : Shape := ⟨2, ![1, 4096]⟩
abbrev S1x2048 : Shape := ⟨2, ![1, 2048]⟩

abbrev nBuf : Space → Nat
  | .hbm => 36
  | .vmem => 36
  | .smem => 0
  | _ => 0

abbrev bufTy : (tb : Table) → Fin (tcTables nBuf tb) → BufTy
  | .hbm, ⟨0, _⟩ => ⟨S8x4096, .f32⟩
  | .hbm, ⟨1, _⟩ => ⟨S1x4096, .f32⟩
  | .hbm, ⟨2, _⟩ => ⟨S1x2048, .f32⟩
  | .hbm, ⟨3, _⟩ => ⟨S1x2048, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x2048, .f32⟩
  | .hbm, ⟨8, _⟩ => ⟨S1x2048, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x2048, .f32⟩
  | .hbm, ⟨13, _⟩ => ⟨S1x2048, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .local _ .vmem, ⟨0, _⟩ => ⟨S8x4096, .f32⟩
  | .local _ .vmem, ⟨1, _⟩ => ⟨S1x4096, .f32⟩
  | .local _ .vmem, ⟨2, _⟩ => ⟨S1x2048, .f32⟩
  | .local _ .vmem, ⟨3, _⟩ => ⟨S1x2048, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x2048, .f32⟩
  | .local _ .vmem, ⟨8, _⟩ => ⟨S1x2048, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x2048, .f32⟩
  | .local _ .vmem, ⟨13, _⟩ => ⟨S1x2048, .f32⟩
  | .local _ .vmem, ⟨14, _⟩ => ⟨S1x4096, .f32⟩
  | .local _ .vmem, ⟨15, _⟩ => ⟨S1x4096, .f32⟩
  | .local _ .vmem, ⟨16, _⟩ => ⟨S1x4096, .f32⟩
  | .local _ .vmem, ⟨17, _⟩ => ⟨S1x4096, .f32⟩
  | .local _ .vmem, ⟨18, _⟩ => ⟨S1x4096, .f32⟩
  | .local _ .vmem, ⟨19, _⟩ => ⟨S1x4096, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x4096, .f32⟩
  | .local _ .vmem, ⟨29, _⟩ => ⟨S1x4096, .f32⟩
  | .local _ .vmem, ⟨30, _⟩ => ⟨S1x4096, .f32⟩
  | .local _ .vmem, ⟨31, _⟩ => ⟨S1x4096, .f32⟩
  | .local _ .vmem, ⟨32, _⟩ => ⟨S1x4096, .f32⟩
  | .local _ .vmem, ⟨33, _⟩ => ⟨S1x4096, .f32⟩
  | .local _ .vmem, ⟨34, _⟩ => ⟨S1x4096, .f32⟩
  | .local _ .vmem, ⟨35, _⟩ => ⟨S1x4096, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev main_v0_12 : Ref sig .tc := ⟨.hbm, 28, rfl⟩
abbrev main_v0_13 : Ref sig .tc := ⟨.hbm, 29, rfl⟩
abbrev main_v0_14 : Ref sig .tc := ⟨.hbm, 30, rfl⟩
abbrev main_v0_15 : Ref sig .tc := ⟨.hbm, 31, rfl⟩
abbrev main_v0_16 : Ref sig .tc := ⟨.hbm, 32, rfl⟩
abbrev main_v0_17 : Ref sig .tc := ⟨.hbm, 33, rfl⟩
abbrev main_v0_18 : Ref sig .tc := ⟨.hbm, 34, rfl⟩
abbrev main_v0_19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35

abbrev nD : Nat := 1
abbrev τ : Topo := Topo.v7x

variable {F : FTy → Type} [FloatOps F]

abbrev grid0 : Pipeline.Grid := .none

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x4096 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x4096 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x4096 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x4096 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x4096 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x4096 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x4096 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x4096 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x4096 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
-- ==== SmallAdamRefIdeal.lean ====
abbrev S8x4096 : Shape := ⟨2, ![8, 4096]⟩
abbrev S1x4096 : Shape := ⟨2, ![1, 4096]⟩
abbrev S1x2048 : Shape := ⟨2, ![1, 2048]⟩
abbrev S_ : Shape := ⟨0, ![]⟩

abbrev nBuf : Space → Nat
  | .hbm => 186
  | .vmem => 0
  | .smem => 0
  | _ => 0

abbrev hbmTy0_0 (i : Nat) : BufTy := match i % 128 with
  | 0 => ⟨S8x4096, .f32⟩
  | 1 => ⟨S1x4096, .f32⟩
  | 2 => ⟨S1x2048, .f32⟩
  | 3 => ⟨S1x2048, .f32⟩
  | 4 => ⟨S1x4096, .f32⟩
  | 5 => ⟨S1x4096, .f32⟩
  | 6 => ⟨S1x4096, .f32⟩
  | 7 => ⟨S1x2048, .f32⟩
  | 8 => ⟨S1x2048, .f32⟩
  | 9 => ⟨S1x4096, .f32⟩
  | 10 => ⟨S1x4096, .f32⟩
  | 11 => ⟨S1x4096, .f32⟩
  | 12 => ⟨S1x2048, .f32⟩
  | 13 => ⟨S1x2048, .f32⟩
  | 14 => ⟨S1x4096, .f32⟩
  | 15 => ⟨S1x4096, .f32⟩
  | 16 => ⟨S1x4096, .f32⟩
  | 17 => ⟨S1x2048, .f32⟩
  | 18 => ⟨S1x2048, .f32⟩
  | 19 => ⟨S1x4096, .f32⟩
  | 20 => ⟨S1x4096, .f32⟩
  | 21 => ⟨S_, .f32⟩
  | 22 => ⟨S1x4096, .f32⟩
  | 23 => ⟨S1x4096, .f32⟩
  | 24 => ⟨S_, .f32⟩
  | 25 => ⟨S1x4096, .f32⟩
  | 26 => ⟨S1x4096, .f32⟩
  | 27 => ⟨S1x4096, .f32⟩
  | 28 => ⟨S_, .f32⟩
  | 29 => ⟨S1x4096, .f32⟩
  | 30 => ⟨S1x4096, .f32⟩
  | 31 => ⟨S1x4096, .f32⟩
  | 32 => ⟨S_, .f32⟩
  | 33 => ⟨S1x4096, .f32⟩
  | 34 => ⟨S1x4096, .f32⟩
  | 35 => ⟨S1x4096, .f32⟩
  | 36 => ⟨S_, .f32⟩
  | 37 => ⟨S1x4096, .f32⟩
  | 38 => ⟨S1x4096, .f32⟩
  | 39 => ⟨S_, .f32⟩
  | 40 => ⟨S1x4096, .f32⟩
  | 41 => ⟨S1x4096, .f32⟩
  | 42 => ⟨S1x4096, .f32⟩
  | 43 => ⟨S_, .f32⟩
  | 44 => ⟨S1x4096, .f32⟩
  | 45 => ⟨S1x4096, .f32⟩
  | 46 => ⟨S1x4096, .f32⟩
  | 47 => ⟨S_, .f32⟩
  | 48 => ⟨S1x4096, .f32⟩
  | 49 => ⟨S1x4096, .f32⟩
  | 50 => ⟨S1x4096, .f32⟩
  | 51 => ⟨S_, .f32⟩
  | 52 => ⟨S1x4096, .f32⟩
  | 53 => ⟨S1x4096, .f32⟩
  | 54 => ⟨S_, .f32⟩
  | 55 => ⟨S1x2048, .f32⟩
  | 56 => ⟨S1x2048, .f32⟩
  | 57 => ⟨S_, .f32⟩
  | 58 => ⟨S1x2048, .f32⟩
  | 59 => ⟨S1x2048, .f32⟩
  | 60 => ⟨S1x2048, .f32⟩
  | 61 => ⟨S_, .f32⟩
  | 62 => ⟨S1x2048, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S1x2048, .f32⟩
  | 69 => ⟨S_, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S_, .f32⟩
  | 91 => ⟨S1x2048, .f32⟩
  | 92 => ⟨S1x2048, .f32⟩
  | 93 => ⟨S1x2048, .f32⟩
  | 94 => ⟨S_, .f32⟩
  | 95 => ⟨S1x2048, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S_, .f32⟩
  | 121 => ⟨S1x4096, .f32⟩
  | 122 => ⟨S1x4096, .f32⟩
  | 123 => ⟨S_, .f32⟩
  | 124 => ⟨S1x4096, .f32⟩
  | 125 => ⟨S1x4096, .f32⟩
  | 126 => ⟨S1x4096, .f32⟩
  | 127 => ⟨S_, .f32⟩
  | _ => ⟨S8x4096, .f32⟩

abbrev hbmTy0_1 (i : Nat) : BufTy := match i % 128 with
  | 0 => ⟨S1x4096, .f32⟩
  | 1 => ⟨S1x4096, .f32⟩
  | 2 => ⟨S1x4096, .f32⟩
  | 3 => ⟨S_, .f32⟩
  | 4 => ⟨S1x4096, .f32⟩
  | 5 => ⟨S1x4096, .f32⟩
  | 6 => ⟨S1x4096, .f32⟩
  | 7 => ⟨S_, .f32⟩
  | 8 => ⟨S1x4096, .f32⟩
  | 9 => ⟨S1x4096, .f32⟩
  | 10 => ⟨S_, .f32⟩
  | 11 => ⟨S1x4096, .f32⟩
  | 12 => ⟨S1x4096, .f32⟩
  | 13 => ⟨S1x4096, .f32⟩
  | 14 => ⟨S_, .f32⟩
  | 15 => ⟨S1x4096, .f32⟩
  | 16 => ⟨S1x4096, .f32⟩
  | 17 => ⟨S1x4096, .f32⟩
  | 18 => ⟨S_, .f32⟩
  | 19 => ⟨S1x4096, .f32⟩
  | 20 => ⟨S1x4096, .f32⟩
  | 21 => ⟨S1x4096, .f32⟩
  | 22 => ⟨S_, .f32⟩
  | 23 => ⟨S1x4096, .f32⟩
  | 24 => ⟨S1x4096, .f32⟩
  | 25 => ⟨S_, .f32⟩
  | 26 => ⟨S1x4096, .f32⟩
  | 27 => ⟨S1x4096, .f32⟩
  | 28 => ⟨S_, .f32⟩
  | 29 => ⟨S1x4096, .f32⟩
  | 30 => ⟨S1x4096, .f32⟩
  | 31 => ⟨S1x4096, .f32⟩
  | 32 => ⟨S_, .f32⟩
  | 33 => ⟨S1x4096, .f32⟩
  | 34 => ⟨S1x4096, .f32⟩
  | 35 => ⟨S1x4096, .f32⟩
  | 36 => ⟨S_, .f32⟩
  | 37 => ⟨S1x4096, .f32⟩
  | 38 => ⟨S1x4096, .f32⟩
  | 39 => ⟨S1x4096, .f32⟩
  | 40 => ⟨S_, .f32⟩
  | 41 => ⟨S1x4096, .f32⟩
  | 42 => ⟨S1x4096, .f32⟩
  | 43 => ⟨S_, .f32⟩
  | 44 => ⟨S1x4096, .f32⟩
  | 45 => ⟨S1x4096, .f32⟩
  | 46 => ⟨S1x4096, .f32⟩
  | 47 => ⟨S_, .f32⟩
  | 48 => ⟨S1x4096, .f32⟩
  | 49 => ⟨S1x4096, .f32⟩
  | 50 => ⟨S1x4096, .f32⟩
  | 51 => ⟨S_, .f32⟩
  | 52 => ⟨S1x4096, .f32⟩
  | 53 => ⟨S1x4096, .f32⟩
  | 54 => ⟨S1x4096, .f32⟩
  | 55 => ⟨S_, .f32⟩
  | 56 => ⟨S1x4096, .f32⟩
  | 57 => ⟨S1x4096, .f32⟩
  | _ => ⟨S8x4096, .f32⟩

abbrev hbmTy (i : Nat) : BufTy := match i / 128 with
  | 0 => hbmTy0_0 i
  | 1 => hbmTy0_1 i
  | _ => ⟨S8x4096, .f32⟩

abbrev bufTy : (tb : Table) → Fin (tcTables nBuf tb) → BufTy
  | .hbm, ⟨i, _⟩ => hbmTy i
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_cst_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_10 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_11 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_12 : Ref sig .tc := ⟨.hbm, 69, rfl⟩
abbrev main_v40 : Ref sig .tc := ⟨.hbm, 70, rfl⟩
abbrev main_v41 : Ref sig .tc := ⟨.hbm, 71, rfl⟩
abbrev main_cst_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_14 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_15 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_16 : Ref sig .tc := ⟨.hbm, 84, rfl⟩
abbrev main_v51 : Ref sig .tc := ⟨.hbm, 85, rfl⟩
abbrev main_v52 : Ref sig .tc := ⟨.hbm, 86, rfl⟩
abbrev main_cst_17 : Ref sig .tc := ⟨.hbm, 87, rfl⟩
abbrev main_v53 : Ref sig .tc := ⟨.hbm, 88, rfl⟩
abbrev main_v54 : Ref sig .tc := ⟨.hbm, 89, rfl⟩
abbrev main_cst_18 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_19 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_20 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_21 : Ref sig .tc := ⟨.hbm, 102, rfl⟩
abbrev main_v64 : Ref sig .tc := ⟨.hbm, 103, rfl⟩
abbrev main_v65 : Ref sig .tc := ⟨.hbm, 104, rfl⟩
abbrev main_cst_22 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_23 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_24 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_25 : Ref sig .tc := ⟨.hbm, 117, rfl⟩
abbrev main_v75 : Ref sig .tc := ⟨.hbm, 118, rfl⟩
abbrev main_v76 : Ref sig .tc := ⟨.hbm, 119, rfl⟩
abbrev main_cst_26 : Ref sig .tc := ⟨.hbm, 120, rfl⟩
abbrev main_v77 : Ref sig .tc := ⟨.hbm, 121, rfl⟩
abbrev main_v78 : Ref sig .tc := ⟨.hbm, 122, rfl⟩
abbrev main_cst_27 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_28 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_29 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_30 : Ref sig .tc := ⟨.hbm, 135, rfl⟩
abbrev main_v88 : Ref sig .tc := ⟨.hbm, 136, rfl⟩
abbrev main_v89 : Ref sig .tc := ⟨.hbm, 137, rfl⟩
abbrev main_cst_31 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_32 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_33 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_34 : Ref sig .tc := ⟨.hbm, 150, rfl⟩
abbrev main_v99 : Ref sig .tc := ⟨.hbm, 151, rfl⟩
abbrev main_v100 : Ref sig .tc := ⟨.hbm, 152, rfl⟩
abbrev main_cst_35 : Ref sig .tc := ⟨.hbm, 153, rfl⟩
abbrev main_v101 : Ref sig .tc := ⟨.hbm, 154, rfl⟩
abbrev main_v102 : Ref sig .tc := ⟨.hbm, 155, rfl⟩
abbrev main_cst_36 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_37 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_38 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_39 : Ref sig .tc := ⟨.hbm, 168, rfl⟩
abbrev main_v112 : Ref sig .tc := ⟨.hbm, 169, rfl⟩
abbrev main_v113 : Ref sig .tc := ⟨.hbm, 170, rfl⟩
abbrev main_cst_40 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_41 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_42 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_43 : Ref sig .tc := ⟨.hbm, 183, rfl⟩
abbrev main_v123 : Ref sig .tc := ⟨.hbm, 184, rfl⟩
abbrev main_v124 : Ref sig .tc := ⟨.hbm, 185, rfl⟩

abbrev nD : Nat := 1
abbrev τ : Topo := Topo.v7x

variable {F : FTy → Type} [FloatOps F]
-- ==== NormFwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LossHead.lean ====
abbrev S4096x4096 : Shape := ⟨2, ![4096, 4096]⟩
abbrev S1x4096 : Shape := ⟨2, ![1, 4096]⟩
abbrev S8x128 : Shape := ⟨2, ![8, 128]⟩
abbrev S8x4096 : Shape := ⟨2, ![8, 4096]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S1x1 : Shape := ⟨2, ![1, 1]⟩
abbrev S16x8x4096 : Shape := ⟨3, ![16, 8, 4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .bf16⟩
  | .hbm, ⟨5, _⟩ => ⟨S8x128, .f32⟩
  | .hbm, ⟨6, _⟩ => ⟨S8x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | .local _ .vmem, ⟨9, _⟩ => ⟨S8x128, .f32⟩
  | .local _ .vmem, ⟨10, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_18 : BitVec 32 := 0#32
  let v51 : BitVec 1 := Scalar.cmpi .ne v50 c0_i32_18
  v51

def k0_cond2 (i : grid0.Coords) : BitVec 1 :=
  let arg0 : BitVec 32 := BitVec.ofNat 32 (i 0).val
  let c0_i32_19 : BitVec 32 := 0#32
  let v52 : BitVec 1 := Scalar.cmpi .sgt arg0 c0_i32_19
  let v53 : BitVec 32 := Scalar.extui v52
  let c0_i32_20 : BitVec 32 := 0#32
  let v54 : BitVec 1 := Scalar.cmpi .ne v53 c0_i32_20
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S512x8x4096 : Shape := ⟨3, ![512, 8, 4096]⟩
abbrev S8x4096 : Shape := ⟨2, ![8, 4096]⟩
abbrev S512x8 : Shape := ⟨2, ![512, 8]⟩
abbrev S512x8x1 : Shape := ⟨3, ![512, 8, 1]⟩
abbrev S1x8x4096 : Shape := ⟨3, ![1, 8, 4096]⟩
abbrev S8x128 : Shape := ⟨2, ![8, 128]⟩

abbrev nBuf : Space → Nat
  | .hbm => 114
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x4096, .f32⟩
  | .hbm, ⟨52, _⟩ => ⟨S4096x4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S512x8x4096, .f32⟩
  | .hbm, ⟨65, _⟩ => ⟨S512x8x4096, .f32⟩
  | .hbm, ⟨66, _⟩ => ⟨S8x4096, .f32⟩
  | .hbm, ⟨67, _⟩ => ⟨S512x8x4096, .f32⟩
  | .hbm, ⟨68, _⟩ => ⟨S_, .f32⟩
  | .hbm, ⟨69, _⟩ => ⟨S512x8, .f32⟩
  | .hbm, ⟨70, _⟩ => ⟨S512x8x1, .f32⟩
  | .hbm, ⟨71, _⟩ => ⟨S_, .f32⟩
  | .hbm, ⟨72, _⟩ => ⟨S512x8x1, .f32⟩
  | .hbm, ⟨73, _⟩ => ⟨S512x8x1, .f32⟩
  | .hbm, ⟨74, _⟩ => ⟨S_, .f32⟩
  | .hbm, ⟨75, _⟩ => ⟨S512x8x1, .f32⟩
  | .hbm, ⟨76, _⟩ => ⟨S512x8x1, .f32⟩
  | .hbm, ⟨77, _⟩ => ⟨S512x8x1, .f32⟩
  | .hbm, ⟨78, _⟩ => ⟨S512x8x4096, .f32⟩
  | .hbm, ⟨79, _⟩ => ⟨S512x8x4096, .f32⟩
  | .hbm, ⟨80, _⟩ => ⟨S1x8x4096, .f32⟩
  | .hbm, ⟨81, _⟩ => ⟨S512x8x4096, .f32⟩
  | .hbm, ⟨82, _⟩ => ⟨S512x8x4096, .f32⟩
  | .hbm, ⟨83, _⟩ => ⟨S512x8x4096, .f32⟩
  | .hbm, ⟨84, _⟩ => ⟨S512x8x4096, .f32⟩
  | .hbm, ⟨85, _⟩ => ⟨S_, .f32⟩
  | .hbm, ⟨86, _⟩ => ⟨S512x8x4096, .f32⟩
  | .hbm, ⟨87, _⟩ => ⟨S512x8x4096, .f32⟩
  | .hbm, ⟨88, _⟩ => ⟨S_, .f32⟩
  | .hbm, ⟨89, _⟩ => ⟨S512x8, .f32⟩
  | .hbm, ⟨90, _⟩ => ⟨S_, .f32⟩
  | .hbm, ⟨91, _⟩ => ⟨S512x8, .f32⟩
  | .hbm, ⟨92, _⟩ => ⟨S512x8, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S512x8, .f32⟩
  | .hbm, ⟨101, _⟩ => ⟨S_, .f32⟩
  | .hbm, ⟨102, _⟩ => ⟨S512x8, .f32⟩
  | .hbm, ⟨103, _⟩ => ⟨S512x8, .f32⟩
  | .hbm, ⟨104, _⟩ => ⟨S512x8x4096, .f32⟩
  | .hbm, ⟨105, _⟩ => ⟨S512x8x4096, .f32⟩
  | .hbm, ⟨106, _⟩ => ⟨S512x8x4096, .f32⟩
  | .hbm, ⟨107, _⟩ => ⟨S_, .f32⟩
  | .hbm, ⟨108, _⟩ => ⟨S8x4096, .f32⟩
  | .hbm, ⟨109, _⟩ => ⟨S1x8x4096, .f32⟩
  | .hbm, ⟨110, _⟩ => ⟨S_, .f32⟩
  | .hbm, ⟨111, _⟩ => ⟨S8x4096, .f32⟩
  | .hbm, ⟨112, _⟩ => ⟨S4096x4096, .bf16⟩
  | .hbm, ⟨113, _⟩ => ⟨S8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_v51 : Ref sig .tc := ⟨.hbm, 70, rfl⟩
abbrev main_cst_15 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_17 : Ref sig .tc := ⟨.hbm, 85, rfl⟩
abbrev main_v64 : Ref sig .tc := ⟨.hbm, 86, rfl⟩
abbrev main_v65 : Ref sig .tc := ⟨.hbm, 87, rfl⟩
abbrev main_cst_18 : Ref sig .tc := ⟨.hbm, 88, rfl⟩
abbrev main_v66 : Ref sig .tc := ⟨.hbm, 89, rfl⟩
abbrev main_cst_19 : Ref sig .tc := ⟨.hbm, 90, rfl⟩
abbrev main_v67 : Ref sig .tc := ⟨.hbm, 91, rfl⟩
abbrev main_v68 : Ref sig .tc := ⟨.hbm, 92, rfl⟩
abbrev main_cst_20 : Ref sig .tc := ⟨.hbm, 93, rfl⟩
abbrev main_v69 : Ref sig .tc := ⟨.hbm, 94, rfl⟩
abbrev main_cst_21 : Ref sig .tc := ⟨.hbm, 95, rfl⟩
abbrev main_v70 : Ref sig .tc := ⟨.hbm, 96, rfl⟩
abbrev main_cst_22 : Ref sig .tc := ⟨.hbm, 97, rfl⟩
abbrev main_cst_23 : Ref sig .tc := ⟨.hbm, 98, rfl⟩
abbrev main_v71 : Ref sig .tc := ⟨.hbm, 99, rfl⟩
abbrev main_v72 : Ref sig .tc := ⟨.hbm, 100, rfl⟩
abbrev main_cst_24 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_25 : Ref sig .tc := ⟨.hbm, 107, rfl⟩
abbrev main_v78 : Ref sig .tc := ⟨.hbm, 108, rfl⟩
abbrev main_v79 : Ref sig .tc := ⟨.hbm, 109, rfl⟩
abbrev main_cst_26 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== InProj.lean ====
abbrev S4096x4096 : Shape := ⟨2, ![4096, 4096]⟩
abbrev S4096x12288 : Shape := ⟨2, ![4096, 12288]⟩
abbrev S2x2048 : Shape := ⟨2, ![2, 2048]⟩
abbrev S16 : Shape := ⟨1, ![16]⟩
abbrev S_ : Shape := ⟨0, ![]⟩
abbrev S2x2048x1 : Shape := ⟨3, ![2, 2048, 1]⟩
abbrev S1x1x16 : Shape := ⟨3, ![1, 1, 16]⟩
abbrev S2x2048x16 : Shape := ⟨3, ![2, 2048, 16]⟩
abbrev S2x2048x96 : Shape := ⟨3, ![2, 2048, 96]⟩
abbrev S2x2048x128 : Shape := ⟨3, ![2, 2048, 128]⟩
abbrev S4096x128 : Shape := ⟨2, ![4096, 128]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 33
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S2x2048, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S2x2048, .f32⟩
  | .hbm, ⟨12, _⟩ => ⟨S2x2048x1, .f32⟩
  | .hbm, ⟨13, _⟩ => ⟨S1x1x16, .f32⟩
  | .hbm, ⟨14, _⟩ => ⟨S2x2048x16, .f32⟩
  | .hbm, ⟨15, _⟩ => ⟨S2x2048x16, .f32⟩
  | .hbm, ⟨16, _⟩ => ⟨S2x2048x16, .f32⟩
  | .hbm, ⟨17, _⟩ => ⟨S2x2048x16, .f32⟩
  | .hbm, ⟨18, _⟩ => ⟨S2x2048x16, .f32⟩
  | .hbm, ⟨19, _⟩ => ⟨S_, .f32⟩
  | .hbm, ⟨20, _⟩ => ⟨S2x2048x96, .f32⟩
  | .hbm, ⟨21, _⟩ => ⟨S_, .f32⟩
  | .hbm, ⟨22, _⟩ => ⟨S2x2048x16, .f32⟩
  | .hbm, ⟨23, _⟩ => ⟨S_, .f32⟩
  | .hbm, ⟨24, _⟩ => ⟨S2x2048x96, .f32⟩
  | .hbm, ⟨25, _⟩ => ⟨S2x2048x128, .f32⟩
  | .hbm, ⟨26, _⟩ => ⟨S2x2048x16, .f32⟩
  | .hbm, ⟨27, _⟩ => ⟨S2x2048x128, .f32⟩
  | .hbm, ⟨28, _⟩ => ⟨S2x2048x128, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 12, 1], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let arg1 : BitVec 32 := BitVec.ofNat 32 (i 1).val
  let c1024_i32 : BitVec 32 := 1024#32
  let v6 : BitVec 32 := Scalar.muli arg1 c1024_i32
  let c4096_i32 : BitVec 32 := 4096#32
  let v7 : BitVec 1 := Scalar.cmpi .slt v6 c4096_i32
  let v9 : BitVec 1 := Scalar.andi v8 v7
  let v10 : BitVec 32 := Scalar.extui v9
  let c0_i32_5 : BitVec 32 := 0#32
  let v11 : BitVec 1 := Scalar.cmpi .ne v10 c0_i32_5
  v11

def k0_cond2 (i : grid0.Coords) : BitVec 1 :=
  let arg2 : BitVec 32 := BitVec.ofNat 32 (i 2).val
  let c0_i32_6 : BitVec 32 := 0#32
  let v12 : BitVec 1 := Scalar.cmpi .eq arg2 c0_i32_6
  let arg1 : BitVec 32 := BitVec.ofNat 32 (i 1).val
  let c1024_i32 : BitVec 32 := 1024#32
  let v6 : BitVec 32 := Scalar.muli arg1 c1024_i32
  let c4096_i32 : BitVec 32 := 4096#32
  let v7 : BitVec 1 := Scalar.cmpi .slt v6 c4096_i32
  let v_true : BitVec 1 := 1#1
  let v13 : BitVec 1 := Scalar.xori v7 v_true
  let v14 : BitVec 1 := Scalar.andi v12 v13
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== InProjRefIdeal.lean ====
abbrev S4096x4096 : Shape := ⟨2, ![4096, 4096]⟩
abbrev S4096x12288 : Shape := ⟨2, ![4096, 12288]⟩
abbrev S2x2048 : Shape := ⟨2, ![2, 2048]⟩
abbrev S4096x2048 : Shape := ⟨2, ![4096, 2048]⟩
abbrev S4096x8192 : Shape := ⟨2, ![4096, 8192]⟩
abbrev S2x2048x16x128 : Shape := ⟨4, ![2, 2048, 16, 128]⟩
abbrev S16 : Shape := ⟨1, ![16]⟩
abbrev S_ : Shape := ⟨0, ![]⟩
abbrev S2x2048x1 : Shape := ⟨3, ![2, 2048, 1]⟩
abbrev S1x1x16 : Shape := ⟨3, ![1, 1, 16]⟩
abbrev S2x2048x16 : Shape := ⟨3, ![2, 2048, 16]⟩
abbrev S2x2048x1x16 : Shape := ⟨4, ![2, 2048, 1, 16]⟩
abbrev S2x2048x16x16 : Shape := ⟨4, ![2, 2048, 16, 16]⟩
abbrev S2x2048x16x32 : Shape := ⟨4, ![2, 2048, 16, 32]⟩
abbrev S2x2048x16x96 : Shape := ⟨4, ![2, 2048, 16, 96]⟩

abbrev nBuf : Space → Nat
  | .hbm => 87
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S2x2048, .i32⟩
  | .hbm, ⟨3, _⟩ => ⟨S4096x4096, .f32⟩
  | .hbm, ⟨4, _⟩ => ⟨S4096x12288, .f32⟩
  | .hbm, ⟨5, _⟩ => ⟨S4096x12288, .f32⟩
  | .hbm, ⟨6, _⟩ => ⟨S4096x12288, .bf16⟩
  | .hbm, ⟨7, _⟩ => ⟨S4096x2048, .bf16⟩
  | .hbm, ⟨8, _⟩ => ⟨S4096x2048, .bf16⟩
  | .hbm, ⟨9, _⟩ => ⟨S4096x8192, .bf16⟩
  | .hbm, ⟨10, _⟩ => ⟨S2x2048x16x128, .bf16⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S2x2048, .f32⟩
  | .hbm, ⟨20, _⟩ => ⟨S2x2048x1, .f32⟩
  | .hbm, ⟨21, _⟩ => ⟨S1x1x16, .f32⟩
  | .hbm, ⟨22, _⟩ => ⟨S2x2048x16, .f32⟩
  | .hbm, ⟨23, _⟩ => ⟨S2x2048x16, .f32⟩
  | .hbm, ⟨24, _⟩ => ⟨S2x2048x16, .f32⟩
  | .hbm, ⟨25, _⟩ => ⟨S2x2048x16, .f32⟩
  | .hbm, ⟨26, _⟩ => ⟨S2x2048x1x16, .f32⟩
  | .hbm, ⟨27, _⟩ => ⟨S2x2048x16, .f32⟩
  | .hbm, ⟨28, _⟩ => ⟨S2x2048x1x16, .f32⟩
  | .hbm, ⟨29, _⟩ => ⟨S2x2048x16x16, .bf16⟩
  | .hbm, ⟨30, _⟩ => ⟨S2x2048x16x16, .f32⟩
  | .hbm, ⟨31, _⟩ => ⟨S2x2048x16x16, .bf16⟩
  | .hbm, ⟨32, _⟩ => ⟨S2x2048x16x16, .f32⟩
  | .hbm, ⟨33, _⟩ => ⟨S2x2048x16x16, .f32⟩
  | .hbm, ⟨34, _⟩ => ⟨S2x2048x16x16, .f32⟩
  | .hbm, ⟨35, _⟩ => ⟨S2x2048x16x16, .f32⟩
  | .hbm, ⟨36, _⟩ => ⟨S2x2048x16x16, .f32⟩
  | .hbm, ⟨37, _⟩ => ⟨S2x2048x16x16, .f32⟩
  | .hbm, ⟨38, _⟩ => ⟨S2x2048x16x16, .f32⟩
  | .hbm, ⟨39, _⟩ => ⟨S2x2048x16x16, .f32⟩
  | .hbm, ⟨40, _⟩ => ⟨S2x2048x16x16, .f32⟩
  | .hbm, ⟨41, _⟩ => ⟨S2x2048x16x16, .f32⟩
  | .hbm, ⟨42, _⟩ => ⟨S2x2048x16x16, .f32⟩
  | .hbm, ⟨43, _⟩ => ⟨S2x2048x16x32, .f32⟩
  | .hbm, ⟨44, _⟩ => ⟨S2x2048x16x32, .bf16⟩
  | .hbm, ⟨45, _⟩ => ⟨S2x2048x16x96, .bf16⟩
  | .hbm, ⟨46, _⟩ => ⟨S2x2048x16x128, .bf16⟩
  | .hbm, ⟨47, _⟩ => ⟨S4096x2048, .bf16⟩
  | .hbm, ⟨48, _⟩ => ⟨S2x2048x16x128, .bf16⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S2x2048, .f32⟩
  | .hbm, ⟨58, _⟩ => ⟨S2x2048x1, .f32⟩
  | .hbm, ⟨59, _⟩ => ⟨S1x1x16, .f32⟩
  | .hbm, ⟨60, _⟩ => ⟨S2x2048x16, .f32⟩
  | .hbm, ⟨61, _⟩ => ⟨S2x2048x16, .f32⟩
  | .hbm, ⟨62, _⟩ => ⟨S2x2048x16, .f32⟩
  | .hbm, ⟨63, _⟩ => ⟨S2x2048x16, .f32⟩
  | .hbm, ⟨64, _⟩ => ⟨S2x2048x1x16, .f32⟩
  | .hbm, ⟨65, _⟩ => ⟨S2x2048x16, .f32⟩
  | .hbm, ⟨66, _⟩ => ⟨S2x2048x1x16, .f32⟩
  | .hbm, ⟨67, _⟩ => ⟨S2x2048x16x16, .bf16⟩
  | .hbm, ⟨68, _⟩ => ⟨S2x2048x16x16, .f32⟩
  | .hbm, ⟨69, _⟩ => ⟨S2x2048x16x16, .bf16⟩
  | .hbm, ⟨70, _⟩ => ⟨S2x2048x16x16, .f32⟩
  | .hbm, ⟨71, _⟩ => ⟨S2x2048x16x16, .f32⟩
  | .hbm, ⟨72, _⟩ => ⟨S2x2048x16x16, .f32⟩
  | .hbm, ⟨73, _⟩ => ⟨S2x2048x16x16, .f32⟩
  | .hbm, ⟨74, _⟩ => ⟨S2x2048x16x16, .f32⟩
  | .hbm, ⟨75, _⟩ => ⟨S2x2048x16x16, .f32⟩
  | .hbm, ⟨76, _⟩ => ⟨S2x2048x16x16, .f32⟩
  | .hbm, ⟨77, _⟩ => ⟨S2x2048x16x16, .f32⟩
  | .hbm, ⟨78, _⟩ => ⟨S2x2048x16x16, .f32⟩
  | .hbm, ⟨79, _⟩ => ⟨S2x2048x16x16, .f32⟩
  | .hbm, ⟨80, _⟩ => ⟨S2x2048x16x16, .f32⟩
  | .hbm, ⟨81, _⟩ => ⟨S2x2048x16x32, .f32⟩
  | .hbm, ⟨82, _⟩ => ⟨S2x2048x16x32, .bf16⟩
  | .hbm, ⟨83, _⟩ => ⟨S2x2048x16x96, .bf16⟩
  | .hbm, ⟨84, _⟩ => ⟨S2x2048x16x128, .bf16⟩
  | .hbm, ⟨85, _⟩ => ⟨S4096x2048, .bf16⟩
  | .hbm, ⟨86, _⟩ => ⟨S4096x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst_1 : Ref sig .tc := ⟨.hbm, 51, rfl⟩
abbrev main_v46 : Ref sig .tc := ⟨.hbm, 52, rfl⟩
abbrev main_v47 : Ref sig .tc := ⟨.hbm, 53, rfl⟩
abbrev main_cst_2 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩

abbrev nD : Nat := 1
abbrev τ : Topo := Topo.v7x

variable {F : FTy → Type} [FloatOps F]
-- ==== Proof.Step.lean ====
/-
  One grid point of the kernel as a function of plain arrays: its loop over the key chunks to the left of the diagonal and
  the two masked chunks on the diagonal, with the stores read back. Over any float values.
-/
module

public import proofs.«01_k».proof.Proof.Gen.KernelIdeal.Value
public import Idealize.ShloMosaic.Lib.VecWindow
public import Idealize.ShloMosaic.Lib.LoopRemainder
public import Idealize.ShloMosaic.Lib.PointwiseCore

@[expose] public section

set_option maxRecDepth 8192

noncomputable section

namespace Cert.KernelIdeal.SB

open Idealize.ShloMosaic Idealize.ShloMosaic.TcCoe Cert.KernelIdeal Cert.KernelIdeal.Gen

variable {F : FTy → Type} [FloatOps F]

/-- What a loop carries: the partial `dq` block, the running row sums of `log(1 - sigmoid)`, the running row sums of `g`. -/
abbrev Acc (F : FTy → Type) := FVec F S512x128 .f32 × FVec F S512x1 .f32 × FVec F S512x1 .f32

/-- The carried value and the two scratch accumulators. -/
abbrev St (F : FTy → Type) := Acc F × Vec F S2048x128 .f32 × Vec F S2048x128 .f32

/-- The 256 rows of a head's keys or values from row `o` on. -/
def rows3 (x : Vec F S1x2048x128 .bf16) (o : ℕ) : Vec F S1x256x128 .bf16 :=
  fun y => x (ix3 0 ⟨(o + (y 1).val) % 2048, Nat.mod_lt _ (by decide)⟩ (y 2))

/-- The 256 rows of an accumulator from row `o` on. -/
def rows2 (x : Vec F S2048x128 .f32) (o : ℕ) : Vec F S256x128 .f32 :=
  fun y => x (ix2 ⟨(o + (y 0).val) % 2048, Nat.mod_lt _ (by decide)⟩ (y 1))

/-- The accumulator `x` with the 256 rows from `o` on replaced by `w`. -/
def putRows (x : Vec F S2048x128 .f32) (o : ℕ) (w : Vec F S256x128 .f32) : Vec F S2048x128 .f32 :=
  fun y => if h : o ≤ (y 0).val ∧ (y 0).val < o + 256 then w (ix2 ⟨(y 0).val - o, by omega⟩ (y 1)) else x y

theorem window3 (x : Vec F S1x2048x128 .bf16) (o : ℕ) (h) :
    VecWindow.window x ![0, o, 0] S1x256x128.size h = rows3 x o := by
  funext y
  have h1 : o + 256 ≤ 2048 := h 1
  have hy : (y 1).val < 256 := (y 1).isLt
  unfold VecWindow.window rows3
  congr 1
  funext a
  match a with
  | ⟨0, _⟩ => exact Subsingleton.elim (α := Fin 1) _ _
  | ⟨1, _⟩ => exact Fin.ext (by show o + 1 * (y 1).val = (o + (y 1).val) % 2048; omega)
  | ⟨2, _⟩ => exact Fin.ext (by show 0 + 1 * (y 2).val = (y 2).val; omega)

theorem window2 (x : Vec F S2048x128 .f32) (o : ℕ) (h) :
    VecWindow.window x ![o, 0] S256x128.size h = rows2 x o := by
  funext y
  have h1 : o + 256 ≤ 2048 := h 0
  have hy : (y 0).val < 256 := (y 0).isLt
  unfold VecWindow.window rows2
  congr 1
  funext a
  match a with
  | ⟨0, _⟩ => exact Fin.ext (by show o + 1 * (y 0).val = (o + (y 0).val) % 2048; omega)
  | ⟨1, _⟩ => exact Fin.ext (by show 0 + 1 * (y 1).val = (y 1).val; omega)

theorem put2 (x : Vec F S2048x128 .f32) (o : ℕ) (w : Vec F S256x128 .f32) :
    VecWindow.put x ![o, 0] S256x128.size w = putRows x o w := by
  funext y
  have hy : (y 1).val < 128 := (y 1).isLt
  unfold VecWindow.put putRows
  by_cases h : o ≤ (y 0).val ∧ (y 0).val < o + 256
  · rw [dif_pos h, dif_pos (by
      intro a
      match a with
      | ⟨0, _⟩ => exact h
      | ⟨1, _⟩ => exact ⟨Nat.zero_le _, by show (y 1).val < 0 + 128; omega⟩)]
    congr 1
    funext a
    match a with
    | ⟨0, _⟩ => rfl
    | ⟨1, _⟩ => rfl
  · rw [dif_neg h, dif_neg (fun hh => h (hh 0))]

/-- One trip of the loop at the chunk of keys `kc`, values `vc`, whose rows begin at `o`. -/
def trip (x0 : Vec F S1x512x128 .bf16) (x3 x4 : Vec F S1x512x128 .f32) (kc vc : Vec F S1x256x128 .bf16) (o : ℕ) (σ : St F) : St F :=
  ((k0_pay30 σ.1.1 (k0_pay5 kc) (k0_pay6 (k0_pay21 x0) kc) (k0_pay7 (k0_pay21 x0) kc)
      (k0_pay10 (k0_pay21 x0) (k0_pay22 x3) (k0_pay23 x4) k0_pay24 σ.1.2.1 kc vc)
      (k0_pay11 (k0_pay21 x0) (k0_pay22 x3) (k0_pay23 x4) k0_pay24 σ.1.2.1 σ.1.2.2 kc vc),
    k0_pay31 σ.1.2.1 (k0_pay8 (k0_pay21 x0) kc),
    k0_pay32 σ.1.2.2 (k0_pay10 (k0_pay21 x0) (k0_pay22 x3) (k0_pay23 x4) k0_pay24 σ.1.2.1 kc vc)),
   putRows σ.2.1 o (k0_pay28 x0 (k0_pay6 (k0_pay21 x0) kc) (k0_pay7 (k0_pay21 x0) kc)
      (k0_pay10 (k0_pay21 x0) (k0_pay22 x3) (k0_pay23 x4) k0_pay24 σ.1.2.1 kc vc)
      (k0_pay11 (k0_pay21 x0) (k0_pay22 x3) (k0_pay23 x4) k0_pay24 σ.1.2.1 σ.1.2.2 kc vc) (rows2 σ.2.1 o)),
   putRows σ.2.2 o (k0_pay29 x3 (k0_pay9 (k0_pay21 x0) (k0_pay23 x4) k0_pay24 σ.1.2.1 kc) (rows2 σ.2.2 o)))

/-- `n` trips from the state `σ`. -/
def loop (x0 : Vec F S1x512x128 .bf16) (x1 x2 : Vec F S1x2048x128 .bf16) (x3 x4 : Vec F S1x512x128 .f32) (σ : St F) : ℕ → St F
  | 0 => σ
  | n + 1 => trip x0 x3 x4 (rows3 x1 (256 * n)) (rows3 x2 (256 * n)) (256 * n) (loop x0 x1 x2 x3 x4 σ n)

section Words

theorem i2_lt (i : grid0.Coords) : (i 2).val < 4 := (i 2).isLt

theorem trips1 (i : grid0.Coords) : (k0_t1_loop i).trips = 2 * (i 2).val := by
  have h := i2_lt i
  unfold k0_t1_loop Scf.Loop.trips
  dsimp only
  generalize (i 2).val = b at h ⊢
  interval_cases b <;> decide

theorem trips2 (i : grid0.Coords) : (k0_t2_loop i).trips = 0 := Scf.rem_trips _ _

/-- The trip counts, at the bounds' words. -/
theorem T1 (i : grid0.Coords) : Scf.trips (0#32) (Scalar.addi (0#32) (Scalar.muli (Scalar.divsi (Scalar.subi (Scalar.muli (2#32) (BitVec.ofNat 32 (i 2).val)) 0#32) 1#32) 1#32)) 1#32 = 2 * (i 2).val := trips1 i
theorem T2 (i : grid0.Coords) : Scf.trips (Scalar.addi (0#32) (Scalar.muli (Scalar.divsi (Scalar.subi (Scalar.muli (2#32) (BitVec.ofNat 32 (i 2).val)) 0#32) 1#32) 1#32)) (Scalar.addi (0#32) (Scalar.subi (Scalar.muli (2#32) (BitVec.ofNat 32 (i 2).val)) 0#32)) 1#32 = 0 := trips2 i

theorem off1 (i : grid0.Coords) (k) : k0_off1 i k = ![0, 256 * k.val, 0] := by
  have h := i2_lt i
  have hk : k.val < 6 := lt_of_lt_of_le k.isLt (by rw [trips1]; omega)
  unfold k0_off1
  dsimp only
  generalize k.val = b at hk ⊢
  interval_cases b <;> decide

theorem off2 (i : grid0.Coords) (k) : k0_off2 i k = ![256 * k.val, 0] := by
  have h := i2_lt i
  have hk : k.val < 6 := lt_of_lt_of_le k.isLt (by rw [trips1]; omega)
  unfold k0_off2
  dsimp only
  generalize k.val = b at hk ⊢
  interval_cases b <;> decide

theorem off5 (i : grid0.Coords) : k0_off5 i = ![0, 512 * (i 2).val, 0] := by
  have h := i2_lt i
  unfold k0_off5
  dsimp only
  generalize (i 2).val = b at h ⊢
  interval_cases b <;> decide

theorem off6 (i : grid0.Coords) : k0_off6 i = ![512 * (i 2).val, 0] := by
  have h := i2_lt i
  unfold k0_off6
  dsimp only
  generalize (i 2).val = b at h ⊢
  interval_cases b <;> decide

theorem off7 (i : grid0.Coords) : k0_off7 i = ![0, 512 * (i 2).val + 256, 0] := by
  have h := i2_lt i
  unfold k0_off7
  dsimp only
  generalize (i 2).val = b at h ⊢
  interval_cases b <;> decide

theorem off8 (i : grid0.Coords) : k0_off8 i = ![512 * (i 2).val + 256, 0] := by
  have h := i2_lt i
  unfold k0_off8
  dsimp only
  generalize (i 2).val = b at h ⊢
  interval_cases b <;> decide

end Words

section Reads

variable (i : grid0.Coords)

theorem read_off1 (k) {v : View sig .tc .vmem S1x2048x128 .bf16} (f : v.ty.Contents (Elt F)) (inb) :
    v.readAt (Elt F) (Rect.unit (s := S1x2048x128) (k0_off1 i k) ![1, 256, 128] inb).toLoadRect f = rows3 (v.read (Elt F) f) (256 * k.val) := by
  rw [View.readAt_unit v f inb (off1 i k) (by rw [← off1 i k]; exact inb), window3]

theorem read_off2 (k) {v : View sig .tc .vmem S2048x128 .f32} (f : v.ty.Contents (Elt F)) (inb) :
    v.readAt (Elt F) (Rect.unit (s := S2048x128) (k0_off2 i k) ![256, 128] inb).toLoadRect f = rows2 (v.read (Elt F) f) (256 * k.val) := by
  rw [View.readAt_unit v f inb (off2 i k) (by rw [← off2 i k]; exact inb), window2]

theorem read_off5 {v : View sig .tc .vmem S1x2048x128 .bf16} (f : v.ty.Contents (Elt F)) (inb) :
    v.readAt (Elt F) (Rect.unit (s := S1x2048x128) (k0_off5 i) ![1, 256, 128] inb).toLoadRect f = rows3 (v.read (Elt F) f) (512 * (i 2).val) := by
  rw [View.readAt_unit v f inb (off5 i) (by rw [← off5 i]; exact inb), window3]

theorem read_off7 {v : View sig .tc .vmem S1x2048x128 .bf16} (f : v.ty.Contents (Elt F)) (inb) :
    v.readAt (Elt F) (Rect.unit (s := S1x2048x128) (k0_off7 i) ![1, 256, 128] inb).toLoadRect f = rows3 (v.read (Elt F) f) (512 * (i 2).val + 256) := by
  rw [View.readAt_unit v f inb (off7 i) (by rw [← off7 i]; exact inb), window3]

theorem read_off6 {v : View sig .tc .vmem S2048x128 .f32} (f : v.ty.Contents (Elt F)) (inb) :
    v.readAt (Elt F) (Rect.unit (s := S2048x128) (k0_off6 i) ![256, 128] inb).toLoadRect f = rows2 (v.read (Elt F) f) (512 * (i 2).val) := by
  rw [View.readAt_unit v f inb (off6 i) (by rw [← off6 i]; exact inb), window2]

theorem read_off8 {v : View sig .tc .vmem S2048x128 .f32} (f : v.ty.Contents (Elt F)) (inb) :
    v.readAt (Elt F) (Rect.unit (s := S2048x128) (k0_off8 i) ![256, 128] inb).toLoadRect f = rows2 (v.read (Elt F) f) (512 * (i 2).val + 256) := by
  rw [View.readAt_unit v f inb (off8 i) (by rw [← off8 i]; exact inb), window2]

theorem write_off2 (k) {v : View sig .tc .vmem S2048x128 .f32} (f : v.ty.Contents (Elt F)) (inb) (w : Vec F S256x128 .f32) (L) :
    v.read (Elt F) (v.writes (Elt F) f (⟨Rect.unit (k0_off2 i k) ![256, 128] inb, w⟩ :: L))
      = putRows (v.read (Elt F) (v.writes (Elt F) f L)) (256 * k.val) w :=
  (View.read_writes_cons_put v f inb w L (off2 i k)).trans (put2 _ _ _)

theorem write_off6 {v : View sig .tc .vmem S2048x128 .f32} (f : v.ty.Contents (Elt F)) (inb) (w : Vec F S256x128 .f32) (L) :
    v.read (Elt F) (v.writes (Elt F) f (⟨Rect.unit (k0_off6 i) ![256, 128] inb, w⟩ :: L))
      = putRows (v.read (Elt F) (v.writes (Elt F) f L)) (512 * (i 2).val) w :=
  (View.read_writes_cons_put v f inb w L (off6 i)).trans (put2 _ _ _)

theorem write_off8 {v : View sig .tc .vmem S2048x128 .f32} (f : v.ty.Contents (Elt F)) (inb) (w : Vec F S256x128 .f32) (L) :
    v.read (Elt F) (v.writes (Elt F) f (⟨Rect.unit (k0_off8 i) ![256, 128] inb, w⟩ :: L))
      = putRows (v.read (Elt F) (v.writes (Elt F) f L)) (512 * (i 2).val + 256) w :=
  (View.read_writes_cons_put v f inb w L (off8 i)).trans (put2 _ _ _)

end Reads

section Loop

variable (c : Dev nD) (i : grid0.Coords)
  (arg3 : Memref sig .tc .vmem S1x512x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x512x128 .f32) (harg6 : arg6.IsWhole)
  (arg7 : Memref sig .tc .vmem S1x512x128 .f32) (harg7 : arg7.IsWhole)
  (arg8 : Memref sig .tc .vmem S1x512x128 .bf16) (harg8 : arg8.IsWhole)
  (arg9 : Memref sig .tc .vmem S1x2048x128 .bf16) (harg9 : arg9.IsWhole)
  (arg10 : Memref sig .tc .vmem S1x2048x128 .bf16) (harg10 : arg10.IsWhole)
  (arg11 : Memref sig .tc .vmem S2048x128 .f32) (harg11 : arg11.IsWhole)
  (arg12 : Memref sig .tc .vmem S2048x128 .f32) (harg12 : arg12.IsWhole)
  (v3 : Vec F S1x512x128 .bf16) (v5 v8 : Vec F S1x512x128 .f32)
  (X4 : BufTy.Contents (Elt F) arg4.view.ty) (X5 : BufTy.Contents (Elt F) arg5.view.ty)
  (G11 : BufTy.Contents (Elt F) arg11.view.ty) (G12 : BufTy.Contents (Elt F) arg12.view.ty)
  (init : Acc F)

/-- The state of the loop before trip `n`: the carried value, and the accumulators as the trips' stores leave them. -/
theorem st_eq (n : ℕ) (hn : n ≤ (k0_t1_loop i).trips) :
    (st_k0_t1 .none c none i arg3 harg3 arg4 harg4 arg5 harg5 arg6 harg6 arg7 harg7 arg8 harg8 arg9 harg9 arg10 harg10 arg11 harg11 arg12 harg12 v3 v5 v8 X4 X5 G11 G12 init n).1
      = (loop v3 (arg4.view.read (Elt F) X4) (arg5.view.read (Elt F) X5) v5 v8 (init, arg11.view.read (Elt F) G11, arg12.view.read (Elt F) G12) n).1
    ∧ arg11.view.read (Elt F) (arg11.view.writes (Elt F) G11 (st_k0_t1 .none c none i arg3 harg3 arg4 harg4 arg5 harg5 arg6 harg6 arg7 harg7 arg8 harg8 arg9 harg9 arg10 harg10 arg11 harg11 arg12 harg12 v3 v5 v8 X4 X5 G11 G12 init n).2.1)
      = (loop v3 (arg4.view.read (Elt F) X4) (arg5.view.read (Elt F) X5) v5 v8 (init, arg11.view.read (Elt F) G11, arg12.view.read (Elt F) G12) n).2.1
    ∧ arg12.view.read (Elt F) (arg12.view.writes (Elt F) G12 (st_k0_t1 .none c none i arg3 harg3 arg4 harg4 arg5 harg5 arg6 harg6 arg7 harg7 arg8 harg8 arg9 harg9 arg10 harg10 arg11 harg11 arg12 harg12 v3 v5 v8 X4 X5 G11 G12 init n).2.2)
      = (loop v3 (arg4.view.read (Elt F) X4) (arg5.view.read (Elt F) X5) v5 v8 (init, arg11.view.read (Elt F) G11, arg12.view.read (Elt F) G12) n).2.2 := by
  induction n with
  | zero => exact ⟨rfl, rfl, rfl⟩
  | succ n ih =>
    obtain ⟨h1, h2, h3⟩ := ih (by omega)
    have e := st_k0_t1_succ .none c none i arg3 harg3 arg4 harg4 arg5 harg5 arg6 harg6 arg7 harg7 arg8 harg8 arg9 harg9 arg10 harg10 arg11 harg11 arg12 harg12 v3 v5 v8 X4 X5 G11 G12 init ⟨n, hn⟩
    rw [e]
    dsimp only
    unfold tripR_k0_t1 trip_k0_t1
    dsimp only
    unfold trip_k0_t1.sl.r trip_k0_t1.sl.r_1 trip_k0_t1.sl.r_2 trip_k0_t1.sl.r_3 trip_k0_t1.sl.r_4 trip_k0_t1.sl.r_5 trip_k0_t1.sl.r_6
    simp only [read_off1, read_off2, List.cons_append, List.nil_append, write_off2]
    rw [h1, h2, h3]
    exact ⟨rfl, rfl, rfl⟩

/-- The loop after the first one makes no trip. -/
theorem st2_eq (w : BitVec 32) (n : ℕ) (h : n = 0) : st_k0_t2 .none c none i arg3 harg3 arg4 harg4 arg5 harg5 arg6 harg6 arg7 harg7 arg8 harg8 arg9 harg9 arg10 harg10 arg11 harg11 arg12 harg12 v3 v5 v8 w X4 X5 G11 G12 init n = (init, [], []) := by subst h; rfl

end Loop

section Tail

variable (i : grid0.Coords) (x0 : Vec F S1x512x128 .bf16) (x1 x2 : Vec F S1x2048x128 .bf16) (x3 x4 : Vec F S1x512x128 .f32) (σ : St F)

/-- The word of the block's number among the blocks of queries. -/
def w2 : BitVec 32 := BitVec.ofNat 32 (i 2).val
/-- The word of the number of its first diagonal chunk. -/
def w30 : BitVec 32 := Scalar.muli 2#32 (w2 i)
/-- The keys of the first diagonal chunk (the same function of the values `x2`). -/
def chA : Vec F S1x256x128 .bf16 := rows3 x1 (512 * (i 2).val)
/-- The keys of the second diagonal chunk. -/
def chB : Vec F S1x256x128 .bf16 := rows3 x1 (512 * (i 2).val + 256)

/-- The first diagonal chunk: its `a` before the mask. -/
def e12 : FVec F S512x256 .f32 := k0_pay45 (w2 i) (k0_pay21 x0) k0_pay24 σ.1.2.1 (w30 i) (chA i x1)
/-- The partial `dq` after the first diagonal chunk. -/
def e13 : FVec F S512x128 .f32 :=
  k0_pay51 (k0_pay22 x3) (k0_pay23 x4) k0_pay24 σ.1.1 σ.1.2.2 (k0_pay39 (chA i x1)) (k0_pay40 (chA i x2))
    (k0_pay41 (k0_pay21 x0) (chA i x1)) (k0_pay42 (k0_pay21 x0) (chA i x1)) (k0_pay43 (w2 i) (w30 i)) (e12 i x0 x1 σ)
/-- The running row sums after the first diagonal chunk. -/
def e14 : FVec F S512x1 .f32 := k0_pay52 σ.1.2.1 (k0_pay44 (w2 i) (k0_pay21 x0) (w30 i) (chA i x1))
/-- The running row sums of `g` after it. -/
def e15 : FVec F S512x1 .f32 :=
  k0_pay53 (k0_pay22 x3) (k0_pay23 x4) σ.1.2.2 (k0_pay40 (chA i x2))
    (k0_pay41 (k0_pay21 x0) (chA i x1)) (k0_pay42 (k0_pay21 x0) (chA i x1)) (k0_pay43 (w2 i) (w30 i)) (e12 i x0 x1 σ)
/-- The accumulator of `dk` after it. -/
def d0A : Vec F S2048x128 .f32 :=
  putRows σ.2.1 (512 * (i 2).val) (k0_pay49 (k0_pay21 x0) (k0_pay22 x3) (k0_pay23 x4) k0_pay24 σ.1.2.2 (k0_pay40 (chA i x2))
    (k0_pay41 (k0_pay21 x0) (chA i x1)) (k0_pay42 (k0_pay21 x0) (chA i x1)) (k0_pay43 (w2 i) (w30 i)) (e12 i x0 x1 σ)
    (rows2 σ.2.1 (512 * (i 2).val)))
/-- The accumulator of `dv` after it. -/
def d1A : Vec F S2048x128 .f32 :=
  putRows σ.2.2 (512 * (i 2).val) (k0_pay50 (k0_pay22 x3) (k0_pay23 x4)
    (k0_pay41 (k0_pay21 x0) (chA i x1)) (k0_pay42 (k0_pay21 x0) (chA i x1)) (k0_pay43 (w2 i) (w30 i)) (e12 i x0 x1 σ)
    (rows2 σ.2.2 (512 * (i 2).val)))
/-- The second diagonal chunk: its `dz`, for the lower 256 rows. -/
def e28 : FVec F S256x256 .bf16 :=
  k0_pay67 k0_pay24 (k0_pay55 (k0_pay22 x3)) (k0_pay56 (k0_pay23 x4)) (k0_pay58 (e14 i x0 x1 σ)) (k0_pay59 (e15 i x0 x1 x2 x3 x4 σ)) (k0_pay61 (chB i x2))
    (k0_pay62 (k0_pay21 x0) (chB i x1)) (k0_pay63 (k0_pay21 x0) (chB i x1)) (k0_pay64 (w2 i)) (k0_pay65 (w2 i) (k0_pay21 x0) (chB i x1))
/-- The block of `dq` that the grid point stores. -/
def tailDq : Vec F S1x512x128 .bf16 :=
  k0_pay2 (e13 i x0 x1 x2 x3 x4 σ) (k0_pay57 (e13 i x0 x1 x2 x3 x4 σ)) (k0_pay60 (chB i x1)) (e28 i x0 x1 x2 x3 x4 σ)
/-- The accumulator of `dk` after the grid point. -/
def tail0 : Vec F S2048x128 .f32 :=
  putRows (d0A i x0 x1 x2 x3 x4 σ) (512 * (i 2).val + 256) (k0_pay68 k0_pay24 (k0_pay54 (k0_pay21 x0)) (k0_pay55 (k0_pay22 x3)) (k0_pay56 (k0_pay23 x4))
    (k0_pay58 (e14 i x0 x1 σ)) (k0_pay59 (e15 i x0 x1 x2 x3 x4 σ)) (k0_pay61 (chB i x2))
    (k0_pay62 (k0_pay21 x0) (chB i x1)) (k0_pay63 (k0_pay21 x0) (chB i x1)) (k0_pay64 (w2 i)) (k0_pay65 (w2 i) (k0_pay21 x0) (chB i x1))
    (rows2 (d0A i x0 x1 x2 x3 x4 σ) (512 * (i 2).val + 256)))
/-- The accumulator of `dv` after the grid point. -/
def tail1 : Vec F S2048x128 .f32 :=
  putRows (d1A i x0 x1 x3 x4 σ) (512 * (i 2).val + 256) (k0_pay1 (k0_pay69 k0_pay24 (k0_pay55 (k0_pay22 x3)) (k0_pay56 (k0_pay23 x4))
    (k0_pay58 (e14 i x0 x1 σ))
    (k0_pay62 (k0_pay21 x0) (chB i x1)) (k0_pay63 (k0_pay21 x0) (chB i x1)) (k0_pay64 (w2 i)) (k0_pay65 (w2 i) (k0_pay21 x0) (chB i x1))
    (rows2 (d1A i x0 x1 x3 x4 σ) (512 * (i 2).val + 256))))

/-- The state after the unmasked chunks of grid point `i`, from the accumulators `D0`, `D1`. -/
def pre (D0 D1 : Vec F S2048x128 .f32) : St F := loop x0 x1 x2 x3 x4 ((k0_pay26, k0_pay25, k0_pay25), D0, D1) (2 * (i 2).val)
/-- What grid point `i` computes from the accumulators `D0`, `D1`: the block of `dq`, and the accumulators afterwards. -/
def outDq (D0 D1 : Vec F S2048x128 .f32) : Vec F S1x512x128 .bf16 := tailDq i x0 x1 x2 x3 x4 (pre i x0 x1 x2 x3 x4 D0 D1)
def out0 (D0 D1 : Vec F S2048x128 .f32) : Vec F S2048x128 .f32 := tail0 i x0 x1 x2 x3 x4 (pre i x0 x1 x2 x3 x4 D0 D1)
def out1 (D0 D1 : Vec F S2048x128 .f32) : Vec F S2048x128 .f32 := tail1 i x0 x1 x3 x4 (pre i x0 x1 x2 x3 x4 D0 D1)

end Tail

section Cases

variable (c : Dev nD) (i : grid0.Coords)
  (arg3 : Memref sig .tc .vmem S1x512x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x512x128 .f32) (harg6 : arg6.IsWhole)
  (arg7 : Memref sig .tc .vmem S1x512x128 .f32) (harg7 : arg7.IsWhole)
  (arg8 : Memref sig .tc .vmem S1x512x128 .bf16) (harg8 : arg8.IsWhole)
  (arg9 : Memref sig .tc .vmem S1x2048x128 .bf16) (harg9 : arg9.IsWhole)
  (arg10 : Memref sig .tc .vmem S1x2048x128 .bf16) (harg10 : arg10.IsWhole)
  (arg11 : Memref sig .tc .vmem S2048x128 .f32) (harg11 : arg11.IsWhole)
  (arg12 : Memref sig .tc .vmem S2048x128 .f32) (harg12 : arg12.IsWhole)
  (x0 : Vec F S1x512x128 .bf16) (x1 x2 : Vec F S1x2048x128 .bf16) (x3 x4 : Vec F S1x512x128 .f32) (xs0 xs1 : Vec F S2048x128 .f32)

theorem read3 (inb) : View.readAt (Elt F) arg3.view (Rect.unit (s := S1x512x128) ![0, 0, 0] ![1, 512, 128] inb).toLoadRect (harg3.unread x0) = x0 :=
  (View.readAt_full _ _ inb).trans (harg3.read_unread x0)
theorem read6 (inb) : View.readAt (Elt F) arg6.view (Rect.unit (s := S1x512x128) ![0, 0, 0] ![1, 512, 128] inb).toLoadRect (harg6.unread x3) = x3 :=
  (View.readAt_full _ _ inb).trans (harg6.read_unread x3)
theorem read7 (inb) : View.readAt (Elt F) arg7.view (Rect.unit (s := S1x512x128) ![0, 0, 0] ![1, 512, 128] inb).toLoadRect (harg7.unread x4) = x4 :=
  (View.readAt_full _ _ inb).trans (harg7.read_unread x4)

theorem readF {v : View sig .tc .vmem S2048x128 .f32} (f : v.ty.Contents (Elt F)) (inb) :
    v.readAt (Elt F) (Rect.unit (s := S2048x128) ![0, 0] ![2048, 128] inb).toLoadRect f = v.read (Elt F) f := View.readAt_full _ _ inb

/-- The first block of queries of a head: the accumulators start at zero. -/
theorem caseA (hc0 : cond0_0 i) (hc1 : ¬cond0_1 i) :
    (kernelRun0_A c i arg3 harg3 arg4 harg4 arg5 harg5 arg6 harg6 arg7 harg7 arg8 harg8 arg9 harg9 arg10 harg10 arg11 harg11 arg12 harg12 hc0 hc1 x0 x1 x2 x3 x4).1 = [⟨Rect.unit ![0, 0, 0] ![1, 512, 128] inb_S1x512x128_S1x512x128_0_0_0, outDq i x0 x1 x2 x3 x4 k0_pay19 k0_pay20⟩]
    ∧ arg11.view.read (Elt F) (arg11.view.writes (Elt F) arg11.view.junk (kernelRun0_A c i arg3 harg3 arg4 harg4 arg5 harg5 arg6 harg6 arg7 harg7 arg8 harg8 arg9 harg9 arg10 harg10 arg11 harg11 arg12 harg12 hc0 hc1 x0 x1 x2 x3 x4).2.2.2.1) = out0 i x0 x1 x2 x3 x4 k0_pay19 k0_pay20
    ∧ arg12.view.read (Elt F) (arg12.view.writes (Elt F) arg12.view.junk (kernelRun0_A c i arg3 harg3 arg4 harg4 arg5 harg5 arg6 harg6 arg7 harg7 arg8 harg8 arg9 harg9 arg10 harg10 arg11 harg11 arg12 harg12 hc0 hc1 x0 x1 x2 x3 x4).2.2.2.2.1) = out1 i x0 x1 x2 x3 x4 k0_pay19 k0_pay20 := by
  have zero0 : arg11.view.read (Elt F) (arg11.view.writes (Elt F) arg11.view.junk kernelRun0_A.sl.HS0_1) = k0_pay19 := View.read_writes_full _ _ _ _ _
  have zero1 : arg12.view.read (Elt F) (arg12.view.writes (Elt F) arg12.view.junk kernelRun0_A.sl.HS1_1) = k0_pay20 := View.read_writes_full _ _ _ _ _
  have H := st_eq c i arg3 harg3 arg4 harg4 arg5 harg5 arg6 harg6 arg7 harg7 arg8 harg8 arg9 harg9 arg10 harg10 arg11 harg11 arg12 harg12 x0 x3 x4 (harg4.unread x1) (harg5.unread x2) (arg11.view.writes (Elt F) arg11.view.junk kernelRun0_A.sl.HS0_1) (arg12.view.writes (Elt F) arg12.view.junk kernelRun0_A.sl.HS1_1)
    (k0_pay26, k0_pay25, k0_pay25) (2 * (i 2).val) (trips1 i).ge
  rw [harg4.read_unread, harg5.read_unread, zero0, zero1] at H
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29,
    kernelRun0_A.sl.v30, kernelRun0_A.sl.HS0_1_1, kernelRun0_A.sl.HS1_1_1, kernelRun0_A.sl.v99, kernelRun0_A.sl.v107, View.writes_append,
    T1, T2, read3, read6, read7, read_off5, read_off6, read_off7, read_off8, write_off6, write_off8, harg4.read_unread, harg5.read_unread, List.nil_append, H.1, H.2.1, H.2.2]
  simp only [outDq, out0, out1, pre, tailDq, tail0, tail1, e28, e15, e14, e13, e12, d0A, d1A, chA, chB, w2, w30]
  rw [st2_eq (n := 0) (h := rfl)]
  simp only [List.nil_append, View.writes_append, View.writes_nil, H.1, H.2.1, H.2.2]
  trivial

/-- A later block of queries of a head, not the last. -/
theorem caseB (hc0 : ¬cond0_0 i) (hc1 : ¬cond0_1 i) :
    (kernelRun0_B c i arg3 harg3 arg4 harg4 arg5 harg5 arg6 harg6 arg7 harg7 arg8 harg8 arg9 harg9 arg10 harg10 arg11 harg11 arg12 harg12 hc0 hc1 x0 x1 x2 x3 x4 xs0 xs1).1 = [⟨Rect.unit ![0, 0, 0] ![1, 512, 128] inb_S1x512x128_S1x512x128_0_0_0, outDq i x0 x1 x2 x3 x4 xs0 xs1⟩]
    ∧ arg11.view.read (Elt F) (arg11.view.writes (Elt F) (harg11.unread xs0) (kernelRun0_B c i arg3 harg3 arg4 harg4 arg5 harg5 arg6 harg6 arg7 harg7 arg8 harg8 arg9 harg9 arg10 harg10 arg11 harg11 arg12 harg12 hc0 hc1 x0 x1 x2 x3 x4 xs0 xs1).2.2.2.1) = out0 i x0 x1 x2 x3 x4 xs0 xs1
    ∧ arg12.view.read (Elt F) (arg12.view.writes (Elt F) (harg12.unread xs1) (kernelRun0_B c i arg3 harg3 arg4 harg4 arg5 harg5 arg6 harg6 arg7 harg7 arg8 harg8 arg9 harg9 arg10 harg10 arg11 harg11 arg12 harg12 hc0 hc1 x0 x1 x2 x3 x4 xs0 xs1).2.2.2.2.1) = out1 i x0 x1 x2 x3 x4 xs0 xs1 := by
  have H := st_eq c i arg3 harg3 arg4 harg4 arg5 harg5 arg6 harg6 arg7 harg7 arg8 harg8 arg9 harg9 arg10 harg10 arg11 harg11 arg12 harg12 x0 x3 x4 (harg4.unread x1) (harg5.unread x2) (harg11.unread xs0) (harg12.unread xs1)
    (k0_pay26, k0_pay25, k0_pay25) (2 * (i 2).val) (trips1 i).ge
  rw [harg4.read_unread, harg5.read_unread, harg11.read_unread, harg12.read_unread] at H
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29,
    kernelRun0_B.sl.v30, kernelRun0_B.sl.HS0_1, kernelRun0_B.sl.HS1_1, kernelRun0_B.sl.v99, kernelRun0_B.sl.v107,
    T1, T2, read3, read6, read7, read_off5, read_off6, read_off7, read_off8, write_off6, write_off8, harg4.read_unread, harg5.read_unread, List.nil_append, H.1, H.2.1, H.2.2]
  simp only [outDq, out0, out1, pre, tailDq, tail0, tail1, e28, e15, e14, e13, e12, d0A, d1A, chA, chB, w2, w30]
  rw [st2_eq (n := 0) (h := rfl)]
  simp only [List.nil_append, H.1, H.2.1, H.2.2]
  trivial

/-- The last block of queries of a head: the accumulators are stored as `dk` and `dv`. -/
theorem caseC (hc0 : ¬cond0_0 i) (hc1 : cond0_1 i) :
    (kernelRun0_C c i arg3 harg3 arg4 harg4 arg5 harg5 arg6 harg6 arg7 harg7 arg8 harg8 arg9 harg9 arg10 harg10 arg11 harg11 arg12 harg12 hc0 hc1 x0 x1 x2 x3 x4 xs0 xs1).1 = [⟨Rect.unit ![0, 0, 0] ![1, 512, 128] inb_S1x512x128_S1x512x128_0_0_0, outDq i x0 x1 x2 x3 x4 xs0 xs1⟩]
    ∧ arg11.view.read (Elt F) (arg11.view.writes (Elt F) (harg11.unread xs0) (kernelRun0_C c i arg3 harg3 arg4 harg4 arg5 harg5 arg6 harg6 arg7 harg7 arg8 harg8 arg9 harg9 arg10 harg10 arg11 harg11 arg12 harg12 hc0 hc1 x0 x1 x2 x3 x4 xs0 xs1).2.2.2.1) = out0 i x0 x1 x2 x3 x4 xs0 xs1
    ∧ arg12.view.read (Elt F) (arg12.view.writes (Elt F) (harg12.unread xs1) (kernelRun0_C c i arg3 harg3 arg4 harg4 arg5 harg5 arg6 harg6 arg7 harg7 arg8 harg8 arg9 harg9 arg10 harg10 arg11 harg11 arg12 harg12 hc0 hc1 x0 x1 x2 x3 x4 xs0 xs1).2.2.2.2.1) = out1 i x0 x1 x2 x3 x4 xs0 xs1
    ∧ (kernelRun0_C c i arg3 harg3 arg4 harg4 arg5 harg5 arg6 harg6 arg7 harg7 arg8 harg8 arg9 harg9 arg10 harg10 arg11 harg11 arg12 harg12 hc0 hc1 x0 x1 x2 x3 x4 xs0 xs1).2.1 = [⟨Rect.unit ![0, 0, 0] ![1, 2048, 128] inb_S1x2048x128_S1x2048x128_0_0_0, k0_pay3 (out0 i x0 x1 x2 x3 x4 xs0 xs1)⟩]
    ∧ (kernelRun0_C c i arg3 harg3 arg4 harg4 arg5 harg5 arg6 harg6 arg7 harg7 arg8 harg8 arg9 harg9 arg10 harg10 arg11 harg11 arg12 harg12 hc0 hc1 x0 x1 x2 x3 x4 xs0 xs1).2.2.1 = [⟨Rect.unit ![0, 0, 0] ![1, 2048, 128] inb_S1x2048x128_S1x2048x128_0_0_0, k0_pay4 (out1 i x0 x1 x2 x3 x4 xs0 xs1)⟩] := by
  have H := st_eq c i arg3 harg3 arg4 harg4 arg5 harg5 arg6 harg6 arg7 harg7 arg8 harg8 arg9 harg9 arg10 harg10 arg11 harg11 arg12 harg12 x0 x3 x4 (harg4.unread x1) (harg5.unread x2) (harg11.unread xs0) (harg12.unread xs1)
    (k0_pay26, k0_pay25, k0_pay25) (2 * (i 2).val) (trips1 i).ge
  rw [harg4.read_unread, harg5.read_unread, harg11.read_unread, harg12.read_unread] at H
  unfold kernelRun0_C
  dsimp only
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29,
    kernelRun0_C.sl.v30, kernelRun0_C.sl.HS0_1, kernelRun0_C.sl.HS1_1, kernelRun0_C.sl.HS0_2, kernelRun0_C.sl.HS1_2, kernelRun0_C.sl.v228, kernelRun0_C.sl.v235, kernelRun0_C.sl.v99, kernelRun0_C.sl.v107, readF,
    T1, T2, read3, read6, read7, read_off5, read_off6, read_off7, read_off8, write_off6, write_off8, harg4.read_unread, harg5.read_unread, List.nil_append, H.1, H.2.1, H.2.2]
  simp only [outDq, out0, out1, pre, tailDq, tail0, tail1, e28, e15, e14, e13, e12, d0A, d1A, chA, chB, w2, w30]
  rw [st2_eq (n := 0) (h := rfl)]
  simp only [List.nil_append, H.1, H.2.1, H.2.2]
  trivial

end Cases

end Cert.KernelIdeal.SB
-- ==== Proof.Grad.lean ====
/-
  The gradient of stick-breaking attention over the real numbers: what a row `t` of queries and a column `s` of keys
  contribute, with the column sums cut at any place.
-/
module

public import Idealize.ShloMosaic.Lib.PointwiseCore
public import Idealize.ShloMosaic.PureOps.Ideal.Laws

@[expose] public section

noncomputable section

namespace Cert.SB

open Idealize.ShloMosaic

/-- One head's queries, keys, values and the cotangent of its output, by row and lane, and the scale of the scores. -/
structure Head where
  q : ℕ → ℕ → ℝ
  k : ℕ → ℕ → ℝ
  v : ℕ → ℕ → ℝ
  o : ℕ → ℕ → ℝ
  c : ℝ

namespace Head

variable (H : Head)

/-- The score of query `t` and key `s`. -/
def Z (t s : ℕ) : ℝ := (∑ d : Fin 128, H.q t d * H.k s d) * H.c
/-- Its softplus, `log (1 + exp z)`, as both programs compute it. -/
def SP (t s : ℕ) : ℝ := max (H.Z t s) 0 + Real.log (1 + Real.exp (0 - max (H.Z t s) (-H.Z t s)))
/-- The logarithm of one minus the sigmoid, below the diagonal; zero elsewhere. -/
def LN (t s : ℕ) : ℝ := if s < t then 0 - H.SP t s else 0
/-- The sum of row `t` of `LN` before column `n`. -/
def PC (t n : ℕ) : ℝ := ∑ s ∈ Finset.range n, H.LN t s
/-- The weight of value `s` in row `t`. -/
def A (t s : ℕ) : ℝ := if s < t then Real.exp (H.Z t s - H.SP t s + (H.PC t 2048 - H.PC t (s + 1))) else 0
/-- The cotangent of the weight, times the weight. -/
def G (t s : ℕ) : ℝ := H.A t s * ∑ d : Fin 128, H.o t d * H.v s d
/-- The sum of row `t` of `G` before column `n`. -/
def GC (t n : ℕ) : ℝ := ∑ s ∈ Finset.range n, H.G t s
/-- The cotangent of the score. -/
def DZ (t s : ℕ) : ℝ := if s < t then H.G t s - (H.G t s + H.GC t s) * Real.exp (H.Z t s - H.SP t s) else 0
/-- The gradients. -/
def dq (t d : ℕ) : ℝ := (∑ s ∈ Finset.range 2048, H.DZ t s * H.k s d) * H.c
def dk (s d : ℕ) : ℝ := (∑ t ∈ Finset.range 2048, H.DZ t s * H.q t d) * H.c
def dv (s d : ℕ) : ℝ := ∑ t ∈ Finset.range 2048, H.A t s * H.o t d

end Head

/-- A sum of reals in the extended reals. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

theorem coe_max (a b : ℝ) : max (a : EReal) (b : EReal) = ((max a b : ℝ) : EReal) :=
  (EReal.coe_strictMono.monotone.map_max).symm

theorem coe_abs (a : ℝ) : (FloatOps.absf (F := Ideal) (φ := .f32) ((a : ℝ) : EReal) : EReal) = ((max a (-a) : ℝ) : EReal) := by
  rw [Ideal.absf_def, ← EReal.coe_neg, coe_max]

theorem coe_log1p (a : ℝ) : Ideal.log (1 + Ideal.exp (a : EReal)) = ((Real.log (1 + Real.exp a) : ℝ) : EReal) := by
  have h : 0 < 1 + Real.exp a := by positivity
  rw [Ideal.exp_coe, ← EReal.coe_one, ← EReal.coe_add, Ideal.log_coe, if_neg (not_le.2 h)]

/-- A cut of a row sum: the sum before `o`, the terms of the chunk before `j`, and the term at `j`. -/
theorem range_cut (f : ℕ → ℝ) (o : ℕ) (n j : ℕ) (hj : j ≤ n) :
    ∑ s ∈ Finset.range (o + j), f s = (∑ x : Fin n, if x.val < j then f (o + x.val) else 0) + ∑ s ∈ Finset.range o, f s := by
  rw [Finset.sum_range_add, add_comm]
  congr 1
  rw [Fin.sum_univ_eq_sum_range (fun x => if x < j then f (o + x) else 0) n, ← Finset.sum_filter]
  apply Finset.sum_congr _ (fun _ _ => rfl)
  ext x
  simp only [Finset.mem_range, Finset.mem_filter]
  omega

theorem range_chunk (f : ℕ → ℝ) (o n : ℕ) :
    ∑ s ∈ Finset.range (o + n), f s = ∑ s ∈ Finset.range o, f s + ∑ x : Fin n, f (o + x.val) := by
  rw [Finset.sum_range_add, Fin.sum_univ_eq_sum_range (fun x => f (o + x)) n]

end Cert.SB
-- ==== Proof.Chunk.lean ====
/-
  The chunks of one grid point over real inputs: every value of the kernel is the coercion of a real number, the one
  that `Cert.SB.Head` names.
-/
module

public import proofs.«01_k».proof.Proof.Step
public import proofs.«01_k».proof.Proof.Grad
public import Idealize.ShloMosaic.Lib.Pointwise

@[expose] public section

set_option maxRecDepth 16384

noncomputable section

namespace Cert.KernelIdeal.SB

open Idealize.ShloMosaic Idealize.ShloMosaic.TcCoe Cert.KernelIdeal Cert.KernelIdeal.Gen Cert.SB

/-- A comparison of two small words. -/
theorem cmp_lt {a b : ℕ} (ha : a < 2 ^ 31) (hb : b < 2 ^ 31) :
    IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide]
    simp only [BitVec.toInt_eq_toNat_cond, BitVec.toNat_ofNat]
    rw [Nat.mod_eq_of_lt (by omega), Nat.mod_eq_of_lt (by omega), if_pos (by omega), if_pos (by omega)]
    simp
  unfold IntOp.cmpi
  simp only [h]
  by_cases hab : a < b <;> simp [hab]

theorem sel_if {α : Type} (p : Prop) [Decidable p] (a b : α) : Scalar.select (if p then 1#1 else 0#1) a b = if p then a else b := by
  by_cases h : p <;> simp [Scalar.select, h]

/-- The triangle of ones: the matrix that sums a chunk's columns to the left of each. -/
theorem tri (x j : Fin 256) : (k0_pay24 : FVec Ideal S256x256 .bf16) (ix2 x j) = (((if x.val < j.val then 1 else 0 : ℝ)) : EReal) := by
  have hx := x.isLt
  have hj := j.isLt
  pointwise [k0_pay24]
  rw [show IntOp.addi (BitVec.ofNat 32 x.val) 0#32 = BitVec.ofNat 32 x.val from BitVec.add_zero _, cmp_lt (by omega) (by omega), sel_if]
  split_ifs
  · exact EReal.coe_one.symm
  · exact EReal.coe_zero.symm

theorem tri_sum (g : Fin 256 → EReal) (f : Fin 256 → ℝ) (h : ∀ x, g x = ((f x : ℝ) : EReal)) (j : Fin 256) :
    ∑ x, g x * ((k0_pay24 : FVec Ideal S256x256 .bf16) (ix2 x j) : EReal) = ((∑ x : Fin 256, if x.val < j.val then f x else 0 : ℝ) : EReal) := by
  rw [← coe_sum]
  refine Finset.sum_congr rfl fun x _ => ?_
  rw [h, tri, ← EReal.coe_mul]
  split_ifs <;> simp

variable (H : Head)

/-- The scale of the scores as the kernel spells it. -/
def IsScale : Prop := (Ideal.ofBits FTy.f32 1035273459#32 : EReal) = ((H.c : ℝ) : EReal)

/-- The columns of row `t` up to and with `o + j`, summed by the triangle: the low parts of the split are zero. -/
theorem before {t o : ℕ} (j : Fin 256) (ln : Fin 256 → EReal) (hln : ∀ x : Fin 256, ln x = ((H.LN t (o + x.val) : ℝ) : EReal))
    (pc : EReal) (hpc : pc = ((H.PC t o : ℝ) : EReal)) :
    ∑ x, ln x * ((k0_pay24 : FVec Ideal S256x256 .bf16) (ix2 x j) : EReal) + ∑ x, (ln x - ln x) * ((k0_pay24 : FVec Ideal S256x256 .bf16) (ix2 x j) : EReal) + ln j + pc
      = ((H.PC t (o + j.val + 1) : ℝ) : EReal) := by
  rw [tri_sum ln (fun x => H.LN t (o + x.val)) hln, tri_sum (fun x => ln x - ln x) (fun _ => 0) (fun x => by rw [hln, ← EReal.coe_sub, sub_self]), hln, hpc,
    ← EReal.coe_add, ← EReal.coe_add, ← EReal.coe_add]
  congr 1
  have h := range_cut (H.LN t) o 256 j.val j.isLt.le
  unfold Head.PC
  rw [Finset.sum_range_succ, h]
  simp only [ite_self, Finset.sum_const_zero]
  ring

theorem gbefore {t o : ℕ} (j : Fin 256) (g : Fin 256 → EReal) (hg : ∀ x : Fin 256, g x = ((H.G t (o + x.val) : ℝ) : EReal))
    (gc : EReal) (hgc : gc = ((H.GC t o : ℝ) : EReal)) :
    ∑ x, g x * ((k0_pay24 : FVec Ideal S256x256 .bf16) (ix2 x j) : EReal) + gc = ((H.GC t (o + j.val) : ℝ) : EReal) := by
  rw [tri_sum g (fun x => H.G t (o + x.val)) hg, hgc, ← EReal.coe_add]
  congr 1
  exact (range_cut (H.G t) o 256 j.val j.isLt.le).symm

/-- A score, a softplus, and a weight, from their parts. -/
theorem score {t s : ℕ} (hc : IsScale H) (f g : Fin 128 → EReal) (hf : ∀ d : Fin 128, f d = ((H.q t d : ℝ) : EReal)) (hg : ∀ d : Fin 128, g d = ((H.k s d : ℝ) : EReal)) :
    (∑ d, f d * g d) * (Ideal.ofBits FTy.f32 1035273459#32 : EReal) = ((H.Z t s : ℝ) : EReal) := by
  simp only [hf, hg, ← EReal.coe_mul]
  rw [coe_sum, hc, ← EReal.coe_mul]
  rfl

theorem softplus {t s : ℕ} (z : EReal) (hz : z = ((H.Z t s : ℝ) : EReal)) :
    max z 0 + Ideal.log (1 + Ideal.exp (0 - (FloatOps.absf (F := Ideal) (φ := .f32) z : EReal))) = ((H.SP t s : ℝ) : EReal) := by
  rw [hz, coe_abs, ← EReal.coe_zero, coe_max, ← EReal.coe_sub, coe_log1p, ← EReal.coe_add]
  rfl

theorem weight {t s : ℕ} (z sp T p : EReal) (hz : z = ((H.Z t s : ℝ) : EReal)) (hsp : sp = ((H.SP t s : ℝ) : EReal))
    (hT : T = ((H.PC t 2048 : ℝ) : EReal)) (hp : p = ((H.PC t (s + 1) : ℝ) : EReal)) :
    Ideal.exp (z - sp + (T - p)) = ((Real.exp (H.Z t s - H.SP t s + (H.PC t 2048 - H.PC t (s + 1))) : ℝ) : EReal) := by
  rw [hz, hsp, hT, hp, ← EReal.coe_sub, ← EReal.coe_sub, ← EReal.coe_add, Ideal.exp_coe]

theorem grad {t s : ℕ} (a : EReal) (ha : a = ((H.A t s : ℝ) : EReal)) (f g : Fin 128 → EReal) (hf : ∀ d : Fin 128, f d = ((H.o t d : ℝ) : EReal)) (hg : ∀ d : Fin 128, g d = ((H.v s d : ℝ) : EReal)) :
    a * ∑ d, f d * g d = ((H.G t s : ℝ) : EReal) := by
  simp only [hf, hg, ← EReal.coe_mul]
  rw [coe_sum, ha, ← EReal.coe_mul]
  rfl

theorem dscore {t s : ℕ} (g b z sp : EReal) (hg : g = ((H.G t s : ℝ) : EReal)) (hb : b = ((H.GC t s : ℝ) : EReal))
    (hz : z = ((H.Z t s : ℝ) : EReal)) (hsp : sp = ((H.SP t s : ℝ) : EReal)) :
    g - (g + b) * Ideal.exp (z - sp) = ((H.G t s - (H.G t s + H.GC t s) * Real.exp (H.Z t s - H.SP t s) : ℝ) : EReal) := by
  rw [hg, hb, hz, hsp, ← EReal.coe_sub, ← EReal.coe_add, Ideal.exp_coe, ← EReal.coe_mul, ← EReal.coe_sub]

/-- A product's sum added to an old value. -/
theorem accum {n : ℕ} (x : EReal) (y : ℝ) (hx : x = ((y : ℝ) : EReal)) (f g : Fin n → EReal) (f' g' : Fin n → ℝ)
    (hf : ∀ i, f i = ((f' i : ℝ) : EReal)) (hg : ∀ i, g i = ((g' i : ℝ) : EReal)) :
    x + ∑ i, f i * g i = ((y + ∑ i, f' i * g' i : ℝ) : EReal) := by
  simp only [hf, hg, ← EReal.coe_mul]
  rw [coe_sum, hx, ← EReal.coe_add]

theorem rowsum {n : ℕ} (x : EReal) (y : ℝ) (hx : x = ((y : ℝ) : EReal)) (f : Fin n → EReal) (f' : Fin n → ℝ)
    (hf : ∀ i, f i = ((f' i : ℝ) : EReal)) :
    x + ∑ i, f i = ((y + ∑ i, f' i : ℝ) : EReal) := by
  simp only [hf]
  rw [coe_sum, hx, ← EReal.coe_add]

section Plain

variable {H} {x0 : Vec Ideal S1x512x128 .bf16} {x3 x4 : Vec Ideal S1x512x128 .f32} {kc vc : Vec Ideal S1x256x128 .bf16}
  {pc gc : FVec Ideal S512x1 .f32} {t0 o : ℕ}

/-- The blocks of one grid point, whose rows begin at `t0`, hold the head `H`. -/
structure Rows (H : Head) (t0 : ℕ) (x0 : Vec Ideal S1x512x128 .bf16) (x3 x4 : Vec Ideal S1x512x128 .f32) : Prop where
  sc : IsScale H
  q : ∀ (r : Fin 512) (d : Fin 128), x0 (ix3 0 r d) = ((H.q (t0 + r.val) d : ℝ) : EReal)
  o : ∀ (r : Fin 512) (d : Fin 128), x3 (ix3 0 r d) = ((H.o (t0 + r.val) d : ℝ) : EReal)
  T : ∀ (r : Fin 512) (d : Fin 128), x4 (ix3 0 r d) = ((H.PC (t0 + r.val) 2048 : ℝ) : EReal)

/-- A chunk, whose columns begin at `o`, holds the head `H`. -/
structure Cols (H : Head) (o : ℕ) (kc vc : Vec Ideal S1x256x128 .bf16) : Prop where
  k : ∀ (j : Fin 256) (d : Fin 128), kc (ix3 0 j d) = ((H.k (o + j.val) d : ℝ) : EReal)
  v : ∀ (j : Fin 256) (d : Fin 128), vc (ix3 0 j d) = ((H.v (o + j.val) d : ℝ) : EReal)

variable (hR : Rows H t0 x0 x3 x4) (hC : Cols H o kc vc)
include hR hC

theorem p21 (r : Fin 512) (d : Fin 128) : k0_pay21 x0 (ix2 r d) = ((H.q (t0 + r.val) d : ℝ) : EReal) := by
  pointwise [k0_pay21]; exact hR.q r d

theorem p22 (r : Fin 512) (d : Fin 128) : k0_pay22 x3 (ix2 r d) = ((H.o (t0 + r.val) d : ℝ) : EReal) := by
  pointwise [k0_pay22]; exact hR.o r d

theorem p23 (r : Fin 512) (j : Fin 256) : k0_pay23 x4 (ix2 r j) = ((H.PC (t0 + r.val) 2048 : ℝ) : EReal) := by
  pointwise [k0_pay23]
  split_ifs <;> exact hR.T r _

theorem p6 (r : Fin 512) (j : Fin 256) : k0_pay6 (k0_pay21 x0) kc (ix2 r j) = ((H.Z (t0 + r.val) (o + j.val) : ℝ) : EReal) := by
  pointwise [k0_pay6, k0_pay5]
  exact score H hR.sc _ _ (fun d => p21 hR hC r d) (fun d => hC.k j d)

theorem p7 (r : Fin 512) (j : Fin 256) : k0_pay7 (k0_pay21 x0) kc (ix2 r j) = ((H.SP (t0 + r.val) (o + j.val) : ℝ) : EReal) := by
  pointwise [k0_pay7]
  exact softplus H _ (p6 hR hC r j)

variable (ho : o + 256 ≤ t0)
include ho

theorem p8 (r : Fin 512) (j : Fin 256) : k0_pay8 (k0_pay21 x0) kc (ix2 r j) = ((H.LN (t0 + r.val) (o + j.val) : ℝ) : EReal) := by
  pointwise [k0_pay8]
  rw [p7 hR hC, Head.LN, if_pos (by omega), EReal.coe_sub]
  rfl

variable (hpc : ∀ r : Fin 512, pc (ix2 r 0) = ((H.PC (t0 + r.val) o : ℝ) : EReal))
include hpc

theorem p9 (r : Fin 512) (j : Fin 256) : k0_pay9 (k0_pay21 x0) (k0_pay23 x4) k0_pay24 pc kc (ix2 r j) = ((H.A (t0 + r.val) (o + j.val) : ℝ) : EReal) := by
  pointwise [k0_pay9]
  rw [Head.A, if_pos (by omega)]
  exact weight H _ _ _ _ (p6 hR hC r j) (p7 hR hC r j) (p23 hR hC r j) (before H j (fun x => k0_pay8 (k0_pay21 x0) kc (ix2 r x)) (p8 hR hC ho r) _ (hpc r))

theorem p10 (r : Fin 512) (j : Fin 256) : k0_pay10 (k0_pay21 x0) (k0_pay22 x3) (k0_pay23 x4) k0_pay24 pc kc vc (ix2 r j) = ((H.G (t0 + r.val) (o + j.val) : ℝ) : EReal) := by
  pointwise [k0_pay10]
  exact grad H _ (p9 hR hC ho hpc r j) _ _ (p22 hR hC r) (hC.v j)

variable (hgc : ∀ r : Fin 512, gc (ix2 r 0) = ((H.GC (t0 + r.val) o : ℝ) : EReal))
include hgc

theorem p11 (r : Fin 512) (j : Fin 256) : k0_pay11 (k0_pay21 x0) (k0_pay22 x3) (k0_pay23 x4) k0_pay24 pc gc kc vc (ix2 r j) = ((H.GC (t0 + r.val) (o + j.val) : ℝ) : EReal) := by
  pointwise [k0_pay11]
  exact gbefore H j (fun x => k0_pay10 (k0_pay21 x0) (k0_pay22 x3) (k0_pay23 x4) k0_pay24 pc kc vc (ix2 r x)) (p10 hR hC ho hpc r) _ (hgc r)

theorem pdz (r : Fin 512) (j : Fin 256) :
    (k0_pay10 (k0_pay21 x0) (k0_pay22 x3) (k0_pay23 x4) k0_pay24 pc kc vc (ix2 r j)
      - (k0_pay10 (k0_pay21 x0) (k0_pay22 x3) (k0_pay23 x4) k0_pay24 pc kc vc (ix2 r j) + k0_pay11 (k0_pay21 x0) (k0_pay22 x3) (k0_pay23 x4) k0_pay24 pc gc kc vc (ix2 r j))
        * Ideal.exp (k0_pay6 (k0_pay21 x0) kc (ix2 r j) - k0_pay7 (k0_pay21 x0) kc (ix2 r j)) : EReal) = ((H.DZ (t0 + r.val) (o + j.val) : ℝ) : EReal) := by
  rw [Head.DZ, if_pos (by omega)]
  exact dscore H _ _ _ _ (p10 hR hC ho hpc r j) (p11 hR hC ho hpc hgc r j) (p6 hR hC r j) (p7 hR hC r j)

end Plain

end Cert.KernelIdeal.SB
-- ==== Proof.Point.lean ====
/-
  One grid point over real inputs: the block of `dq` that it stores, and what it adds to the two accumulators.
-/
module

public import proofs.«01_k».proof.Proof.Chunk

@[expose] public section

set_option maxRecDepth 16384

noncomputable section

namespace Cert.KernelIdeal.SB

open Idealize.ShloMosaic Idealize.ShloMosaic.TcCoe Cert.KernelIdeal Cert.KernelIdeal.Gen Cert.SB

/-- A whole head's keys and values hold the head `H`. -/
structure Whole (H : Head) (x1 x2 : Vec Ideal S1x2048x128 .bf16) : Prop where
  k : ∀ (s : Fin 2048) (d : Fin 128), x1 (ix3 0 s d) = ((H.k s d : ℝ) : EReal)
  v : ∀ (s : Fin 2048) (d : Fin 128), x2 (ix3 0 s d) = ((H.v s d : ℝ) : EReal)

/-- What the 512 rows from `t0` on add to row `s` of the accumulator of `dk`. -/
def addK (H : Head) (t0 s d : ℕ) : ℝ := ∑ r : Fin 512, H.DZ (t0 + r.val) s * H.q (t0 + r.val) d
/-- What they add to row `s` of the accumulator of `dv`. -/
def addV (H : Head) (t0 s d : ℕ) : ℝ := ∑ r : Fin 512, H.A (t0 + r.val) s * H.o (t0 + r.val) d

/-- The state after the chunks before column `m`, from the accumulators `E0`, `E1`. -/
structure Inv (H : Head) (t0 : ℕ) (E0 E1 : ℕ → ℕ → ℝ) (m : ℕ) (σ : St Ideal) : Prop where
  dq : ∀ (r : Fin 512) (d : Fin 128), σ.1.1 (ix2 r d) = ((∑ s ∈ Finset.range m, H.DZ (t0 + r.val) s * H.k s d : ℝ) : EReal)
  pc : ∀ r : Fin 512, σ.1.2.1 (ix2 r 0) = ((H.PC (t0 + r.val) m : ℝ) : EReal)
  gc : ∀ r : Fin 512, σ.1.2.2 (ix2 r 0) = ((H.GC (t0 + r.val) m : ℝ) : EReal)
  d0 : ∀ (s : Fin 2048) (d : Fin 128), σ.2.1 (ix2 s d) = ((E0 s d + if s.val < m then addK H t0 s d else 0 : ℝ) : EReal)
  d1 : ∀ (s : Fin 2048) (d : Fin 128), σ.2.2 (ix2 s d) = ((E1 s d + if s.val < m then addV H t0 s d else 0 : ℝ) : EReal)

variable {H : Head} {x0 : Vec Ideal S1x512x128 .bf16} {x1 x2 : Vec Ideal S1x2048x128 .bf16} {x3 x4 : Vec Ideal S1x512x128 .f32}

theorem Whole.cols (hW : Whole H x1 x2) {o : ℕ} (ho : o + 256 ≤ 2048) : Cols H o (rows3 x1 o) (rows3 x2 o) where
  k j d := by
    have hj := j.isLt
    have e : (o + j.val) % 2048 = o + j.val := Nat.mod_eq_of_lt (by omega)
    show x1 (ix3 0 ⟨(o + j.val) % 2048, _⟩ d) = _
    rw [hW.k]; simp only [e]
  v j d := by
    have hj := j.isLt
    have e : (o + j.val) % 2048 = o + j.val := Nat.mod_eq_of_lt (by omega)
    show x2 (ix3 0 ⟨(o + j.val) % 2048, _⟩ d) = _
    rw [hW.v]; simp only [e]

/-- Rows of an accumulator replaced by themselves plus a term: the accumulator plus that term there. -/
theorem put_add (E : ℕ → ℕ → ℝ) (m : ℕ) (hm : m + 256 ≤ 2048) (a : ℕ → ℕ → ℝ) (D : Vec Ideal S2048x128 .f32) (w : Vec Ideal S256x128 .f32)
    (hD : ∀ (s : Fin 2048) (d : Fin 128), D (ix2 s d) = ((E s d + if s.val < m then a s d else 0 : ℝ) : EReal))
    (hw : ∀ (j : Fin 256) (d : Fin 128), w (ix2 j d) = ((E (m + j.val) d + a (m + j.val) d : ℝ) : EReal))
    (s : Fin 2048) (d : Fin 128) : putRows D m w (ix2 s d) = ((E s d + if s.val < m + 256 then a s d else 0 : ℝ) : EReal) := by
  by_cases h : m ≤ s.val ∧ s.val < m + 256
  · have e : putRows D m w (ix2 s d) = w (ix2 ⟨s.val - m, by omega⟩ d) := dif_pos h
    rw [e, hw, if_pos h.2]
    have e' : m + (s.val - m) = s.val := by omega
    simp only [e']
  · have e : putRows D m w (ix2 s d) = D (ix2 s d) := dif_neg h
    rw [e, hD]
    by_cases h' : s.val < m
    · rw [if_pos h', if_pos (by omega)]
    · rw [if_neg h', if_neg (by omega)]

theorem rows2_eq (E : ℕ → ℕ → ℝ) (m : ℕ) (hm : m + 256 ≤ 2048) (a : ℕ → ℕ → ℝ) (D : Vec Ideal S2048x128 .f32)
    (hD : ∀ (s : Fin 2048) (d : Fin 128), D (ix2 s d) = ((E s d + if s.val < m then a s d else 0 : ℝ) : EReal))
    (j : Fin 256) (d : Fin 128) : rows2 D m (ix2 j d) = ((E (m + j.val) d : ℝ) : EReal) := by
  have hj := j.isLt
  have e : (m + j.val) % 2048 = m + j.val := Nat.mod_eq_of_lt (by omega)
  show D (ix2 ⟨(m + j.val) % 2048, _⟩ d) = _
  rw [hD]
  simp only [e]
  rw [if_neg (by omega), add_zero]

/-- One trip at a chunk wholly to the left of the rows. -/
theorem trip_inv {t0 : ℕ} (hR : Rows H t0 x0 x3 x4) (hW : Whole H x1 x2) {E0 E1 : ℕ → ℕ → ℝ} {m : ℕ} (hm : m + 256 ≤ t0) (h2 : m + 256 ≤ 2048) {σ : St Ideal}
    (h : Inv H t0 E0 E1 m σ) : Inv H t0 E0 E1 (m + 256) (trip x0 x3 x4 (rows3 x1 m) (rows3 x2 m) m σ) where
  dq r d := by
    have hC := hW.cols h2
    unfold trip
    dsimp only
    pointwise [k0_pay30, k0_pay27]
    rw [range_chunk]
    exact accum _ _ (h.dq r d) _ _ (fun j : Fin 256 => H.DZ (t0 + r.val) (m + j.val)) (fun j => H.k (m + j.val) d)
      (pdz hR hC hm h.pc h.gc r) (fun j => by pointwise [k0_pay5]; exact hC.k j d)
  pc r := by
    have hC := hW.cols h2
    unfold trip
    dsimp only
    pointwise [k0_pay31]
    unfold Head.PC
    rw [range_chunk]
    exact rowsum _ _ (h.pc r) _ (fun j : Fin 256 => H.LN (t0 + r.val) (m + j.val)) (p8 hR hC hm r)
  gc r := by
    have hC := hW.cols h2
    unfold trip
    dsimp only
    pointwise [k0_pay32]
    unfold Head.GC
    rw [range_chunk]
    exact rowsum _ _ (h.gc r) _ (fun j : Fin 256 => H.G (t0 + r.val) (m + j.val)) (p10 hR hC hm h.pc r)
  d0 := by
    have hC := hW.cols h2
    unfold trip
    dsimp only
    refine put_add E0 m h2 (addK H t0) _ _ h.d0 fun j d => ?_
    pointwise [k0_pay28, k0_pay27]
    exact accum _ _ (rows2_eq E0 m h2 _ _ h.d0 j d) _ _ (fun r : Fin 512 => H.DZ (t0 + r.val) (m + j.val)) (fun r => H.q (t0 + r.val) d)
      (fun r => pdz hR hC hm h.pc h.gc r j) (fun r => p21 hR hC r d)
  d1 := by
    have hC := hW.cols h2
    unfold trip
    dsimp only
    refine put_add E1 m h2 (addV H t0) _ _ h.d1 fun j d => ?_
    pointwise [k0_pay29]
    exact accum _ _ (rows2_eq E1 m h2 _ _ h.d1 j d) _ _ (fun r : Fin 512 => H.A (t0 + r.val) (m + j.val)) (fun r => H.o (t0 + r.val) d)
      (fun r => p9 hR hC hm h.pc r j) (fun r => p22 hR hC r d)

/-- The state before the diagonal. -/
theorem pre_inv (i : grid0.Coords) (hR : Rows H (512 * (i 2).val) x0 x3 x4) (hW : Whole H x1 x2) {E0 E1 : ℕ → ℕ → ℝ} (D0 D1 : Vec Ideal S2048x128 .f32)
    (h0 : ∀ (s : Fin 2048) (d : Fin 128), D0 (ix2 s d) = ((E0 s d : ℝ) : EReal)) (h1 : ∀ (s : Fin 2048) (d : Fin 128), D1 (ix2 s d) = ((E1 s d : ℝ) : EReal)) :
    Inv H (512 * (i 2).val) E0 E1 (512 * (i 2).val) (pre i x0 x1 x2 x3 x4 D0 D1) := by
  have hi := i2_lt i
  have L : ∀ n, n ≤ 2 * (i 2).val → Inv H (512 * (i 2).val) E0 E1 (256 * n) (loop x0 x1 x2 x3 x4 ((k0_pay26, k0_pay25, k0_pay25), D0, D1) n) := by
    intro n
    induction n with
    | zero =>
      intro _
      refine ⟨fun r d => ?_, fun r => ?_, fun r => ?_, fun s d => ?_, fun s d => ?_⟩
      · show (k0_pay26 : FVec Ideal _ _) (ix2 r d) = _
        pointwise [k0_pay26]; simp
      · show (k0_pay25 : FVec Ideal _ _) (ix2 r 0) = _
        pointwise [k0_pay25]; simp [Head.PC]
      · show (k0_pay25 : FVec Ideal _ _) (ix2 r 0) = _
        pointwise [k0_pay25]; simp [Head.GC]
      · show D0 (ix2 s d) = _
        rw [h0, if_neg (by omega), add_zero]
      · show D1 (ix2 s d) = _
        rw [h1, if_neg (by omega), add_zero]
    | succ n ih =>
      intro hn
      exact trip_inv (m := 256 * n) hR hW (by omega) (by omega) (ih (by omega))
  have := L (2 * (i 2).val) le_rfl
  rwa [show 256 * (2 * (i 2).val) = 512 * (i 2).val by omega] at this

end Cert.KernelIdeal.SB
-- ==== Proof.Diag.lean ====
/-
  The two chunks on the diagonal over real inputs, and with them the results of one grid point.
-/
module

public import proofs.«01_k».proof.Proof.Point

@[expose] public section

set_option maxRecDepth 16384

noncomputable section

namespace Cert.KernelIdeal.SB

open Idealize.ShloMosaic Idealize.ShloMosaic.TcCoe Cert.KernelIdeal Cert.KernelIdeal.Gen Cert.SB

/-- The mask of the first diagonal chunk: columns below the row. -/
theorem mask43 (i : grid0.Coords) (r : Fin 512) (j : Fin 256) :
    k0_pay43 (w2 i) (w30 i) (ix2 r j) = if j.val < r.val then 1#1 else 0#1 := by
  have hi := i2_lt i
  have hr := r.isLt
  have hj := j.isLt
  pointwise [k0_pay43]
  have e : Scalar.subi (Scalar.muli (w2 i) 512#32) (Scalar.muli (w30 i) 256#32) = 0#32 := by
    unfold w30 w2
    generalize (i 2).val = b at hi
    interval_cases b <;> decide
  rw [e, show IntOp.addi (IntOp.addi (BitVec.ofNat 32 r.val) 0#32) 0#32 = BitVec.ofNat 32 r.val from (BitVec.add_zero _).trans (BitVec.add_zero _),
    cmp_lt (by omega) (by omega)]

/-- The mask of the second one, for the lower half of the rows. -/
theorem mask64 (i : grid0.Coords) (r : Fin 256) (j : Fin 256) :
    k0_pay64 (w2 i) (ix2 r j) = if j.val < r.val then 1#1 else 0#1 := by
  have hi := i2_lt i
  have hr := r.isLt
  have hj := j.isLt
  pointwise [k0_pay64]
  have e : Scalar.subi (Scalar.muli (w2 i) 512#32) (Scalar.muli (Scalar.addi (Scalar.muli (2#32) (w2 i)) 1#32) 256#32) = 4294967040#32 := by
    unfold w2
    generalize (i 2).val = b at hi
    interval_cases b <;> decide
  have e2 : IntOp.addi (IntOp.addi (BitVec.ofNat 32 r.val) 256#32) 4294967040#32 = BitVec.ofNat 32 r.val := by
    show BitVec.ofNat 32 r.val + 256#32 + 4294967040#32 = _
    rw [BitVec.add_assoc, show (256#32 + 4294967040#32 : BitVec 32) = 0#32 by decide, BitVec.add_zero]
  rw [e, e2, cmp_lt (by omega) (by omega)]

section A

variable {H : Head} {i : grid0.Coords} {x0 : Vec Ideal S1x512x128 .bf16} {x1 x2 : Vec Ideal S1x2048x128 .bf16} {x3 x4 : Vec Ideal S1x512x128 .f32}
  {E0 E1 : ℕ → ℕ → ℝ} {σ : St Ideal}
  (hR : Rows H (512 * (i 2).val) x0 x3 x4) (hW : Whole H x1 x2) (h : Inv H (512 * (i 2).val) E0 E1 (512 * (i 2).val) σ)
include hR hW

theorem colsA : Cols H (512 * (i 2).val) (chA i x1) (chA i x2) := hW.cols (by have := i2_lt i; omega)
theorem colsB : Cols H (512 * (i 2).val + 256) (chB i x1) (chB i x2) := hW.cols (by have := i2_lt i; omega)

theorem p41 (r : Fin 512) (j : Fin 256) : k0_pay41 (k0_pay21 x0) (chA i x1) (ix2 r j) = ((H.Z (512 * (i 2).val + r.val) (512 * (i 2).val + j.val) : ℝ) : EReal) := by
  have hC := colsA hR hW
  pointwise [k0_pay41, k0_pay39]
  exact score H hR.sc _ _ (fun d => p21 hR hC r d) (fun d => hC.k j d)

theorem p42 (r : Fin 512) (j : Fin 256) : k0_pay42 (k0_pay21 x0) (chA i x1) (ix2 r j) = ((H.SP (512 * (i 2).val + r.val) (512 * (i 2).val + j.val) : ℝ) : EReal) := by
  pointwise [k0_pay42]
  exact softplus H _ (p41 hR hW r j)

theorem p44 (r : Fin 512) (j : Fin 256) : k0_pay44 (w2 i) (k0_pay21 x0) (w30 i) (chA i x1) (ix2 r j) = ((H.LN (512 * (i 2).val + r.val) (512 * (i 2).val + j.val) : ℝ) : EReal) := by
  pointwise [k0_pay44]
  rw [mask43, sel_if, p42 hR hW, Head.LN]
  by_cases hj : j.val < r.val
  · rw [if_pos hj, if_pos (by omega), EReal.coe_sub]; rfl
  · rw [if_neg hj, if_neg (by omega)]; rfl

include h

theorem pe12 (r : Fin 512) (j : Fin 256) : e12 i x0 x1 σ (ix2 r j) = ((H.PC (512 * (i 2).val + r.val) (512 * (i 2).val + j.val + 1) : ℝ) : EReal) := by
  unfold e12
  pointwise [k0_pay45]
  exact before H j (fun x => k0_pay44 (w2 i) (k0_pay21 x0) (w30 i) (chA i x1) (ix2 r x)) (p44 hR hW r) _ (h.pc r)

theorem p46 (r : Fin 512) (j : Fin 256) :
    k0_pay46 (k0_pay23 x4) (k0_pay41 (k0_pay21 x0) (chA i x1)) (k0_pay42 (k0_pay21 x0) (chA i x1)) (k0_pay43 (w2 i) (w30 i)) (e12 i x0 x1 σ) (ix2 r j)
      = ((H.A (512 * (i 2).val + r.val) (512 * (i 2).val + j.val) : ℝ) : EReal) := by
  pointwise [k0_pay46]
  rw [mask43, sel_if, Head.A]
  by_cases hj : j.val < r.val
  · rw [if_pos hj, if_pos (by omega)]
    exact weight H _ _ _ _ (p41 hR hW r j) (p42 hR hW r j) (p23 hR (colsA hR hW) r j) (pe12 hR hW h r j)
  · rw [if_neg hj, if_neg (by omega)]; rfl

theorem p47 (r : Fin 512) (j : Fin 256) :
    k0_pay47 (k0_pay22 x3) (k0_pay23 x4) (k0_pay40 (chA i x2)) (k0_pay41 (k0_pay21 x0) (chA i x1)) (k0_pay42 (k0_pay21 x0) (chA i x1)) (k0_pay43 (w2 i) (w30 i)) (e12 i x0 x1 σ) (ix2 r j)
      = ((H.G (512 * (i 2).val + r.val) (512 * (i 2).val + j.val) : ℝ) : EReal) := by
  have hC := colsA hR hW
  pointwise [k0_pay47, k0_pay40]
  exact grad H _ (p46 hR hW h r j) _ _ (p22 hR hC r) (hC.v j)

theorem p48 (r : Fin 512) (j : Fin 256) :
    k0_pay48 (k0_pay22 x3) (k0_pay23 x4) k0_pay24 σ.1.2.2 (k0_pay40 (chA i x2)) (k0_pay41 (k0_pay21 x0) (chA i x1)) (k0_pay42 (k0_pay21 x0) (chA i x1)) (k0_pay43 (w2 i) (w30 i)) (e12 i x0 x1 σ) (ix2 r j)
      = ((H.DZ (512 * (i 2).val + r.val) (512 * (i 2).val + j.val) : ℝ) : EReal) := by
  pointwise [k0_pay48]
  rw [mask43, sel_if, Head.DZ]
  by_cases hj : j.val < r.val
  · rw [if_pos hj, if_pos (by omega)]
    exact dscore H _ _ _ _ (p47 hR hW h r j)
      (gbefore H j (fun x => k0_pay47 (k0_pay22 x3) (k0_pay23 x4) (k0_pay40 (chA i x2)) (k0_pay41 (k0_pay21 x0) (chA i x1)) (k0_pay42 (k0_pay21 x0) (chA i x1)) (k0_pay43 (w2 i) (w30 i)) (e12 i x0 x1 σ) (ix2 r x)) (p47 hR hW h r) _ (h.gc r))
      (p41 hR hW r j) (p42 hR hW r j)
  · rw [if_neg hj, if_neg (by omega)]; rfl

theorem pe13 (r : Fin 512) (d : Fin 128) : e13 i x0 x1 x2 x3 x4 σ (ix2 r d)
    = ((∑ s ∈ Finset.range (512 * (i 2).val + 256), H.DZ (512 * (i 2).val + r.val) s * H.k s d : ℝ) : EReal) := by
  have hC := colsA hR hW
  unfold e13
  pointwise [k0_pay51]
  rw [range_chunk]
  exact accum _ _ (h.dq r d) _ _ (fun j : Fin 256 => H.DZ (512 * (i 2).val + r.val) (512 * (i 2).val + j.val)) (fun j => H.k (512 * (i 2).val + j.val) d)
    (p48 hR hW h r) (fun j => by pointwise [k0_pay39]; exact hC.k j d)

theorem pe14 (r : Fin 512) : e14 i x0 x1 σ (ix2 r 0) = ((H.PC (512 * (i 2).val + r.val) (512 * (i 2).val + 256) : ℝ) : EReal) := by
  unfold e14 Head.PC
  pointwise [k0_pay52]
  rw [range_chunk]
  exact rowsum _ _ (h.pc r) _ (fun j : Fin 256 => H.LN (512 * (i 2).val + r.val) (512 * (i 2).val + j.val)) (p44 hR hW r)

theorem pe15 (r : Fin 512) : e15 i x0 x1 x2 x3 x4 σ (ix2 r 0) = ((H.GC (512 * (i 2).val + r.val) (512 * (i 2).val + 256) : ℝ) : EReal) := by
  unfold e15 Head.GC
  pointwise [k0_pay53]
  rw [range_chunk]
  exact rowsum _ _ (h.gc r) _ (fun j : Fin 256 => H.G (512 * (i 2).val + r.val) (512 * (i 2).val + j.val)) (p47 hR hW h r)

theorem pd0A (s : Fin 2048) (d : Fin 128) : d0A i x0 x1 x2 x3 x4 σ (ix2 s d)
    = ((E0 s d + if s.val < 512 * (i 2).val + 256 then addK H (512 * (i 2).val) s d else 0 : ℝ) : EReal) := by
  have hi := i2_lt i
  have hC := colsA hR hW
  unfold d0A
  refine put_add E0 _ (by omega) (addK H (512 * (i 2).val)) _ _ h.d0 (fun j d => ?_) s d
  pointwise [k0_pay49]
  exact accum _ _ (rows2_eq E0 _ (by omega) _ _ h.d0 j d) _ _ (fun r : Fin 512 => H.DZ (512 * (i 2).val + r.val) (512 * (i 2).val + j.val)) (fun r => H.q (512 * (i 2).val + r.val) d)
    (fun r => p48 hR hW h r j) (fun r => p21 hR hC r d)

theorem pd1A (s : Fin 2048) (d : Fin 128) : d1A i x0 x1 x3 x4 σ (ix2 s d)
    = ((E1 s d + if s.val < 512 * (i 2).val + 256 then addV H (512 * (i 2).val) s d else 0 : ℝ) : EReal) := by
  have hi := i2_lt i
  have hC := colsA hR hW
  unfold d1A
  refine put_add E1 _ (by omega) (addV H (512 * (i 2).val)) _ _ h.d1 (fun j d => ?_) s d
  pointwise [k0_pay50]
  exact accum _ _ (rows2_eq E1 _ (by omega) _ _ h.d1 j d) _ _ (fun r : Fin 512 => H.A (512 * (i 2).val + r.val) (512 * (i 2).val + j.val)) (fun r => H.o (512 * (i 2).val + r.val) d)
    (fun r => p46 hR hW h r j) (fun r => p22 hR hC r d)

omit h

theorem p62 (r j : Fin 256) : k0_pay62 (k0_pay21 x0) (chB i x1) (ix2 r j) = ((H.Z (512 * (i 2).val + (256 + r.val)) (512 * (i 2).val + 256 + j.val) : ℝ) : EReal) := by
  have hC := colsB hR hW
  pointwise [k0_pay62, k0_pay60, k0_pay54]
  exact score H hR.sc _ _ (fun d => p21 hR hC ⟨256 + r.val, by omega⟩ d) (fun d => hC.k j d)

theorem p63 (r j : Fin 256) : k0_pay63 (k0_pay21 x0) (chB i x1) (ix2 r j) = ((H.SP (512 * (i 2).val + (256 + r.val)) (512 * (i 2).val + 256 + j.val) : ℝ) : EReal) := by
  pointwise [k0_pay63]
  exact softplus H _ (p62 hR hW r j)

theorem p65 (r j : Fin 256) : k0_pay65 (w2 i) (k0_pay21 x0) (chB i x1) (ix2 r j) = ((H.LN (512 * (i 2).val + (256 + r.val)) (512 * (i 2).val + 256 + j.val) : ℝ) : EReal) := by
  pointwise [k0_pay65]
  rw [mask64, sel_if, p63 hR hW, Head.LN]
  by_cases hj : j.val < r.val
  · rw [if_pos hj, if_pos (by omega), EReal.coe_sub]; rfl
  · rw [if_neg hj, if_neg (by omega)]; rfl

include h

theorem p66 (r j : Fin 256) :
    k0_pay66 k0_pay24 (k0_pay56 (k0_pay23 x4)) (k0_pay58 (e14 i x0 x1 σ)) (k0_pay62 (k0_pay21 x0) (chB i x1)) (k0_pay63 (k0_pay21 x0) (chB i x1)) (k0_pay64 (w2 i))
      (k0_pay65 (w2 i) (k0_pay21 x0) (chB i x1)) (ix2 r j) = ((H.A (512 * (i 2).val + (256 + r.val)) (512 * (i 2).val + 256 + j.val) : ℝ) : EReal) := by
  pointwise [k0_pay66, k0_pay56, k0_pay58]
  rw [mask64, sel_if, Head.A]
  by_cases hj : j.val < r.val
  · rw [if_pos hj, if_pos (by omega)]
    exact weight H _ _ _ _ (p62 hR hW r j) (p63 hR hW r j) (p23 hR (colsB hR hW) ⟨256 + r.val, by omega⟩ j)
      (before H j (fun x => k0_pay65 (w2 i) (k0_pay21 x0) (chB i x1) (ix2 r x)) (p65 hR hW r) _ (pe14 hR hW h ⟨256 + r.val, by omega⟩))
  · rw [if_neg hj, if_neg (by omega)]; rfl

theorem pe28 (r j : Fin 256) : e28 i x0 x1 x2 x3 x4 σ (ix2 r j) = ((H.DZ (512 * (i 2).val + (256 + r.val)) (512 * (i 2).val + 256 + j.val) : ℝ) : EReal) := by
  have hC := colsB hR hW
  have hG : ∀ j : Fin 256, k0_pay66 k0_pay24 (k0_pay56 (k0_pay23 x4)) (k0_pay58 (e14 i x0 x1 σ)) (k0_pay62 (k0_pay21 x0) (chB i x1)) (k0_pay63 (k0_pay21 x0) (chB i x1)) (k0_pay64 (w2 i))
      (k0_pay65 (w2 i) (k0_pay21 x0) (chB i x1)) (ix2 r j) * ∑ x : Fin 128, k0_pay55 (k0_pay22 x3) (ix2 r x) * k0_pay61 (chB i x2) (ix2 j x)
      = ((H.G (512 * (i 2).val + (256 + r.val)) (512 * (i 2).val + 256 + j.val) : ℝ) : EReal) := fun j =>
    grad H _ (p66 hR hW h r j) _ _ (fun d => by pointwise [k0_pay55]; exact p22 hR hC _ d) (fun d => by pointwise [k0_pay61]; exact hC.v j d)
  unfold e28
  pointwise [k0_pay67]
  rw [mask64, sel_if, Head.DZ]
  by_cases hj : j.val < r.val
  · rw [if_pos hj, if_pos (by omega)]
    refine dscore H _ _ _ _ (hG j) (gbefore H j (fun x => _) hG _ ?_) (p62 hR hW r j) (p63 hR hW r j)
    pointwise [k0_pay59]
    exact pe15 hR hW h _
  · rw [if_neg hj, if_neg (by omega)]; rfl

end A

/-- A row's terms vanish from the diagonal on, so its sum may be cut anywhere beyond. -/
theorem range_cut0 (f : ℕ → ℝ) {n m : ℕ} (hn : n ≤ m) (h0 : ∀ s, n ≤ s → f s = 0) : ∑ s ∈ Finset.range n, f s = ∑ s ∈ Finset.range m, f s := by
  refine Finset.sum_subset (fun x hx => ?_) (fun x _ hx => h0 x ?_)
  · rw [Finset.mem_range] at hx ⊢; omega
  · rw [Finset.mem_range] at hx; omega

theorem DZ_zero (H : Head) {t s : ℕ} (h : t ≤ s) : H.DZ t s = 0 := by rw [Head.DZ, if_neg (by omega)]
theorem A_zero (H : Head) {t s : ℕ} (h : t ≤ s) : H.A t s = 0 := by rw [Head.A, if_neg (by omega)]

/-- A sum over the 512 rows whose upper half vanishes. -/
theorem lower_half (f : ℕ → ℝ) (h0 : ∀ r, r < 256 → f r = 0) : ∑ r : Fin 512, f r.val = ∑ r : Fin 256, f (256 + r.val) := by
  rw [Fin.sum_univ_eq_sum_range f 512, Fin.sum_univ_eq_sum_range (fun r => f (256 + r)) 256, show (512 : ℕ) = 256 + 256 from rfl, Finset.sum_range_add,
    Finset.sum_eq_zero (fun r hr => h0 r (Finset.mem_range.1 hr)), zero_add]

section Results

variable {H : Head} {i : grid0.Coords} {x0 : Vec Ideal S1x512x128 .bf16} {x1 x2 : Vec Ideal S1x2048x128 .bf16} {x3 x4 : Vec Ideal S1x512x128 .f32}
  {E0 E1 : ℕ → ℕ → ℝ}
  (hR : Rows H (512 * (i 2).val) x0 x3 x4) (hW : Whole H x1 x2) (D0 D1 : Vec Ideal S2048x128 .f32)
  (h0 : ∀ (s : Fin 2048) (d : Fin 128), D0 (ix2 s d) = ((E0 s d : ℝ) : EReal)) (h1 : ∀ (s : Fin 2048) (d : Fin 128), D1 (ix2 s d) = ((E1 s d : ℝ) : EReal))
include hR hW h0 h1

/-- The block of `dq` of a grid point. -/
theorem outDq_eq (r : Fin 512) (d : Fin 128) : outDq i x0 x1 x2 x3 x4 D0 D1 (ix3 0 r d) = ((H.dq (512 * (i 2).val + r.val) d : ℝ) : EReal) := by
  have hi := i2_lt i
  have hr := r.isLt
  have h := pre_inv i hR hW D0 D1 h0 h1
  unfold outDq tailDq
  pointwise [k0_pay2, k0_pay57, k0_pay60]
  have hc : (Ideal.ofBits FTy.f32 1035273459#32 : EReal) = ((H.c : ℝ) : EReal) := hR.sc
  rw [Head.dq, EReal.coe_mul, ← hc]
  congr 1
  by_cases hr2 : r.val < 256
  · rw [dif_pos hr2, pe13 hR hW h, range_cut0 _ (m := 2048) (by omega) (fun s hs => by rw [DZ_zero H (by omega), zero_mul])]
  · rw [dif_neg hr2, ← range_cut0 (fun s => H.DZ (512 * (i 2).val + r.val) s * H.k s d) (n := 512 * (i 2).val + 256 + 256) (by omega) (fun s hs => by rw [DZ_zero H (by omega), zero_mul]), range_chunk]
    have e : 256 + (r.val - 256) = r.val := by omega
    refine accum _ _ ?_ _ _ (fun j : Fin 256 => H.DZ (512 * (i 2).val + r.val) (512 * (i 2).val + 256 + j.val)) (fun j => H.k (512 * (i 2).val + 256 + j.val) d) (fun j => ?_) (fun j => (colsB hR hW).k j d)
    · rw [pe13 hR hW h]; simp only [e]
    · rw [pe28 hR hW h]; simp only [e]

/-- The accumulator of `dk` after a grid point. -/
theorem out0_eq (s : Fin 2048) (d : Fin 128) : out0 i x0 x1 x2 x3 x4 D0 D1 (ix2 s d) = ((E0 s d + addK H (512 * (i 2).val) s d : ℝ) : EReal) := by
  have hi := i2_lt i
  have h := pre_inv i hR hW D0 D1 h0 h1
  unfold out0 tail0
  rw [put_add E0 (512 * (i 2).val + 256) (by omega) (addK H (512 * (i 2).val)) _ _ (pd0A hR hW h)]
  · split_ifs with hs
    · rfl
    · have e : addK H (512 * (i 2).val) s d = 0 :=
        Finset.sum_eq_zero fun r _ => by have := r.isLt; rw [DZ_zero H (by omega), zero_mul]
      rw [e]
  · intro j d
    pointwise [k0_pay68]
    unfold addK
    rw [lower_half (fun r => H.DZ (512 * (i 2).val + r) (512 * (i 2).val + 256 + j.val) * H.q (512 * (i 2).val + r) d) (fun r hr => by rw [DZ_zero H (by omega), zero_mul])]
    exact accum _ _ (rows2_eq E0 _ (by omega) _ _ (pd0A hR hW h) j d) _ _ (fun r : Fin 256 => H.DZ (512 * (i 2).val + (256 + r.val)) (512 * (i 2).val + 256 + j.val))
      (fun r => H.q (512 * (i 2).val + (256 + r.val)) d) (fun r => pe28 hR hW h r j) (fun r => by pointwise [k0_pay54]; exact p21 hR (colsB hR hW) _ d)

/-- The accumulator of `dv` after a grid point. -/
theorem out1_eq (s : Fin 2048) (d : Fin 128) : out1 i x0 x1 x2 x3 x4 D0 D1 (ix2 s d) = ((E1 s d + addV H (512 * (i 2).val) s d : ℝ) : EReal) := by
  have hi := i2_lt i
  have h := pre_inv i hR hW D0 D1 h0 h1
  unfold out1 tail1
  rw [put_add E1 (512 * (i 2).val + 256) (by omega) (addV H (512 * (i 2).val)) _ _ (pd1A hR hW h)]
  · split_ifs with hs
    · rfl
    · have e : addV H (512 * (i 2).val) s d = 0 :=
        Finset.sum_eq_zero fun r _ => by have := r.isLt; rw [A_zero H (by omega), zero_mul]
      rw [e]
  · intro j d
    pointwise [k0_pay1, k0_pay69]
    unfold addV
    rw [lower_half (fun r => H.A (512 * (i 2).val + r) (512 * (i 2).val + 256 + j.val) * H.o (512 * (i 2).val + r) d) (fun r hr => by rw [A_zero H (by omega), zero_mul])]
    exact accum _ _ (rows2_eq E1 _ (by omega) _ _ (pd1A hR hW h) j d) _ _ (fun r : Fin 256 => H.A (512 * (i 2).val + (256 + r.val)) (512 * (i 2).val + 256 + j.val))
      (fun r => H.o (512 * (i 2).val + (256 + r.val)) d) (fun r => p66 hR hW h r j) (fun r => by pointwise [k0_pay55]; exact p22 hR (colsB hR hW) _ d)

end Results

end Cert.KernelIdeal.SB
-- ==== Proof.Fold.lean ====
/-
  The points of a head's blocks of queries in the kernel's grid: what each leaves in its output blocks and in the two
  accumulators, over what the point before left.
-/
module

public import proofs.«01_k».proof.Proof.Diag
public import Idealize.ShloMosaic.Lib.Pipeline.ValueKit

@[expose] public section

set_option maxRecDepth 16384

noncomputable section

namespace Cert.KernelIdeal.SB

open Idealize.ShloMosaic Idealize.ShloMosaic.TcCoe Cert.KernelIdeal Cert.KernelIdeal.Gen Cert.SB

variable {F : FTy → Type} [FloatOps F]

/-! ## The frame's named contents, case by case -/

section Names

variable (c : Dev nD) (i : grid0.Coords)
  (arg3 : Memref sig .tc .vmem S1x512x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x512x128 .f32) (harg6 : arg6.IsWhole)
  (arg7 : Memref sig .tc .vmem S1x512x128 .f32) (harg7 : arg7.IsWhole)
  (arg8 : Memref sig .tc .vmem S1x512x128 .bf16) (harg8 : arg8.IsWhole)
  (arg9 : Memref sig .tc .vmem S1x2048x128 .bf16) (harg9 : arg9.IsWhole)
  (arg10 : Memref sig .tc .vmem S1x2048x128 .bf16) (harg10 : arg10.IsWhole)
  (x0 : Vec F S1x512x128 .bf16) (x1 x2 : Vec F S1x2048x128 .bf16) (x3 x4 : Vec F S1x512x128 .f32) (xs0 xs1 : Vec F S2048x128 .f32)

section
variable (hc0 : cond0_0 i) (hc1 : ¬cond0_1 i)
theorem eA5 : (out0_A_5 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 ) = outDq i x0 x1 x2 x3 x4 k0_pay19 k0_pay20 := by
  unfold out0_A_5
  rw [(caseA c i arg3 harg3 arg4 harg4 arg5 harg5 arg6 harg6 arg7 harg7 arg8 harg8 arg9 harg9 arg10 harg10 scM0_0 (Memref.isWhole_whole _) scM0_1 (Memref.isWhole_whole _) x0 x1 x2 x3 x4  hc0 hc1).1]
  exact View.read_writes_full _ _ _ _ _
theorem eA0 : (sout0_A_0 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 ) = out0 i x0 x1 x2 x3 x4 k0_pay19 k0_pay20 :=
  (caseA c i arg3 harg3 arg4 harg4 arg5 harg5 arg6 harg6 arg7 harg7 arg8 harg8 arg9 harg9 arg10 harg10 scM0_0 (Memref.isWhole_whole _) scM0_1 (Memref.isWhole_whole _) x0 x1 x2 x3 x4  hc0 hc1).2.1
theorem eA1 : (sout0_A_1 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 ) = out1 i x0 x1 x2 x3 x4 k0_pay19 k0_pay20 :=
  (caseA c i arg3 harg3 arg4 harg4 arg5 harg5 arg6 harg6 arg7 harg7 arg8 harg8 arg9 harg9 arg10 harg10 scM0_0 (Memref.isWhole_whole _) scM0_1 (Memref.isWhole_whole _) x0 x1 x2 x3 x4  hc0 hc1).2.2
end

section
variable (hc0 : ¬cond0_0 i) (hc1 : ¬cond0_1 i)
theorem eB5 : (out0_B_5 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 xs0 xs1) = outDq i x0 x1 x2 x3 x4 xs0 xs1 := by
  unfold out0_B_5
  rw [(caseB c i arg3 harg3 arg4 harg4 arg5 harg5 arg6 harg6 arg7 harg7 arg8 harg8 arg9 harg9 arg10 harg10 scM0_0 (Memref.isWhole_whole _) scM0_1 (Memref.isWhole_whole _) x0 x1 x2 x3 x4 xs0 xs1 hc0 hc1).1]
  exact View.read_writes_full _ _ _ _ _
theorem eB0 : (sout0_B_0 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 xs0 xs1) = out0 i x0 x1 x2 x3 x4 xs0 xs1 :=
  (caseB c i arg3 harg3 arg4 harg4 arg5 harg5 arg6 harg6 arg7 harg7 arg8 harg8 arg9 harg9 arg10 harg10 scM0_0 (Memref.isWhole_whole _) scM0_1 (Memref.isWhole_whole _) x0 x1 x2 x3 x4 xs0 xs1 hc0 hc1).2.1
theorem eB1 : (sout0_B_1 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 xs0 xs1) = out1 i x0 x1 x2 x3 x4 xs0 xs1 :=
  (caseB c i arg3 harg3 arg4 harg4 arg5 harg5 arg6 harg6 arg7 harg7 arg8 harg8 arg9 harg9 arg10 harg10 scM0_0 (Memref.isWhole_whole _) scM0_1 (Memref.isWhole_whole _) x0 x1 x2 x3 x4 xs0 xs1 hc0 hc1).2.2
end

section
variable (hc0 : ¬cond0_0 i) (hc1 : cond0_1 i)
theorem eC5 : (out0_C_5 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 xs0 xs1) = outDq i x0 x1 x2 x3 x4 xs0 xs1 := by
  unfold out0_C_5
  rw [(caseC c i arg3 harg3 arg4 harg4 arg5 harg5 arg6 harg6 arg7 harg7 arg8 harg8 arg9 harg9 arg10 harg10 scM0_0 (Memref.isWhole_whole _) scM0_1 (Memref.isWhole_whole _) x0 x1 x2 x3 x4 xs0 xs1 hc0 hc1).1]
  exact View.read_writes_full _ _ _ _ _
theorem eC0 : (sout0_C_0 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 xs0 xs1) = out0 i x0 x1 x2 x3 x4 xs0 xs1 :=
  (caseC c i arg3 harg3 arg4 harg4 arg5 harg5 arg6 harg6 arg7 harg7 arg8 harg8 arg9 harg9 arg10 harg10 scM0_0 (Memref.isWhole_whole _) scM0_1 (Memref.isWhole_whole _) x0 x1 x2 x3 x4 xs0 xs1 hc0 hc1).2.1
theorem eC1 : (sout0_C_1 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 xs0 xs1) = out1 i x0 x1 x2 x3 x4 xs0 xs1 :=
  (caseC c i arg3 harg3 arg4 harg4 arg5 harg5 arg6 harg6 arg7 harg7 arg8 harg8 arg9 harg9 arg10 harg10 scM0_0 (Memref.isWhole_whole _) scM0_1 (Memref.isWhole_whole _) x0 x1 x2 x3 x4 xs0 xs1 hc0 hc1).2.2.1
theorem eC6 : (out0_C_6 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 xs0 xs1) = k0_pay3 (out0 i x0 x1 x2 x3 x4 xs0 xs1) := by
  unfold out0_C_6
  rw [(caseC c i arg3 harg3 arg4 harg4 arg5 harg5 arg6 harg6 arg7 harg7 arg8 harg8 arg9 harg9 arg10 harg10 scM0_0 (Memref.isWhole_whole _) scM0_1 (Memref.isWhole_whole _) x0 x1 x2 x3 x4 xs0 xs1 hc0 hc1).2.2.2.1]
  exact View.read_writes_full _ _ _ _ _
theorem eC7 : (out0_C_7 c i arg3 harg3 arg4 harg4 arg5 harg5 arg6 harg6 arg7 harg7 arg8 harg8 arg9 harg9 arg10 harg10 scM0_0 (Memref.isWhole_whole _) scM0_1 (Memref.isWhole_whole _) hc0 hc1 x0 x1 x2 x3 x4 xs0 xs1) = k0_pay4 (out1 i x0 x1 x2 x3 x4 xs0 xs1) := by
  unfold out0_C_7
  rw [(caseC c i arg3 harg3 arg4 harg4 arg5 harg5 arg6 harg6 arg7 harg7 arg8 harg8 arg9 harg9 arg10 harg10 scM0_0 (Memref.isWhole_whole _) scM0_1 (Memref.isWhole_whole _) x0 x1 x2 x3 x4 xs0 xs1 hc0 hc1).2.2.2.2]
  exact View.read_writes_full _ _ _ _ _
end

end Names

/-! ## The points -/

variable (m : (ℓ : Loc nD τ sig) → Buf (Elt F) ℓ) (c : Dev nD) (t : Fin cfg0.N)

/-- The accumulators as the point before left them, where there is one. -/
def before0 : Vec F S2048x128 .f32 := (outsAt0 m c (t.val - 1) (Nat.lt_of_le_of_lt (Nat.sub_le _ _) t.isLt)).2.2.2.1
def before1 : Vec F S2048x128 .f32 := (outsAt0 m c (t.val - 1) (Nat.lt_of_le_of_lt (Nat.sub_le _ _) t.isLt)).2.2.2.2

/-- A head's first point. -/
theorem point_first (h0 : t.val % 4 = 0) :
    (outsAt0 m c t.val t.isLt).1 = outDq (grid0.coords t) (iblk m c 0 t) (iblk m c 1 t) (iblk m c 2 t) (iblk m c 3 t) (iblk m c 4 t) k0_pay19 k0_pay20
    ∧ (outsAt0 m c t.val t.isLt).2.2.2.1 = out0 (grid0.coords t) (iblk m c 0 t) (iblk m c 1 t) (iblk m c 2 t) (iblk m c 3 t) (iblk m c 4 t) k0_pay19 k0_pay20
    ∧ (outsAt0 m c t.val t.isLt).2.2.2.2 = out1 (grid0.coords t) (iblk m c 0 t) (iblk m c 1 t) (iblk m c 2 t) (iblk m c 3 t) (iblk m c 4 t) k0_pay19 k0_pay20 := by
  have h1 : ¬t.val % 4 = 3 := by omega
  rw [outsAt0_A m c t h0 h1]
  dsimp only
  refine ⟨?_, ?_, ?_⟩
  · rw [eA5]
  · rw [eA0]
  · rw [eA1]

/-- A later point of a head: what it leaves, over what the point before left. -/
theorem point_later (h0 : ¬t.val % 4 = 0) :
    (outsAt0 m c t.val t.isLt).1 = outDq (grid0.coords t) (iblk m c 0 t) (iblk m c 1 t) (iblk m c 2 t) (iblk m c 3 t) (iblk m c 4 t) (before0 m c t) (before1 m c t)
    ∧ (outsAt0 m c t.val t.isLt).2.2.2.1 = out0 (grid0.coords t) (iblk m c 0 t) (iblk m c 1 t) (iblk m c 2 t) (iblk m c 3 t) (iblk m c 4 t) (before0 m c t) (before1 m c t)
    ∧ (outsAt0 m c t.val t.isLt).2.2.2.2 = out1 (grid0.coords t) (iblk m c 0 t) (iblk m c 1 t) (iblk m c 2 t) (iblk m c 3 t) (iblk m c 4 t) (before0 m c t) (before1 m c t) := by
  by_cases h1 : t.val % 4 = 3
  · rw [outsAt0_C m c t h0 h1]
    dsimp only
    refine ⟨?_, ?_, ?_⟩
    · rw [eC5]; rfl
    · rw [eC0]; rfl
    · rw [eC1]; rfl
  · rw [outsAt0_B m c t h0 h1]
    dsimp only
    refine ⟨?_, ?_, ?_⟩
    · rw [eB5]; rfl
    · rw [eB0]; rfl
    · rw [eB1]; rfl

/-- A head's last point stores the accumulators as the blocks of `dk` and `dv`. -/
theorem point_last (h1 : t.val % 4 = 3) :
    (outsAt0 m c t.val t.isLt).2.1 = k0_pay3 (outsAt0 m c t.val t.isLt).2.2.2.1
    ∧ (outsAt0 m c t.val t.isLt).2.2.1 = k0_pay4 (outsAt0 m c t.val t.isLt).2.2.2.2 := by
  have h0 : ¬t.val % 4 = 0 := by omega
  obtain ⟨-, e0, e1⟩ := point_later m c t h0
  rw [e0, e1, outsAt0_C m c t h0 h1]
  dsimp only
  refine ⟨?_, ?_⟩
  · rw [eC6]; rfl
  · rw [eC7]; rfl

end Cert.KernelIdeal.SB
-- ==== Proof.Heads.lean ====
/-
  One head of the kernel over real inputs: what its four points leave, given that the blocks they read hold the head's
  reals.
-/
module

public import proofs.«01_k».proof.Proof.Fold

@[expose] public section

set_option maxRecDepth 16384

noncomputable section

namespace Cert.KernelIdeal.SB

open Idealize.ShloMosaic Idealize.ShloMosaic.TcCoe Cert.KernelIdeal Cert.KernelIdeal.Gen Cert.SB

/-- The number of a point's block of queries. -/
theorem coords2 : ∀ t : Fin cfg0.N, (grid0.coords t 2).val = t.val % 4 :=
  (by decide +kernel : ∀ t : Fin grid0.N, (grid0.coords t 2).val = t.val % 4)
/-- The number of its head. -/
theorem coords1 : ∀ t : Fin cfg0.N, (grid0.coords t 1).val = t.val / 4 % 16 :=
  (by decide +kernel : ∀ t : Fin grid0.N, (grid0.coords t 1).val = t.val / 4 % 16)
/-- The number of its sequence. -/
theorem coords0 : ∀ t : Fin cfg0.N, (grid0.coords t 0).val = t.val / 4 / 16 :=
  (by decide +kernel : ∀ t : Fin grid0.N, (grid0.coords t 0).val = t.val / 4 / 16)

/-- The blocks that the points read hold the reals of the heads `Hd 0`, `Hd 1`, …, four points to a head. -/
structure Blocks (m : (ℓ : Loc nD τ sig) → Buf (Elt Ideal) ℓ) (c : Dev nD) (Hd : ℕ → Head) : Prop where
  rows : ∀ t : Fin cfg0.N, Rows (Hd (t.val / 4)) (512 * (t.val % 4)) (iblk m c 0 t) (iblk m c 3 t) (iblk m c 4 t)
  whole : ∀ t : Fin cfg0.N, Whole (Hd (t.val / 4)) (iblk m c 1 t) (iblk m c 2 t)

variable {m : (ℓ : Loc nD τ sig) → Buf (Elt Ideal) ℓ} {c : Dev nD} {Hd : ℕ → Head}

/-- What the blocks of queries before number `n` add to the accumulator of `dk`. -/
def partK (H : Head) (n s d : ℕ) : ℝ := ∑ b ∈ Finset.range n, addK H (512 * b) s d
/-- What they add to the accumulator of `dv`. -/
def partV (H : Head) (n s d : ℕ) : ℝ := ∑ b ∈ Finset.range n, addV H (512 * b) s d

theorem partK_all (H : Head) (s d : ℕ) : partK H 4 s d = ∑ t ∈ Finset.range 2048, H.DZ t s * H.q t d := by
  rw [show 2048 = 512 * 0 + 512 + 512 + 512 + 512 from rfl, range_chunk, range_chunk, range_chunk, range_chunk]
  simp [partK, addK, Finset.sum_range_succ]

theorem partV_all (H : Head) (s d : ℕ) : partV H 4 s d = ∑ t ∈ Finset.range 2048, H.A t s * H.o t d := by
  rw [show 2048 = 512 * 0 + 512 + 512 + 512 + 512 from rfl, range_chunk, range_chunk, range_chunk, range_chunk]
  simp [partV, addV, Finset.sum_range_succ]

/-- What the accumulators hold before a point's body, from its head's blocks before it. -/
structure Acc0 (H : Head) (n : ℕ) (D0 D1 : Vec Ideal S2048x128 .f32) : Prop where
  k : ∀ (s : Fin 2048) (d : Fin 128), D0 (ix2 s d) = ((partK H n s d : ℝ) : EReal)
  v : ∀ (s : Fin 2048) (d : Fin 128), D1 (ix2 s d) = ((partV H n s d : ℝ) : EReal)

theorem zeros {H : Head} : Acc0 H 0 (k0_pay19 (F := Ideal)) (k0_pay20 (F := Ideal)) := by
  constructor
  · intro s d
    pointwise [k0_pay19]
    simp [partK]
  · intro s d
    pointwise [k0_pay20]
    simp [partV]

/-- A point's body over such accumulators. -/
theorem point_acc (hB : Blocks m c Hd) (t : Fin cfg0.N) {D0 D1 : Vec Ideal S2048x128 .f32} (h : Acc0 (Hd (t.val / 4)) (t.val % 4) D0 D1) :
    (∀ (r : Fin 512) (d : Fin 128), outDq (grid0.coords t) (iblk m c 0 t) (iblk m c 1 t) (iblk m c 2 t) (iblk m c 3 t) (iblk m c 4 t) D0 D1 (ix3 0 r d) = (((Hd (t.val / 4)).dq (512 * (t.val % 4) + r.val) d : ℝ) : EReal))
    ∧ Acc0 (Hd (t.val / 4)) (t.val % 4 + 1) (out0 (grid0.coords t) (iblk m c 0 t) (iblk m c 1 t) (iblk m c 2 t) (iblk m c 3 t) (iblk m c 4 t) D0 D1)
        (out1 (grid0.coords t) (iblk m c 0 t) (iblk m c 1 t) (iblk m c 2 t) (iblk m c 3 t) (iblk m c 4 t) D0 D1) := by
  have hR := hB.rows t
  have hW := hB.whole t
  rw [← coords2 t] at hR h ⊢
  refine ⟨fun r d => outDq_eq (i := grid0.coords t) hR hW D0 D1 h.k h.v r d, ?_, ?_⟩
  · intro s d
    rw [out0_eq (i := grid0.coords t) hR hW D0 D1 h.k h.v, partK, partK, Finset.sum_range_succ]
  · intro s d
    rw [out1_eq (i := grid0.coords t) hR hW D0 D1 h.k h.v, partV, partV, Finset.sum_range_succ]

theorem acc_at (hB : Blocks m c Hd) : ∀ (n : ℕ) (hn : n < cfg0.N),
    Acc0 (Hd (n / 4)) (n % 4 + 1) (outsAt0 m c n hn).2.2.2.1 (outsAt0 m c n hn).2.2.2.2
  | 0, hn => by
    obtain ⟨-, e0, e1⟩ := point_first m c ⟨0, hn⟩ rfl
    dsimp only at e0 e1
    rw [e0, e1]
    exact (point_acc hB ⟨0, hn⟩ zeros).2
  | n + 1, hn => by
    by_cases h0 : (n + 1) % 4 = 0
    · obtain ⟨-, e0, e1⟩ := point_first m c ⟨n + 1, hn⟩ h0
      dsimp only at e0 e1
      rw [e0, e1]
      exact (point_acc hB ⟨n + 1, hn⟩ (by dsimp only; rw [h0]; exact zeros)).2
    · obtain ⟨-, e0, e1⟩ := point_later m c ⟨n + 1, hn⟩ h0
      have ih := acc_at hB n (by omega)
      rw [show n / 4 = (n + 1) / 4 by omega, show n % 4 + 1 = (n + 1) % 4 by omega] at ih
      dsimp only at e0 e1
      rw [e0, e1]
      exact (point_acc hB ⟨n + 1, hn⟩ ih).2

/-- The block of `dq` that a point leaves. -/
theorem dq_at (hB : Blocks m c Hd) (t : Fin cfg0.N) (r : Fin 512) (d : Fin 128) :
    (outsAt0 m c t.val t.isLt).1 (ix3 0 r d) = (((Hd (t.val / 4)).dq (512 * (t.val % 4) + r.val) d : ℝ) : EReal) := by
  by_cases h0 : t.val % 4 = 0
  · rw [(point_first m c t h0).1]
    exact (point_acc hB t (by rw [h0]; exact zeros)).1 r d
  · rw [(point_later m c t h0).1]
    have h := acc_at hB (t.val - 1) (Nat.lt_of_le_of_lt (Nat.sub_le _ _) t.isLt)
    rw [show (t.val - 1) / 4 = t.val / 4 by omega, show (t.val - 1) % 4 + 1 = t.val % 4 by omega] at h
    exact (point_acc hB t h).1 r d

/-- The block of `dk` that a head's last point leaves. -/
theorem dk_at (hB : Blocks m c Hd) (t : Fin cfg0.N) (h1 : t.val % 4 = 3) (s : Fin 2048) (d : Fin 128) :
    (outsAt0 m c t.val t.isLt).2.1 (ix3 0 s d) = (((Hd (t.val / 4)).dk s d : ℝ) : EReal) := by
  rw [(point_last m c t h1).1]
  have h := (acc_at hB t.val t.isLt).k s d
  rw [h1, partK_all] at h
  have hc : (Ideal.ofBits FTy.f32 1035273459#32 : EReal) = (((Hd (t.val / 4)).c : ℝ) : EReal) := (hB.rows t).sc
  pointwise [k0_pay3]
  rw [h, hc, ← EReal.coe_mul]
  rfl

/-- The block of `dv` that it leaves. -/
theorem dv_at (hB : Blocks m c Hd) (t : Fin cfg0.N) (h1 : t.val % 4 = 3) (s : Fin 2048) (d : Fin 128) :
    (outsAt0 m c t.val t.isLt).2.2.1 (ix3 0 s d) = (((Hd (t.val / 4)).dv s d : ℝ) : EReal) := by
  rw [(point_last m c t h1).2]
  have h := (acc_at hB t.val t.isLt).v s d
  rw [h1, partV_all] at h
  pointwise [k0_pay4]
  exact h

end Cert.KernelIdeal.SB
-- ==== Proof.Pre.lean ====
/-
  The precondition: that every element of both arguments is a real number.
-/
module

public import proofs.«01_k».proof.Pre_finite
public import proofs.«01_k».proof.Proof.Grad
public import Idealize.ShloMosaic.Lib.Pointwise
public import Idealize.ShloMosaic.Lib.ReduceAll
public import Idealize.ShloMosaic.Lib.Tactic

@[expose] public section

set_option maxRecDepth 16384

noncomputable section

namespace Cert.SB

open Idealize.ShloMosaic Cert.Pre_finite

/-- The side conditions of the precondition. -/
theorem preFacts : Cert.Pre_finite.Facts where
  bitsLt_bf16_f32 := by decide
  bcast_S_S2x2048x12288 := by decide
  reducesTo_S2x2048x12288_S_d0_1_2 := by decide
  h_S_ := by decide
  bcast_S_S2x2048x4096 := by decide
  reducesTo_S2x2048x4096_S_d0_1_2 := by decide

/-- A magnitude below the infinite pattern's value is a real's. -/
theorem real_of_abs_lt (x : EReal) (h : FloatOps.absf (F := Ideal) (φ := .f32) x < (Ideal.ofBits FTy.f32 2139095040#32 : EReal)) : x = ((x.toReal : ℝ) : EReal) := by
  have e : (Ideal.ofBits FTy.f32 2139095040#32 : EReal) = ⊤ := by simp [Ideal.ofBits, Ideal.ieee]
  rw [e, Ideal.absf_def] at h
  refine (EReal.coe_toReal ?_ ?_).symm
  · rintro rfl
    simp at h
  · rintro rfl
    simp at h

/-- A comparison that came out one holds. -/
theorem lt_of_flag {x y : EReal} (e : BitVec.ofBool (decide (x < y)) = 1#1) : x < y := by
  by_contra h
  simp [h] at e

instance : Subsingleton S_.Idx := ⟨fun a b => funext fun k => k.elim0⟩

theorem finite_args [Cert.Pre_finite.Facts] (P : FVec Ideal S2x2048x12288 .bf16) (O : FVec Ideal S2x2048x4096 .f32) (h : Cert.Pre_finite.fn P O = fun _ => 1#1) :
    (∀ i, (P i : EReal) = (((P i : EReal).toReal : ℝ) : EReal)) ∧ (∀ i, (O i : EReal) = (((O i : EReal).toReal : ℝ) : EReal)) := by
  have h0 := congrFun h (Shape.Idx.first Facts.h_S_)
  unfold Cert.Pre_finite.fn at h0
  obtain ⟨h1, h2⟩ := IntOp.andi_eq_one.mp h0
  constructor
  · intro i
    have e := Host.reduce_andi_all _ _ _ _ _ h1 i
    pointwise at e
    exact real_of_abs_lt _ (lt_of_flag e)
  · intro i
    have e := Host.reduce_andi_all _ _ _ _ _ h2 i
    pointwise at e
    exact real_of_abs_lt _ (lt_of_flag e)

/-- The scores' scale, the number that the word 0x3DB504F3 names. -/
def scale : ℝ := (Ideal.ofBits FTy.f32 1035273459#32 : EReal).toReal

theorem scale_coe : (Ideal.ofBits FTy.f32 1035273459#32 : EReal) = ((scale : ℝ) : EReal) := by
  refine (EReal.coe_toReal ?_ ?_).symm <;> simp [Ideal.ofBits, Ideal.ieee, -EReal.coe_mul]

/-- The heads that the arguments hold, 16 to a sequence: the projections' queries begin at column 6144, the keys at
    8192, the values at 10240, and the output's cotangent at column 2048 of its own array; a head has 128 columns. -/
def headOf (P O : ℕ → ℕ → ℕ → ℝ) (n : ℕ) : Head where
  q t d := P (n / 16) t (6144 + 128 * (n % 16) + d)
  k t d := P (n / 16) t (8192 + 128 * (n % 16) + d)
  v t d := P (n / 16) t (10240 + 128 * (n % 16) + d)
  o t d := O (n / 16) t (2048 + 128 * (n % 16) + d)
  c := scale

/-- The array holds the reals `P`. -/
def Holds {a b c : ℕ} (x : (⟨3, ![a, b, c]⟩ : Shape).Idx → EReal) (P : ℕ → ℕ → ℕ → ℝ) : Prop :=
  ∀ (i : Fin a) (j : Fin b) (k : Fin c), x (ix3 i j k) = ((P i.val j.val k.val : ℝ) : EReal)

theorem holds_of {a b c : ℕ} (x : (⟨3, ![a, b, c]⟩ : Shape).Idx → EReal) (h : ∀ i, x i = (((x i).toReal : ℝ) : EReal)) : ∃ P, Holds x P :=
  ⟨fun i j k => if hi : i < a ∧ j < b ∧ k < c then (x (ix3 ⟨i, hi.1⟩ ⟨j, hi.2.1⟩ ⟨k, hi.2.2⟩)).toReal else 0, fun i j k => by
    dsimp only
    rw [dif_pos ⟨i.isLt, j.isLt, k.isLt⟩]; exact h _⟩

end Cert.SB
-- ==== Proof.Arrays.lean ====
/-
  The arrays that the kernel leaves: the gradients of the queries, keys and values of every head.
-/
module

public import proofs.«01_k».proof.Proof.Heads
public import proofs.«01_k».proof.Proof.Pre
public import proofs.«01_k».proof.Proof.Gen.KernelIdeal.Value

@[expose] public section

set_option maxRecDepth 16384

noncomputable section

namespace Cert.KernelIdeal.SB

open Idealize.ShloMosaic Idealize.ShloMosaic.TcCoe Cert.KernelIdeal Cert.KernelIdeal.Gen Cert.SB

/-- Which block of its array each window shows at a point. -/
theorem index_all : ∀ t : Fin cfg0.N, win0_0.index t = ![t.val / 64, t.val % 4, 48 + t.val / 4 % 16] ∧ win0_1.index t = ![t.val / 64, 0, 64 + t.val / 4 % 16]
   ∧ win0_2.index t = ![t.val / 64, 0, 80 + t.val / 4 % 16] ∧ win0_3.index t = ![t.val / 64, t.val % 4, 16 + t.val / 4 % 16]
   ∧ win0_4.index t = ![t.val / 64, t.val % 4, t.val / 4 % 16] ∧ win0_5.index t = ![t.val / 64, t.val % 4, t.val / 4 % 16]
   ∧ win0_6.index t = ![t.val / 64, 0, t.val / 4 % 16] ∧ win0_7.index t = ![t.val / 64, 0, t.val / 4 % 16] :=
  (by decide +kernel : ∀ t : Fin grid0.N, win0_0.index t = ![t.val / 64, t.val % 4, 48 + t.val / 4 % 16] ∧ win0_1.index t = ![t.val / 64, 0, 64 + t.val / 4 % 16]
   ∧ win0_2.index t = ![t.val / 64, 0, 80 + t.val / 4 % 16] ∧ win0_3.index t = ![t.val / 64, t.val % 4, 16 + t.val / 4 % 16]
   ∧ win0_4.index t = ![t.val / 64, t.val % 4, t.val / 4 % 16] ∧ win0_5.index t = ![t.val / 64, t.val % 4, t.val / 4 % 16]
   ∧ win0_6.index t = ![t.val / 64, 0, t.val / 4 % 16] ∧ win0_7.index t = ![t.val / 64, 0, t.val / 4 % 16])

variable (m : (ℓ : Loc nD τ sig) → Buf (Elt Ideal) ℓ) (c : Dev nD) (t : Fin cfg0.N)

/-- The elements of window 0's block in its array. -/
theorem blk0 (r : Fin 512) (d : Fin 128) (b : Fin 2) (hb : b.val = t.val / 64) (row : Fin 2048) (hrow : row.val = 512 * (t.val % 4) + r.val)
    (col : Fin 12288) (hcol : col.val = 6144 + 128 * (t.val / 4 % 16) + d.val) :
    iblk m c 0 t (ix3 0 r d) = m ((c : Thread nD τ).loc main_arg0) (ix3 b row col) := by
  obtain ⟨e0, e1, e2, e3, e4, e5, e6, e7⟩ := index_all t
  blk_ext [iblk, V, e0]

/-- The elements of window 3's block in its array. -/
theorem blk3 (r : Fin 512) (d : Fin 128) (b : Fin 2) (hb : b.val = t.val / 64) (row : Fin 2048) (hrow : row.val = 512 * (t.val % 4) + r.val)
    (col : Fin 4096) (hcol : col.val = 2048 + 128 * (t.val / 4 % 16) + d.val) :
    iblk m c 3 t (ix3 0 r d) = m ((c : Thread nD τ).loc main_arg1) (ix3 b row col) := by
  obtain ⟨e0, e1, e2, e3, e4, e5, e6, e7⟩ := index_all t
  blk_ext [iblk, V, e3]

/-- The elements of window 1's block in its array. -/
theorem blk1 (r : Fin 2048) (d : Fin 128) (b : Fin 2) (hb : b.val = t.val / 64) (row : Fin 2048) (hrow : row.val = r.val)
    (col : Fin 12288) (hcol : col.val = 8192 + 128 * (t.val / 4 % 16) + d.val) :
    iblk m c 1 t (ix3 0 r d) = m ((c : Thread nD τ).loc main_arg0) (ix3 b row col) := by
  obtain ⟨e0, e1, e2, e3, e4, e5, e6, e7⟩ := index_all t
  blk_ext [iblk, V, e1]

/-- The elements of window 2's block in its array. -/
theorem blk2 (r : Fin 2048) (d : Fin 128) (b : Fin 2) (hb : b.val = t.val / 64) (row : Fin 2048) (hrow : row.val = r.val)
    (col : Fin 12288) (hcol : col.val = 10240 + 128 * (t.val / 4 % 16) + d.val) :
    iblk m c 2 t (ix3 0 r d) = m ((c : Thread nD τ).loc main_arg0) (ix3 b row col) := by
  obtain ⟨e0, e1, e2, e3, e4, e5, e6, e7⟩ := index_all t
  blk_ext [iblk, V, e2]

/-- The elements of window 4's block, from whatever contents. -/
theorem blk4_of (W : (b : Ref sig .tc) → Buf (Elt Ideal) ((c : Thread nD τ).loc b)) (r : Fin 512) (d : Fin 128) (b : Fin 2) (hb : b.val = t.val / 64)
    (row : Fin 2048) (hrow : row.val = 512 * (t.val % 4) + r.val) (col : Fin 2048) (hcol : col.val = 128 * (t.val / 4 % 16) + d.val) :
    ((cfg0.win 4).blk t).view.read (Elt Ideal) (W (Pipeline.arrRef spec0 4)) (ix3 0 r d) = W main_v23 (ix3 b row col) := by
  obtain ⟨e0, e1, e2, e3, e4, e5, e6, e7⟩ := index_all t
  blk_ext [e4]

set_option maxRecDepth 200000 in
theorem blk4 (r : Fin 512) (d : Fin 128) (b : Fin 2) (hb : b.val = t.val / 64)
    (row : Fin 2048) (hrow : row.val = 512 * (t.val % 4) + r.val) (col : Fin 2048) (hcol : col.val = 128 * (t.val / 4 % 16) + d.val) :
    iblk m c 4 t (ix3 0 r d) = V m c main_v23 (ix3 b row col) := by
  unfold iblk
  exact blk4_of c t (V m c) r d b hb row hrow col hcol

variable {P O : ℕ → ℕ → ℕ → ℝ}

/-- A row's sum of logarithms as the host spells it: the infinite and undefined cases do not occur. -/
theorem host_sum (H : Head) (row : Fin 2048) (Z : Fin 2048 → EReal) (hZ : ∀ s : Fin 2048, Z s = ((H.Z row.val s.val : ℝ) : EReal)) :
    ∑ x : Fin 2048, Scalar.select (IntOp.cmpi .slt (BitVec.ofNat 32 x.val) (BitVec.ofNat 32 row.val))
        (-if Z x ≠ Z x then Z x else max (Z x) 0 + Ideal.log1p (Ideal.exp (-(FloatOps.absf (F := Ideal) (φ := .f32) (Z x) : EReal)))) (0 : EReal)
      = ((H.PC row.val 2048 : ℝ) : EReal) := by
  have e : ∀ x : Fin 2048, Scalar.select (IntOp.cmpi .slt (BitVec.ofNat 32 x.val) (BitVec.ofNat 32 row.val))
        (-if Z x ≠ Z x then Z x else max (Z x) 0 + Ideal.log1p (Ideal.exp (-(FloatOps.absf (F := Ideal) (φ := .f32) (Z x) : EReal)))) (0 : EReal)
      = ((H.LN row.val x.val : ℝ) : EReal) := fun x => by
    have hx := x.isLt
    have hr := row.isLt
    have h := softplus H _ (hZ x)
    rw [cmp_lt (by omega) (by omega), sel_if, if_neg (show ¬(Z x ≠ Z x) from fun h => h rfl), Head.LN]
    split_ifs
    · rw [zero_sub] at h
      rw [zero_sub, EReal.coe_neg, ← h]
      rfl
    · exact EReal.coe_zero.symm
  rw [Finset.sum_congr rfl fun x _ => e x, coe_sum, Head.PC, Finset.sum_range]

/-- The host's operand: each row's sum of logarithms, spread over its head's columns. -/
theorem v23 (hP : Holds (m ((c : Thread nD τ).loc main_arg0)) P) (b : Fin 2) (row : Fin 2048) (h : ℕ) (hh : h < 16) (d : Fin 128) (col : Fin 2048) (hcol : col.val = 128 * h + d.val) :
    (V m c main_v23 (ix3 b row col) : EReal) = (((headOf P O (16 * b.val + h)).PC row.val 2048 : ℝ) : EReal) := by
  unfold V
  simp only [hostOps0, hostOps0_1, hostOps0_2, hostOps0_3, hostOps0_4, List.flatten_cons, List.flatten_nil, List.append_nil, List.cons_append, List.nil_append]
  entry_read
  simp only [StableHlo.TRef.ofBuf_toBuf]
  simp only [StableHlo.TRef.ofBuf, StableHlo.TRef.toBuf, cast_eq]
  pointwise
  refine host_sum (headOf P O (16 * b.val + h)) row _ fun s => ?_
  have e1 : (16 * b.val + h) / 16 = b.val := by omega
  have e2 : (16 * b.val + h) % 16 = h := by omega
  have e3 : col.val / 128 * 128 = 128 * h := by omega
  refine score (headOf P O (16 * b.val + h)) scale_coe _ _ (fun x => (hP _ _ _).trans ?_) (fun x => (hP _ _ _).trans ?_)
  · simp only [headOf, e1, e2, e3, add_assoc]
  · simp only [headOf, e1, e2, e3, add_assoc]

/-- An index whose first coordinate has one value. -/
theorem ix3_eta1 {a b : ℕ} (x : (⟨3, ![1, a, b]⟩ : Shape).Idx) : x = ix3 (0 : Fin 1) (x 1) (x 2) := by
  funext k
  match k with
  | 0 => exact Subsingleton.elim (α := Fin 1) _ _
  | 1 => rfl
  | 2 => rfl

/-- Two gradients agree where their coordinates do. -/
theorem coe_at (f : Head → ℕ → ℕ → ℝ) {P O : ℕ → ℕ → ℕ → ℝ} {n n' a a' b b' : ℕ} (hn : n = n') (ha : a = a') (hb : b = b') :
    ((f (headOf P O n) a b : ℝ) : EReal) = ((f (headOf P O n') a' b' : ℝ) : EReal) := by
  subst hn ha hb; rfl

variable (hP : Holds (m ((c : Thread nD τ).loc main_arg0)) P) (hO : Holds (m ((c : Thread nD τ).loc main_arg1)) O)
include hP hO

/-- Every block that the kernel reads holds its head's reals. -/
theorem blocks : Blocks m c (headOf P O) := by
  refine ⟨fun t => ⟨scale_coe, fun r d => ?_, fun r d => ?_, fun r d => ?_⟩, fun t => ⟨fun s d => ?_, fun s d => ?_⟩⟩ <;>
    have ht : t.val < 128 := t.isLt <;> have hd := d.isLt
  · exact (blk0 m c t r d ⟨t.val / 64, by omega⟩ rfl ⟨512 * (t.val % 4) + r.val, by omega⟩ rfl ⟨6144 + 128 * (t.val / 4 % 16) + d.val, by omega⟩ rfl).trans
      ((hP _ _ _).trans (by simp only [headOf, Nat.div_div_eq_div_mul]))
  · exact (blk3 m c t r d ⟨t.val / 64, by omega⟩ rfl ⟨512 * (t.val % 4) + r.val, by omega⟩ rfl ⟨2048 + 128 * (t.val / 4 % 16) + d.val, by omega⟩ rfl).trans
      ((hO _ _ _).trans (by simp only [headOf, Nat.div_div_eq_div_mul]))
  · refine (blk4 m c t r d ⟨t.val / 64, by omega⟩ rfl ⟨512 * (t.val % 4) + r.val, by omega⟩ rfl ⟨128 * (t.val / 4 % 16) + d.val, by omega⟩ rfl).trans
      ((v23 (O := O) m c hP _ _ (t.val / 4 % 16) (by omega) d _ rfl).trans ?_)
    rw [show 16 * (t.val / 64) + t.val / 4 % 16 = t.val / 4 by omega]
  · exact (blk1 m c t s d ⟨t.val / 64, by omega⟩ rfl s rfl ⟨8192 + 128 * (t.val / 4 % 16) + d.val, by omega⟩ rfl).trans
      ((hP _ _ _).trans (by simp only [headOf, Nat.div_div_eq_div_mul]))
  · exact (blk2 m c t s d ⟨t.val / 64, by omega⟩ rfl s rfl ⟨10240 + 128 * (t.val / 4 % 16) + d.val, by omega⟩ rfl).trans
      ((hP _ _ _).trans (by simp only [headOf, Nat.div_div_eq_div_mul]))

/-- The array of the queries' gradients. -/
theorem arr_dq : (dats m 0 c).arrAt 5 cfg0.N = fun i => (((headOf P O (16 * (i 0).val + (i 2).val / 128)).dq (i 1).val ((i 2).val % 128) : ℝ) : EReal) := by
  have hB := blocks m c hP hO
  refine (dats m 0 c).arrAt_eq_of_covers 5 _ (by decide +kernel) fun t hf y => ?_
  obtain ⟨e0, e1, e2, e3, e4, e5, e6, e7⟩ := index_all t
  have ht : t.val < 128 := t.isLt
  have key : ∀ x : S1x512x128.Idx, (outsAt0 m c t.val t.isLt).1 x = (((headOf P O (t.val / 4)).dq (512 * (t.val % 4) + (x 1).val) (x 2).val : ℝ) : EReal) := fun x => by
    rw [← dq_at hB t (x 1) (x 2)]
    exact congrArg (outsAt0 m c t.val t.isLt).1 (ix3_eta1 x)
  rw [after0_5]
  refine (key _).trans ?_
  have h2 : (y 2).val < 128 := ((cfg0.win 5).xinj (cfg0.grid.coords t) y 2).isLt
  have c1 : ((cfg0.win 5).xinj (cfg0.grid.coords t) y 1).val = (y 1).val := rfl
  have c2 : ((cfg0.win 5).xinj (cfg0.grid.coords t) y 2).val = (y 2).val := rfl
  blk_simp [e5]
  exact coe_at Head.dq (by omega) (by omega) (by omega)

/-- The array of the keys' gradients. -/
theorem arr_dk : (dats m 0 c).arrAt 6 cfg0.N = fun i => (((headOf P O (16 * (i 0).val + (i 2).val / 128)).dk (i 1).val ((i 2).val % 128) : ℝ) : EReal) := by
  have hB := blocks m c hP hO
  refine (dats m 0 c).arrAt_eq_of_covers 6 _ (by decide +kernel) fun t hf y => ?_
  obtain ⟨e0, e1, e2, e3, e4, e5, e6, e7⟩ := index_all t
  have ht : t.val < 128 := t.isLt
  have h3 : t.val % 4 = 3 := (flush0_6 t).mp hf
  have key : ∀ x : S1x2048x128.Idx, (outsAt0 m c t.val t.isLt).2.1 x = (((headOf P O (t.val / 4)).dk ((x 1).val) (x 2).val : ℝ) : EReal) := fun x => by
    rw [← dk_at hB t h3 (x 1) (x 2)]
    exact congrArg (outsAt0 m c t.val t.isLt).2.1 (ix3_eta1 x)
  rw [after0_6]
  refine (key _).trans ?_
  have h2 : (y 2).val < 128 := ((cfg0.win 6).xinj (cfg0.grid.coords t) y 2).isLt
  have c1 : ((cfg0.win 6).xinj (cfg0.grid.coords t) y 1).val = (y 1).val := rfl
  have c2 : ((cfg0.win 6).xinj (cfg0.grid.coords t) y 2).val = (y 2).val := rfl
  blk_simp [e6]
  exact coe_at Head.dk (by omega) (by omega) (by omega)

/-- The array of the values' gradients. -/
theorem arr_dv : (dats m 0 c).arrAt 7 cfg0.N = fun i => (((headOf P O (16 * (i 0).val + (i 2).val / 128)).dv (i 1).val ((i 2).val % 128) : ℝ) : EReal) := by
  have hB := blocks m c hP hO
  refine (dats m 0 c).arrAt_eq_of_covers 7 _ (by decide +kernel) fun t hf y => ?_
  obtain ⟨e0, e1, e2, e3, e4, e5, e6, e7⟩ := index_all t
  have ht : t.val < 128 := t.isLt
  have h3 : t.val % 4 = 3 := (flush0_7 t).mp hf
  have key : ∀ x : S1x2048x128.Idx, (outsAt0 m c t.val t.isLt).2.2.1 x = (((headOf P O (t.val / 4)).dv ((x 1).val) (x 2).val : ℝ) : EReal) := fun x => by
    rw [← dv_at hB t h3 (x 1) (x 2)]
    exact congrArg (outsAt0 m c t.val t.isLt).2.2.1 (ix3_eta1 x)
  rw [after0_7]
  refine (key _).trans ?_
  have h2 : (y 2).val < 128 := ((cfg0.win 7).xinj (cfg0.grid.coords t) y 2).isLt
  have c1 : ((cfg0.win 7).xinj (cfg0.grid.coords t) y 1).val = (y 1).val := rfl
  have c2 : ((cfg0.win 7).xinj (cfg0.grid.coords t) y 2).val = (y 2).val := rfl
  blk_simp [e7]
  exact coe_at Head.dv (by omega) (by omega) (by omega)

end Cert.KernelIdeal.SB
-- ==== Proof.Window.lean ====
/-
  A running sum along the last axis of a four-axis array, as the host writes it: a window sum whose padding is zero.
-/
module

public import Idealize.ShloMosaic.Lib.Pointwise
public import Idealize.ShloMosaic.PureOps.Ideal.Laws

@[expose] public section

set_option maxRecDepth 16384

noncomputable section

namespace Cert.SB

open Idealize.ShloMosaic

theorem foldl_sum {ι : Type} (l : List ι) (g : ι → EReal) (v : EReal) : l.foldl (fun r k => r + g k) v = v + (l.map g).sum := by
  induction l generalizing v with
  | nil => simp
  | cons a l ih => rw [List.foldl_cons, ih, List.map_cons, List.sum_cons, add_assoc]

/-- An index whose first three coordinates have one value. -/
theorem ix4_eta {n : ℕ} (x : (⟨4, ![1, 1, 1, n]⟩ : Shape).Idx) : x = ix4 (0 : Fin 1) (0 : Fin 1) (0 : Fin 1) (x 3) := by
  funext k
  match k with
  | 0 => exact Subsingleton.elim (α := Fin 1) _ _
  | 1 => exact Subsingleton.elim (α := Fin 1) _ _
  | 2 => exact Subsingleton.elim (α := Fin 1) _ _
  | 3 => rfl

/-- A window sum along the last axis. -/
theorem window_sum {A B R n l h' : ℕ} (x : FVec Ideal (⟨4, ![A, B, R, n]⟩ : Shape) .f32) (init : (⟨0, ![]⟩ : Shape).Idx → Ideal .f32)
    (hz : ∀ i, (init i : EReal) = 0) (h : (⟨4, ![A, B, R, n]⟩ : Shape).ReduceWindows ![1, 1, 1, n] ![1, 1, 1, 1] ![0, 0, 0, l] ![0, 0, 0, h'] (⟨4, ![A, B, R, n]⟩ : Shape)) (hu)
    (a : Fin A) (b : Fin B) (r : Fin R) (j : Fin n) :
    (Host.reduceWindowAdd (F := Ideal) ![1, 1, 1, n] ![1, 1, 1, 1] ![0, 0, 0, l] ![0, 0, 0, h'] x init h hu (ix4 a b r j) : EReal)
      = ∑ w : Fin n, if hw : l ≤ j.val + w.val ∧ j.val + w.val - l < n then (x (ix4 a b r ⟨j.val + w.val - l, hw.2⟩) : EReal) else 0 := by
  show (Host.reduceWindow (fun p q : EReal => p + q) ![1, 1, 1, n] ![1, 1, 1, 1] ![0, 0, 0, l] ![0, 0, 0, h'] x _ h hu (ix4 a b r j) : EReal) = _
  unfold Host.reduceWindow
  dsimp only
  rw [foldl_sum, hz, zero_add, ← Fin.sum_univ_def]
  have hb : Function.Bijective fun y : (⟨4, ![1, 1, 1, n]⟩ : Shape).Idx => (y 3 : Fin n) :=
    ⟨fun y z e => (ix4_eta y).trans ((congrArg (fun k : Fin n => ix4 (0 : Fin 1) (0 : Fin 1) (0 : Fin 1) k) e).trans (ix4_eta z).symm),
      fun k => ⟨ix4 0 0 0 k, rfl⟩⟩
  refine Fintype.sum_bijective (fun i => ((⟨4, ![1, 1, 1, n]⟩ : Shape).rowMajor.symm i 3 : Fin n)) (hb.comp (Equiv.bijective _)) _ _ fun i => ?_
  have h0 : ((⟨4, ![1, 1, 1, n]⟩ : Shape).rowMajor.symm i 0).val = 0 := Nat.lt_one_iff.mp ((⟨4, ![1, 1, 1, n]⟩ : Shape).rowMajor.symm i 0).isLt
  have h1 : ((⟨4, ![1, 1, 1, n]⟩ : Shape).rowMajor.symm i 1).val = 0 := Nat.lt_one_iff.mp ((⟨4, ![1, 1, 1, n]⟩ : Shape).rowMajor.symm i 1).isLt
  have h2 : ((⟨4, ![1, 1, 1, n]⟩ : Shape).rowMajor.symm i 2).val = 0 := Nat.lt_one_iff.mp ((⟨4, ![1, 1, 1, n]⟩ : Shape).rowMajor.symm i 2).isLt
  split
  · next hin =>
    have h3 := hin 3
    simp only [ix4_3, Fin.cast_eq_self, Matrix.cons_val, mul_one] at h3
    rw [dif_pos h3]
    refine congrArg x (funext fun k => Fin.ext ?_)
    match k with
    | 0 => simp [h0]
    | 1 => simp [h1]
    | 2 => simp [h2]
    | 3 => simp
  · next hin =>
    rw [dif_neg fun h3 => hin fun k => ?_]
    match k with
    | 0 => simp [h0]
    | 1 => simp [h1]
    | 2 => simp [h2]
    | 3 => simpa using h3

end Cert.SB
-- ==== Proof.Ref.lean ====
/-
  What the reference computes over real inputs: each array of the derivative, stage by stage, holds the reals that
  `Cert.SB.Head` names.
-/
module

public import proofs.«01_k».proof.Proof.Gen.ReferenceIdeal.Run
public import proofs.«01_k».proof.Proof.Chunk
public import proofs.«01_k».proof.Proof.Pre
public import proofs.«01_k».proof.Proof.Window

@[expose] public section

set_option maxRecDepth 16384

noncomputable section

namespace Cert.ReferenceIdeal.SB

open Idealize.ShloMosaic Idealize.ShloMosaic.TcCoe Cert.ReferenceIdeal Cert.ReferenceIdeal.Gen Cert.SB
open Cert.KernelIdeal.SB (cmp_lt sel_if score)

variable (a0 : FVec Ideal S2x2048x12288 .bf16) (a1 : FVec Ideal S2x2048x4096 .f32)

/-! ## The stages -/

/-- Queries, keys, values, by sequence, row, head and lane. -/
def rQ : FVec Ideal S2x2048x16x128 .f32 := shapeCast _ (extf .f32 (extractStridedSlice S2x2048x2048 ![0, 0, 6144] a0 slices_S2x2048x12288_S2x2048x2048_0_0_6144) bitsLt_bf16_f32) shapeCasts_S2x2048x2048_S2x2048x16x128
def rK : FVec Ideal S2x2048x16x128 .f32 := shapeCast _ (extf .f32 (extractStridedSlice S2x2048x2048 ![0, 0, 8192] a0 slices_S2x2048x12288_S2x2048x2048_0_0_8192) bitsLt_bf16_f32) shapeCasts_S2x2048x2048_S2x2048x16x128
def rV : FVec Ideal S2x2048x16x128 .f32 := shapeCast _ (extf .f32 (extractStridedSlice S2x2048x2048 ![0, 0, 10240] a0 slices_S2x2048x12288_S2x2048x2048_0_0_10240) bitsLt_bf16_f32) shapeCasts_S2x2048x2048_S2x2048x16x128
/-- The output's cotangent, by sequence, head, lane and row. -/
def rO : FVec Ideal S2x16x128x2048 .f32 := transpose S2x16x128x2048 [0, 2, 3, 1] (shapeCast _ (extractStridedSlice S2x2048x2048 ![0, 0, 2048] a1 slices_S2x2048x4096_S2x2048x2048_0_0_2048) shapeCasts_S2x2048x2048_S2x2048x16x128) transposes_S2x2048x16x128_S2x16x128x2048_0_2_3_1
/-- The strict lower triangle. -/
def rM : IVec S2x16x2048x2048 1 := broadcastInDim S2x16x2048x2048 ![2, 3] bcast_S2048x2048_S2x16x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
/-- Zeros, spelt in two ways, the scale, and infinities. -/
def r0 : FVec Ideal S2x16x2048x2048 .f32 := broadcastInDim S2x16x2048x2048 ![] bcast_S_S2x16x2048x2048 (constant S_ .f32 0x00000000#32)
def r0' : FVec Ideal S2x16x2048x2048 .f32 := broadcastInDim S2x16x2048x2048 ![] bcast_S_S2x16x2048x2048 (id (constant S_ .f32 0x00000000#32))
def rc : FVec Ideal S2x16x2048x2048 .f32 := broadcastInDim S2x16x2048x2048 ![] bcast_S_S2x16x2048x2048 (constant S_ .f32 0x3DB504F3#32)
def rInf : FVec Ideal S2x16x2048x2048 .f32 := broadcastInDim S2x16x2048x2048 ![] bcast_S_S2x16x2048x2048 (constant S_ .f32 0x7F800000#32)
def rIni : FVec Ideal S_ .f32 := broadcastInDim S_ ![] bcast_S_S_ (constant S_ .f32 0x00000000#32)
/-- The scores. -/
def rZ : FVec Ideal S2x16x2048x2048 .f32 := mulf (Host.dotGeneral dot_S2x2048x16x128_S2x2048x16x128_S2x16x2048x2048_3_3_1_1_02_02 none (rQ a0) (rK a0)) rc
/-- Softplus as the host spells it, and its derivative's factor. -/
def rSoft (z : FVec Ideal S2x16x2048x2048 .f32) : FVec Ideal S2x16x2048x2048 .f32 :=
  select (cmpf .une (subf z r0) (subf z r0)) (addf z r0) (addf (maximumf z r0) (Host.log1p (Host.exp (Host.negf (Host.absf (subf z r0))))))
def rSig (z : FVec Ideal S2x16x2048x2048 .f32) : FVec Ideal S2x16x2048x2048 .f32 :=
  Host.exp (subf (select (cmpf .oeq z rInf) r0 z) (select (cmpf .oeq (rSoft z) rInf) r0 (rSoft z)))
/-- The masked logarithms, the weights before the mask, the weights' cotangents times the weights, the scores' cotangents. -/
def rL : FVec Ideal S2x16x2048x2048 .f32 := select rM (Host.negf (rSoft (rZ a0))) r0'
def rE : FVec Ideal S2x16x2048x2048 .f32 := Host.exp (addf (Host.negf (rSoft (Host.negf (rZ a0)))) (subf (Host.reduceWindowAdd ![1, 1, 1, 2048] ![1, 1, 1, 1] ![0, 0, 0, 0] ![0, 0, 0, 2047] (rL a0) rIni reduceWindows_S2x16x2048x2048_S2x16x2048x2048_w1s1p0_0_w1s1p0_0_w1s1p0_0_w2048s1p0_2047 h_S_) (rL a0)))
def rA : FVec Ideal S2x16x2048x2048 .f32 := select rM (rE a0) r0'
def rG : FVec Ideal S2x16x2048x2048 .f32 := mulf (select rM (Host.dotGeneral dot_S2x16x128x2048_S2x2048x16x128_S2x16x2048x2048_2_3_3_1_01_02 none (rO a1) (rV a0)) r0) (rE a0)
def rDZ : FVec Ideal S2x16x2048x2048 .f32 := mulf (addf (Host.negf (mulf (Host.negf (rG a0 a1)) (rSig (Host.negf (rZ a0))))) (mulf (Host.negf (select rM (addf (Host.negf (rG a0 a1)) (Host.reduceWindowAdd ![1, 1, 1, 2048] ![1, 1, 1, 1] ![0, 0, 0, 2047] ![0, 0, 0, 0] (rG a0 a1) rIni reduceWindows_S2x16x2048x2048_S2x16x2048x2048_w1s1p0_0_w1s1p0_0_w1s1p0_0_w2048s1p2047_0 h_S_)) r0)) (rSig (rZ a0)))) rc
/-- The three gradients. -/
def rDq : FVec Ideal S2x2048x2048 .bf16 := truncf .bf16 (shapeCast _ (transpose S2x2048x16x128 [0, 2, 1, 3] (Host.dotGeneral dot_S2x16x2048x2048_S2x2048x16x128_S2x16x2048x128_3_1_2_3_01_02 none (rDZ a0 a1) (rK a0)) transposes_S2x16x2048x128_S2x2048x16x128_0_2_1_3) shapeCasts_S2x2048x16x128_S2x2048x2048) bitsLt_bf16_f32
def rDk : FVec Ideal S2x2048x2048 .bf16 := truncf .bf16 (shapeCast _ (transpose S2x2048x16x128 [0, 2, 1, 3] (Host.dotGeneral dot_S2x16x2048x2048_S2x2048x16x128_S2x16x2048x128_2_1_3_3_01_02 none (rDZ a0 a1) (rQ a0)) transposes_S2x16x2048x128_S2x2048x16x128_0_2_1_3) shapeCasts_S2x2048x16x128_S2x2048x2048) bitsLt_bf16_f32
def rDv : FVec Ideal S2x2048x2048 .bf16 := truncf .bf16 (shapeCast _ (transpose S2x2048x16x128 [0, 3, 1, 2] (Host.dotGeneral dot_S2x16x128x2048_S2x16x2048x2048_S2x16x128x2048_3_2_2_3_01_01 none (rO a1) (rA a0)) transposes_S2x16x128x2048_S2x2048x16x128_0_3_1_2) shapeCasts_S2x2048x16x128_S2x2048x2048) bitsLt_bf16_f32

/-- The reference's results are these stages. -/
theorem res_dq (m : (ℓ : Loc nD τ sig) → Buf (Elt Ideal) ℓ) (c : Dev nD) :
    Cert.ReferenceIdeal.Value.res_out0 m c = rDq (m ((c.tc : Thread nD τ).loc main_arg0)) (m ((c.tc : Thread nD τ).loc main_arg1)) := rfl
theorem res_dk (m : (ℓ : Loc nD τ sig) → Buf (Elt Ideal) ℓ) (c : Dev nD) :
    Cert.ReferenceIdeal.Value.res_out1 m c = rDk (m ((c.tc : Thread nD τ).loc main_arg0)) (m ((c.tc : Thread nD τ).loc main_arg1)) := rfl
theorem res_dv (m : (ℓ : Loc nD τ sig) → Buf (Elt Ideal) ℓ) (c : Dev nD) :
    Cert.ReferenceIdeal.Value.res_out2 m c = rDv (m ((c.tc : Thread nD τ).loc main_arg0)) (m ((c.tc : Thread nD τ).loc main_arg1)) := rfl

/-! ## Softplus and running sums over the reals -/

/-- Softplus of a real. -/
def sp (z : ℝ) : ℝ := max z 0 + Real.log (1 + Real.exp (0 - max z (-z)))

theorem sp_neg (z : ℝ) : sp (-z) = sp z - z := by
  unfold sp
  rw [neg_neg, max_comm (-z) z]
  rcases le_total z 0 with h | h
  · rw [max_eq_right h, max_eq_left (neg_nonneg.2 h)]; ring
  · rw [max_eq_left h, max_eq_right (neg_nonpos.2 h)]; ring

theorem sp_exp (z : ℝ) : Real.exp (sp z) = 1 + Real.exp z := by
  unfold sp
  rw [Real.exp_add, Real.exp_log (by positivity), mul_add, mul_one, ← Real.exp_add]
  rcases le_total z 0 with h | h
  · rw [max_eq_right h, max_eq_right (by linarith)]; simp
  · rw [max_eq_left h, max_eq_left (by linarith)]; rw [show z + (0 - z) = 0 by ring, Real.exp_zero, add_comm]

/-- One minus a sigmoid. -/
theorem sig_neg (z : ℝ) : Real.exp (-z - sp (-z)) = 1 - Real.exp (z - sp z) := by
  have h := sp_exp z
  have hp : 0 < 1 + Real.exp z := by positivity
  rw [sp_neg, show -z - (sp z - z) = -sp z by ring, Real.exp_neg, Real.exp_sub, h]
  field_simp
  ring

/-- The terms from `j` on. -/
theorem sum_from (f : ℕ → ℝ) (j n : ℕ) (hj : j ≤ n) :
    ∑ w : Fin n, (if j + w.val < n then f (j + w.val) else 0) = ∑ s ∈ Finset.range n, f s - ∑ s ∈ Finset.range j, f s := by
  obtain ⟨k, rfl⟩ := Nat.exists_eq_add_of_le hj
  rw [Fin.sum_univ_eq_sum_range (fun w => if j + w < j + k then f (j + w) else 0) (j + k), Finset.sum_range_add f, add_sub_cancel_left, ← Finset.sum_filter]
  refine Finset.sum_congr ?_ fun _ _ => rfl
  ext x
  simp only [Finset.mem_filter, Finset.mem_range]
  omega

/-- The terms up to and with `j`. -/
theorem sum_upto (f : ℕ → ℝ) (j l : ℕ) (hj : j ≤ l) :
    ∑ w : Fin (l + 1), (if l ≤ j + w.val then f (j + w.val - l) else 0) = ∑ s ∈ Finset.range (j + 1), f s := by
  obtain ⟨k, rfl⟩ := Nat.exists_eq_add_of_le hj
  rw [Fin.sum_univ_eq_sum_range (fun w => if j + k ≤ j + w then f (j + w - (j + k)) else 0) (j + k + 1), show j + k + 1 = k + (j + 1) by omega,
    Finset.sum_range_add, Finset.sum_eq_zero, zero_add]
  · refine Finset.sum_congr rfl fun x _ => ?_
    rw [if_pos (by omega)]
    congr 1
    omega
  · intro x hx
    rw [Finset.mem_range] at hx
    rw [if_neg (by omega)]

/-! ## What the stages hold -/

variable {a0 a1} {P O : ℕ → ℕ → ℕ → ℝ}

theorem rM_at (b : Fin 2) (h : Fin 16) (t s : Fin 2048) : rM (ix4 b h t s) = if s.val < t.val then 1#1 else 0#1 := by
  pointwise [rM]
  exact cmp_lt (by omega) (by omega)

theorem r0'_at (b : Fin 2) (h : Fin 16) (t s : Fin 2048) : (r0' (ix4 b h t s) : EReal) = 0 := by
  simp only [r0', id]
  pointwise

theorem rIni_at (i : S_.Idx) : (rIni i : EReal) = 0 := by
  pointwise [rIni]

theorem rSoft_at (z : FVec Ideal S2x16x2048x2048 .f32) (b : Fin 2) (h : Fin 16) (t s : Fin 2048) (x : ℝ) (hz : (z (ix4 b h t s) : EReal) = ((x : ℝ) : EReal)) :
    (rSoft z (ix4 b h t s) : EReal) = ((sp x : ℝ) : EReal) := by
  pointwise [rSoft, r0]
  rw [if_neg fun h => h rfl, hz, coe_abs, ← EReal.coe_zero, coe_max, ← EReal.coe_neg]
  refine (congrArg (fun y : EReal => ((max x 0 : ℝ) : EReal) + y) (coe_log1p _)).trans ?_
  rw [← EReal.coe_add, ← zero_sub]
  rfl

theorem rSig_at (z : FVec Ideal S2x16x2048x2048 .f32) (b : Fin 2) (h : Fin 16) (t s : Fin 2048) (x : ℝ) (hz : (z (ix4 b h t s) : EReal) = ((x : ℝ) : EReal)) :
    (rSig z (ix4 b h t s) : EReal) = ((Real.exp (x - sp x) : ℝ) : EReal) := by
  have e := rSoft_at z b h t s x hz
  have ht : (Ideal.ofBits FTy.f32 2139095040#32 : EReal) = ⊤ := by simp [Ideal.ofBits, Ideal.ieee]
  pointwise [rSig, r0, rInf]
  rw [e, hz, ht, if_neg (EReal.coe_ne_top _), if_neg (EReal.coe_ne_top _), ← EReal.coe_sub, Ideal.exp_coe]

section

variable (hP : Holds a0 P) (b : Fin 2) (h : Fin 16)
include hP

theorem rQ_at (t : Fin 2048) (d : Fin 128) : (rQ a0 (ix4 b t h d) : EReal) = (((headOf P O (16 * b.val + h.val)).q t.val d.val : ℝ) : EReal) := by
  pointwise [rQ]
  rw [hP, headOf, show (16 * b.val + h.val) / 16 = b.val by omega, show (16 * b.val + h.val) % 16 = h.val by omega]
  simp only [mul_comm h.val, add_assoc]

theorem rK_at (t : Fin 2048) (d : Fin 128) : (rK a0 (ix4 b t h d) : EReal) = (((headOf P O (16 * b.val + h.val)).k t.val d.val : ℝ) : EReal) := by
  pointwise [rK]
  rw [hP, headOf, show (16 * b.val + h.val) / 16 = b.val by omega, show (16 * b.val + h.val) % 16 = h.val by omega]
  simp only [mul_comm h.val, add_assoc]

theorem rV_at (t : Fin 2048) (d : Fin 128) : (rV a0 (ix4 b t h d) : EReal) = (((headOf P O (16 * b.val + h.val)).v t.val d.val : ℝ) : EReal) := by
  pointwise [rV]
  rw [hP, headOf, show (16 * b.val + h.val) / 16 = b.val by omega, show (16 * b.val + h.val) % 16 = h.val by omega]
  simp only [mul_comm h.val, add_assoc]

theorem rZ_at (t s : Fin 2048) : (rZ a0 (ix4 b h t s) : EReal) = (((headOf P O (16 * b.val + h.val)).Z t.val s.val : ℝ) : EReal) := by
  pointwise [rZ, rc]
  exact score (headOf P O (16 * b.val + h.val)) scale_coe _ _ (rQ_at hP b h t) (rK_at hP b h s)

theorem rL_at (t s : Fin 2048) : (rL a0 (ix4 b h t s) : EReal) = (((headOf P O (16 * b.val + h.val)).LN t.val s.val : ℝ) : EReal) := by
  have e := rSoft_at (rZ a0) b h t s _ (rZ_at (O := O) hP b h t s)
  have e0 := r0'_at b h t s
  simp only [rL, select]
  rw [rM_at, sel_if, e0, Head.LN]
  split_ifs
  · rw [zero_sub, EReal.coe_neg]
    exact congrArg (fun y : EReal => -y) e
  · exact EReal.coe_zero.symm

theorem rNegZ_at (t s : Fin 2048) : (Host.negf (rZ a0) (ix4 b h t s) : EReal) = ((-((headOf P O (16 * b.val + h.val)).Z t.val s.val) : ℝ) : EReal) := by
  pointwise
  rw [rZ_at (O := O) hP, EReal.coe_neg]

theorem rE_at (t s : Fin 2048) : (rE a0 (ix4 b h t s) : EReal) = ((Real.exp ((headOf P O (16 * b.val + h.val)).Z t.val s.val - (headOf P O (16 * b.val + h.val)).SP t.val s.val
    + ((headOf P O (16 * b.val + h.val)).PC t.val 2048 - (headOf P O (16 * b.val + h.val)).PC t.val (s.val + 1))) : ℝ) : EReal) := by
  have e := rSoft_at _ b h t s _ (rNegZ_at (O := O) hP b h t s)
  have hw : (Host.reduceWindowAdd (F := Ideal) ![1, 1, 1, 2048] ![1, 1, 1, 1] ![0, 0, 0, 0] ![0, 0, 0, 2047] (rL a0) rIni reduceWindows_S2x16x2048x2048_S2x16x2048x2048_w1s1p0_0_w1s1p0_0_w1s1p0_0_w2048s1p0_2047 h_S_ (ix4 b h t s) : EReal)
      = (((headOf P O (16 * b.val + h.val)).PC t.val 2048 - (headOf P O (16 * b.val + h.val)).PC t.val s.val : ℝ) : EReal) := by
    rw [window_sum (rL a0) rIni rIni_at]
    unfold Head.PC
    rw [← sum_from _ s.val 2048 s.isLt.le, ← coe_sum]
    refine Finset.sum_congr rfl fun w _ => ?_
    split_ifs with h1 h2 h2
    · exact rL_at hP b h t _
    · omega
    · omega
    · exact EReal.coe_zero.symm
  pointwise [rE]
  rw [e, hw, rL_at (O := O) hP, ← EReal.coe_sub, ← EReal.coe_neg, ← EReal.coe_add, Ideal.exp_coe, sp_neg]
  refine congrArg (fun y : ℝ => ((Real.exp y : ℝ) : EReal)) ?_
  rw [show (headOf P O (16 * b.val + h.val)).PC t.val (s.val + 1) = (headOf P O (16 * b.val + h.val)).PC t.val s.val + (headOf P O (16 * b.val + h.val)).LN t.val s.val from Finset.sum_range_succ _ _]
  rw [show (headOf P O (16 * b.val + h.val)).SP t.val s.val = sp ((headOf P O (16 * b.val + h.val)).Z t.val s.val) from rfl]
  ring

theorem rA_at (t s : Fin 2048) : (rA a0 (ix4 b h t s) : EReal) = (((headOf P O (16 * b.val + h.val)).A t.val s.val : ℝ) : EReal) := by
  have e0 := r0'_at b h t s
  simp only [rA, select]
  rw [rM_at, sel_if, e0, Head.A]
  split_ifs
  · exact rE_at hP b h t s
  · exact EReal.coe_zero.symm

variable (hO : Holds a1 O)
include hO

omit hP in
theorem rO_at (d : Fin 128) (t : Fin 2048) : (rO a1 (ix4 b h d t) : EReal) = (((headOf P O (16 * b.val + h.val)).o t.val d.val : ℝ) : EReal) := by
  pointwise [rO]
  rw [hO, headOf, show (16 * b.val + h.val) / 16 = b.val by omega, show (16 * b.val + h.val) % 16 = h.val by omega]
  simp only [mul_comm h.val, add_assoc]

theorem rG_at (t s : Fin 2048) : (rG a0 a1 (ix4 b h t s) : EReal) = (((headOf P O (16 * b.val + h.val)).G t.val s.val : ℝ) : EReal) := by
  pointwise [rG, r0]
  rw [rM_at, sel_if, Head.G, Head.A]
  split_ifs
  · simp only [rO_at (P := P) b h hO, rV_at (O := O) hP b h, ← EReal.coe_mul]
    rw [coe_sum, rE_at (O := O) hP b h t s, ← EReal.coe_mul, mul_comm]
  · rw [zero_mul]; exact EReal.coe_zero.symm

theorem rDZ_at (t s : Fin 2048) : (rDZ a0 a1 (ix4 b h t s) : EReal) = (((headOf P O (16 * b.val + h.val)).DZ t.val s.val * scale : ℝ) : EReal) := by
  have e1 := rSig_at _ b h t s _ (rNegZ_at (O := O) hP b h t s)
  have e2 := rSig_at _ b h t s _ (rZ_at (O := O) hP b h t s)
  have hw : (Host.reduceWindowAdd (F := Ideal) ![1, 1, 1, 2048] ![1, 1, 1, 1] ![0, 0, 0, 2047] ![0, 0, 0, 0] (rG a0 a1) rIni reduceWindows_S2x16x2048x2048_S2x16x2048x2048_w1s1p0_0_w1s1p0_0_w1s1p0_0_w2048s1p2047_0 h_S_ (ix4 b h t s) : EReal)
      = (((headOf P O (16 * b.val + h.val)).GC t.val (s.val + 1) : ℝ) : EReal) := by
    rw [window_sum (rG a0 a1) rIni rIni_at]
    unfold Head.GC
    rw [← sum_upto _ s.val 2047 (by omega), ← coe_sum]
    refine Finset.sum_congr rfl fun w _ => ?_
    have hl := w.isLt
    split_ifs with h1 h2 h2
    · exact rG_at hP b h hO t _
    · omega
    · omega
    · exact EReal.coe_zero.symm
  pointwise [rDZ, rc, r0]
  rw [e1, e2, hw, rG_at hP b h hO, rM_at, sel_if, scale_coe, sig_neg,
    show (headOf P O (16 * b.val + h.val)).GC t.val (s.val + 1) = (headOf P O (16 * b.val + h.val)).GC t.val s.val + (headOf P O (16 * b.val + h.val)).G t.val s.val from Finset.sum_range_succ _ _,
    show sp ((headOf P O (16 * b.val + h.val)).Z t.val s.val) = (headOf P O (16 * b.val + h.val)).SP t.val s.val from rfl]
  by_cases hst : s.val < t.val
  · rw [if_pos hst, Head.DZ, if_pos hst]
    simp only [← EReal.coe_neg, ← EReal.coe_mul, ← EReal.coe_add]
    refine congrArg (fun y : ℝ => (y : EReal)) ?_
    ring
  · rw [if_neg hst, Head.DZ, if_neg hst, Head.G, Head.A, if_neg hst]
    simp

/-- The reference's three results. -/
theorem rDq_eq : rDq a0 a1 = fun i => (((headOf P O (16 * (i 0).val + (i 2).val / 128)).dq (i 1).val ((i 2).val % 128) : ℝ) : EReal) := by
  funext i
  obtain ⟨b, t, e, rfl⟩ : ∃ (b : Fin 2) (t : Fin 2048) (e : Fin 2048), i = ix3 b t e := ⟨i 0, i 1, i 2, by funext k; match k with | 0 => rfl | 1 => rfl | 2 => rfl⟩
  pointwise [rDq]
  simp only [rDZ_at hP _ _ hO, rK_at (O := O) hP, ← EReal.coe_mul]
  rw [coe_sum]
  congr 1
  rw [Head.dq, Finset.sum_range, Finset.sum_mul]
  refine Finset.sum_congr rfl fun x _ => ?_
  rw [mul_right_comm]
  rfl

theorem rDk_eq : rDk a0 a1 = fun i => (((headOf P O (16 * (i 0).val + (i 2).val / 128)).dk (i 1).val ((i 2).val % 128) : ℝ) : EReal) := by
  funext i
  obtain ⟨b, t, e, rfl⟩ : ∃ (b : Fin 2) (t : Fin 2048) (e : Fin 2048), i = ix3 b t e := ⟨i 0, i 1, i 2, by funext k; match k with | 0 => rfl | 1 => rfl | 2 => rfl⟩
  pointwise [rDk]
  simp only [rDZ_at hP _ _ hO, rQ_at (O := O) hP, ← EReal.coe_mul]
  rw [coe_sum]
  congr 1
  rw [Head.dk, Finset.sum_range, Finset.sum_mul]
  refine Finset.sum_congr rfl fun x _ => ?_
  rw [mul_right_comm]
  rfl

theorem rDv_eq : rDv a0 a1 = fun i => (((headOf P O (16 * (i 0).val + (i 2).val / 128)).dv (i 1).val ((i 2).val % 128) : ℝ) : EReal) := by
  funext i
  obtain ⟨b, t, e, rfl⟩ : ∃ (b : Fin 2) (t : Fin 2048) (e : Fin 2048), i = ix3 b t e := ⟨i 0, i 1, i 2, by funext k; match k with | 0 => rfl | 1 => rfl | 2 => rfl⟩
  pointwise [rDv]
  simp only [rO_at (P := P) _ _ hO, rA_at (O := O) hP, ← EReal.coe_mul]
  rw [coe_sum]
  congr 1
  rw [Head.dv, Finset.sum_range]
  refine Finset.sum_congr rfl fun x _ => ?_
  rw [mul_comm]

end

end Cert.ReferenceIdeal.SB
-- ==== Proof.Mat.lean ====
/-
  Products of matrices over the extended reals, written as sums.
-/
module

public import Idealize.ShloMosaic.Lib.Pointwise
public import Idealize.ShloMosaic.Lib.Pipeline.ValueKit

@[expose] public section

noncomputable section

namespace Cert.Mat

open Idealize.ShloMosaic

/-- A matrix of extended reals. -/
abbrev Mat (a b : ℕ) := (⟨2, ![a, b]⟩ : Shape).Idx → EReal

variable {a b n : ℕ}

/-- `xᵀ y`. -/
def tn (x : Mat n a) (y : Mat n b) : Mat a b := fun i => ∑ k : Fin n, x (ix2 k (i 0)) * y (ix2 k (i 1))
/-- `x y`. -/
def nn (x : Mat a n) (y : Mat n b) : Mat a b := fun i => ∑ k : Fin n, x (ix2 (i 0) k) * y (ix2 k (i 1))
/-- `x yᵀ`. -/
def nt (x : Mat a n) (y : Mat b n) : Mat a b := fun i => ∑ k : Fin n, x (ix2 (i 0) k) * y (ix2 (i 1) k)

/-- The offset of a whole block. -/
theorem zero_off : (![0, 0] : Fin 2 → ℕ) = fun _ => 0 := by decide

theorem sum_mul_congr {f f' g g' : Fin n → EReal} (hf : ∀ k, f k = f' k) (hg : ∀ k, g k = g' k) : ∑ k, f k * g k = ∑ k, f' k * g' k :=
  Finset.sum_congr rfl fun k _ => by rw [hf, hg]

/-- The entry at row `i` and column `j`, zero outside the matrix. -/
def at2 (A : Mat a b) (i j : ℕ) : EReal := if h : i < a ∧ j < b then A (ix2 ⟨i, h.1⟩ ⟨j, h.2⟩) else 0

theorem at2_eq (A : Mat a b) {i j : ℕ} (hi : i < a) (hj : j < b) : at2 A i j = A (ix2 ⟨i, hi⟩ ⟨j, hj⟩) := dif_pos ⟨hi, hj⟩

/-- Products summed over stretches of `w` indices, `q` stretches for each block of the result: after step `n` the accumulator holds
the sum over the stretches of its block so far. -/
theorem acc_sum {N q w : ℕ} (acc : (n : ℕ) → n < N → EReal) (f : ℕ → ℕ → EReal)
    (first : ∀ n h, n % q = 0 → acc n h = ∑ x : Fin w, f (n / q) (w * (n % q) + x.val))
    (later : ∀ n h h', ¬(n + 1) % q = 0 → acc (n + 1) h = acc n h' + ∑ x : Fin w, f ((n + 1) / q) (w * ((n + 1) % q) + x.val)) :
    ∀ n h, acc n h = ∑ k ∈ Finset.range (w * (n % q + 1)), f (n / q) k := by
  intro n
  induction n with
  | zero =>
    intro h
    rw [first 0 h (Nat.zero_mod q), Nat.zero_mod, Nat.mul_zero, Nat.zero_add, Nat.mul_one, Finset.sum_range]
    simp only [Nat.zero_add]
  | succ n ih =>
    intro h
    by_cases h0 : (n + 1) % q = 0
    · rw [first (n + 1) h h0, h0, Nat.mul_zero, Nat.zero_add, Nat.mul_one, Finset.sum_range]
      simp only [Nat.zero_add]
    · have hn : n < N := by omega
      have e2 : (n + 1) / q = n / q := Nat.succ_div_of_not_dvd fun hd => h0 (Nat.mod_eq_zero_of_dvd hd)
      have e1 : (n + 1) % q = n % q + 1 := by
        have h1 := Nat.div_add_mod n q
        have h2 := Nat.div_add_mod (n + 1) q
        rw [e2] at h2
        omega
      rw [later n h hn h0, ih hn, e1, e2, Nat.mul_succ w (n % q + 1), Finset.sum_range_add]
      exact congrArg _ (Finset.sum_range fun x => f (n / q) (w * (n % q + 1) + x)).symm

end Cert.Mat
end
-- ==== Proof.Wgrad.lean ====
/-
  The weight gradient `xᵀ ct` of the feed-forward products.
-/
module

public import proofs.«01_k».proof.Defs
public import proofs.«01_k».proof.Proof.Mat
public import proofs.«01_k».proof.Proof.Gen.WgradIdeal.Value
public import proofs.«01_k».proof.Proof.Gen.WgradRefIdeal.Run
public import Idealize.ShloMosaic.Lib.Quiescent

@[expose] public section

set_option maxRecDepth 16384

noncomputable section

namespace Cert.WgradIdeal.Prod

open Idealize.ShloMosaic Idealize.ShloMosaic.TcCoe Idealize.SL.Sem Cert.WgradIdeal Cert.WgradIdeal.Gen Cert.Mat

/-- The block that each window reads or writes at each grid point. -/
theorem index_all : ∀ t : Fin cfg0.N, win0_0.index t = ![0, t.val / 4] ∧ win0_1.index t = ![0, t.val % 4] ∧ win0_2.index t = ![t.val / 4, t.val % 4] :=
  (by decide +kernel : ∀ t : Fin grid0.N, win0_0.index t = ![0, t.val / 4] ∧ win0_1.index t = ![0, t.val % 4] ∧ win0_2.index t = ![t.val / 4, t.val % 4])

/-- The result array: each entry is one sum over the whole contracted axis. -/
theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  rw [after0_2]
  unfold out0_2 k0_pay1
  rw [View.canon_unit_zero zero_off]
  simp only [View.ld_unit_zero (S := S4096x1024) zero_off]
  pointwise
  refine sum_mul_congr (fun k => ?_) fun k => ?_
  · blk_ext [iblk, V, e0, e2]
  · blk_ext [iblk, V, e1, e2]

/-- The kernel over the reals ends without fault, its arguments unchanged and every counter at zero. -/
theorem frame_ideal : Cert.quiescent_WgradIdeal := fun m ρ _ => Cert.WgradIdeal.Gen.frame m ρ

/-- The reference likewise. -/
theorem frame_ref : Cert.quiescent_WgradRefIdeal := fun m ρ _ => (θ_run Cert.WgradRefIdeal.defs _ _).mono
  (fun r h => ⟨fun c => (h c).2, sem_eq_zero_of_no_sems (by decide) r.2⟩) (Cert.WgradRefIdeal.Value.run m ρ)

/-- Kernel and reference leave the same matrix. -/
theorem value : Cert.algebraic_WgradIdeal_WgradRefIdeal := fun m g m' g' _ hargs => by
  refine ⟨fun c => tn (m ((c : Thread nD τ).loc main_arg0)) (m ((c : Thread nD τ).loc main_arg1)),
    (θ_run _ _ _).mono (fun r h c => ⟨(h c).1.trans (arr m c), (h c).2⟩) (Cert.WgradIdeal.Value.run_blocks m g),
    (θ_run _ _ _).mono (fun r h c => ⟨(h c).1.trans ?_, (h c).2⟩) (Cert.WgradRefIdeal.Value.run m' g')⟩
  rw [(hargs c).1, (hargs c).2]
  funext i
  pointwise
  exact Finset.sum_congr rfl fun k _ => mul_comm _ _

end Cert.WgradIdeal.Prod
end
-- ==== Proof.Swiglu.lean ====
/-
  The gradients of `(silu(gate) · up) w_down` with respect to the gate and to the other branch. The kernel writes the first as
  `d · up · s · (1 + gate · (1 − s))`, where `s` is the logistic function of the gate and `d = ct w_downᵀ`; the derivative of `gate · s`
  is the sum `d · up · s + gate · (d · up) · (s · (1 − s))`. The two are equal where `d · up · s` is a real number.
-/
module

public import proofs.«01_k».proof.Defs
public import proofs.«01_k».proof.Proof.Mat
public import proofs.«01_k».proof.Proof.Pre
public import proofs.«01_k».proof.Proof.Gen.SwigluIdeal.Value
public import proofs.«01_k».proof.Proof.Gen.SwigluRefIdeal.Run
public import Idealize.ShloMosaic.Lib.Quiescent

@[expose] public section

set_option maxRecDepth 16384

noncomputable section

namespace Cert.SwigluIdeal.Prod

open Idealize.ShloMosaic Idealize.ShloMosaic.TcCoe Idealize.SL.Sem Cert.SwigluIdeal Cert.SwigluIdeal.Gen Cert.Mat

/-- A real factor distributes over `1 + w`, whatever `w` is. -/
theorem mul_one_add (r : ℝ) (w : EReal) : (r : EReal) * (1 + w) = (r : EReal) + (r : EReal) * w := by
  induction w using EReal.rec with
  | coe w => rw [← EReal.coe_one, ← EReal.coe_add, ← EReal.coe_mul, ← EReal.coe_mul, ← EReal.coe_add, mul_add, mul_one]
  | bot =>
    rw [EReal.add_bot]
    rcases lt_trichotomy r 0 with h | h | h
    · rw [EReal.coe_mul_bot_of_neg h, EReal.coe_add_top]
    · rw [h, EReal.coe_zero, zero_mul, add_zero]
    · rw [EReal.coe_mul_bot_of_pos h, EReal.add_bot]
  | top =>
    rw [← EReal.coe_one, EReal.coe_add_top]
    rcases lt_trichotomy r 0 with h | h | h
    · rw [EReal.coe_mul_top_of_neg h, EReal.add_bot]
    · rw [h, EReal.coe_zero, zero_mul, add_zero]
    · rw [EReal.coe_mul_top_of_pos h, EReal.coe_add_top]

/-- The logistic function's values are real numbers, at the infinities too. -/
theorem logistic_real (x : EReal) : ∃ r : ℝ, Ideal.logistic x = (r : EReal) := by
  induction x using EReal.rec with
  | bot => exact ⟨0, Ideal.logistic_bot⟩
  | coe r => exact ⟨_, Ideal.logistic_coe r⟩
  | top => exact ⟨1, Ideal.logistic_top⟩

/-- An entry of the gate's gradient, as a sum: `d · u · s + g · (d · u) · (s · (1 − s))`. -/
def gradGate (d g u : EReal) : EReal :=
  d * u * Ideal.logistic g + g * (d * u) * (Ideal.logistic g * (1 - Ideal.logistic g))

/-- An entry of the other branch's gradient. -/
def gradUp (d g : EReal) : EReal := g * Ideal.logistic g * d

/-- The product form of the gate's gradient, for real `d` and `u`. -/
theorem gradGate_eq (d g u : EReal) (hd : d = ((d.toReal : ℝ) : EReal)) (hu : u = ((u.toReal : ℝ) : EReal)) :
    d * u * Ideal.logistic g * (1 + g * (1 - Ideal.logistic g)) = gradGate d g u := by
  obtain ⟨s, hs⟩ := logistic_real g
  have e : d * u * Ideal.logistic g = ((d.toReal * u.toReal * s : ℝ) : EReal) := by
    rw [EReal.coe_mul, EReal.coe_mul, ← hd, ← hu, hs]
  unfold gradGate
  rw [e, mul_one_add, ← e]
  refine congrArg (fun z : EReal => d * u * Ideal.logistic g + z) ?_
  ac_rfl

theorem gradUp_eq (d g : EReal) : d * g * Ideal.logistic g = gradUp d g := by
  unfold gradUp
  ac_rfl

/-- A sum of products of real numbers is a real number. -/
theorem sum_real {n : ℕ} (f g : Fin n → EReal) (hf : ∀ k, f k = ((f k).toReal : EReal)) (hg : ∀ k, g k = ((g k).toReal : EReal)) :
    ∑ k, f k * g k = ((∑ k, f k * g k : EReal).toReal : EReal) := by
  have e : ∑ k, f k * g k = ((∑ k, (f k).toReal * (g k).toReal : ℝ) : EReal) := by
    rw [← Cert.SB.coe_sum]
    refine Finset.sum_congr rfl fun k _ => ?_
    rw [EReal.coe_mul, ← hf, ← hg]
  rw [e, EReal.toReal_coe]

/-- The side conditions of the precondition. -/
theorem preFacts : Cert.Pre_real_branch.Facts where
  bitsLt_bf16_f32 := by decide
  bcast_S_S4096x11264 := by decide
  reducesTo_S4096x11264_S_d0_1 := by decide
  h_S_ := by decide
  bcast_S_S11264x4096 := by decide
  reducesTo_S11264x4096_S_d0_1 := by decide
  bcast_S_S4096x4096 := by decide
  reducesTo_S4096x4096_S_d0_1 := by decide

/-- What the precondition says of the branch, the weights and the cotangent. -/
theorem real_args [Cert.Pre_real_branch.Facts] (g u : FVec Ideal Cert.Pre_real_branch.S4096x11264 .bf16) (w : FVec Ideal Cert.Pre_real_branch.S11264x4096 .bf16)
    (ct : FVec Ideal Cert.Pre_real_branch.S4096x4096 .bf16) (h : Cert.Pre_real_branch.fn g u w ct = fun _ => 1#1) :
    (∀ i, (u i : EReal) = (((u i : EReal).toReal : ℝ) : EReal)) ∧ (∀ i, (w i : EReal) = (((w i : EReal).toReal : ℝ) : EReal))
      ∧ (∀ i, (ct i : EReal) = (((ct i : EReal).toReal : ℝ) : EReal)) := by
  have h0 := congrFun h (Shape.Idx.first Cert.Pre_real_branch.Facts.h_S_)
  unfold Cert.Pre_real_branch.fn at h0
  obtain ⟨h12, h3⟩ := IntOp.andi_eq_one.mp h0
  obtain ⟨h1, h2⟩ := IntOp.andi_eq_one.mp h12
  refine ⟨fun i => ?_, fun i => ?_, fun i => ?_⟩
  · have e := Host.reduce_andi_all _ _ _ _ _ h1 i
    pointwise at e
    exact Cert.SB.real_of_abs_lt _ (Cert.SB.lt_of_flag e)
  · have e := Host.reduce_andi_all _ _ _ _ _ h2 i
    pointwise at e
    exact Cert.SB.real_of_abs_lt _ (Cert.SB.lt_of_flag e)
  · have e := Host.reduce_andi_all _ _ _ _ _ h3 i
    pointwise at e
    exact Cert.SB.real_of_abs_lt _ (Cert.SB.lt_of_flag e)

/-- The block that each window reads or writes at each grid point. -/
theorem index_all : ∀ t : Fin cfg0.N, win0_0.index t = ![t.val / 22, 0] ∧ win0_1.index t = ![t.val % 22, 0] ∧ win0_2.index t = ![t.val / 22, t.val % 22]
    ∧ win0_3.index t = ![t.val / 22, t.val % 22] ∧ win0_4.index t = ![t.val / 22, t.val % 22] ∧ win0_5.index t = ![t.val / 22, t.val % 22] :=
  (by decide +kernel : ∀ t : Fin grid0.N, win0_0.index t = ![t.val / 22, 0] ∧ win0_1.index t = ![t.val % 22, 0] ∧ win0_2.index t = ![t.val / 22, t.val % 22]
    ∧ win0_3.index t = ![t.val / 22, t.val % 22] ∧ win0_4.index t = ![t.val / 22, t.val % 22] ∧ win0_5.index t = ![t.val / 22, t.val % 22])

variable (m : (ℓ : Loc nD τ sig) → Buf (Elt Ideal) ℓ) (c : Dev nD) (t : Fin cfg0.N)

/-- The arguments. -/
abbrev gateArr : Mat 4096 11264 := m ((c : Thread nD τ).loc main_arg0)
abbrev upArr : Mat 4096 11264 := m ((c : Thread nD τ).loc main_arg1)
abbrev wArr : Mat 11264 4096 := m ((c : Thread nD τ).loc main_arg2)
abbrev ctArr : Mat 4096 4096 := m ((c : Thread nD τ).loc main_arg3)

/-- The block's product. -/
theorem pay1 (x0 : Vec Ideal S1024x4096 .bf16) (x1 : Vec Ideal S512x4096 .bf16) (y : S1024x512.Idx) :
    k0_pay1 x0 x1 y = (nt (a := 1024) (b := 512) x0 x1 y : EReal) := by
  unfold k0_pay1
  pointwise
  rfl

/-- A block of `ct w_downᵀ`. -/
theorem d_blk (y : S1024x512.Idx) (i : S4096x11264.Idx) (h0 : (i 0).val = 1024 * (t.val / 22) + (y 0).val) (h1 : (i 1).val = 512 * (t.val % 22) + (y 1).val) :
    nt (a := 1024) (b := 512) (iblk m c 0 t) (iblk m c 1 t) y = nt (ctArr m c) (wArr m c) i := by
  obtain ⟨e0, e1, e2, e3, e4, e5⟩ := index_all t
  refine sum_mul_congr (fun k => ?_) fun k => ?_
  · have e := V_main_arg3 m c
    unfold ctArr
    rw [← e]
    blk_ext [iblk, e0]
  · have e := V_main_arg2 m c
    unfold wArr
    rw [← e]
    blk_ext [iblk, e1]

/-- A block of the gate. -/
theorem g_blk (y : S1024x512.Idx) (i : S4096x11264.Idx) (h0 : (i 0).val = 1024 * (t.val / 22) + (y 0).val) (h1 : (i 1).val = 512 * (t.val % 22) + (y 1).val) :
    iblk m c 2 t y = gateArr m c i := by
  obtain ⟨e0, e1, e2, e3, e4, e5⟩ := index_all t
  have e := V_main_arg0 m c
  unfold gateArr
  rw [← e]
  blk_ext [iblk, e2]

/-- A block of the other branch. -/
theorem u_blk (y : S1024x512.Idx) (i : S4096x11264.Idx) (h0 : (i 0).val = 1024 * (t.val / 22) + (y 0).val) (h1 : (i 1).val = 512 * (t.val % 22) + (y 1).val) :
    iblk m c 3 t y = upArr m c i := by
  obtain ⟨e0, e1, e2, e3, e4, e5⟩ := index_all t
  have e := V_main_arg1 m c
  unfold upArr
  rw [← e]
  blk_ext [iblk, e3]

/-- The array of the gate's gradient. -/
theorem arr_gate (hu : ∀ i, upArr m c i = ((upArr m c i).toReal : EReal)) (hw : ∀ i, wArr m c i = ((wArr m c i).toReal : EReal)) (hc : ∀ i, ctArr m c i = ((ctArr m c i).toReal : EReal)) :
    (dats m 0 c).arrAt 4 cfg0.N = fun i => gradGate (nt (ctArr m c) (wArr m c) i) (gateArr m c i) (upArr m c i) := by
  refine (dats m 0 c).arrAt_eq_of_covers 4 _ (by decide +kernel) fun t hf y => ?_
  obtain ⟨e0, e1, e2, e3, e4, e5⟩ := index_all t
  have h0 : ((((View.whole main_v0_0).slice ((win0 4).rect t)).emb y) 0).val = 1024 * (t.val / 22) + (y 0).val := by
    show win0_4.index t 0 * 1024 + 1 * (y 0).val = 1024 * (t.val / 22) + (y 0).val
    rw [e4]
    show (t.val / 22) * 1024 + 1 * (y 0).val = _
    omega
  have h1 : ((((View.whole main_v0_0).slice ((win0 4).rect t)).emb y) 1).val = 512 * (t.val % 22) + (y 1).val := by
    show win0_4.index t 1 * 512 + 1 * (y 1).val = 512 * (t.val % 22) + (y 1).val
    rw [e4]
    show (t.val % 22) * 512 + 1 * (y 1).val = _
    omega
  rw [after0_4]
  unfold out0_4 k0_pay4 k0_pay3 k0_pay2
  rw [View.canon_unit_zero zero_off]
  simp only [View.ld_unit_zero (S := S1024x4096) zero_off, View.ld_unit_zero (S := S512x4096) zero_off, View.ld_unit_zero (S := S1024x512) zero_off]
  pointwise
  rw [pay1, d_blk m c t _ _ h0 h1, g_blk m c t _ _ h0 h1, u_blk m c t _ _ h0 h1]
  exact gradGate_eq _ _ _ (sum_real _ _ (fun k => hc _) fun k => hw _) (hu _)

/-- The array of the other branch's gradient. -/
theorem arr_up : (dats m 0 c).arrAt 5 cfg0.N = fun i => gradUp (nt (ctArr m c) (wArr m c) i) (gateArr m c i) := by
  refine (dats m 0 c).arrAt_eq_of_covers 5 _ (by decide +kernel) fun t hf y => ?_
  obtain ⟨e0, e1, e2, e3, e4, e5⟩ := index_all t
  have h0 : ((((View.whole main_v0_1).slice ((win0 5).rect t)).emb y) 0).val = 1024 * (t.val / 22) + (y 0).val := by
    show win0_5.index t 0 * 1024 + 1 * (y 0).val = 1024 * (t.val / 22) + (y 0).val
    rw [e5]
    show (t.val / 22) * 1024 + 1 * (y 0).val = _
    omega
  have h1 : ((((View.whole main_v0_1).slice ((win0 5).rect t)).emb y) 1).val = 512 * (t.val % 22) + (y 1).val := by
    show win0_5.index t 1 * 512 + 1 * (y 1).val = 512 * (t.val % 22) + (y 1).val
    rw [e5]
    show (t.val % 22) * 512 + 1 * (y 1).val = _
    omega
  rw [after0_5]
  unfold out0_5 k0_pay5 k0_pay3 k0_pay2
  rw [View.canon_unit_zero zero_off]
  simp only [View.ld_unit_zero (S := S1024x4096) zero_off, View.ld_unit_zero (S := S512x4096) zero_off, View.ld_unit_zero (S := S1024x512) zero_off]
  pointwise
  rw [pay1, d_blk m c t _ _ h0 h1, g_blk m c t _ _ h0 h1]
  exact gradUp_eq _ _

/-- The kernel over the reals ends without fault, its arguments unchanged and every counter at zero. -/
theorem frame_ideal : Cert.quiescent_SwigluIdeal := fun m ρ _ => Cert.SwigluIdeal.Gen.frame m ρ

/-- The reference likewise. -/
theorem frame_ref : Cert.quiescent_SwigluRefIdeal := fun m ρ _ => (θ_run Cert.SwigluRefIdeal.defs _ _).mono
  (fun r h => ⟨fun c => (h c).2.2, sem_eq_zero_of_no_sems (by decide) r.2⟩) (Cert.SwigluRefIdeal.Value.run m ρ)

/-- Kernel and reference leave the same two gradients, where the branch, the weights and the cotangent are real. -/
theorem value [Cert.Pre_real_branch.Facts] : Cert.algebraic_SwigluIdeal_SwigluRefIdeal_pre_real_branch := fun m g m' g' hpre hargs => by
  have hr := fun c => real_args _ _ _ _ (hpre c)
  refine ⟨fun c i => gradGate (nt (ctArr m c) (wArr m c) i) (gateArr m c i) (upArr m c i), fun c i => gradUp (nt (ctArr m c) (wArr m c) i) (gateArr m c i),
    (θ_run _ _ _).mono (fun r h c => ⟨(h c).1.trans (arr_gate m c (hr c).1 (hr c).2.1 (hr c).2.2), (h c).2.1.trans (arr_up m c), (h c).2.2⟩) (Cert.SwigluIdeal.Value.run_blocks m g),
    (θ_run _ _ _).mono (fun r h c => ⟨(h c).1.trans ?_, (h c).2.1.trans ?_, (h c).2.2⟩) (Cert.SwigluRefIdeal.Value.run m' g')⟩
  · rw [(hargs c).1, (hargs c).2.1, (hargs c).2.2.1, (hargs c).2.2.2]
    funext i
    unfold gradGate
    pointwise
    rfl
  · rw [(hargs c).1, (hargs c).2.2.1, (hargs c).2.2.2]
    funext i
    unfold gradUp
    pointwise
    rfl

end Cert.SwigluIdeal.Prod
end
-- ==== Proof.GateUp.lean ====
/-
  The first feed-forward products: the gate `x w_gate`, the branch `x w_up`, and `silu(gate) · up`. The host hands the kernel both
  matrices of weights transposed.
-/
module

public import proofs.«01_k».proof.Defs
public import proofs.«01_k».proof.Proof.Mat
public import proofs.«01_k».proof.Proof.Gen.GateUpIdeal.Value
public import proofs.«01_k».proof.Proof.Gen.GateUpRefIdeal.Run
public import Idealize.ShloMosaic.Lib.Quiescent

@[expose] public section

set_option maxRecDepth 16384

noncomputable section

namespace Cert.GateUpIdeal.Prod

open Idealize.ShloMosaic Idealize.ShloMosaic.TcCoe Idealize.SL.Sem Cert.GateUpIdeal Cert.GateUpIdeal.Gen Cert.Mat

/-- The block that each window reads or writes at each grid point. -/
theorem index_all : ∀ t : Fin cfg0.N, win0_0.index t = ![t.val / 22, 0] ∧ win0_1.index t = ![t.val % 22, 0] ∧ win0_2.index t = ![t.val % 22, 0]
    ∧ win0_3.index t = ![t.val / 22, t.val % 22] ∧ win0_4.index t = ![t.val / 22, t.val % 22] ∧ win0_5.index t = ![t.val / 22, t.val % 22] :=
  (by decide +kernel : ∀ t : Fin grid0.N, win0_0.index t = ![t.val / 22, 0] ∧ win0_1.index t = ![t.val % 22, 0] ∧ win0_2.index t = ![t.val % 22, 0]
    ∧ win0_3.index t = ![t.val / 22, t.val % 22] ∧ win0_4.index t = ![t.val / 22, t.val % 22] ∧ win0_5.index t = ![t.val / 22, t.val % 22])

/-- The logistic function of an entry. -/
abbrev lg (x : EReal) : EReal := Ideal.logistic x

/-- `silu(gate) · up`, entry by entry. -/
def act {a b : ℕ} (g u : Mat a b) : Mat a b := fun i => g i * lg (g i) * u i

variable (m : (ℓ : Loc nD τ sig) → Buf (Elt Ideal) ℓ) (c : Dev nD) (t : Fin cfg0.N)

/-- The host transposes the gate's weights. -/
theorem turned_gate (k : Fin 11264) (j : Fin 4096) : V m c main_v0 (ix2 k j) = m ((c : Thread nD τ).loc main_arg1) (ix2 j k) := by
  have e : V m c main_v0 = transpose S11264x4096 [1, 0] (m ((c : Thread nD τ).loc main_arg1)) transposes_S4096x11264_S11264x4096_1_0 := by
    unfold_abbrev_sides
    after_results
  rw [e]
  pointwise

/-- The host transposes the other branch's weights. -/
theorem turned_up (k : Fin 11264) (j : Fin 4096) : V m c main_v1 (ix2 k j) = m ((c : Thread nD τ).loc main_arg2) (ix2 j k) := by
  have e : V m c main_v1 = transpose S11264x4096 [1, 0] (m ((c : Thread nD τ).loc main_arg2)) transposes_S4096x11264_S11264x4096_1_0 := by
    unfold_abbrev_sides
    after_results
  rw [e]
  pointwise

/-- The block's product with the gate's weights. -/
theorem pay1 (x0 : Vec Ideal S1024x4096 .bf16) (x1 : Vec Ideal S512x4096 .bf16) (y : S1024x512.Idx) :
    k0_pay1 x0 x1 y = (nt (a := 1024) (b := 512) x0 x1 y : EReal) := by
  unfold k0_pay1
  pointwise
  rfl

/-- The block's product with the other branch's weights. -/
theorem pay2 (x0 : Vec Ideal S1024x4096 .bf16) (x1 : Vec Ideal S512x4096 .bf16) (y : S1024x512.Idx) :
    k0_pay2 x0 x1 y = (nt (a := 1024) (b := 512) x0 x1 y : EReal) := by
  unfold k0_pay2
  pointwise
  rfl

/-- A block of the gate. -/
theorem gate_blk (y : S1024x512.Idx) (i : S4096x11264.Idx) (h0 : (i 0).val = 1024 * (t.val / 22) + (y 0).val) (h1 : (i 1).val = 512 * (t.val % 22) + (y 1).val) :
    nt (a := 1024) (b := 512) (iblk m c 0 t) (iblk m c 1 t) y = nn (m ((c : Thread nD τ).loc main_arg0)) (m ((c : Thread nD τ).loc main_arg1)) i := by
  obtain ⟨e0, e1, e2, e3, e4, e5⟩ := index_all t
  refine sum_mul_congr (fun k => ?_) fun k => ?_
  · have e := V_main_arg0 m c
    rw [← e]
    blk_ext [iblk, e0]
  · refine Eq.trans ?_ (turned_gate m c (i 1) k)
    blk_ext [iblk, e1]

/-- A block of the other branch. -/
theorem up_blk (y : S1024x512.Idx) (i : S4096x11264.Idx) (h0 : (i 0).val = 1024 * (t.val / 22) + (y 0).val) (h1 : (i 1).val = 512 * (t.val % 22) + (y 1).val) :
    nt (a := 1024) (b := 512) (iblk m c 0 t) (iblk m c 2 t) y = nn (m ((c : Thread nD τ).loc main_arg0)) (m ((c : Thread nD τ).loc main_arg2)) i := by
  obtain ⟨e0, e1, e2, e3, e4, e5⟩ := index_all t
  refine sum_mul_congr (fun k => ?_) fun k => ?_
  · have e := V_main_arg0 m c
    rw [← e]
    blk_ext [iblk, e0]
  · refine Eq.trans ?_ (turned_up m c (i 1) k)
    blk_ext [iblk, e2]

/-- The array of the gate. -/
theorem arr_gate : (dats m 0 c).arrAt 3 cfg0.N = nn (m ((c : Thread nD τ).loc main_arg0)) (m ((c : Thread nD τ).loc main_arg1)) := by
  refine (dats m 0 c).arrAt_eq_of_covers 3 _ (by decide +kernel) fun t hf y => ?_
  obtain ⟨e0, e1, e2, e3, e4, e5⟩ := index_all t
  rw [after0_3]
  unfold out0_3 k0_pay3
  rw [View.canon_unit_zero zero_off]
  simp only [View.ld_unit_zero (S := S1024x4096) zero_off, View.ld_unit_zero (S := S512x4096) zero_off]
  pointwise
  rw [pay1]
  refine gate_blk m c t _ _ ?_ ?_
  · show win0_3.index t 0 * 1024 + 1 * (y 0).val = 1024 * (t.val / 22) + (y 0).val
    rw [e3]
    show (t.val / 22) * 1024 + 1 * (y 0).val = _
    omega
  · show win0_3.index t 1 * 512 + 1 * (y 1).val = 512 * (t.val % 22) + (y 1).val
    rw [e3]
    show (t.val % 22) * 512 + 1 * (y 1).val = _
    omega

/-- The array of the other branch. -/
theorem arr_up : (dats m 0 c).arrAt 4 cfg0.N = nn (m ((c : Thread nD τ).loc main_arg0)) (m ((c : Thread nD τ).loc main_arg2)) := by
  refine (dats m 0 c).arrAt_eq_of_covers 4 _ (by decide +kernel) fun t hf y => ?_
  obtain ⟨e0, e1, e2, e3, e4, e5⟩ := index_all t
  rw [after0_4]
  unfold out0_4 k0_pay4
  rw [View.canon_unit_zero zero_off]
  simp only [View.ld_unit_zero (S := S1024x4096) zero_off, View.ld_unit_zero (S := S512x4096) zero_off]
  pointwise
  rw [pay2]
  refine up_blk m c t _ _ ?_ ?_
  · show win0_4.index t 0 * 1024 + 1 * (y 0).val = 1024 * (t.val / 22) + (y 0).val
    rw [e4]
    show (t.val / 22) * 1024 + 1 * (y 0).val = _
    omega
  · show win0_4.index t 1 * 512 + 1 * (y 1).val = 512 * (t.val % 22) + (y 1).val
    rw [e4]
    show (t.val % 22) * 512 + 1 * (y 1).val = _
    omega

/-- The array of the activations. -/
theorem arr_act : (dats m 0 c).arrAt 5 cfg0.N
    = act (nn (m ((c : Thread nD τ).loc main_arg0)) (m ((c : Thread nD τ).loc main_arg1))) (nn (m ((c : Thread nD τ).loc main_arg0)) (m ((c : Thread nD τ).loc main_arg2))) := by
  refine (dats m 0 c).arrAt_eq_of_covers 5 _ (by decide +kernel) fun t hf y => ?_
  obtain ⟨e0, e1, e2, e3, e4, e5⟩ := index_all t
  rw [after0_5]
  unfold out0_5 k0_pay5
  rw [View.canon_unit_zero zero_off]
  simp only [View.ld_unit_zero (S := S1024x4096) zero_off, View.ld_unit_zero (S := S512x4096) zero_off]
  pointwise
  rw [pay1, pay2, gate_blk m c t _ (((View.whole main_v2_2).slice ((win0 5).rect t)).emb y) ?_ ?_, up_blk m c t _ (((View.whole main_v2_2).slice ((win0 5).rect t)).emb y) ?_ ?_]
  · rfl
  · show win0_5.index t 0 * 1024 + 1 * (y 0).val = 1024 * (t.val / 22) + (y 0).val
    rw [e5]
    show (t.val / 22) * 1024 + 1 * (y 0).val = _
    omega
  · show win0_5.index t 1 * 512 + 1 * (y 1).val = 512 * (t.val % 22) + (y 1).val
    rw [e5]
    show (t.val % 22) * 512 + 1 * (y 1).val = _
    omega
  · show win0_5.index t 0 * 1024 + 1 * (y 0).val = 1024 * (t.val / 22) + (y 0).val
    rw [e5]
    show (t.val / 22) * 1024 + 1 * (y 0).val = _
    omega
  · show win0_5.index t 1 * 512 + 1 * (y 1).val = 512 * (t.val % 22) + (y 1).val
    rw [e5]
    show (t.val % 22) * 512 + 1 * (y 1).val = _
    omega

/-- The kernel over the reals ends without fault, its arguments unchanged and every counter at zero. -/
theorem frame_ideal : Cert.quiescent_GateUpIdeal := fun m ρ _ => Cert.GateUpIdeal.Gen.frame m ρ

/-- The reference likewise. -/
theorem frame_ref : Cert.quiescent_GateUpRefIdeal := fun m ρ _ => (θ_run Cert.GateUpRefIdeal.defs _ _).mono
  (fun r h => ⟨fun c => (h c).2.2.2, sem_eq_zero_of_no_sems (by decide) r.2⟩) (Cert.GateUpRefIdeal.Value.run m ρ)

/-- Kernel and reference leave the same three matrices. -/
theorem value : Cert.algebraic_GateUpIdeal_GateUpRefIdeal := fun m g m' g' _ hargs => by
  refine ⟨fun c => nn (m ((c : Thread nD τ).loc main_arg0)) (m ((c : Thread nD τ).loc main_arg1)), fun c => nn (m ((c : Thread nD τ).loc main_arg0)) (m ((c : Thread nD τ).loc main_arg2)),
    fun c => act (nn (m ((c : Thread nD τ).loc main_arg0)) (m ((c : Thread nD τ).loc main_arg1))) (nn (m ((c : Thread nD τ).loc main_arg0)) (m ((c : Thread nD τ).loc main_arg2))),
    (θ_run _ _ _).mono (fun r h c => ⟨(h c).1.trans (arr_gate m c), (h c).2.1.trans (arr_up m c), (h c).2.2.1.trans (arr_act m c), (h c).2.2.2⟩) (Cert.GateUpIdeal.Value.run_blocks m g),
    (θ_run _ _ _).mono (fun r h c => ⟨(h c).1.trans ?_, (h c).2.1.trans ?_, (h c).2.2.1.trans ?_, (h c).2.2.2⟩) (Cert.GateUpRefIdeal.Value.run m' g')⟩
  all_goals
    rw [(hargs c).1]
  · rw [(hargs c).2.1]
    funext i
    pointwise
    rfl
  · rw [(hargs c).2.2]
    funext i
    pointwise
    rfl
  · rw [(hargs c).2.1, (hargs c).2.2]
    funext i
    unfold act
    pointwise
    rfl

end Cert.GateUpIdeal.Prod
end
-- ==== Proof.Down.lean ====
/-
  The product `x w + h` of the second feed-forward projection: the contracted axis goes in four stretches, summed in an accumulator.
-/
module

public import proofs.«01_k».proof.Defs
public import proofs.«01_k».proof.Proof.Mat
public import proofs.«01_k».proof.Proof.Gen.DownIdeal.Value
public import proofs.«01_k».proof.Proof.Gen.DownRefIdeal.Run
public import Idealize.ShloMosaic.Lib.Quiescent

@[expose] public section

set_option maxRecDepth 16384

noncomputable section

namespace Cert.DownIdeal.Prod

open Idealize.ShloMosaic Idealize.ShloMosaic.TcCoe Idealize.SL.Sem Cert.DownIdeal Cert.DownIdeal.Gen Cert.Mat

/-- The block that each window reads or writes at each grid point. -/
theorem index_all : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4] :=
  (by decide +kernel : ∀ t : Fin grid0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4])

variable (m : (ℓ : Loc nD τ sig) → Buf (Elt Ideal) ℓ) (c : Dev nD) (t : Fin cfg0.N)

theorem held (x : Vec Ideal S1024x1024 .f32) : View.read (Elt Ideal) (View.whole cc0_scratch0) ((Memref.isWhole_whole cc0_scratch0).unread x) = x :=
  (Memref.isWhole_whole cc0_scratch0).read_unread x

/-- The accumulator after the first stretch of a block. -/
theorem first (h0 : t.val % 4 = 0) : (outsAt0 m c t.val t.isLt).2 = k0_pay2 (iblk m c 0 t) (iblk m c 1 t) (k0_pay1 (F := Ideal)) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) zero_off, View.readCov_unit_zero (S := S1024x1024) _ zero_off]
  simp only [View.readAt_eq_ld, Memref.IsWhole.read_unread, View.ld_unit_zero (S := S1024x2816) zero_off, View.ld_unit_zero (S := S2816x1024) zero_off]

/-- The accumulator after a later stretch. -/
theorem later (h0 : ¬t.val % 4 = 0) : (outsAt0 m c t.val t.isLt).2 = k0_pay2 (iblk m c 0 t) (iblk m c 1 t) (outsAt0 m c (t.val - 1) (by omega)).2 := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero (S := S1024x1024) zero_off]
    simp only [View.readAt_eq_ld, Memref.IsWhole.read_unread, View.ld_unit_zero (S := S1024x2816) zero_off, View.ld_unit_zero (S := S2816x1024) zero_off, View.ld_unit_zero (S := S1024x1024) zero_off, held]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero (S := S1024x1024) zero_off]
    simp only [View.readAt_eq_ld, Memref.IsWhole.read_unread, View.ld_unit_zero (S := S1024x2816) zero_off, View.ld_unit_zero (S := S2816x1024) zero_off, View.ld_unit_zero (S := S1024x1024) zero_off, held]

/-- The block stored after the last stretch. -/
theorem last (h1 : t.val % 4 = 3) : (outsAt0 m c t.val t.isLt).1 = k0_pay3 (outsAt0 m c t.val t.isLt).2 (iblk m c 2 t) := by
  have h0 : ¬t.val % 4 = 0 := by omega
  rw [later m c t h0, outsAt0_C m c t h0 h1]
  dsimp only
  unfold out0_C_3
  rw [View.read_writes_eq_canon _ _ _ (fun y => cover0_C_3 (y := y) ..)]
  unfold kernelRun0_C
  dsimp only
  sl_unfold_words
  rw [View.canon_unit_zero (S := S1024x1024) zero_off, View.readCov_unit_zero (S := S1024x1024) _ zero_off]
  simp only [View.readAt_eq_ld, Memref.IsWhole.read_unread, View.ld_unit_zero (S := S1024x2816) zero_off, View.ld_unit_zero (S := S2816x1024) zero_off, View.ld_unit_zero (S := S1024x1024) zero_off, held]

/-- A step of the accumulator, entry by entry. -/
theorem step (x0 : Vec Ideal S1024x2816 .bf16) (x1 : Vec Ideal S2816x1024 .bf16) (a : Vec Ideal S1024x1024 .f32) (y : S1024x1024.Idx) :
    k0_pay2 x0 x1 a y = (a y + nn (a := 1024) (b := 1024) x0 x1 y : EReal) := by
  unfold k0_pay2
  pointwise
  rfl

theorem zero (y : S1024x1024.Idx) : k0_pay1 (F := Ideal) y = (0 : EReal) := by
  unfold k0_pay1
  pointwise

variable (X : Mat 4096 11264) (Y : Mat 11264 4096)

/-- One product that an entry of the result sums; `g` counts the blocks of the result. -/
def term (y : S1024x1024.Idx) (g k : ℕ) : EReal := at2 X (1024 * (g / 4) + (y 0).val) k * at2 Y k (1024 * (g % 4) + (y 1).val)

theorem part (hX : X = m ((c : Thread nD τ).loc main_arg0)) (hY : Y = m ((c : Thread nD τ).loc main_arg1)) (y : S1024x1024.Idx) :
    nn (a := 1024) (b := 1024) (iblk m c 0 t) (iblk m c 1 t) y = ∑ x : Fin 2816, term X Y y (t.val / 4) (2816 * (t.val % 4) + x.val) := by
  have hN : t.val < 64 := lt_of_lt_of_eq t.isLt N_0
  have hy0 : (y 0).val < 1024 := (y 0).isLt
  have hy1 : (y 1).val < 1024 := (y 1).isLt
  obtain ⟨e0, e1, e2, e3⟩ := index_all t
  refine sum_mul_congr (fun k => ?_) fun k => ?_
  · rw [at2_eq _ (by omega) (by omega), hX]
    blk_ext [iblk, V, e0]
  · rw [at2_eq _ (by omega) (by omega), hY]
    blk_ext [iblk, V, e1]

/-- The accumulator after each point. -/
theorem acc (hX : X = m ((c : Thread nD τ).loc main_arg0)) (hY : Y = m ((c : Thread nD τ).loc main_arg1)) (y : S1024x1024.Idx) (n : ℕ) (h : n < cfg0.N) :
    (outsAt0 m c n h).2 y = ∑ k ∈ Finset.range (2816 * (n % 4 + 1)), term X Y y (n / 4) k := by
  refine acc_sum (fun n h => (outsAt0 m c n h).2 y) (term X Y y) (fun n h h0 => ?_) (fun n h h' h0 => ?_) n h
  · have e := first m c ⟨n, h⟩ h0
    dsimp only at e ⊢
    rw [e, step, zero, zero_add]
    exact part m c ⟨n, h⟩ X Y hX hY y
  · have e := later m c ⟨n + 1, h⟩ h0
    dsimp only [Nat.add_sub_cancel] at e ⊢
    rw [e, step]
    exact congrArg _ (part m c ⟨n + 1, h⟩ X Y hX hY y)

/-- The result array: each entry is one sum over the whole contracted axis, plus the entry of `h`. -/
theorem arr : (dats m 0 c).arrAt 3 cfg0.N
    = fun i => (nn (m ((c : Thread nD τ).loc main_arg0)) (m ((c : Thread nD τ).loc main_arg1)) i : EReal) + m ((c : Thread nD τ).loc main_arg2) i := by
  refine (dats m 0 c).arrAt_eq_of_covers 3 _ (by decide +kernel) fun t hf y => ?_
  have h3 := (flush0_3 t).mp hf
  obtain ⟨e0, e1, e2, e3⟩ := index_all t
  rw [after0_3, last m c t h3]
  unfold k0_pay3
  pointwise
  rw [acc m c _ _ rfl rfl, h3]
  have hN : t.val < 64 := lt_of_lt_of_eq t.isLt N_0
  have hy0 : (y 0).val < 1024 := (y 0).isLt
  have hy1 : (y 1).val < 1024 := (y 1).isLt
  refine congrArg₂ (fun a b : EReal => a + b) ((Finset.sum_range _).trans (sum_mul_congr (n := 11264) (fun k => ?_) fun k => ?_)) ?_
  · refine (at2_eq _ (show 1024 * (t.val / 4 / 4) + (y 0).val < 4096 by omega) k.isLt).trans ?_
    blk_ext [e3]
  · refine (at2_eq _ k.isLt (show 1024 * (t.val / 4 % 4) + (y 1).val < 4096 by omega)).trans ?_
    blk_ext [e3]
  · blk_ext [iblk, V, e2, e3]

/-- The kernel over the reals ends without fault, its arguments unchanged and every counter at zero. -/
theorem frame_ideal : Cert.quiescent_DownIdeal := fun m ρ _ => Cert.DownIdeal.Gen.frame m ρ

/-- The reference likewise. -/
theorem frame_ref : Cert.quiescent_DownRefIdeal := fun m ρ _ => (θ_run Cert.DownRefIdeal.defs _ _).mono
  (fun r h => ⟨fun c => (h c).2, sem_eq_zero_of_no_sems (by decide) r.2⟩) (Cert.DownRefIdeal.Value.run m ρ)

/-- Kernel and reference leave the same matrix. -/
theorem value : Cert.algebraic_DownIdeal_DownRefIdeal := fun m g m' g' _ hargs => by
  refine ⟨fun c i => (nn (m ((c : Thread nD τ).loc main_arg0)) (m ((c : Thread nD τ).loc main_arg1)) i : EReal) + m ((c : Thread nD τ).loc main_arg2) i,
    (θ_run _ _ _).mono (fun r h c => ⟨(h c).1.trans (arr m c), (h c).2⟩) (Cert.DownIdeal.Value.run_blocks m g),
    (θ_run _ _ _).mono (fun r h c => ⟨(h c).1.trans ?_, (h c).2⟩) (Cert.DownRefIdeal.Value.run m' g')⟩
  rw [(hargs c).1, (hargs c).2.1, (hargs c).2.2]
  funext i
  pointwise
  exact add_comm (_ : EReal) _

end Cert.DownIdeal.Prod
end
-- ==== Proof.WinGrad.lean ====
/-
  The weight gradient `xᵀ ct` of the fused projection.
-/
module

public import proofs.«01_k».proof.Defs
public import proofs.«01_k».proof.Proof.Mat
public import proofs.«01_k».proof.Proof.Gen.WinGradIdeal.Value
public import proofs.«01_k».proof.Proof.Gen.WinGradRefIdeal.Run
public import Idealize.ShloMosaic.Lib.Quiescent

@[expose] public section

set_option maxRecDepth 16384

noncomputable section

namespace Cert.WinGradIdeal.Prod

open Idealize.ShloMosaic Idealize.ShloMosaic.TcCoe Idealize.SL.Sem Cert.WinGradIdeal Cert.WinGradIdeal.Gen Cert.Mat

/-- The block that each window reads or writes at each grid point. -/
theorem index_all : ∀ t : Fin cfg0.N, win0_0.index t = ![0, t.val / 12] ∧ win0_1.index t = ![0, t.val % 12] ∧ win0_2.index t = ![t.val / 12, t.val % 12] :=
  (by decide +kernel : ∀ t : Fin grid0.N, win0_0.index t = ![0, t.val / 12] ∧ win0_1.index t = ![0, t.val % 12] ∧ win0_2.index t = ![t.val / 12, t.val % 12])

/-- The result array: each entry is one sum over the whole contracted axis. -/
theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  rw [after0_2]
  unfold out0_2 k0_pay1
  rw [View.canon_unit_zero zero_off]
  simp only [View.ld_unit_zero (S := S4096x1024) zero_off]
  pointwise
  refine sum_mul_congr (fun k => ?_) fun k => ?_
  · blk_ext [iblk, V, e0, e2]
  · blk_ext [iblk, V, e1, e2]

/-- The kernel over the reals ends without fault, its arguments unchanged and every counter at zero. -/
theorem frame_ideal : Cert.quiescent_WinGradIdeal := fun m ρ _ => Cert.WinGradIdeal.Gen.frame m ρ

/-- The reference likewise. -/
theorem frame_ref : Cert.quiescent_WinGradRefIdeal := fun m ρ _ => (θ_run Cert.WinGradRefIdeal.defs _ _).mono
  (fun r h => ⟨fun c => (h c).2, sem_eq_zero_of_no_sems (by decide) r.2⟩) (Cert.WinGradRefIdeal.Value.run m ρ)

/-- Kernel and reference leave the same matrix. -/
theorem value : Cert.algebraic_WinGradIdeal_WinGradRefIdeal := fun m g m' g' _ hargs => by
  refine ⟨fun c => tn (m ((c : Thread nD τ).loc main_arg0)) (m ((c : Thread nD τ).loc main_arg1)),
    (θ_run _ _ _).mono (fun r h c => ⟨(h c).1.trans (arr m c), (h c).2⟩) (Cert.WinGradIdeal.Value.run_blocks m g),
    (θ_run _ _ _).mono (fun r h c => ⟨(h c).1.trans ?_, (h c).2⟩) (Cert.WinGradRefIdeal.Value.run m' g')⟩
  rw [(hargs c).1, (hargs c).2]
  funext i
  pointwise
  exact Finset.sum_congr rfl fun k _ => mul_comm _ _

end Cert.WinGradIdeal.Prod
end
-- ==== Proof.HnGrad.lean ====
/-
  The gradient `ct wᵀ` of the fused projection's input: the contracted axis goes in six stretches, summed in an accumulator.
-/
module

public import proofs.«01_k».proof.Defs
public import proofs.«01_k».proof.Proof.Mat
public import proofs.«01_k».proof.Proof.Gen.HnGradIdeal.Value
public import proofs.«01_k».proof.Proof.Gen.HnGradRefIdeal.Run
public import Idealize.ShloMosaic.Lib.Quiescent

@[expose] public section

set_option maxRecDepth 16384

noncomputable section

namespace Cert.HnGradIdeal.Prod

open Idealize.ShloMosaic Idealize.ShloMosaic.TcCoe Idealize.SL.Sem Cert.HnGradIdeal Cert.HnGradIdeal.Gen Cert.Mat

/-- The block that each window reads or writes at each grid point. -/
theorem index_all : ∀ t : Fin cfg0.N, win0_0.index t = ![t.val / 24, t.val % 6] ∧ win0_1.index t = ![t.val / 6 % 4, t.val % 6]
    ∧ win0_2.index t = ![t.val / 24, t.val / 6 % 4] :=
  (by decide +kernel : ∀ t : Fin grid0.N, win0_0.index t = ![t.val / 24, t.val % 6] ∧ win0_1.index t = ![t.val / 6 % 4, t.val % 6]
    ∧ win0_2.index t = ![t.val / 24, t.val / 6 % 4])

variable (m : (ℓ : Loc nD τ sig) → Buf (Elt Ideal) ℓ) (c : Dev nD) (t : Fin cfg0.N)

theorem held (x : Vec Ideal S1024x1024 .f32) : View.read (Elt Ideal) (View.whole cc0_scratch0) ((Memref.isWhole_whole cc0_scratch0).unread x) = x :=
  (Memref.isWhole_whole cc0_scratch0).read_unread x

/-- The accumulator after the first stretch of a block. -/
theorem first (h0 : t.val % 6 = 0) : (outsAt0 m c t.val t.isLt).2 = k0_pay2 (iblk m c 0 t) (iblk m c 1 t) (k0_pay1 (F := Ideal)) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) zero_off, View.readCov_unit_zero (S := S1024x1024) _ zero_off]
  simp only [View.readAt_eq_ld, Memref.IsWhole.read_unread, View.ld_unit_zero (S := S1024x2048) zero_off, View.ld_unit_zero (S := S1024x2048) zero_off]

/-- The accumulator after a later stretch. -/
theorem later (h0 : ¬t.val % 6 = 0) : (outsAt0 m c t.val t.isLt).2 = k0_pay2 (iblk m c 0 t) (iblk m c 1 t) (outsAt0 m c (t.val - 1) (by omega)).2 := by
  by_cases h1 : t.val % 6 = 5
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero (S := S1024x1024) zero_off]
    simp only [View.readAt_eq_ld, Memref.IsWhole.read_unread, View.ld_unit_zero (S := S1024x2048) zero_off, View.ld_unit_zero (S := S1024x2048) zero_off, View.ld_unit_zero (S := S1024x1024) zero_off, held]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero (S := S1024x1024) zero_off]
    simp only [View.readAt_eq_ld, Memref.IsWhole.read_unread, View.ld_unit_zero (S := S1024x2048) zero_off, View.ld_unit_zero (S := S1024x2048) zero_off, View.ld_unit_zero (S := S1024x1024) zero_off, held]

/-- The block stored after the last stretch. -/
theorem last (h1 : t.val % 6 = 5) : (outsAt0 m c t.val t.isLt).1 = (outsAt0 m c t.val t.isLt).2 := by
  have h0 : ¬t.val % 6 = 0 := by omega
  rw [later m c t h0, outsAt0_C m c t h0 h1]
  dsimp only
  unfold out0_C_2
  rw [View.read_writes_eq_canon _ _ _ (fun y => cover0_C_2 (y := y) ..)]
  unfold kernelRun0_C
  dsimp only
  sl_unfold_words
  rw [View.canon_unit_zero (S := S1024x1024) zero_off, View.readCov_unit_zero (S := S1024x1024) _ zero_off]
  simp only [View.readAt_eq_ld, Memref.IsWhole.read_unread, View.ld_unit_zero (S := S1024x2048) zero_off, View.ld_unit_zero (S := S1024x2048) zero_off, View.ld_unit_zero (S := S1024x1024) zero_off, held]

/-- A step of the accumulator, entry by entry. -/
theorem step (x0 : Vec Ideal S1024x2048 .bf16) (x1 : Vec Ideal S1024x2048 .bf16) (a : Vec Ideal S1024x1024 .f32) (y : S1024x1024.Idx) :
    k0_pay2 x0 x1 a y = (a y + nt (a := 1024) (b := 1024) x0 x1 y : EReal) := by
  unfold k0_pay2
  pointwise
  rfl

theorem zero (y : S1024x1024.Idx) : k0_pay1 (F := Ideal) y = (0 : EReal) := by
  unfold k0_pay1
  pointwise

variable (X : Mat 4096 12288) (Y : Mat 4096 12288)

/-- One product that an entry of the result sums; `g` counts the blocks of the result. -/
def term (y : S1024x1024.Idx) (g k : ℕ) : EReal := at2 X (1024 * (g / 4) + (y 0).val) k * at2 Y (1024 * (g % 4) + (y 1).val) k

theorem part (hX : X = m ((c : Thread nD τ).loc main_arg0)) (hY : Y = m ((c : Thread nD τ).loc main_arg1)) (y : S1024x1024.Idx) :
    nt (a := 1024) (b := 1024) (iblk m c 0 t) (iblk m c 1 t) y = ∑ x : Fin 2048, term X Y y (t.val / 6) (2048 * (t.val % 6) + x.val) := by
  have hN : t.val < 96 := lt_of_lt_of_eq t.isLt N_0
  have hy0 : (y 0).val < 1024 := (y 0).isLt
  have hy1 : (y 1).val < 1024 := (y 1).isLt
  obtain ⟨e0, e1, e2⟩ := index_all t
  refine sum_mul_congr (fun k => ?_) fun k => ?_
  · rw [at2_eq _ (by omega) (by omega), hX]
    blk_ext [iblk, V, e0]
  · rw [at2_eq _ (by omega) (by omega), hY]
    blk_ext [iblk, V, e1]

/-- The accumulator after each point. -/
theorem acc (hX : X = m ((c : Thread nD τ).loc main_arg0)) (hY : Y = m ((c : Thread nD τ).loc main_arg1)) (y : S1024x1024.Idx) (n : ℕ) (h : n < cfg0.N) :
    (outsAt0 m c n h).2 y = ∑ k ∈ Finset.range (2048 * (n % 6 + 1)), term X Y y (n / 6) k := by
  refine acc_sum (fun n h => (outsAt0 m c n h).2 y) (term X Y y) (fun n h h0 => ?_) (fun n h h' h0 => ?_) n h
  · have e := first m c ⟨n, h⟩ h0
    dsimp only at e ⊢
    rw [e, step, zero, zero_add]
    exact part m c ⟨n, h⟩ X Y hX hY y
  · have e := later m c ⟨n + 1, h⟩ h0
    dsimp only [Nat.add_sub_cancel] at e ⊢
    rw [e, step]
    exact congrArg _ (part m c ⟨n + 1, h⟩ X Y hX hY y)

/-- The result array: each entry is one sum over the whole contracted axis. -/
theorem arr : (dats m 0 c).arrAt 2 cfg0.N
    = nt (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨e0, e1, e2⟩ := index_all t
  rw [after0_2, last m c t h3]
  pointwise
  rw [acc m c _ _ rfl rfl, h3]
  have hN : t.val < 96 := lt_of_lt_of_eq t.isLt N_0
  have hy0 : (y 0).val < 1024 := (y 0).isLt
  have hy1 : (y 1).val < 1024 := (y 1).isLt
  refine (Finset.sum_range (_ : ℕ → EReal)).trans (sum_mul_congr (n := 12288) (fun k => ?_) fun k => ?_)
  · refine (at2_eq _ (show 1024 * (t.val / 6 / 4) + (y 0).val < 4096 by omega) k.isLt).trans ?_
    blk_ext [e2]
  · refine (at2_eq _ (show 1024 * (t.val / 6 % 4) + (y 1).val < 4096 by omega) k.isLt).trans ?_
    blk_ext [e2]

/-- The kernel over the reals ends without fault, its arguments unchanged and every counter at zero. -/
theorem frame_ideal : Cert.quiescent_HnGradIdeal := fun m ρ _ => Cert.HnGradIdeal.Gen.frame m ρ

/-- The reference likewise. -/
theorem frame_ref : Cert.quiescent_HnGradRefIdeal := fun m ρ _ => (θ_run Cert.HnGradRefIdeal.defs _ _).mono
  (fun r h => ⟨fun c => (h c).2, sem_eq_zero_of_no_sems (by decide) r.2⟩) (Cert.HnGradRefIdeal.Value.run m ρ)

/-- Kernel and reference leave the same matrix. -/
theorem value : Cert.algebraic_HnGradIdeal_HnGradRefIdeal := fun m g m' g' _ hargs => by
  refine ⟨fun c => nt (m ((c : Thread nD τ).loc main_arg0)) (m ((c : Thread nD τ).loc main_arg1)),
    (θ_run _ _ _).mono (fun r h c => ⟨(h c).1.trans (arr m c), (h c).2⟩) (Cert.HnGradIdeal.Value.run_blocks m g),
    (θ_run _ _ _).mono (fun r h c => ⟨(h c).1.trans ?_, (h c).2⟩) (Cert.HnGradRefIdeal.Value.run m' g')⟩
  rw [(hargs c).1, (hargs c).2]
  funext i
  pointwise
  rfl

end Cert.HnGradIdeal.Prod
end
-- ==== Proof.Hn2Grad.lean ====
/-
  The gradient `ct wᵀ` of the feed-forward input through the gate's weights, which the host transposes: the contracted axis goes in four
  stretches, summed in an accumulator.
-/
module

public import proofs.«01_k».proof.Defs
public import proofs.«01_k».proof.Proof.Mat
public import proofs.«01_k».proof.Proof.Gen.Hn2GradIdeal.Value
public import proofs.«01_k».proof.Proof.Gen.Hn2GradRefIdeal.Run
public import Idealize.ShloMosaic.Lib.Quiescent

@[expose] public section

set_option maxRecDepth 16384

noncomputable section

namespace Cert.Hn2GradIdeal.Prod

open Idealize.ShloMosaic Idealize.ShloMosaic.TcCoe Idealize.SL.Sem Cert.Hn2GradIdeal Cert.Hn2GradIdeal.Gen Cert.Mat

/-- The block that each window reads or writes at each grid point. -/
theorem index_all : ∀ t : Fin cfg0.N, win0_0.index t = ![t.val / 16, t.val % 4] ∧ win0_1.index t = ![t.val % 4, t.val / 4 % 4]
    ∧ win0_2.index t = ![t.val / 16, t.val / 4 % 4] :=
  (by decide +kernel : ∀ t : Fin grid0.N, win0_0.index t = ![t.val / 16, t.val % 4] ∧ win0_1.index t = ![t.val % 4, t.val / 4 % 4]
    ∧ win0_2.index t = ![t.val / 16, t.val / 4 % 4])

variable (m : (ℓ : Loc nD τ sig) → Buf (Elt Ideal) ℓ) (c : Dev nD) (t : Fin cfg0.N)

theorem held (x : Vec Ideal S1024x1024 .f32) : View.read (Elt Ideal) (View.whole cc0_scratch0) ((Memref.isWhole_whole cc0_scratch0).unread x) = x :=
  (Memref.isWhole_whole cc0_scratch0).read_unread x

/-- The host hands the kernel the weights transposed. -/
theorem turned (k : Fin 11264) (j : Fin 4096) : V m c main_v0 (ix2 k j) = m ((c : Thread nD τ).loc main_arg1) (ix2 j k) := by
  have e : V m c main_v0 = transpose S11264x4096 [1, 0] (m ((c : Thread nD τ).loc main_arg1)) transposes_S4096x11264_S11264x4096_1_0 := by
    unfold_abbrev_sides
    after_results
  rw [e]
  pointwise

/-- The accumulator after the first stretch of a block. -/
theorem first (h0 : t.val % 4 = 0) : (outsAt0 m c t.val t.isLt).2 = k0_pay2 (iblk m c 0 t) (iblk m c 1 t) (k0_pay1 (F := Ideal)) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) zero_off, View.readCov_unit_zero (S := S1024x1024) _ zero_off]
  simp only [View.readAt_eq_ld, Memref.IsWhole.read_unread, View.ld_unit_zero (S := S1024x2816) zero_off, View.ld_unit_zero (S := S2816x1024) zero_off]

/-- The accumulator after a later stretch. -/
theorem later (h0 : ¬t.val % 4 = 0) : (outsAt0 m c t.val t.isLt).2 = k0_pay2 (iblk m c 0 t) (iblk m c 1 t) (outsAt0 m c (t.val - 1) (by omega)).2 := by
  by_cases h1 : t.val % 4 = 3
  · rw [outsAt0_C m c t h0 h1]
    dsimp only
    unfold sout0_C_0
    rw [View.read_writes_eq_canon _ _ _ (fun y => scover0_C_0 (y := y) ..)]
    unfold kernelRun0_C
    dsimp only
    sl_unfold_words
    rw [View.canon_unit_zero (S := S1024x1024) zero_off]
    simp only [View.readAt_eq_ld, Memref.IsWhole.read_unread, View.ld_unit_zero (S := S1024x2816) zero_off, View.ld_unit_zero (S := S2816x1024) zero_off, View.ld_unit_zero (S := S1024x1024) zero_off, held]
  · rw [outsAt0_B m c t h0 h1]
    dsimp only
    unfold sout0_B_0
    rw [View.read_writes_eq_canon _ _ _ (fun y => scover0_B_0 (y := y) ..)]
    unfold kernelRun0_B
    dsimp only
    sl_unfold_words
    rw [View.canon_unit_zero (S := S1024x1024) zero_off]
    simp only [View.readAt_eq_ld, Memref.IsWhole.read_unread, View.ld_unit_zero (S := S1024x2816) zero_off, View.ld_unit_zero (S := S2816x1024) zero_off, View.ld_unit_zero (S := S1024x1024) zero_off, held]

/-- The block stored after the last stretch. -/
theorem last (h1 : t.val % 4 = 3) : (outsAt0 m c t.val t.isLt).1 = (outsAt0 m c t.val t.isLt).2 := by
  have h0 : ¬t.val % 4 = 0 := by omega
  rw [later m c t h0, outsAt0_C m c t h0 h1]
  dsimp only
  unfold out0_C_2
  rw [View.read_writes_eq_canon _ _ _ (fun y => cover0_C_2 (y := y) ..)]
  unfold kernelRun0_C
  dsimp only
  sl_unfold_words
  rw [View.canon_unit_zero (S := S1024x1024) zero_off, View.readCov_unit_zero (S := S1024x1024) _ zero_off]
  simp only [View.readAt_eq_ld, Memref.IsWhole.read_unread, View.ld_unit_zero (S := S1024x2816) zero_off, View.ld_unit_zero (S := S2816x1024) zero_off, View.ld_unit_zero (S := S1024x1024) zero_off, held]

/-- A step of the accumulator, entry by entry. -/
theorem step (x0 : Vec Ideal S1024x2816 .bf16) (x1 : Vec Ideal S2816x1024 .bf16) (a : Vec Ideal S1024x1024 .f32) (y : S1024x1024.Idx) :
    k0_pay2 x0 x1 a y = (a y + nn (a := 1024) (b := 1024) x0 x1 y : EReal) := by
  unfold k0_pay2
  pointwise
  rfl

theorem zero (y : S1024x1024.Idx) : k0_pay1 (F := Ideal) y = (0 : EReal) := by
  unfold k0_pay1
  pointwise

variable (X : Mat 4096 11264) (Y : Mat 11264 4096)

/-- One product that an entry of the result sums; `g` counts the blocks of the result. -/
def term (y : S1024x1024.Idx) (g k : ℕ) : EReal := at2 X (1024 * (g / 4) + (y 0).val) k * at2 Y k (1024 * (g % 4) + (y 1).val)

theorem part (hX : X = m ((c : Thread nD τ).loc main_arg0)) (hY : Y = V m c main_v0) (y : S1024x1024.Idx) :
    nn (a := 1024) (b := 1024) (iblk m c 0 t) (iblk m c 1 t) y = ∑ x : Fin 2816, term X Y y (t.val / 4) (2816 * (t.val % 4) + x.val) := by
  have hN : t.val < 64 := lt_of_lt_of_eq t.isLt N_0
  have hy0 : (y 0).val < 1024 := (y 0).isLt
  have hy1 : (y 1).val < 1024 := (y 1).isLt
  obtain ⟨e0, e1, e2⟩ := index_all t
  refine sum_mul_congr (fun k => ?_) fun k => ?_
  · rw [at2_eq _ (by omega) (by omega), hX]
    blk_ext [iblk, V, e0]
  · rw [at2_eq _ (by omega) (by omega), hY]
    blk_ext [iblk, e1]

/-- The accumulator after each point. -/
theorem acc (hX : X = m ((c : Thread nD τ).loc main_arg0)) (hY : Y = V m c main_v0) (y : S1024x1024.Idx) (n : ℕ) (h : n < cfg0.N) :
    (outsAt0 m c n h).2 y = ∑ k ∈ Finset.range (2816 * (n % 4 + 1)), term X Y y (n / 4) k := by
  refine acc_sum (fun n h => (outsAt0 m c n h).2 y) (term X Y y) (fun n h h0 => ?_) (fun n h h' h0 => ?_) n h
  · have e := first m c ⟨n, h⟩ h0
    dsimp only at e ⊢
    rw [e, step, zero, zero_add]
    exact part m c ⟨n, h⟩ X Y hX hY y
  · have e := later m c ⟨n + 1, h⟩ h0
    dsimp only [Nat.add_sub_cancel] at e ⊢
    rw [e, step]
    exact congrArg _ (part m c ⟨n + 1, h⟩ X Y hX hY y)

/-- The result array: each entry is one sum over the whole contracted axis. -/
theorem arr : (dats m 0 c).arrAt 2 cfg0.N
    = nt (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨e0, e1, e2⟩ := index_all t
  rw [after0_2, last m c t h3]
  pointwise
  rw [acc m c _ _ rfl rfl, h3]
  have hN : t.val < 64 := lt_of_lt_of_eq t.isLt N_0
  have hy0 : (y 0).val < 1024 := (y 0).isLt
  have hy1 : (y 1).val < 1024 := (y 1).isLt
  refine (Finset.sum_range (_ : ℕ → EReal)).trans (sum_mul_congr (n := 11264) (fun k => ?_) fun k => ?_)
  · refine (at2_eq _ (show 1024 * (t.val / 4 / 4) + (y 0).val < 4096 by omega) k.isLt).trans ?_
    blk_ext [e2]
  · refine (at2_eq _ k.isLt (show 1024 * (t.val / 4 % 4) + (y 1).val < 4096 by omega)).trans ((turned m c _ _).trans ?_)
    blk_ext [e2]

/-- The kernel over the reals ends without fault, its arguments unchanged and every counter at zero. -/
theorem frame_ideal : Cert.quiescent_Hn2GradIdeal := fun m ρ _ => Cert.Hn2GradIdeal.Gen.frame m ρ

/-- The reference likewise. -/
theorem frame_ref : Cert.quiescent_Hn2GradRefIdeal := fun m ρ _ => (θ_run Cert.Hn2GradRefIdeal.defs _ _).mono
  (fun r h => ⟨fun c => (h c).2, sem_eq_zero_of_no_sems (by decide) r.2⟩) (Cert.Hn2GradRefIdeal.Value.run m ρ)

/-- Kernel and reference leave the same matrix. -/
theorem value : Cert.algebraic_Hn2GradIdeal_Hn2GradRefIdeal := fun m g m' g' _ hargs => by
  refine ⟨fun c => nt (m ((c : Thread nD τ).loc main_arg0)) (m ((c : Thread nD τ).loc main_arg1)),
    (θ_run _ _ _).mono (fun r h c => ⟨(h c).1.trans (arr m c), (h c).2⟩) (Cert.Hn2GradIdeal.Value.run_blocks m g),
    (θ_run _ _ _).mono (fun r h c => ⟨(h c).1.trans ?_, (h c).2⟩) (Cert.Hn2GradRefIdeal.Value.run m' g')⟩
  rw [(hargs c).1, (hargs c).2]
  funext i
  pointwise
  rfl

end Cert.Hn2GradIdeal.Prod
end
-- ==== Proof.WoutGrad.lean ====
/-
  The weight gradient `xᵀ ct` of the output projection.
-/
module

public import proofs.«01_k».proof.Defs
public import proofs.«01_k».proof.Proof.Mat
public import proofs.«01_k».proof.Proof.Gen.WoutGradIdeal.Value
public import proofs.«01_k».proof.Proof.Gen.WoutGradRefIdeal.Run
public import Idealize.ShloMosaic.Lib.Quiescent

@[expose] public section

set_option maxRecDepth 16384

noncomputable section

namespace Cert.WoutGradIdeal.Prod

open Idealize.ShloMosaic Idealize.ShloMosaic.TcCoe Idealize.SL.Sem Cert.WoutGradIdeal Cert.WoutGradIdeal.Gen Cert.Mat

/-- The block that each window reads or writes at each grid point. -/
theorem index_all : ∀ t : Fin cfg0.N, win0_0.index t = ![0, t.val / 4] ∧ win0_1.index t = ![0, t.val % 4] ∧ win0_2.index t = ![t.val / 4, t.val % 4] :=
  (by decide +kernel : ∀ t : Fin grid0.N, win0_0.index t = ![0, t.val / 4] ∧ win0_1.index t = ![0, t.val % 4] ∧ win0_2.index t = ![t.val / 4, t.val % 4])

/-- The result array: each entry is one sum over the whole contracted axis. -/
theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  rw [after0_2]
  unfold out0_2 k0_pay1
  rw [View.canon_unit_zero zero_off]
  simp only [View.ld_unit_zero (S := S4096x1024) zero_off]
  pointwise
  refine sum_mul_congr (fun k => ?_) fun k => ?_
  · blk_ext [iblk, V, e0, e2]
  · blk_ext [iblk, V, e1, e2]

/-- The kernel over the reals ends without fault, its arguments unchanged and every counter at zero. -/
theorem frame_ideal : Cert.quiescent_WoutGradIdeal := fun m ρ _ => Cert.WoutGradIdeal.Gen.frame m ρ

/-- The reference likewise. -/
theorem frame_ref : Cert.quiescent_WoutGradRefIdeal := fun m ρ _ => (θ_run Cert.WoutGradRefIdeal.defs _ _).mono
  (fun r h => ⟨fun c => (h c).2, sem_eq_zero_of_no_sems (by decide) r.2⟩) (Cert.WoutGradRefIdeal.Value.run m ρ)

/-- Kernel and reference leave the same matrix. -/
theorem value : Cert.algebraic_WoutGradIdeal_WoutGradRefIdeal := fun m g m' g' _ hargs => by
  refine ⟨fun c => tn (m ((c : Thread nD τ).loc main_arg0)) (m ((c : Thread nD τ).loc main_arg1)),
    (θ_run _ _ _).mono (fun r h c => ⟨(h c).1.trans (arr m c), (h c).2⟩) (Cert.WoutGradIdeal.Value.run_blocks m g),
    (θ_run _ _ _).mono (fun r h c => ⟨(h c).1.trans ?_, (h c).2⟩) (Cert.WoutGradRefIdeal.Value.run m' g')⟩
  rw [(hargs c).1, (hargs c).2]
  funext i
  pointwise
  exact Finset.sum_congr rfl fun k _ => mul_comm _ _

end Cert.WoutGradIdeal.Prod
end
-- ==== Proof.MixGrad.lean ====
/-
  The gradient `ct wᵀ` of the output projection's left factor.
-/
module

public import proofs.«01_k».proof.Defs
public import proofs.«01_k».proof.Proof.Mat
public import proofs.«01_k».proof.Proof.Gen.MixGradIdeal.Value
public import proofs.«01_k».proof.Proof.Gen.MixGradRefIdeal.Run
public import Idealize.ShloMosaic.Lib.Quiescent

@[expose] public section

set_option maxRecDepth 16384

noncomputable section

namespace Cert.MixGradIdeal.Prod

open Idealize.ShloMosaic Idealize.ShloMosaic.TcCoe Idealize.SL.Sem Cert.MixGradIdeal Cert.MixGradIdeal.Gen Cert.Mat

/-- The block that each window reads or writes at each grid point. -/
theorem index_all : ∀ t : Fin cfg0.N, win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4])

/-- The result array: each entry is one sum over the whole contracted axis. -/
theorem arr (m : (ℓ : Loc nD τ sig) → Buf (Elt Ideal) ℓ) (c : Dev nD) :
    (dats m 0 c).arrAt 2 cfg0.N = nt (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  rw [after0_2]
  unfold out0_2 k0_pay1
  rw [View.canon_unit_zero zero_off]
  simp only [View.ld_unit_zero (S := S1024x4096) zero_off]
  pointwise
  refine sum_mul_congr (fun k => ?_) fun k => ?_
  · blk_ext [iblk, V, e0, e2]
  · blk_ext [iblk, V, e1, e2]

/-- The kernel over the reals ends without fault, its arguments unchanged and every counter at zero. -/
theorem frame_ideal : Cert.quiescent_MixGradIdeal := fun m ρ _ => Cert.MixGradIdeal.Gen.frame m ρ

/-- The reference likewise. -/
theorem frame_ref : Cert.quiescent_MixGradRefIdeal := fun m ρ _ => (θ_run Cert.MixGradRefIdeal.defs _ _).mono
  (fun r h => ⟨fun c => (h c).2, sem_eq_zero_of_no_sems (by decide) r.2⟩) (Cert.MixGradRefIdeal.Value.run m ρ)

/-- Kernel and reference leave the same matrix. -/
theorem value : Cert.algebraic_MixGradIdeal_MixGradRefIdeal := fun m g m' g' _ hargs => by
  refine ⟨fun c => nt (m ((c : Thread nD τ).loc main_arg0)) (m ((c : Thread nD τ).loc main_arg1)),
    (θ_run _ _ _).mono (fun r h c => ⟨(h c).1.trans (arr m c), (h c).2⟩) (Cert.MixGradIdeal.Value.run_blocks m g),
    (θ_run _ _ _).mono (fun r h c => ⟨(h c).1.trans ?_, (h c).2⟩) (Cert.MixGradRefIdeal.Value.run m' g')⟩
  rw [(hargs c).1, (hargs c).2]
  funext i
  pointwise
  exact Finset.sum_congr rfl fun k _ => rfl

end Cert.MixGradIdeal.Prod
end
-- ==== Proof.OutProj.lean ====
/-
  The product `x w + h` of the output projection.
-/
module

public import proofs.«01_k».proof.Defs
public import proofs.«01_k».proof.Proof.Mat
public import proofs.«01_k».proof.Proof.Gen.OutProjIdeal.Value
public import proofs.«01_k».proof.Proof.Gen.OutProjRefIdeal.Run
public import Idealize.ShloMosaic.Lib.Quiescent

@[expose] public section

set_option maxRecDepth 16384

noncomputable section

namespace Cert.OutProjIdeal.Prod

open Idealize.ShloMosaic Idealize.ShloMosaic.TcCoe Idealize.SL.Sem Cert.OutProjIdeal Cert.OutProjIdeal.Gen Cert.Mat

/-- The block that each window reads or writes at each grid point. -/
theorem index_all : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4] ∧ win0_2.index t = ![t.val / 4, t.val % 4] ∧ win0_3.index t = ![t.val / 4, t.val % 4])

/-- The result array: each entry is one sum over the whole contracted axis. -/
theorem arr (m : (ℓ : Loc nD τ sig) → Buf (Elt Ideal) ℓ) (c : Dev nD) :
    (dats m 0 c).arrAt 3 cfg0.N
      = fun i => (nn (m ((c : Thread nD τ).loc main_arg0)) (m ((c : Thread nD τ).loc main_arg1)) i : EReal) + m ((c : Thread nD τ).loc main_arg2) i := by
  refine (dats m 0 c).arrAt_eq_of_covers 3 _ (by decide +kernel) fun t hf y => ?_
  obtain ⟨e0, e1, e2, e3⟩ := index_all t
  rw [after0_3]
  unfold out0_3 k0_pay1
  rw [View.canon_unit_zero zero_off]
  simp only [View.ld_unit_zero (S := S1024x4096) zero_off, View.ld_unit_zero (S := S4096x1024) zero_off, View.ld_unit_zero (S := S1024x1024) zero_off]
  pointwise
  refine congrArg₂ (fun a b : EReal => a + b) (sum_mul_congr (fun k => ?_) fun k => ?_) ?_
  · blk_ext [iblk, V, e0, e3]
  · blk_ext [iblk, V, e1, e3]
  · blk_ext [iblk, V, e2, e3]

/-- The kernel over the reals ends without fault, its arguments unchanged and every counter at zero. -/
theorem frame_ideal : Cert.quiescent_OutProjIdeal := fun m ρ _ => Cert.OutProjIdeal.Gen.frame m ρ

/-- The reference likewise. -/
theorem frame_ref : Cert.quiescent_OutProjRefIdeal := fun m ρ _ => (θ_run Cert.OutProjRefIdeal.defs _ _).mono
  (fun r h => ⟨fun c => (h c).2, sem_eq_zero_of_no_sems (by decide) r.2⟩) (Cert.OutProjRefIdeal.Value.run m ρ)

/-- Kernel and reference leave the same matrix. -/
theorem value : Cert.algebraic_OutProjIdeal_OutProjRefIdeal := fun m g m' g' _ hargs => by
  refine ⟨fun c i => (nn (m ((c : Thread nD τ).loc main_arg0)) (m ((c : Thread nD τ).loc main_arg1)) i : EReal) + m ((c : Thread nD τ).loc main_arg2) i,
    (θ_run _ _ _).mono (fun r h c => ⟨(h c).1.trans (arr m c), (h c).2⟩) (Cert.OutProjIdeal.Value.run_blocks m g),
    (θ_run _ _ _).mono (fun r h c => ⟨(h c).1.trans ?_, (h c).2⟩) (Cert.OutProjRefIdeal.Value.run m' g')⟩
  rw [(hargs c).1, (hargs c).2.1, (hargs c).2.2]
  funext i
  pointwise
  exact add_comm (_ : EReal) _

end Cert.OutProjIdeal.Prod
end
-- ==== Proof.Norm.lean ====
/-
  The derivative of the root-mean-square norm of a row, over the extended reals: the kernels write the reciprocal root's cube where the
  derivative has the root over its argument, and one product where the derivative adds its two halves.
-/
module

public import proofs.«01_k».proof.Proof.Mat

@[expose] public section

noncomputable section

namespace Cert.Norm

open Idealize.ShloMosaic Cert.Mat

/-- The reciprocal root's cube is the reciprocal root over its argument, at every positive argument. -/
theorem cube (v : EReal) (hv : 0 < v) : Ideal.rsqrt v * Ideal.rsqrt v * Ideal.rsqrt v = Ideal.div (Ideal.rsqrt v) v := by
  induction v using EReal.rec with
  | bot => exact absurd hv (by simp)
  | top => simp [Ideal.div]
  | coe r =>
    have hr : 0 < r := EReal.coe_pos.mp hv
    have hs : Real.sqrt r ≠ 0 := (Real.sqrt_pos.mpr hr).ne'
    rw [Ideal.rsqrt_coe, if_neg (not_lt.mpr hr.le), if_neg hr.ne', Ideal.div_coe hr.ne', ← EReal.coe_mul, ← EReal.coe_mul, ← EReal.coe_mul]
    refine congrArg _ ?_
    have e : r = Real.sqrt r * Real.sqrt r := (Real.mul_self_sqrt hr.le).symm
    conv_rhs => rw [e]
    rw [Real.sqrt_mul_self (Real.sqrt_nonneg r)]
    field_simp

/-- Minus one half of a number, twice. -/
theorem halves (K : EReal) : ((-(1 / 2) : ℝ) : EReal) * K + ((-(1 / 2) : ℝ) : EReal) * K = -K := by
  induction K using EReal.rec with
  | bot => rw [EReal.coe_mul_bot_of_neg (by norm_num)]; simp
  | top => rw [EReal.coe_mul_top_of_neg (by norm_num)]; simp
  | coe r =>
    rw [← EReal.coe_mul, ← EReal.coe_add, ← EReal.coe_neg]
    refine congrArg _ ?_
    ring

theorem sq_nonneg (x : EReal) : 0 ≤ x * x := by
  induction x using EReal.rec with
  | bot => simp
  | top => simp
  | coe r => rw [← EReal.coe_mul]; exact EReal.coe_nonneg.mpr (mul_self_nonneg r)

/-- The literals: 4096, its inverse, one half with a minus sign, and the norm's small constant. -/
theorem lit_n : (Ideal.ofBits FTy.f32 0x45800000#32 : EReal) = ((4096 : ℝ) : EReal) := by
  simp [Ideal.ofBits, Ideal.ieee, -EReal.coe_mul]; norm_num
theorem lit_inv : (Ideal.ofBits FTy.f32 0x39800000#32 : EReal) = ((1 / 4096 : ℝ) : EReal) := by
  simp [Ideal.ofBits, Ideal.ieee, -EReal.coe_mul]; norm_num
theorem lit_half : (Ideal.ofBits FTy.f32 0xBF000000#32 : EReal) = ((-(1 / 2) : ℝ) : EReal) := by
  simp [Ideal.ofBits, Ideal.ieee, -EReal.coe_mul]; norm_num
theorem eps_pos : (0 : EReal) < Ideal.ofBits FTy.f32 0x3727C5AC#32 := by
  simp [Ideal.ofBits, Ideal.ieee, -EReal.coe_mul]

/-- The mean square of a row plus the norm's small constant. -/
def var (x : Fin 4096 → EReal) : EReal := Ideal.div (∑ k, x k * x k) (Ideal.ofBits FTy.f32 0x45800000#32) + Ideal.ofBits FTy.f32 0x3727C5AC#32

/-- The reciprocal root that scales the row. -/
def root (x : Fin 4096 → EReal) : EReal := Ideal.rsqrt (var x)

theorem var_pos (x : Fin 4096 → EReal) : 0 < var x := by
  unfold var
  refine lt_of_lt_of_le eps_pos (le_add_of_nonneg_left ?_)
  rw [lit_n, Ideal.div_coe (by norm_num)]
  exact mul_nonneg (Finset.sum_nonneg fun k _ => sq_nonneg _) (EReal.coe_nonneg.mpr (by norm_num))

/-- One entry of the gradient of a row: `u` is the cotangent times the gain, `a` and `b` the entry's own `x` and `u`. -/
def slope (x u : Fin 4096 → EReal) (a b : EReal) : EReal :=
  root x * b - a * (Ideal.div (root x) (var x) * Ideal.ofBits FTy.f32 0x39800000#32) * ∑ k, x k * u k

/-- The kernel's way of writing it, with the root's cube. -/
theorem slope_cube (x u : Fin 4096 → EReal) (a b : EReal) :
    root x * b - a * (root x * root x * root x * Ideal.ofBits FTy.f32 0x39800000#32) * (∑ k, x k * u k) = slope x u a b := by
  unfold slope root
  rw [cube _ (var_pos x)]

/-- The derivative's way, which adds two equal halves. -/
theorem slope_halves (x u : Fin 4096 → EReal) (a b : EReal) (A : EReal)
    (hA : A = Ideal.div ((∑ k, x k * u k) * (Ideal.ofBits FTy.f32 0xBF000000#32 * Ideal.div (root x) (var x))) (Ideal.ofBits FTy.f32 0x45800000#32)) :
    b * root x + a * A + A * a = slope x u a b := by
  unfold slope
  have e : A * a = ((-(1 / 2) : ℝ) : EReal) * (a * (Ideal.div (root x) (var x) * Ideal.ofBits FTy.f32 0x39800000#32) * ∑ k, x k * u k) := by
    rw [hA, lit_n, lit_half, lit_inv, Ideal.div_coe (by norm_num)]
    ac_rfl
  rw [mul_comm a A, e, add_assoc, halves, mul_comm b, sub_eq_add_neg]

/-- Row `i` of a matrix. -/
abbrev row {R : ℕ} (x : Mat R 4096) (i : Fin R) : Fin 4096 → EReal := fun k => x (ix2 i k)

/-- One entry of the gradient of the input. -/
def dx {R : ℕ} (x dy : Mat R 4096) (g : Mat 1 4096) (i : (⟨2, ![R, 4096]⟩ : Shape).Idx) : EReal :=
  slope (row x (i 0)) (fun k => dy (ix2 (i 0) k) * g (ix2 0 k)) (x i) (dy i * g (ix2 0 (i 1)))

/-- One row's part of the gain's gradient. -/
def dg {R : ℕ} (x dy : Mat R 4096) : Mat R 4096 := fun i => dy i * x i * root (row x (i 0))

/-- The rows regrouped by eights: row `8 p + q` is row `q` of group `p`. -/
theorem by_eights (X : Mat 4096 4096) (h) : shapeCast (⟨3, ![512, 8, 4096]⟩ : Shape) X h
    = fun j => X (ix2 ⟨8 * (j 0).val + (j 1).val, by have h0 := (j 0).isLt; have h1 := (j 1).isLt; change (j 0).val < 512 at h0; change (j 1).val < 8 at h1; omega⟩ (j 2)) := by
  funext j
  refine shapeCast_apply X h _ _ ?_
  rw [Shape.rowMajor_val_three, Shape.rowMajor_val_two]
  show (8 * (j 0).val + (j 1).val) * 4096 + (j 2).val = ((j 0).val * 8 + (j 1).val) * 4096 + (j 2).val
  ring

end Cert.Norm
end
-- ==== Proof.NormMix.lean ====
/-
  The gradient of the norm before the mixers: the gradient of its input with the residual's added, and the gain's gradient summed over the
  rows of each class modulo eight.
-/
module

public import proofs.«01_k».proof.Defs
public import proofs.«01_k».proof.Proof.Norm
public import proofs.«01_k».proof.Proof.Gen.NormMixIdeal.Value
public import proofs.«01_k».proof.Proof.Gen.NormMixRefIdeal.Run
public import Idealize.ShloMosaic.Lib.Quiescent

@[expose] public section

set_option maxRecDepth 16384

noncomputable section

namespace Cert.NormMixIdeal.Prod

open Idealize.ShloMosaic Idealize.ShloMosaic.TcCoe Idealize.SL.Sem Cert.NormMixIdeal Cert.NormMixIdeal.Gen Cert.Mat Cert.Norm

theorem pay2 (x : Vec Ideal S128x4096 .f32) (y : S128x1.Idx) : k0_pay2 x y = root (row (R := 128) x (y 0)) := by
  unfold k0_pay2
  pointwise
  rfl

theorem pay3 (x dy : Vec Ideal S128x4096 .f32) (g : Vec Ideal S1x4096 .f32) (r : Vec Ideal S128x4096 .f32) (y : S128x4096.Idx) :
    k0_pay3 x dy g r y = (dx (R := 128) x dy g y : EReal) + r y := by
  unfold k0_pay3
  pointwise
  rw [pay2]
  exact congrArg (fun z : EReal => z + r y) (slope_cube _ _ _ _)

theorem pay4 (x dy : Vec Ideal S128x4096 .f32) (y : S8x4096.Idx) :
    k0_pay4 x dy y = ∑ k : Fin 16, at2 (dg (R := 128) x dy) (8 * k.val + (y 0).val) (y 1).val := by
  unfold k0_pay4
  pointwise
  refine Finset.sum_congr rfl fun k _ => ?_
  have hy0 : (y 0).val < 8 := (y 0).isLt
  have hy1 : (y 1).val < 4096 := (y 1).isLt
  rw [at2_eq _ (by omega) hy1, pay2]
  unfold dg
  refine congrArg₂ (fun a b : EReal => a * b) (congrArg₂ (fun a b : EReal => a * b) (congrArg dy ?_) (congrArg x ?_)) (congrArg (fun a => root (row (R := 128) x a)) ?_)
  · exact congrArg (fun a => ix2 a (y 1)) (Fin.ext (by dsimp; omega))
  · exact congrArg (fun a => ix2 a (y 1)) (Fin.ext (by dsimp; omega))
  · exact Fin.ext (by dsimp; omega)

/-- The windows' blocks. -/
theorem index_all : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] :=
  (by decide +kernel : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![0, 0])

variable (m : (ℓ : Loc nD τ sig) → Buf (Elt Ideal) ℓ) (c : Dev nD)

/-- The arguments: the norm's input, the cotangent, the gain, what is added. -/
abbrev xArr : Mat 4096 4096 := m ((c : Thread nD τ).loc main_arg0)
abbrev dyArr : Mat 4096 4096 := m ((c : Thread nD τ).loc main_arg1)
abbrev gArr : Mat 1 4096 := m ((c : Thread nD τ).loc main_arg2)
abbrev rArr : Mat 4096 4096 := m ((c : Thread nD τ).loc main_arg3)

/-- The blocks of point `t`. -/
theorem x_blk (t : Fin cfg0.N) (y : S128x4096.Idx) (i : S4096x4096.Idx) (h0 : (i 0).val = 128 * t.val + (y 0).val) (h1 : (i 1).val = (y 1).val) :
    iblk m c 0 t y = xArr m c i := by
  have e0 := (index_all t).1
  have e := V_main_arg0 m c
  unfold xArr
  rw [← e]
  blk_ext [iblk, e0]

theorem dy_blk (t : Fin cfg0.N) (y : S128x4096.Idx) (i : S4096x4096.Idx) (h0 : (i 0).val = 128 * t.val + (y 0).val) (h1 : (i 1).val = (y 1).val) :
    iblk m c 1 t y = dyArr m c i := by
  have e1 := (index_all t).2.1
  have e := V_main_arg1 m c
  unfold dyArr
  rw [← e]
  blk_ext [iblk, e1]

theorem g_blk (t : Fin cfg0.N) (y : S1x4096.Idx) (i : S1x4096.Idx) (h1 : (i 1).val = (y 1).val) : iblk m c 2 t y = gArr m c i := by
  have e2 := (index_all t).2.2.1
  have e := V_main_arg2 m c
  have h0 : (i 0).val = (y 0).val := by have := (i 0).isLt; have := (y 0).isLt; change (i 0).val < 1 at *; change (y 0).val < 1 at *; omega
  unfold gArr
  rw [← e]
  blk_ext [iblk, e2]

theorem r_blk (t : Fin cfg0.N) (y : S128x4096.Idx) (i : S4096x4096.Idx) (h0 : (i 0).val = 128 * t.val + (y 0).val) (h1 : (i 1).val = (y 1).val) :
    iblk m c 3 t y = rArr m c i := by
  have e3 := (index_all t).2.2.2.1
  have e := V_main_arg3 m c
  unfold rArr
  rw [← e]
  blk_ext [iblk, e3]

/-- A row of a block is a row of the array. -/
theorem x_row (t : Fin cfg0.N) (a : Fin 128) (b : Fin 4096) (h : b.val = 128 * t.val + a.val) : row (R := 128) (iblk m c 0 t) a = row (xArr m c) b :=
  funext fun k => x_blk m c t (ix2 a k) (ix2 b k) h rfl

theorem dx_blk (t : Fin cfg0.N) (y : S128x4096.Idx) (i : S4096x4096.Idx) (h0 : (i 0).val = 128 * t.val + (y 0).val) (h1 : (i 1).val = (y 1).val) :
    dx (R := 128) (iblk m c 0 t) (iblk m c 1 t) (iblk m c 2 t) y = dx (xArr m c) (dyArr m c) (gArr m c) i := by
  unfold dx
  rw [x_row m c t (y 0) (i 0) h0, x_blk m c t y i h0 h1, dy_blk m c t y i h0 h1, g_blk m c t (ix2 0 (y 1)) (ix2 0 (i 1)) h1]
  refine congrArg (fun u => slope (row (xArr m c) (i 0)) u (xArr m c i) (dyArr m c i * gArr m c (ix2 0 (i 1)))) (funext fun k => ?_)
  rw [dy_blk m c t (ix2 (y 0) k) (ix2 (i 0) k) h0 rfl, g_blk m c t (ix2 0 k) (ix2 0 k) rfl]

theorem dg_blk (t : Fin cfg0.N) (y : S128x4096.Idx) (i : S4096x4096.Idx) (h0 : (i 0).val = 128 * t.val + (y 0).val) (h1 : (i 1).val = (y 1).val) :
    dg (R := 128) (iblk m c 0 t) (iblk m c 1 t) y = dg (xArr m c) (dyArr m c) i := by
  unfold dg
  rw [x_row m c t (y 0) (i 0) h0, x_blk m c t y i h0 h1, dy_blk m c t y i h0 h1]

/-- What grid point `t` leaves in the block of the input's gradient. -/
theorem held4 (t : Fin cfg0.N) : (outsAt0 m c t.val t.isLt).1 = k0_pay3 (iblk m c 0 t) (iblk m c 1 t) (iblk m c 2 t) (iblk m c 3 t) := by
  by_cases h0 : t.val % 32 = 0
  · rw [outsAt0_A m c t h0 (by have hN : t.val < 32 := lt_of_lt_of_eq t.isLt N_0; omega)]
    dsimp only
    unfold out0_A_4
    rw [View.read_writes_eq_canon _ _ _ (fun y => cover0_A_4 (y := y) ..)]
    unfold kernelRun0_A
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]
  · rw [outsAt0_B m c t h0 (by omega)]
    dsimp only
    unfold out0_B_4
    rw [View.read_writes_eq_canon _ _ _ (fun y => cover0_B_4 (y := y) ..)]
    unfold kernelRun0_B
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]

/-- The sums over the rows of each class after the first point, and after a later one. -/
theorem first (t : Fin cfg0.N) (h0 : t.val % 32 = 0) : (outsAt0 m c t.val t.isLt).2 = k0_pay4 (iblk m c 0 t) (iblk m c 1 t) := by
  rw [outsAt0_A m c t h0 (by have hN : t.val < 32 := lt_of_lt_of_eq t.isLt N_0; omega)]
  dsimp only
  unfold out0_A_5
  rw [View.read_writes_eq_canon _ _ _ (fun y => cover0_A_5 (y := y) ..)]
  unfold kernelRun0_A
  dsimp only
  sl_unfold_words
  rw [View.canon_unit_zero (S := S8x4096) zero_off]
  simp only [View.readAt_eq_ld, Memref.IsWhole.read_unread, View.ld_unit_zero (S := S128x4096) zero_off]

theorem later (t : Fin cfg0.N) (h0 : ¬t.val % 32 = 0) :
    (outsAt0 m c t.val t.isLt).2 = k0_pay1 (k0_pay4 (iblk m c 0 t) (iblk m c 1 t)) (outsAt0 m c (t.val - 1) (by omega)).2 := by
  rw [outsAt0_B m c t h0 (by omega)]
  dsimp only
  unfold out0_B_5
  rw [View.read_writes_eq_canon _ _ _ (fun y => cover0_B_5 (y := y) ..)]
  unfold kernelRun0_B
  dsimp only
  sl_unfold_words
  rw [View.canon_unit_zero (S := S8x4096) zero_off]
  simp only [View.readAt_eq_ld, Memref.IsWhole.read_unread, View.ld_unit_zero (S := S128x4096) zero_off, View.ld_unit_zero (S := S8x4096) zero_off]

/-- The row's part that the class of `y` sums at its `k`-th group of eight rows. -/
def term (y : S8x4096.Idx) (_ k : ℕ) : EReal := at2 (dg (xArr m c) (dyArr m c)) (8 * k + (y 0).val) (y 1).val

theorem part (t : Fin cfg0.N) (y : S8x4096.Idx) : k0_pay4 (iblk m c 0 t) (iblk m c 1 t) y = ∑ x : Fin 16, term m c y (t.val / 32) (16 * (t.val % 32) + x.val) := by
  have hN : t.val < 32 := lt_of_lt_of_eq t.isLt N_0
  have hy0 : (y 0).val < 8 := (y 0).isLt
  have hy1 : (y 1).val < 4096 := (y 1).isLt
  rw [pay4]
  refine Finset.sum_congr rfl fun k _ => ?_
  unfold term
  rw [at2_eq _ (by omega) hy1, at2_eq _ (by omega) hy1]
  refine dg_blk m c t _ _ ?_ rfl
  show 8 * (16 * (t.val % 32) + k.val) + (y 0).val = 128 * t.val + (8 * k.val + (y 0).val)
  omega

theorem step (a b : Vec Ideal S8x4096 .f32) (y : S8x4096.Idx) : k0_pay1 a b y = (b y + a y : EReal) := by
  unfold k0_pay1
  pointwise

theorem acc (y : S8x4096.Idx) (n : ℕ) (h : n < cfg0.N) : (outsAt0 m c n h).2 y = ∑ k ∈ Finset.range (16 * (n % 32 + 1)), term m c y (n / 32) k := by
  refine acc_sum (fun n h => (outsAt0 m c n h).2 y) (term m c y) (fun n h h0 => ?_) (fun n h h' h0 => ?_) n h
  · have e := first m c ⟨n, h⟩ h0
    dsimp only at e ⊢
    rw [e]
    exact part m c ⟨n, h⟩ y
  · have e := later m c ⟨n + 1, h⟩ h0
    dsimp only [Nat.add_sub_cancel] at e ⊢
    rw [e, step]
    exact congrArg _ (part m c ⟨n + 1, h⟩ y)

/-- The gain's gradient, class by class. -/
def classes (x dy : Mat 4096 4096) : Mat 8 4096 := fun i => ∑ p : Fin 512, dg x dy (ix2 ⟨8 * p.val + (i 0).val, by have := (i 0).isLt; change (i 0).val < 8 at this; omega⟩ (i 1))

/-- The array of the input's gradient. -/
theorem arr4 : (dats m 0 c).arrAt 4 cfg0.N = fun i => (dx (xArr m c) (dyArr m c) (gArr m c) i : EReal) + rArr m c i := by
  refine (dats m 0 c).arrAt_eq_of_covers 4 _ (by decide +kernel) fun t hf y => ?_
  have e := (index_all t).2.2.2.2.1
  have h0 : ((((View.whole main_v0_0).slice ((win0 4).rect t)).emb y) 0).val = 128 * t.val + (y 0).val := by
    show win0_4.index t 0 * 128 + 1 * (y 0).val = 128 * t.val + (y 0).val
    rw [e]
    show t.val * 128 + 1 * (y 0).val = _
    omega
  have h1 : ((((View.whole main_v0_0).slice ((win0 4).rect t)).emb y) 1).val = (y 1).val := by
    show win0_4.index t 1 * 4096 + 1 * (y 1).val = (y 1).val
    rw [e]
    show 0 * 4096 + 1 * (y 1).val = _
    omega
  rw [after0_4, held4]
  refine (pay3 _ _ _ _ y).trans ?_
  exact congrArg₂ (fun a b : EReal => a + b) (dx_blk m c t y _ h0 h1) (r_blk m c t y _ h0 h1)

/-- The array of the sums. -/
theorem arr5 : (dats m 0 c).arrAt 5 cfg0.N = classes (xArr m c) (dyArr m c) := by
  refine (dats m 0 c).arrAt_eq_of_covers 5 _ (by decide +kernel) fun t hf y => ?_
  have ht := (flush0_5 t).mp hf
  have e := (index_all t).2.2.2.2.2
  have hy0 : (y 0).val < 8 := (y 0).isLt
  have hy1 : (y 1).val < 4096 := (y 1).isLt
  have h0 : ((((View.whole main_v0_1).slice ((win0 5).rect t)).emb y) 0).val = (y 0).val := by
    show win0_5.index t 0 * 8 + 1 * (y 0).val = (y 0).val
    rw [e]
    show 0 * 8 + 1 * (y 0).val = _
    omega
  have h1 : ((((View.whole main_v0_1).slice ((win0 5).rect t)).emb y) 1).val = (y 1).val := by
    show win0_5.index t 1 * 4096 + 1 * (y 1).val = (y 1).val
    rw [e]
    show 0 * 4096 + 1 * (y 1).val = _
    omega
  rw [after0_5]
  refine (acc m c _ _ _).trans ?_
  rw [show 16 * (t.val % 32 + 1) = 512 by omega, Finset.sum_range (_ : ℕ → EReal)]
  refine Finset.sum_congr rfl fun p _ => ?_
  have hp := p.isLt
  unfold term
  refine (at2_eq _ (show 8 * p.val + (y 0).val < 4096 by omega) hy1).trans (congrArg (dg (xArr m c) (dyArr m c)) ?_)
  funext a
  fin_cases a
  · exact Fin.ext (congrArg (fun q => 8 * p.val + q) h0.symm)
  · exact Fin.ext h1.symm

/-- The kernel over the reals ends without fault, its arguments unchanged and every counter at zero. -/
theorem frame_ideal : Cert.quiescent_NormMixIdeal := fun m ρ _ => Cert.NormMixIdeal.Gen.frame m ρ

/-- The reference likewise. -/
theorem frame_ref : Cert.quiescent_NormMixRefIdeal := fun m ρ _ => (θ_run Cert.NormMixRefIdeal.defs _ _).mono
  (fun r h => ⟨fun c => (h c).2.2, sem_eq_zero_of_no_sems (by decide) r.2⟩) (Cert.NormMixRefIdeal.Value.run m ρ)

/-- Kernel and reference leave the same gradient and the same sums. -/
theorem value : Cert.algebraic_NormMixIdeal_NormMixRefIdeal := fun m g m' g' _ hargs => by
  refine ⟨fun c i => (dx (xArr m c) (dyArr m c) (gArr m c) i : EReal) + rArr m c i, fun c => classes (xArr m c) (dyArr m c),
    (θ_run _ _ _).mono (fun r h c => ⟨(h c).1.trans (arr4 m c), (h c).2.1.trans (arr5 m c), (h c).2.2⟩) (Cert.NormMixIdeal.Value.run_blocks m g),
    (θ_run _ _ _).mono (fun r h c => ⟨(h c).1.trans ?_, (h c).2.1.trans ?_, (h c).2.2⟩) (Cert.NormMixRefIdeal.Value.run m' g')⟩
  · rw [(hargs c).1, (hargs c).2.1, (hargs c).2.2.1, (hargs c).2.2.2]
    funext i
    pointwise
    refine (add_comm (_ : EReal) _).trans (congrArg (fun z : EReal => z + rArr m c i) (slope_halves _ _ _ _ _ ?_))
    simp only [Finset.univ_unique, Finset.sum_singleton]
    rfl
  · rw [(hargs c).1, (hargs c).2.1]
    have hx := by_eights (xArr m c) NormMixRefIdeal.Gen.shapeCasts_S4096x4096_S512x8x4096
    have hy := by_eights (dyArr m c) NormMixRefIdeal.Gen.shapeCasts_S4096x4096_S512x8x4096
    unfold xArr at hx
    unfold dyArr at hy
    rw [hx, hy]
    funext i
    pointwise
    simp only [Finset.univ_unique, Finset.sum_singleton]
    refine Finset.sum_congr rfl fun p _ => ?_
    unfold dg root var row
    exact (mul_comm (_ : EReal) _).trans (mul_assoc (_ : EReal) _ _).symm

end Cert.NormMixIdeal.Prod
end
-- ==== Proof.NormFfn.lean ====
/-
  The gradient of the norm before the feed-forward part: the gradient of its input with the residual's added, twice, and the gain's gradient summed over the
  rows of each class modulo eight.
-/
module

public import proofs.«01_k».proof.Defs
public import proofs.«01_k».proof.Proof.Norm
public import proofs.«01_k».proof.Proof.Gen.NormFfnIdeal.Value
public import proofs.«01_k».proof.Proof.Gen.NormFfnRefIdeal.Run
public import Idealize.ShloMosaic.Lib.Quiescent

@[expose] public section

set_option maxRecDepth 16384

noncomputable section

namespace Cert.NormFfnIdeal.Prod

open Idealize.ShloMosaic Idealize.ShloMosaic.TcCoe Idealize.SL.Sem Cert.NormFfnIdeal Cert.NormFfnIdeal.Gen Cert.Mat Cert.Norm

theorem pay2 (x : Vec Ideal S128x4096 .f32) (y : S128x1.Idx) : k0_pay2 x y = root (row (R := 128) x (y 0)) := by
  unfold k0_pay2
  pointwise
  rfl

theorem pay3 (x dy : Vec Ideal S128x4096 .f32) (g : Vec Ideal S1x4096 .f32) (r : Vec Ideal S128x4096 .f32) (y : S128x4096.Idx) :
    k0_pay3 x dy g r y = (dx (R := 128) x dy g y : EReal) + r y := by
  unfold k0_pay3
  pointwise
  rw [pay2]
  exact congrArg (fun z : EReal => z + r y) (slope_cube _ _ _ _)

theorem pay5 (x dy : Vec Ideal S128x4096 .f32) (y : S8x4096.Idx) :
    k0_pay5 x dy y = ∑ k : Fin 16, at2 (dg (R := 128) x dy) (8 * k.val + (y 0).val) (y 1).val := by
  unfold k0_pay5
  pointwise
  refine Finset.sum_congr rfl fun k _ => ?_
  have hy0 : (y 0).val < 8 := (y 0).isLt
  have hy1 : (y 1).val < 4096 := (y 1).isLt
  rw [at2_eq _ (by omega) hy1, pay2]
  unfold dg
  refine congrArg₂ (fun a b : EReal => a * b) (congrArg₂ (fun a b : EReal => a * b) (congrArg dy ?_) (congrArg x ?_)) (congrArg (fun a => root (row (R := 128) x a)) ?_)
  · exact congrArg (fun a => ix2 a (y 1)) (Fin.ext (by dsimp; omega))
  · exact congrArg (fun a => ix2 a (y 1)) (Fin.ext (by dsimp; omega))
  · exact Fin.ext (by dsimp; omega)

/-- The windows' blocks. -/
theorem index_all : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0])

variable (m : (ℓ : Loc nD τ sig) → Buf (Elt Ideal) ℓ) (c : Dev nD)

/-- The arguments: the norm's input, the cotangent, the gain, what is added. -/
abbrev xArr : Mat 4096 4096 := m ((c : Thread nD τ).loc main_arg0)
abbrev dyArr : Mat 4096 4096 := m ((c : Thread nD τ).loc main_arg1)
abbrev gArr : Mat 1 4096 := m ((c : Thread nD τ).loc main_arg2)
abbrev rArr : Mat 4096 4096 := m ((c : Thread nD τ).loc main_arg3)

/-- The blocks of point `t`. -/
theorem x_blk (t : Fin cfg0.N) (y : S128x4096.Idx) (i : S4096x4096.Idx) (h0 : (i 0).val = 128 * t.val + (y 0).val) (h1 : (i 1).val = (y 1).val) :
    iblk m c 0 t y = xArr m c i := by
  have e0 := (index_all t).1
  have e := V_main_arg0 m c
  unfold xArr
  rw [← e]
  blk_ext [iblk, e0]

theorem dy_blk (t : Fin cfg0.N) (y : S128x4096.Idx) (i : S4096x4096.Idx) (h0 : (i 0).val = 128 * t.val + (y 0).val) (h1 : (i 1).val = (y 1).val) :
    iblk m c 1 t y = dyArr m c i := by
  have e1 := (index_all t).2.1
  have e := V_main_arg1 m c
  unfold dyArr
  rw [← e]
  blk_ext [iblk, e1]

theorem g_blk (t : Fin cfg0.N) (y : S1x4096.Idx) (i : S1x4096.Idx) (h1 : (i 1).val = (y 1).val) : iblk m c 2 t y = gArr m c i := by
  have e2 := (index_all t).2.2.1
  have e := V_main_arg2 m c
  have h0 : (i 0).val = (y 0).val := by have := (i 0).isLt; have := (y 0).isLt; change (i 0).val < 1 at *; change (y 0).val < 1 at *; omega
  unfold gArr
  rw [← e]
  blk_ext [iblk, e2]

theorem r_blk (t : Fin cfg0.N) (y : S128x4096.Idx) (i : S4096x4096.Idx) (h0 : (i 0).val = 128 * t.val + (y 0).val) (h1 : (i 1).val = (y 1).val) :
    iblk m c 3 t y = rArr m c i := by
  have e3 := (index_all t).2.2.2.1
  have e := V_main_arg3 m c
  unfold rArr
  rw [← e]
  blk_ext [iblk, e3]

/-- A row of a block is a row of the array. -/
theorem x_row (t : Fin cfg0.N) (a : Fin 128) (b : Fin 4096) (h : b.val = 128 * t.val + a.val) : row (R := 128) (iblk m c 0 t) a = row (xArr m c) b :=
  funext fun k => x_blk m c t (ix2 a k) (ix2 b k) h rfl

theorem dx_blk (t : Fin cfg0.N) (y : S128x4096.Idx) (i : S4096x4096.Idx) (h0 : (i 0).val = 128 * t.val + (y 0).val) (h1 : (i 1).val = (y 1).val) :
    dx (R := 128) (iblk m c 0 t) (iblk m c 1 t) (iblk m c 2 t) y = dx (xArr m c) (dyArr m c) (gArr m c) i := by
  unfold dx
  rw [x_row m c t (y 0) (i 0) h0, x_blk m c t y i h0 h1, dy_blk m c t y i h0 h1, g_blk m c t (ix2 0 (y 1)) (ix2 0 (i 1)) h1]
  refine congrArg (fun u => slope (row (xArr m c) (i 0)) u (xArr m c i) (dyArr m c i * gArr m c (ix2 0 (i 1)))) (funext fun k => ?_)
  rw [dy_blk m c t (ix2 (y 0) k) (ix2 (i 0) k) h0 rfl, g_blk m c t (ix2 0 k) (ix2 0 k) rfl]

theorem dg_blk (t : Fin cfg0.N) (y : S128x4096.Idx) (i : S4096x4096.Idx) (h0 : (i 0).val = 128 * t.val + (y 0).val) (h1 : (i 1).val = (y 1).val) :
    dg (R := 128) (iblk m c 0 t) (iblk m c 1 t) y = dg (xArr m c) (dyArr m c) i := by
  unfold dg
  rw [x_row m c t (y 0) (i 0) h0, x_blk m c t y i h0 h1, dy_blk m c t y i h0 h1]

theorem pay4 (x dy : Vec Ideal S128x4096 .f32) (g : Vec Ideal S1x4096 .f32) (r : Vec Ideal S128x4096 .f32) (y : S128x4096.Idx) :
    k0_pay4 x dy g r y = (dx (R := 128) x dy g y : EReal) + r y := pay3 x dy g r y

/-- What grid point `t` leaves in the block of the input's gradient. -/
theorem held4 (t : Fin cfg0.N) : (outsAt0 m c t.val t.isLt).1 = k0_pay3 (iblk m c 0 t) (iblk m c 1 t) (iblk m c 2 t) (iblk m c 3 t) := by
  by_cases h0 : t.val % 32 = 0
  · rw [outsAt0_A m c t h0 (by have hN : t.val < 32 := lt_of_lt_of_eq t.isLt N_0; omega)]
    dsimp only
    unfold out0_A_4
    rw [View.read_writes_eq_canon _ _ _ (fun y => cover0_A_4 (y := y) ..)]
    unfold kernelRun0_A
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]
  · rw [outsAt0_B m c t h0 (by omega)]
    dsimp only
    unfold out0_B_4
    rw [View.read_writes_eq_canon _ _ _ (fun y => cover0_B_4 (y := y) ..)]
    unfold kernelRun0_B
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]

/-- What grid point `t` leaves in the second block. -/
theorem held5 (t : Fin cfg0.N) : (outsAt0 m c t.val t.isLt).2.1 = k0_pay4 (iblk m c 0 t) (iblk m c 1 t) (iblk m c 2 t) (iblk m c 3 t) := by
  by_cases h0 : t.val % 32 = 0
  · rw [outsAt0_A m c t h0 (by have hN : t.val < 32 := lt_of_lt_of_eq t.isLt N_0; omega)]
    dsimp only
    unfold out0_A_5
    rw [View.read_writes_eq_canon _ _ _ (fun y => cover0_A_5 (y := y) ..)]
    unfold kernelRun0_A
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]
  · rw [outsAt0_B m c t h0 (by omega)]
    dsimp only
    unfold out0_B_5
    rw [View.read_writes_eq_canon _ _ _ (fun y => cover0_B_5 (y := y) ..)]
    unfold kernelRun0_B
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]

/-- The sums over the rows of each class after the first point, and after a later one. -/
theorem first (t : Fin cfg0.N) (h0 : t.val % 32 = 0) : (outsAt0 m c t.val t.isLt).2.2 = k0_pay5 (iblk m c 0 t) (iblk m c 1 t) := by
  rw [outsAt0_A m c t h0 (by have hN : t.val < 32 := lt_of_lt_of_eq t.isLt N_0; omega)]
  dsimp only
  unfold out0_A_6
  rw [View.read_writes_eq_canon _ _ _ (fun y => cover0_A_6 (y := y) ..)]
  unfold kernelRun0_A
  dsimp only
  sl_unfold_words
  rw [View.canon_unit_zero (S := S8x4096) zero_off]
  simp only [View.readAt_eq_ld, Memref.IsWhole.read_unread, View.ld_unit_zero (S := S128x4096) zero_off]

theorem later (t : Fin cfg0.N) (h0 : ¬t.val % 32 = 0) :
    (outsAt0 m c t.val t.isLt).2.2 = k0_pay1 (k0_pay5 (iblk m c 0 t) (iblk m c 1 t)) (outsAt0 m c (t.val - 1) (by omega)).2.2 := by
  rw [outsAt0_B m c t h0 (by omega)]
  dsimp only
  unfold out0_B_6
  rw [View.read_writes_eq_canon _ _ _ (fun y => cover0_B_6 (y := y) ..)]
  unfold kernelRun0_B
  dsimp only
  sl_unfold_words
  rw [View.canon_unit_zero (S := S8x4096) zero_off]
  simp only [View.readAt_eq_ld, Memref.IsWhole.read_unread, View.ld_unit_zero (S := S128x4096) zero_off, View.ld_unit_zero (S := S8x4096) zero_off]

/-- The row's part that the class of `y` sums at its `k`-th group of eight rows. -/
def term (y : S8x4096.Idx) (_ k : ℕ) : EReal := at2 (dg (xArr m c) (dyArr m c)) (8 * k + (y 0).val) (y 1).val

theorem part (t : Fin cfg0.N) (y : S8x4096.Idx) : k0_pay5 (iblk m c 0 t) (iblk m c 1 t) y = ∑ x : Fin 16, term m c y (t.val / 32) (16 * (t.val % 32) + x.val) := by
  have hN : t.val < 32 := lt_of_lt_of_eq t.isLt N_0
  have hy0 : (y 0).val < 8 := (y 0).isLt
  have hy1 : (y 1).val < 4096 := (y 1).isLt
  rw [pay5]
  refine Finset.sum_congr rfl fun k _ => ?_
  unfold term
  rw [at2_eq _ (by omega) hy1, at2_eq _ (by omega) hy1]
  refine dg_blk m c t _ _ ?_ rfl
  show 8 * (16 * (t.val % 32) + k.val) + (y 0).val = 128 * t.val + (8 * k.val + (y 0).val)
  omega

theorem step (a b : Vec Ideal S8x4096 .f32) (y : S8x4096.Idx) : k0_pay1 a b y = (b y + a y : EReal) := by
  unfold k0_pay1
  pointwise

theorem acc (y : S8x4096.Idx) (n : ℕ) (h : n < cfg0.N) : (outsAt0 m c n h).2.2 y = ∑ k ∈ Finset.range (16 * (n % 32 + 1)), term m c y (n / 32) k := by
  refine acc_sum (fun n h => (outsAt0 m c n h).2.2 y) (term m c y) (fun n h h0 => ?_) (fun n h h' h0 => ?_) n h
  · have e := first m c ⟨n, h⟩ h0
    dsimp only at e ⊢
    rw [e]
    exact part m c ⟨n, h⟩ y
  · have e := later m c ⟨n + 1, h⟩ h0
    dsimp only [Nat.add_sub_cancel] at e ⊢
    rw [e, step]
    exact congrArg _ (part m c ⟨n + 1, h⟩ y)

/-- The gain's gradient, class by class. -/
def classes (x dy : Mat 4096 4096) : Mat 8 4096 := fun i => ∑ p : Fin 512, dg x dy (ix2 ⟨8 * p.val + (i 0).val, by have := (i 0).isLt; change (i 0).val < 8 at this; omega⟩ (i 1))

/-- The array of the input's gradient. -/
theorem arr4 : (dats m 0 c).arrAt 4 cfg0.N = fun i => (dx (xArr m c) (dyArr m c) (gArr m c) i : EReal) + rArr m c i := by
  refine (dats m 0 c).arrAt_eq_of_covers 4 _ (by decide +kernel) fun t hf y => ?_
  have e := (index_all t).2.2.2.2.1
  have h0 : ((((View.whole main_v0_0).slice ((win0 4).rect t)).emb y) 0).val = 128 * t.val + (y 0).val := by
    show win0_4.index t 0 * 128 + 1 * (y 0).val = 128 * t.val + (y 0).val
    rw [e]
    show t.val * 128 + 1 * (y 0).val = _
    omega
  have h1 : ((((View.whole main_v0_0).slice ((win0 4).rect t)).emb y) 1).val = (y 1).val := by
    show win0_4.index t 1 * 4096 + 1 * (y 1).val = (y 1).val
    rw [e]
    show 0 * 4096 + 1 * (y 1).val = _
    omega
  rw [after0_4, held4]
  refine (pay3 _ _ _ _ y).trans ?_
  exact congrArg₂ (fun a b : EReal => a + b) (dx_blk m c t y _ h0 h1) (r_blk m c t y _ h0 h1)

/-- The second copy of it. -/
theorem arr5 : (dats m 0 c).arrAt 5 cfg0.N = fun i => (dx (xArr m c) (dyArr m c) (gArr m c) i : EReal) + rArr m c i := by
  refine (dats m 0 c).arrAt_eq_of_covers 5 _ (by decide +kernel) fun t hf y => ?_
  have e := (index_all t).2.2.2.2.2.1
  have h0 : ((((View.whole main_v0_1).slice ((win0 5).rect t)).emb y) 0).val = 128 * t.val + (y 0).val := by
    show win0_5.index t 0 * 128 + 1 * (y 0).val = 128 * t.val + (y 0).val
    rw [e]
    show t.val * 128 + 1 * (y 0).val = _
    omega
  have h1 : ((((View.whole main_v0_1).slice ((win0 5).rect t)).emb y) 1).val = (y 1).val := by
    show win0_5.index t 1 * 4096 + 1 * (y 1).val = (y 1).val
    rw [e]
    show 0 * 4096 + 1 * (y 1).val = _
    omega
  rw [after0_5, held5]
  refine (pay4 _ _ _ _ y).trans ?_
  exact congrArg₂ (fun a b : EReal => a + b) (dx_blk m c t y _ h0 h1) (r_blk m c t y _ h0 h1)

/-- The array of the sums. -/
theorem arr6 : (dats m 0 c).arrAt 6 cfg0.N = classes (xArr m c) (dyArr m c) := by
  refine (dats m 0 c).arrAt_eq_of_covers 6 _ (by decide +kernel) fun t hf y => ?_
  have ht := (flush0_6 t).mp hf
  have e := (index_all t).2.2.2.2.2.2
  have hy0 : (y 0).val < 8 := (y 0).isLt
  have hy1 : (y 1).val < 4096 := (y 1).isLt
  have h0 : ((((View.whole main_v0_2).slice ((win0 6).rect t)).emb y) 0).val = (y 0).val := by
    show win0_6.index t 0 * 8 + 1 * (y 0).val = (y 0).val
    rw [e]
    show 0 * 8 + 1 * (y 0).val = _
    omega
  have h1 : ((((View.whole main_v0_2).slice ((win0 6).rect t)).emb y) 1).val = (y 1).val := by
    show win0_6.index t 1 * 4096 + 1 * (y 1).val = (y 1).val
    rw [e]
    show 0 * 4096 + 1 * (y 1).val = _
    omega
  rw [after0_6]
  refine (acc m c _ _ _).trans ?_
  rw [show 16 * (t.val % 32 + 1) = 512 by omega, Finset.sum_range (_ : ℕ → EReal)]
  refine Finset.sum_congr rfl fun p _ => ?_
  have hp := p.isLt
  unfold term
  refine (at2_eq _ (show 8 * p.val + (y 0).val < 4096 by omega) hy1).trans (congrArg (dg (xArr m c) (dyArr m c)) ?_)
  funext a
  fin_cases a
  · exact Fin.ext (congrArg (fun q => 8 * p.val + q) h0.symm)
  · exact Fin.ext h1.symm

/-- The kernel over the reals ends without fault, its arguments unchanged and every counter at zero. -/
theorem frame_ideal : Cert.quiescent_NormFfnIdeal := fun m ρ _ => Cert.NormFfnIdeal.Gen.frame m ρ

/-- The reference likewise. -/
theorem frame_ref : Cert.quiescent_NormFfnRefIdeal := fun m ρ _ => (θ_run Cert.NormFfnRefIdeal.defs _ _).mono
  (fun r h => ⟨fun c => (h c).2.2.2, sem_eq_zero_of_no_sems (by decide) r.2⟩) (Cert.NormFfnRefIdeal.Value.run m ρ)

/-- Kernel and reference leave the same gradient and the same sums. -/
theorem value : Cert.algebraic_NormFfnIdeal_NormFfnRefIdeal := fun m g m' g' _ hargs => by
  refine ⟨fun c i => (dx (xArr m c) (dyArr m c) (gArr m c) i : EReal) + rArr m c i, fun c i => (dx (xArr m c) (dyArr m c) (gArr m c) i : EReal) + rArr m c i, fun c => classes (xArr m c) (dyArr m c),
    (θ_run _ _ _).mono (fun r h c => ⟨(h c).1.trans (arr4 m c), (h c).2.1.trans (arr5 m c), (h c).2.2.1.trans (arr6 m c), (h c).2.2.2⟩) (Cert.NormFfnIdeal.Value.run_blocks m g),
    (θ_run _ _ _).mono (fun r h c => ⟨(h c).1.trans ?_, (h c).2.1.trans ?_, (h c).2.2.1.trans ?_, (h c).2.2.2⟩) (Cert.NormFfnRefIdeal.Value.run m' g')⟩
  · rw [(hargs c).1, (hargs c).2.1, (hargs c).2.2.1, (hargs c).2.2.2]
    funext i
    pointwise
    refine (add_comm (_ : EReal) _).trans (congrArg (fun z : EReal => z + rArr m c i) (slope_halves _ _ _ _ _ ?_))
    simp only [Finset.univ_unique, Finset.sum_singleton]
    rfl
  · rw [(hargs c).1, (hargs c).2.1, (hargs c).2.2.1, (hargs c).2.2.2]
    funext i
    pointwise
    refine (add_comm (_ : EReal) _).trans (congrArg (fun z : EReal => z + rArr m c i) (slope_halves _ _ _ _ _ ?_))
    simp only [Finset.univ_unique, Finset.sum_singleton]
    rfl
  · rw [(hargs c).1, (hargs c).2.1]
    have hx := by_eights (xArr m c) NormFfnRefIdeal.Gen.shapeCasts_S4096x4096_S512x8x4096
    have hy := by_eights (dyArr m c) NormFfnRefIdeal.Gen.shapeCasts_S4096x4096_S512x8x4096
    unfold xArr at hx
    unfold dyArr at hy
    rw [hx, hy]
    funext i
    pointwise
    simp only [Finset.univ_unique, Finset.sum_singleton]
    refine Finset.sum_congr rfl fun p _ => ?_
    unfold dg root var row
    exact (mul_comm (_ : EReal) _).trans (mul_assoc (_ : EReal) _ _).symm

end Cert.NormFfnIdeal.Prod
end
-- ==== Proof.Adam.lean ====
/-
  The optimiser's update of one entry, over the extended reals: the two moments, and the step that they give.
-/
module

public import proofs.«01_k».proof.Proof.Mat

@[expose] public section

noncomputable section

namespace Cert.AdamW

open Idealize.ShloMosaic Cert.Mat

/-- The first moment after the step. -/
def first (g m : EReal) : EReal := Ideal.ofBits FTy.f32 0x3F666666#32 * m + Ideal.ofBits FTy.f32 0x3DCCCCCD#32 * g

/-- The second moment after the step. -/
def second (g v : EReal) : EReal := Ideal.ofBits FTy.f32 0x3F7FBE77#32 * v + Ideal.ofBits FTy.f32 0x3A83126F#32 * (g * g)

/-- What the step adds to the weight. -/
def delta (w g m v : EReal) : EReal :=
  Ideal.ofBits FTy.f32 0xBA83126F#32 * (Ideal.div (Ideal.div (first g m) (Ideal.ofBits FTy.f32 0x3F26BD02#32))
    (Ideal.sqrt (Ideal.div (second g v) (Ideal.ofBits FTy.f32 0x3C231ACC#32)) + Ideal.ofBits FTy.f32 0x322BCC77#32) + Ideal.ofBits FTy.f32 0x3C23D70A#32 * w)

/-- Two halves of columns side by side. -/
def beside {R : ℕ} (a b : Mat R 2048) : Mat R 4096 := fun i =>
  if h : (i 1).val < 2048 then a (ix2 (i 0) ⟨(i 1).val, h⟩) else b (ix2 (i 0) ⟨(i 1).val - 2048, by have := (i 1).isLt; change (i 1).val < 4096 at this; omega⟩)

end Cert.AdamW
end
-- ==== Proof.AdamIn.lean ====
/-
  The optimiser's step of the input projection's weight, of which the two halves of the gradient's rows come from two devices: the gradient
  put together, the step, and the two moments.
-/
module

public import proofs.«01_k».proof.Defs
public import proofs.«01_k».proof.Proof.Adam
public import proofs.«01_k».proof.Proof.Gen.AdamInIdeal.Value
public import proofs.«01_k».proof.Proof.Gen.AdamInRefIdeal.Run
public import Idealize.ShloMosaic.Lib.Quiescent

@[expose] public section

set_option maxRecDepth 16384

noncomputable section

namespace Cert.AdamInIdeal.Prod

open Idealize.ShloMosaic Idealize.ShloMosaic.TcCoe Idealize.SL.Sem Cert.AdamInIdeal Cert.AdamInIdeal.Gen Cert.Mat Cert.AdamW

/-- Every array's window is the same block of rows, the halves' being counted from their own first row. -/
theorem index_all : ∀ t : Fin cfg0.N, win0_0.index t = ![t.val, 0] ∧ win0_1.index t = ![t.val % 16, 0] ∧ win0_2.index t = ![t.val % 16, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val % 16, 0] ∧ win0_2.index t = ![t.val % 16, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0])

/-- One half above the other. -/
def above (a b : Mat 2048 3072) : Mat 4096 3072 := fun i =>
  if h : (i 0).val < 2048 then a (ix2 ⟨(i 0).val, h⟩ (i 1)) else b (ix2 ⟨(i 0).val - 2048, by have := (i 0).isLt; change (i 0).val < 4096 at this; omega⟩ (i 1))

/-- The host's way of laying one above the other. -/
theorem above_eq (a b : Mat 2048 3072) (h) : above a b = concatenate (α := EReal) S4096x3072 0 [⟨S2048x3072, a⟩, ⟨S2048x3072, b⟩] h := by
  funext i
  unfold above
  pointwise

/-- Whether a block of rows lies in the upper half, as the kernel asks: its number over sixteen, rounded down, against zero. -/
def upper (b : BitVec 32) : BitVec 1 :=
  Scalar.cmpi .eq (Scalar.select (Scalar.andi (Scalar.cmpi .ne
      (Scalar.subi (Scalar.extui (Scalar.cmpi .sgt b 0#32)) (Scalar.extui (Scalar.cmpi .slt b 0#32)))
      (Scalar.subi (Scalar.extui (Scalar.cmpi .sgt 16#32 0#32)) (Scalar.extui (Scalar.cmpi .slt 16#32 0#32))))
    (Scalar.cmpi .ne (Scalar.remsi b 16#32) 0#32)) (Scalar.subi (Scalar.divsi b 16#32) 1#32) (Scalar.divsi b 16#32)) 0#32

theorem upper_eq : ∀ t : Fin cfg0.N, upper (BitVec.ofNat 32 ((grid0.coords t) 1).val) = if t.val < 16 then 1#1 else 0#1 :=
  (by decide +kernel : ∀ t : Fin grid0.N, upper (BitVec.ofNat 32 ((grid0.coords t) 1).val) = if t.val < 16 then 1#1 else 0#1)

/-- The half that a block of rows lies in. -/
def pick (t : ℕ) (a b : Vec Ideal S128x3072 .f32) : Vec Ideal S128x3072 .f32 := if t < 16 then a else b

theorem pay2 (t : Fin cfg0.N) (x1 x2 : Vec Ideal S128x3072 .f32) : k0_pay2 (BitVec.ofNat 32 ((grid0.coords t) 1).val) x1 x2 = pick t.val x1 x2 := by
  have h : k0_pay2 (BitVec.ofNat 32 ((grid0.coords t) 1).val) x1 x2 = Scalar.select (upper (BitVec.ofNat 32 ((grid0.coords t) 1).val)) x1 x2 := rfl
  rw [h, upper_eq]
  unfold pick
  split
  · rfl
  · rfl

theorem pay3 (t : Fin cfg0.N) (x1 x2 x3 : Vec Ideal S128x3072 .f32) (y : S128x3072.Idx) :
    k0_pay3 (BitVec.ofNat 32 ((grid0.coords t) 1).val) x1 x2 x3 y = first (pick t.val x1 x2 y) (x3 y) :=
  congrArg (fun g : Vec Ideal S128x3072 .f32 => first (g y) (x3 y)) (pay2 t x1 x2)

theorem pay4 (t : Fin cfg0.N) (x1 x2 x4 : Vec Ideal S128x3072 .f32) (y : S128x3072.Idx) :
    k0_pay4 (BitVec.ofNat 32 ((grid0.coords t) 1).val) x1 x2 x4 y = second (pick t.val x1 x2 y) (x4 y) :=
  congrArg (fun g : Vec Ideal S128x3072 .f32 => second (g y) (x4 y)) (pay2 t x1 x2)

theorem pay1 (t : Fin cfg0.N) (x1 x2 x0 x3 x4 : Vec Ideal S128x3072 .f32) (y : S128x3072.Idx) :
    k0_pay1 x0 (k0_pay4 (BitVec.ofNat 32 ((grid0.coords t) 1).val) x1 x2 x4) (k0_pay5 (BitVec.ofNat 32 ((grid0.coords t) 1).val) x1 x2 x3) y
      = delta (x0 y) (pick t.val x1 x2 y) (x3 y) (x4 y) :=
  congrArg (fun g : Vec Ideal S128x3072 .f32 => delta (x0 y) (g y) (x3 y) (x4 y)) (pay2 t x1 x2)

variable (m : (ℓ : Loc nD τ sig) → Buf (Elt Ideal) ℓ) (c : Dev nD)

/-- The arguments: the weight, the two halves of the gradient, the moments. -/
abbrev wArr : Mat 4096 3072 := m ((c : Thread nD τ).loc main_arg0)
abbrev gArr : Mat 4096 3072 := above (m ((c : Thread nD τ).loc main_arg1)) (m ((c : Thread nD τ).loc main_arg2))
abbrev mArr : Mat 4096 3072 := m ((c : Thread nD τ).loc main_arg3)
abbrev vArr : Mat 4096 3072 := m ((c : Thread nD τ).loc main_arg4)

/-- Block `t` of each argument. -/
theorem blk (t : Fin cfg0.N) (y : S128x3072.Idx) (i : S4096x3072.Idx) (h0 : (i 0).val = 128 * t.val + (y 0).val) (h1 : (i 1).val = (y 1).val) :
    iblk m c 0 t y = wArr m c i ∧ pick t.val (iblk m c 1 t) (iblk m c 2 t) y = gArr m c i ∧ iblk m c 3 t y = mArr m c i ∧ iblk m c 4 t y = vArr m c i := by
  obtain ⟨e0, e1, e2, e3, e4, -⟩ := index_all t
  refine ⟨?_, ?_, ?_, ?_⟩
  · have e := V_main_arg0 m c
    unfold wArr
    rw [← e]
    blk_ext [iblk, e0]
  · unfold gArr above pick
    have ea := V_main_arg1 m c
    have eb := V_main_arg2 m c
    rw [← ea, ← eb]
    have hN : t.val < 32 := lt_of_lt_of_eq t.isLt N_0
    have hy0 : (y 0).val < 128 := (y 0).isLt
    by_cases h : t.val < 16
    · rw [if_pos h, dif_pos (by omega)]
      blk_ext [iblk, e1]
    · rw [if_neg h, dif_neg (by omega)]
      blk_ext [iblk, e2]
  · have e := V_main_arg3 m c
    unfold mArr
    rw [← e]
    blk_ext [iblk, e3]
  · have e := V_main_arg4 m c
    unfold vArr
    rw [← e]
    blk_ext [iblk, e4]

/-- What grid point `t` leaves in the four blocks. -/
theorem held5 (t : Fin cfg0.N) : (outsAt0 m c t).1 = k0_pay2 (BitVec.ofNat 32 ((grid0.coords t) 1).val) (iblk m c 1 t) (iblk m c 2 t) := by
  unfold outsAt0 out0_A_5
  rw [View.read_writes_eq_canon _ _ _ (fun y => cover0_A_5 (y := y) ..)]
  unfold kernelRun0_A
  dsimp only
  sl_unfold_words
  rw [View.canon_unit_zero (S := S128x3072) zero_off]
  simp only [View.readAt_eq_ld, Memref.IsWhole.read_unread, View.ld_unit_zero (S := S128x3072) zero_off]

theorem held6 (t : Fin cfg0.N) : (outsAt0 m c t).2.1 = k0_pay1 (iblk m c 0 t) (k0_pay4 (BitVec.ofNat 32 ((grid0.coords t) 1).val) (iblk m c 1 t) (iblk m c 2 t) (iblk m c 4 t)) (k0_pay5 (BitVec.ofNat 32 ((grid0.coords t) 1).val) (iblk m c 1 t) (iblk m c 2 t) (iblk m c 3 t)) := by
  unfold outsAt0 out0_A_6
  dsimp only
  rw [View.read_writes_eq_canon _ _ _ (fun y => cover0_A_6 (y := y) ..)]
  unfold kernelRun0_A
  dsimp only
  sl_unfold_words
  rw [View.canon_unit_zero (S := S128x3072) zero_off]
  simp only [View.readAt_eq_ld, Memref.IsWhole.read_unread, View.ld_unit_zero (S := S128x3072) zero_off, View.ld_unit_zero (S := S128x3072) zero_off]

theorem held7 (t : Fin cfg0.N) : (outsAt0 m c t).2.2.1 = k0_pay3 (BitVec.ofNat 32 ((grid0.coords t) 1).val) (iblk m c 1 t) (iblk m c 2 t) (iblk m c 3 t) := by
  unfold outsAt0 out0_A_7
  dsimp only
  rw [View.read_writes_eq_canon _ _ _ (fun y => cover0_A_7 (y := y) ..)]
  unfold kernelRun0_A
  dsimp only
  sl_unfold_words
  rw [View.canon_unit_zero (S := S128x3072) zero_off]
  simp only [View.readAt_eq_ld, Memref.IsWhole.read_unread, View.ld_unit_zero (S := S128x3072) zero_off, View.ld_unit_zero (S := S128x3072) zero_off]

theorem held8 (t : Fin cfg0.N) : (outsAt0 m c t).2.2.2 = k0_pay4 (BitVec.ofNat 32 ((grid0.coords t) 1).val) (iblk m c 1 t) (iblk m c 2 t) (iblk m c 4 t) := by
  unfold outsAt0 out0_A_8
  dsimp only
  rw [View.read_writes_eq_canon _ _ _ (fun y => cover0_A_8 (y := y) ..)]
  unfold kernelRun0_A
  dsimp only
  sl_unfold_words
  rw [View.canon_unit_zero (S := S128x3072) zero_off]
  simp only [View.readAt_eq_ld, Memref.IsWhole.read_unread, View.ld_unit_zero (S := S128x3072) zero_off, View.ld_unit_zero (S := S128x3072) zero_off]

/-- The gradient put together. -/
theorem arr5 : (dats m 0 c).arrAt 5 cfg0.N = gArr m c := by
  refine (dats m 0 c).arrAt_eq_of_covers 5 _ (by decide +kernel) fun t hf y => ?_
  have e := (index_all t).2.2.2.2.2.1
  have h0 : ((((View.whole main_v0_0).slice ((win0 5).rect t)).emb y) 0).val = 128 * t.val + (y 0).val := by
    show win0_5.index t 0 * 128 + 1 * (y 0).val = 128 * t.val + (y 0).val
    rw [e]
    show t.val * 128 + 1 * (y 0).val = _
    omega
  have h1 : ((((View.whole main_v0_0).slice ((win0 5).rect t)).emb y) 1).val = (y 1).val := by
    show win0_5.index t 1 * 3072 + 1 * (y 1).val = (y 1).val
    rw [e]
    show 0 * 3072 + 1 * (y 1).val = _
    omega
  rw [after0_5, held5]
  obtain ⟨b0, b1, b2, b3⟩ := blk m c t y _ h0 h1
  refine (congrFun (pay2 t _ _) y).trans ?_
  rw [b1]

/-- The step. -/
theorem arr6 : (dats m 0 c).arrAt 6 cfg0.N = fun i => delta (wArr m c i) (gArr m c i) (mArr m c i) (vArr m c i) := by
  refine (dats m 0 c).arrAt_eq_of_covers 6 _ (by decide +kernel) fun t hf y => ?_
  have e := (index_all t).2.2.2.2.2.2.1
  have h0 : ((((View.whole main_v0_1).slice ((win0 6).rect t)).emb y) 0).val = 128 * t.val + (y 0).val := by
    show win0_6.index t 0 * 128 + 1 * (y 0).val = 128 * t.val + (y 0).val
    rw [e]
    show t.val * 128 + 1 * (y 0).val = _
    omega
  have h1 : ((((View.whole main_v0_1).slice ((win0 6).rect t)).emb y) 1).val = (y 1).val := by
    show win0_6.index t 1 * 3072 + 1 * (y 1).val = (y 1).val
    rw [e]
    show 0 * 3072 + 1 * (y 1).val = _
    omega
  rw [after0_6, held6]
  obtain ⟨b0, b1, b2, b3⟩ := blk m c t y _ h0 h1
  refine (pay1 t _ _ _ _ _ y).trans ?_
  dsimp only
  rw [b1, b0, b2, b3]

/-- The first moment. -/
theorem arr7 : (dats m 0 c).arrAt 7 cfg0.N = fun i => first (gArr m c i) (mArr m c i) := by
  refine (dats m 0 c).arrAt_eq_of_covers 7 _ (by decide +kernel) fun t hf y => ?_
  have e := (index_all t).2.2.2.2.2.2.2.1
  have h0 : ((((View.whole main_v0_2).slice ((win0 7).rect t)).emb y) 0).val = 128 * t.val + (y 0).val := by
    show win0_7.index t 0 * 128 + 1 * (y 0).val = 128 * t.val + (y 0).val
    rw [e]
    show t.val * 128 + 1 * (y 0).val = _
    omega
  have h1 : ((((View.whole main_v0_2).slice ((win0 7).rect t)).emb y) 1).val = (y 1).val := by
    show win0_7.index t 1 * 3072 + 1 * (y 1).val = (y 1).val
    rw [e]
    show 0 * 3072 + 1 * (y 1).val = _
    omega
  rw [after0_7, held7]
  obtain ⟨b0, b1, b2, b3⟩ := blk m c t y _ h0 h1
  refine (pay3 t _ _ _ y).trans ?_
  dsimp only
  rw [b1, b2]

/-- The second moment. -/
theorem arr8 : (dats m 0 c).arrAt 8 cfg0.N = fun i => second (gArr m c i) (vArr m c i) := by
  refine (dats m 0 c).arrAt_eq_of_covers 8 _ (by decide +kernel) fun t hf y => ?_
  have e := (index_all t).2.2.2.2.2.2.2.2
  have h0 : ((((View.whole main_v0_3).slice ((win0 8).rect t)).emb y) 0).val = 128 * t.val + (y 0).val := by
    show win0_8.index t 0 * 128 + 1 * (y 0).val = 128 * t.val + (y 0).val
    rw [e]
    show t.val * 128 + 1 * (y 0).val = _
    omega
  have h1 : ((((View.whole main_v0_3).slice ((win0 8).rect t)).emb y) 1).val = (y 1).val := by
    show win0_8.index t 1 * 3072 + 1 * (y 1).val = (y 1).val
    rw [e]
    show 0 * 3072 + 1 * (y 1).val = _
    omega
  rw [after0_8, held8]
  obtain ⟨b0, b1, b2, b3⟩ := blk m c t y _ h0 h1
  refine (pay4 t _ _ _ y).trans ?_
  dsimp only
  rw [b1, b3]

/-- The kernel over the reals ends without fault, its arguments unchanged and every counter at zero. -/
theorem frame_ideal : Cert.quiescent_AdamInIdeal := fun m ρ _ => Cert.AdamInIdeal.Gen.frame m ρ

/-- The reference likewise. -/
theorem frame_ref : Cert.quiescent_AdamInRefIdeal := fun m ρ _ => (θ_run Cert.AdamInRefIdeal.defs _ _).mono
  (fun r h => ⟨fun c => (h c).2.2.2.2, sem_eq_zero_of_no_sems (by decide) r.2⟩) (Cert.AdamInRefIdeal.Value.run m ρ)

/-- Kernel and reference leave the same gradient, step and moments. -/
theorem value : Cert.algebraic_AdamInIdeal_AdamInRefIdeal := fun m g m' g' _ hargs => by
  refine ⟨fun c => gArr m c, fun c i => delta (wArr m c i) (gArr m c i) (mArr m c i) (vArr m c i),
    fun c i => first (gArr m c i) (mArr m c i), fun c i => second (gArr m c i) (vArr m c i),
    (θ_run _ _ _).mono (fun r h c => ⟨(h c).1.trans (arr5 m c), (h c).2.1.trans (arr6 m c), (h c).2.2.1.trans (arr7 m c), (h c).2.2.2.1.trans (arr8 m c), (h c).2.2.2.2⟩) (Cert.AdamInIdeal.Value.run_blocks m g),
    (θ_run _ _ _).mono (fun r h c => ⟨(h c).1.trans ?_, (h c).2.1.trans ?_, (h c).2.2.1.trans ?_, (h c).2.2.2.1.trans ?_, (h c).2.2.2.2⟩) (Cert.AdamInRefIdeal.Value.run m' g')⟩
  · rw [(hargs c).2.1, (hargs c).2.2.1, ← above_eq]
  · rw [(hargs c).1, (hargs c).2.1, (hargs c).2.2.1, (hargs c).2.2.2.1, (hargs c).2.2.2.2, ← above_eq]
    funext i
    unfold delta first second
    pointwise
  · rw [(hargs c).2.1, (hargs c).2.2.1, (hargs c).2.2.2.1, ← above_eq]
    funext i
    unfold first
    pointwise
  · rw [(hargs c).2.1, (hargs c).2.2.1, (hargs c).2.2.2.2, ← above_eq]
    funext i
    unfold second
    pointwise

end Cert.AdamInIdeal.Prod
end
-- ==== Proof.AdamOut.lean ====
/-
  The optimiser's step of the output projection's weight, of which the two halves of the gradient's columns come from two devices: the gradient
  put together, the step, and the two moments.
-/
module

public import proofs.«01_k».proof.Defs
public import proofs.«01_k».proof.Proof.Adam
public import proofs.«01_k».proof.Proof.Gen.AdamOutIdeal.Value
public import proofs.«01_k».proof.Proof.Gen.AdamOutRefIdeal.Run
public import Idealize.ShloMosaic.Lib.Quiescent

@[expose] public section

set_option maxRecDepth 16384

noncomputable section

namespace Cert.AdamOutIdeal.Prod

open Idealize.ShloMosaic Idealize.ShloMosaic.TcCoe Idealize.SL.Sem Cert.AdamOutIdeal Cert.AdamOutIdeal.Gen Cert.Mat Cert.AdamW

/-- Every array's window is the same block of rows. -/
theorem index_all : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0])

theorem pay1 (x1 x2 : Vec Ideal S128x2048 .f32) (y : S128x4096.Idx) : k0_pay1 x1 x2 y = beside (R := 128) x1 x2 y := by
  unfold k0_pay1 beside
  pointwise

/-- The host's way of laying them side by side. -/
theorem beside_eq (a b : Mat 1024 2048) (h) : beside (R := 1024) a b = concatenate (α := EReal) S1024x4096 1 [⟨S1024x2048, a⟩, ⟨S1024x2048, b⟩] h := by
  funext i
  unfold beside
  pointwise

theorem pay2 (x1 x2 : Vec Ideal S128x2048 .f32) (x3 : Vec Ideal S128x4096 .f32) (y : S128x4096.Idx) : k0_pay2 x1 x2 x3 y = first (beside (R := 128) x1 x2 y) (x3 y) :=
  congrArg (fun g : EReal => first g (x3 y)) (pay1 x1 x2 y)

theorem pay3 (x1 x2 : Vec Ideal S128x2048 .f32) (x4 : Vec Ideal S128x4096 .f32) (y : S128x4096.Idx) : k0_pay3 x1 x2 x4 y = second (beside (R := 128) x1 x2 y) (x4 y) :=
  congrArg (fun g : EReal => second g (x4 y)) (pay1 x1 x2 y)

theorem pay4 (x1 x2 : Vec Ideal S128x2048 .f32) (x0 x3 x4 : Vec Ideal S128x4096 .f32) (y : S128x4096.Idx) :
    k0_pay4 x1 x2 x0 x3 x4 y = delta (x0 y) (beside (R := 128) x1 x2 y) (x3 y) (x4 y) :=
  congrArg (fun g : EReal => delta (x0 y) g (x3 y) (x4 y)) (pay1 x1 x2 y)

variable (m : (ℓ : Loc nD τ sig) → Buf (Elt Ideal) ℓ) (c : Dev nD)

/-- The arguments: the weight, the two halves of the gradient, the moments. -/
abbrev wArr : Mat 1024 4096 := m ((c : Thread nD τ).loc main_arg0)
abbrev gArr : Mat 1024 4096 := beside (R := 1024) (m ((c : Thread nD τ).loc main_arg1)) (m ((c : Thread nD τ).loc main_arg2))
abbrev mArr : Mat 1024 4096 := m ((c : Thread nD τ).loc main_arg3)
abbrev vArr : Mat 1024 4096 := m ((c : Thread nD τ).loc main_arg4)

/-- Block `t` of each argument. -/
theorem blk (t : Fin cfg0.N) (y : S128x4096.Idx) (i : S1024x4096.Idx) (h0 : (i 0).val = 128 * t.val + (y 0).val) (h1 : (i 1).val = (y 1).val) :
    iblk m c 0 t y = wArr m c i ∧ beside (R := 128) (iblk m c 1 t) (iblk m c 2 t) y = gArr m c i ∧ iblk m c 3 t y = mArr m c i ∧ iblk m c 4 t y = vArr m c i := by
  obtain ⟨e0, e1, e2, e3, e4, -⟩ := index_all t
  refine ⟨?_, ?_, ?_, ?_⟩
  · have e := V_main_arg0 m c
    unfold wArr
    rw [← e]
    blk_ext [iblk, e0]
  · unfold gArr beside
    have ea := V_main_arg1 m c
    have eb := V_main_arg2 m c
    rw [← ea, ← eb]
    by_cases h : (y 1).val < 2048
    · rw [dif_pos h, dif_pos (h1 ▸ h)]
      blk_ext [iblk, e1]
    · rw [dif_neg h, dif_neg (h1 ▸ h)]
      blk_ext [iblk, e2]
  · have e := V_main_arg3 m c
    unfold mArr
    rw [← e]
    blk_ext [iblk, e3]
  · have e := V_main_arg4 m c
    unfold vArr
    rw [← e]
    blk_ext [iblk, e4]

/-- What grid point `t` leaves in the four blocks. -/
theorem held5 (t : Fin cfg0.N) : (outsAt0 m c t).1 = k0_pay1 (iblk m c 1 t) (iblk m c 2 t) := by
  unfold outsAt0 out0_A_5
  rw [View.read_writes_eq_canon _ _ _ (fun y => cover0_A_5 (y := y) ..)]
  unfold kernelRun0_A
  dsimp only
  sl_unfold_words
  rw [View.canon_unit_zero (S := S128x4096) zero_off]
  simp only [View.readAt_eq_ld, Memref.IsWhole.read_unread, View.ld_unit_zero (S := S128x2048) zero_off]

theorem held6 (t : Fin cfg0.N) : (outsAt0 m c t).2.1 = k0_pay4 (iblk m c 1 t) (iblk m c 2 t) (iblk m c 0 t) (iblk m c 3 t) (iblk m c 4 t) := by
  unfold outsAt0 out0_A_6
  dsimp only
  rw [View.read_writes_eq_canon _ _ _ (fun y => cover0_A_6 (y := y) ..)]
  unfold kernelRun0_A
  dsimp only
  sl_unfold_words
  rw [View.canon_unit_zero (S := S128x4096) zero_off]
  simp only [View.readAt_eq_ld, Memref.IsWhole.read_unread, View.ld_unit_zero (S := S128x2048) zero_off, View.ld_unit_zero (S := S128x4096) zero_off]

theorem held7 (t : Fin cfg0.N) : (outsAt0 m c t).2.2.1 = k0_pay2 (iblk m c 1 t) (iblk m c 2 t) (iblk m c 3 t) := by
  unfold outsAt0 out0_A_7
  dsimp only
  rw [View.read_writes_eq_canon _ _ _ (fun y => cover0_A_7 (y := y) ..)]
  unfold kernelRun0_A
  dsimp only
  sl_unfold_words
  rw [View.canon_unit_zero (S := S128x4096) zero_off]
  simp only [View.readAt_eq_ld, Memref.IsWhole.read_unread, View.ld_unit_zero (S := S128x2048) zero_off, View.ld_unit_zero (S := S128x4096) zero_off]

theorem held8 (t : Fin cfg0.N) : (outsAt0 m c t).2.2.2 = k0_pay3 (iblk m c 1 t) (iblk m c 2 t) (iblk m c 4 t) := by
  unfold outsAt0 out0_A_8
  dsimp only
  rw [View.read_writes_eq_canon _ _ _ (fun y => cover0_A_8 (y := y) ..)]
  unfold kernelRun0_A
  dsimp only
  sl_unfold_words
  rw [View.canon_unit_zero (S := S128x4096) zero_off]
  simp only [View.readAt_eq_ld, Memref.IsWhole.read_unread, View.ld_unit_zero (S := S128x2048) zero_off, View.ld_unit_zero (S := S128x4096) zero_off]

/-- The gradient put together. -/
theorem arr5 : (dats m 0 c).arrAt 5 cfg0.N = gArr m c := by
  refine (dats m 0 c).arrAt_eq_of_covers 5 _ (by decide +kernel) fun t hf y => ?_
  have e := (index_all t).2.2.2.2.2.1
  have h0 : ((((View.whole main_v0_0).slice ((win0 5).rect t)).emb y) 0).val = 128 * t.val + (y 0).val := by
    show win0_5.index t 0 * 128 + 1 * (y 0).val = 128 * t.val + (y 0).val
    rw [e]
    show t.val * 128 + 1 * (y 0).val = _
    omega
  have h1 : ((((View.whole main_v0_0).slice ((win0 5).rect t)).emb y) 1).val = (y 1).val := by
    show win0_5.index t 1 * 4096 + 1 * (y 1).val = (y 1).val
    rw [e]
    show 0 * 4096 + 1 * (y 1).val = _
    omega
  rw [after0_5, held5]
  obtain ⟨b0, b1, b2, b3⟩ := blk m c t y _ h0 h1
  refine (pay1 _ _ y).trans ?_
  rw [b1]

/-- The step. -/
theorem arr6 : (dats m 0 c).arrAt 6 cfg0.N = fun i => delta (wArr m c i) (gArr m c i) (mArr m c i) (vArr m c i) := by
  refine (dats m 0 c).arrAt_eq_of_covers 6 _ (by decide +kernel) fun t hf y => ?_
  have e := (index_all t).2.2.2.2.2.2.1
  have h0 : ((((View.whole main_v0_1).slice ((win0 6).rect t)).emb y) 0).val = 128 * t.val + (y 0).val := by
    show win0_6.index t 0 * 128 + 1 * (y 0).val = 128 * t.val + (y 0).val
    rw [e]
    show t.val * 128 + 1 * (y 0).val = _
    omega
  have h1 : ((((View.whole main_v0_1).slice ((win0 6).rect t)).emb y) 1).val = (y 1).val := by
    show win0_6.index t 1 * 4096 + 1 * (y 1).val = (y 1).val
    rw [e]
    show 0 * 4096 + 1 * (y 1).val = _
    omega
  rw [after0_6, held6]
  obtain ⟨b0, b1, b2, b3⟩ := blk m c t y _ h0 h1
  refine (pay4 _ _ _ _ _ y).trans ?_
  dsimp only
  rw [b1, b0, b2, b3]

/-- The first moment. -/
theorem arr7 : (dats m 0 c).arrAt 7 cfg0.N = fun i => first (gArr m c i) (mArr m c i) := by
  refine (dats m 0 c).arrAt_eq_of_covers 7 _ (by decide +kernel) fun t hf y => ?_
  have e := (index_all t).2.2.2.2.2.2.2.1
  have h0 : ((((View.whole main_v0_2).slice ((win0 7).rect t)).emb y) 0).val = 128 * t.val + (y 0).val := by
    show win0_7.index t 0 * 128 + 1 * (y 0).val = 128 * t.val + (y 0).val
    rw [e]
    show t.val * 128 + 1 * (y 0).val = _
    omega
  have h1 : ((((View.whole main_v0_2).slice ((win0 7).rect t)).emb y) 1).val = (y 1).val := by
    show win0_7.index t 1 * 4096 + 1 * (y 1).val = (y 1).val
    rw [e]
    show 0 * 4096 + 1 * (y 1).val = _
    omega
  rw [after0_7, held7]
  obtain ⟨b0, b1, b2, b3⟩ := blk m c t y _ h0 h1
  refine (pay2 _ _ _ y).trans ?_
  dsimp only
  rw [b1, b2]

/-- The second moment. -/
theorem arr8 : (dats m 0 c).arrAt 8 cfg0.N = fun i => second (gArr m c i) (vArr m c i) := by
  refine (dats m 0 c).arrAt_eq_of_covers 8 _ (by decide +kernel) fun t hf y => ?_
  have e := (index_all t).2.2.2.2.2.2.2.2
  have h0 : ((((View.whole main_v0_3).slice ((win0 8).rect t)).emb y) 0).val = 128 * t.val + (y 0).val := by
    show win0_8.index t 0 * 128 + 1 * (y 0).val = 128 * t.val + (y 0).val
    rw [e]
    show t.val * 128 + 1 * (y 0).val = _
    omega
  have h1 : ((((View.whole main_v0_3).slice ((win0 8).rect t)).emb y) 1).val = (y 1).val := by
    show win0_8.index t 1 * 4096 + 1 * (y 1).val = (y 1).val
    rw [e]
    show 0 * 4096 + 1 * (y 1).val = _
    omega
  rw [after0_8, held8]
  obtain ⟨b0, b1, b2, b3⟩ := blk m c t y _ h0 h1
  refine (pay3 _ _ _ y).trans ?_
  dsimp only
  rw [b1, b3]

/-- The kernel over the reals ends without fault, its arguments unchanged and every counter at zero. -/
theorem frame_ideal : Cert.quiescent_AdamOutIdeal := fun m ρ _ => Cert.AdamOutIdeal.Gen.frame m ρ

/-- The reference likewise. -/
theorem frame_ref : Cert.quiescent_AdamOutRefIdeal := fun m ρ _ => (θ_run Cert.AdamOutRefIdeal.defs _ _).mono
  (fun r h => ⟨fun c => (h c).2.2.2.2, sem_eq_zero_of_no_sems (by decide) r.2⟩) (Cert.AdamOutRefIdeal.Value.run m ρ)

/-- Kernel and reference leave the same gradient, step and moments. -/
theorem value : Cert.algebraic_AdamOutIdeal_AdamOutRefIdeal := fun m g m' g' _ hargs => by
  refine ⟨fun c => gArr m c, fun c i => delta (wArr m c i) (gArr m c i) (mArr m c i) (vArr m c i),
    fun c i => first (gArr m c i) (mArr m c i), fun c i => second (gArr m c i) (vArr m c i),
    (θ_run _ _ _).mono (fun r h c => ⟨(h c).1.trans (arr5 m c), (h c).2.1.trans (arr6 m c), (h c).2.2.1.trans (arr7 m c), (h c).2.2.2.1.trans (arr8 m c), (h c).2.2.2.2⟩) (Cert.AdamOutIdeal.Value.run_blocks m g),
    (θ_run _ _ _).mono (fun r h c => ⟨(h c).1.trans ?_, (h c).2.1.trans ?_, (h c).2.2.1.trans ?_, (h c).2.2.2.1.trans ?_, (h c).2.2.2.2⟩) (Cert.AdamOutRefIdeal.Value.run m' g')⟩
  · rw [(hargs c).2.1, (hargs c).2.2.1, ← beside_eq]
  · rw [(hargs c).1, (hargs c).2.1, (hargs c).2.2.1, (hargs c).2.2.2.1, (hargs c).2.2.2.2, ← beside_eq]
    funext i
    unfold delta first second
    pointwise
  · rw [(hargs c).2.1, (hargs c).2.2.1, (hargs c).2.2.2.1, ← beside_eq]
    funext i
    unfold first
    pointwise
  · rw [(hargs c).2.1, (hargs c).2.2.1, (hargs c).2.2.2.2, ← beside_eq]
    funext i
    unfold second
    pointwise

end Cert.AdamOutIdeal.Prod
end
-- ==== Proof.AdamFfn.lean ====
/-
  The optimiser's step of a feed-forward weight, of which the two halves of the gradient's columns come from two devices: the gradient
  put together, the step, and the two moments.
-/
module

public import proofs.«01_k».proof.Defs
public import proofs.«01_k».proof.Proof.Adam
public import proofs.«01_k».proof.Proof.Gen.AdamFfnIdeal.Value
public import proofs.«01_k».proof.Proof.Gen.AdamFfnRefIdeal.Run
public import Idealize.ShloMosaic.Lib.Quiescent

@[expose] public section

set_option maxRecDepth 16384

noncomputable section

namespace Cert.AdamFfnIdeal.Prod

open Idealize.ShloMosaic Idealize.ShloMosaic.TcCoe Idealize.SL.Sem Cert.AdamFfnIdeal Cert.AdamFfnIdeal.Gen Cert.Mat Cert.AdamW

/-- Every array's window is the same block of rows. -/
theorem index_all : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0])

theorem pay1 (x1 x2 : Vec Ideal S64x2048 .f32) (y : S64x4096.Idx) : k0_pay1 x1 x2 y = beside (R := 64) x1 x2 y := by
  unfold k0_pay1 beside
  pointwise

/-- The host's way of laying them side by side. -/
theorem beside_eq (a b : Mat 2752 2048) (h) : beside (R := 2752) a b = concatenate (α := EReal) S2752x4096 1 [⟨S2752x2048, a⟩, ⟨S2752x2048, b⟩] h := by
  funext i
  unfold beside
  pointwise

theorem pay2 (x1 x2 : Vec Ideal S64x2048 .f32) (x3 : Vec Ideal S64x4096 .f32) (y : S64x4096.Idx) : k0_pay2 x1 x2 x3 y = first (beside (R := 64) x1 x2 y) (x3 y) :=
  congrArg (fun g : EReal => first g (x3 y)) (pay1 x1 x2 y)

theorem pay3 (x1 x2 : Vec Ideal S64x2048 .f32) (x4 : Vec Ideal S64x4096 .f32) (y : S64x4096.Idx) : k0_pay3 x1 x2 x4 y = second (beside (R := 64) x1 x2 y) (x4 y) :=
  congrArg (fun g : EReal => second g (x4 y)) (pay1 x1 x2 y)

theorem pay4 (x1 x2 : Vec Ideal S64x2048 .f32) (x0 x3 x4 : Vec Ideal S64x4096 .f32) (y : S64x4096.Idx) :
    k0_pay4 x1 x2 x0 x3 x4 y = delta (x0 y) (beside (R := 64) x1 x2 y) (x3 y) (x4 y) :=
  congrArg (fun g : EReal => delta (x0 y) g (x3 y) (x4 y)) (pay1 x1 x2 y)

variable (m : (ℓ : Loc nD τ sig) → Buf (Elt Ideal) ℓ) (c : Dev nD)

/-- The arguments: the weight, the two halves of the gradient, the moments. -/
abbrev wArr : Mat 2752 4096 := m ((c : Thread nD τ).loc main_arg0)
abbrev gArr : Mat 2752 4096 := beside (R := 2752) (m ((c : Thread nD τ).loc main_arg1)) (m ((c : Thread nD τ).loc main_arg2))
abbrev mArr : Mat 2752 4096 := m ((c : Thread nD τ).loc main_arg3)
abbrev vArr : Mat 2752 4096 := m ((c : Thread nD τ).loc main_arg4)

/-- Block `t` of each argument. -/
theorem blk (t : Fin cfg0.N) (y : S64x4096.Idx) (i : S2752x4096.Idx) (h0 : (i 0).val = 64 * t.val + (y 0).val) (h1 : (i 1).val = (y 1).val) :
    iblk m c 0 t y = wArr m c i ∧ beside (R := 64) (iblk m c 1 t) (iblk m c 2 t) y = gArr m c i ∧ iblk m c 3 t y = mArr m c i ∧ iblk m c 4 t y = vArr m c i := by
  obtain ⟨e0, e1, e2, e3, e4, -⟩ := index_all t
  refine ⟨?_, ?_, ?_, ?_⟩
  · have e := V_main_arg0 m c
    unfold wArr
    rw [← e]
    blk_ext [iblk, e0]
  · unfold gArr beside
    have ea := V_main_arg1 m c
    have eb := V_main_arg2 m c
    rw [← ea, ← eb]
    by_cases h : (y 1).val < 2048
    · rw [dif_pos h, dif_pos (h1 ▸ h)]
      blk_ext [iblk, e1]
    · rw [dif_neg h, dif_neg (h1 ▸ h)]
      blk_ext [iblk, e2]
  · have e := V_main_arg3 m c
    unfold mArr
    rw [← e]
    blk_ext [iblk, e3]
  · have e := V_main_arg4 m c
    unfold vArr
    rw [← e]
    blk_ext [iblk, e4]

/-- What grid point `t` leaves in the four blocks. -/
theorem held5 (t : Fin cfg0.N) : (outsAt0 m c t).1 = k0_pay1 (iblk m c 1 t) (iblk m c 2 t) := by
  unfold outsAt0 out0_A_5
  rw [View.read_writes_eq_canon _ _ _ (fun y => cover0_A_5 (y := y) ..)]
  unfold kernelRun0_A
  dsimp only
  sl_unfold_words
  rw [View.canon_unit_zero (S := S64x4096) zero_off]
  simp only [View.readAt_eq_ld, Memref.IsWhole.read_unread, View.ld_unit_zero (S := S64x2048) zero_off]

theorem held6 (t : Fin cfg0.N) : (outsAt0 m c t).2.1 = k0_pay4 (iblk m c 1 t) (iblk m c 2 t) (iblk m c 0 t) (iblk m c 3 t) (iblk m c 4 t) := by
  unfold outsAt0 out0_A_6
  dsimp only
  rw [View.read_writes_eq_canon _ _ _ (fun y => cover0_A_6 (y := y) ..)]
  unfold kernelRun0_A
  dsimp only
  sl_unfold_words
  rw [View.canon_unit_zero (S := S64x4096) zero_off]
  simp only [View.readAt_eq_ld, Memref.IsWhole.read_unread, View.ld_unit_zero (S := S64x2048) zero_off, View.ld_unit_zero (S := S64x4096) zero_off]

theorem held7 (t : Fin cfg0.N) : (outsAt0 m c t).2.2.1 = k0_pay2 (iblk m c 1 t) (iblk m c 2 t) (iblk m c 3 t) := by
  unfold outsAt0 out0_A_7
  dsimp only
  rw [View.read_writes_eq_canon _ _ _ (fun y => cover0_A_7 (y := y) ..)]
  unfold kernelRun0_A
  dsimp only
  sl_unfold_words
  rw [View.canon_unit_zero (S := S64x4096) zero_off]
  simp only [View.readAt_eq_ld, Memref.IsWhole.read_unread, View.ld_unit_zero (S := S64x2048) zero_off, View.ld_unit_zero (S := S64x4096) zero_off]

theorem held8 (t : Fin cfg0.N) : (outsAt0 m c t).2.2.2 = k0_pay3 (iblk m c 1 t) (iblk m c 2 t) (iblk m c 4 t) := by
  unfold outsAt0 out0_A_8
  dsimp only
  rw [View.read_writes_eq_canon _ _ _ (fun y => cover0_A_8 (y := y) ..)]
  unfold kernelRun0_A
  dsimp only
  sl_unfold_words
  rw [View.canon_unit_zero (S := S64x4096) zero_off]
  simp only [View.readAt_eq_ld, Memref.IsWhole.read_unread, View.ld_unit_zero (S := S64x2048) zero_off, View.ld_unit_zero (S := S64x4096) zero_off]

/-- The gradient put together. -/
theorem arr5 : (dats m 0 c).arrAt 5 cfg0.N = gArr m c := by
  refine (dats m 0 c).arrAt_eq_of_covers 5 _ (by decide +kernel) fun t hf y => ?_
  have e := (index_all t).2.2.2.2.2.1
  have h0 : ((((View.whole main_v0_0).slice ((win0 5).rect t)).emb y) 0).val = 64 * t.val + (y 0).val := by
    show win0_5.index t 0 * 64 + 1 * (y 0).val = 64 * t.val + (y 0).val
    rw [e]
    show t.val * 64 + 1 * (y 0).val = _
    omega
  have h1 : ((((View.whole main_v0_0).slice ((win0 5).rect t)).emb y) 1).val = (y 1).val := by
    show win0_5.index t 1 * 4096 + 1 * (y 1).val = (y 1).val
    rw [e]
    show 0 * 4096 + 1 * (y 1).val = _
    omega
  rw [after0_5, held5]
  obtain ⟨b0, b1, b2, b3⟩ := blk m c t y _ h0 h1
  refine (pay1 _ _ y).trans ?_
  rw [b1]

/-- The step. -/
theorem arr6 : (dats m 0 c).arrAt 6 cfg0.N = fun i => delta (wArr m c i) (gArr m c i) (mArr m c i) (vArr m c i) := by
  refine (dats m 0 c).arrAt_eq_of_covers 6 _ (by decide +kernel) fun t hf y => ?_
  have e := (index_all t).2.2.2.2.2.2.1
  have h0 : ((((View.whole main_v0_1).slice ((win0 6).rect t)).emb y) 0).val = 64 * t.val + (y 0).val := by
    show win0_6.index t 0 * 64 + 1 * (y 0).val = 64 * t.val + (y 0).val
    rw [e]
    show t.val * 64 + 1 * (y 0).val = _
    omega
  have h1 : ((((View.whole main_v0_1).slice ((win0 6).rect t)).emb y) 1).val = (y 1).val := by
    show win0_6.index t 1 * 4096 + 1 * (y 1).val = (y 1).val
    rw [e]
    show 0 * 4096 + 1 * (y 1).val = _
    omega
  rw [after0_6, held6]
  obtain ⟨b0, b1, b2, b3⟩ := blk m c t y _ h0 h1
  refine (pay4 _ _ _ _ _ y).trans ?_
  dsimp only
  rw [b1, b0, b2, b3]

/-- The first moment. -/
theorem arr7 : (dats m 0 c).arrAt 7 cfg0.N = fun i => first (gArr m c i) (mArr m c i) := by
  refine (dats m 0 c).arrAt_eq_of_covers 7 _ (by decide +kernel) fun t hf y => ?_
  have e := (index_all t).2.2.2.2.2.2.2.1
  have h0 : ((((View.whole main_v0_2).slice ((win0 7).rect t)).emb y) 0).val = 64 * t.val + (y 0).val := by
    show win0_7.index t 0 * 64 + 1 * (y 0).val = 64 * t.val + (y 0).val
    rw [e]
    show t.val * 64 + 1 * (y 0).val = _
    omega
  have h1 : ((((View.whole main_v0_2).slice ((win0 7).rect t)).emb y) 1).val = (y 1).val := by
    show win0_7.index t 1 * 4096 + 1 * (y 1).val = (y 1).val
    rw [e]
    show 0 * 4096 + 1 * (y 1).val = _
    omega
  rw [after0_7, held7]
  obtain ⟨b0, b1, b2, b3⟩ := blk m c t y _ h0 h1
  refine (pay2 _ _ _ y).trans ?_
  dsimp only
  rw [b1, b2]

/-- The second moment. -/
theorem arr8 : (dats m 0 c).arrAt 8 cfg0.N = fun i => second (gArr m c i) (vArr m c i) := by
  refine (dats m 0 c).arrAt_eq_of_covers 8 _ (by decide +kernel) fun t hf y => ?_
  have e := (index_all t).2.2.2.2.2.2.2.2
  have h0 : ((((View.whole main_v0_3).slice ((win0 8).rect t)).emb y) 0).val = 64 * t.val + (y 0).val := by
    show win0_8.index t 0 * 64 + 1 * (y 0).val = 64 * t.val + (y 0).val
    rw [e]
    show t.val * 64 + 1 * (y 0).val = _
    omega
  have h1 : ((((View.whole main_v0_3).slice ((win0 8).rect t)).emb y) 1).val = (y 1).val := by
    show win0_8.index t 1 * 4096 + 1 * (y 1).val = (y 1).val
    rw [e]
    show 0 * 4096 + 1 * (y 1).val = _
    omega
  rw [after0_8, held8]
  obtain ⟨b0, b1, b2, b3⟩ := blk m c t y _ h0 h1
  refine (pay3 _ _ _ y).trans ?_
  dsimp only
  rw [b1, b3]

/-- The kernel over the reals ends without fault, its arguments unchanged and every counter at zero. -/
theorem frame_ideal : Cert.quiescent_AdamFfnIdeal := fun m ρ _ => Cert.AdamFfnIdeal.Gen.frame m ρ

/-- The reference likewise. -/
theorem frame_ref : Cert.quiescent_AdamFfnRefIdeal := fun m ρ _ => (θ_run Cert.AdamFfnRefIdeal.defs _ _).mono
  (fun r h => ⟨fun c => (h c).2.2.2.2, sem_eq_zero_of_no_sems (by decide) r.2⟩) (Cert.AdamFfnRefIdeal.Value.run m ρ)

/-- Kernel and reference leave the same gradient, step and moments. -/
theorem value : Cert.algebraic_AdamFfnIdeal_AdamFfnRefIdeal := fun m g m' g' _ hargs => by
  refine ⟨fun c => gArr m c, fun c i => delta (wArr m c i) (gArr m c i) (mArr m c i) (vArr m c i),
    fun c i => first (gArr m c i) (mArr m c i), fun c i => second (gArr m c i) (vArr m c i),
    (θ_run _ _ _).mono (fun r h c => ⟨(h c).1.trans (arr5 m c), (h c).2.1.trans (arr6 m c), (h c).2.2.1.trans (arr7 m c), (h c).2.2.2.1.trans (arr8 m c), (h c).2.2.2.2⟩) (Cert.AdamFfnIdeal.Value.run_blocks m g),
    (θ_run _ _ _).mono (fun r h c => ⟨(h c).1.trans ?_, (h c).2.1.trans ?_, (h c).2.2.1.trans ?_, (h c).2.2.2.1.trans ?_, (h c).2.2.2.2⟩) (Cert.AdamFfnRefIdeal.Value.run m' g')⟩
  · rw [(hargs c).2.1, (hargs c).2.2.1, ← beside_eq]
  · rw [(hargs c).1, (hargs c).2.1, (hargs c).2.2.1, (hargs c).2.2.2.1, (hargs c).2.2.2.2, ← beside_eq]
    funext i
    unfold delta first second
    pointwise
  · rw [(hargs c).2.1, (hargs c).2.2.1, (hargs c).2.2.2.1, ← beside_eq]
    funext i
    unfold first
    pointwise
  · rw [(hargs c).2.1, (hargs c).2.2.1, (hargs c).2.2.2.2, ← beside_eq]
    funext i
    unfold second
    pointwise

end Cert.AdamFfnIdeal.Prod
end
-- ==== Proof.SmallAdamFrame.lean ====
/-
  The run of the optimiser's step of the five norms' gains, one call with sixteen arguments and twenty results on a grid of one point: the set-up
  of its launch, as it is written out for every such call, with room for the two steps that range over all 36 arrays at once (`sound_body`,
  `body_obligation`). Stated over any float values, so that both frames come from it.
-/
module

public import proofs.«01_k».proof.Proof.Gen.SmallAdamIdeal.Launch
public import proofs.«01_k».proof.Proof.Gen.SmallAdamIdeal.Skeleton
public import proofs.«01_k».proof.Proof.Gen.SmallAdamIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.SmallAdamIdeal.Small

open Cert.SmallAdamIdeal Cert.SmallAdamIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2160000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_SmallAdamIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c)))⟩) h

/-! ## The body's accesses -/

abbrev r0_0 : Rect S8x4096 := Rect.unit (s := S8x4096) ![0, 0] S1x4096.size inb_S8x4096_S1x4096_0_0
abbrev r0_1 : Rect S1x4096 := Rect.unit (s := S1x4096) ![0, 0] S1x4096.size inb_S1x4096_S1x4096_0_0
abbrev r0_2 : Rect S8x4096 := Rect.unit (s := S8x4096) ![1, 0] S1x2048.size inb_S8x4096_S1x2048_1_0
abbrev r0_3 : Rect S1x2048 := Rect.unit (s := S1x2048) ![0, 0] S1x2048.size inb_S1x2048_S1x2048_0_0
abbrev r0_4 : Rect S8x4096 := Rect.unit (s := S8x4096) ![1, 2048] S1x2048.size inb_S8x4096_S1x2048_1_2048
abbrev r0_5 : Rect S8x4096 := Rect.unit (s := S8x4096) ![2, 0] S1x4096.size inb_S8x4096_S1x4096_2_0
abbrev r0_6 : Rect S8x4096 := Rect.unit (s := S8x4096) ![3, 0] S1x4096.size inb_S8x4096_S1x4096_3_0

/-! ## What the body leaves in each output window's buffer -/

/-- Window 16's staging buffer after the body, from the input windows' blocks: its 1 store as pieces, LAST
    FIRST (Lib/Pipeline/FrameBody.lean `View.canon`; the payloads are the skeleton's). -/
def out0_16 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, View.ld x0 r0_0⟩]

/-- Its stores tile the buffer (checked by evaluation), so they cover it. -/
theorem cover0_16 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 17's staging buffer after the body, from the input windows' blocks: its 1 store as pieces, LAST
    FIRST (Lib/Pipeline/FrameBody.lean `View.canon`; the payloads are the skeleton's). -/
def out0_17 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay3 (View.ld x0 r0_0) (View.ld x1 r0_1) (View.ld x6 r0_1) (View.ld x11 r0_1)⟩]

/-- Its stores tile the buffer (checked by evaluation), so they cover it. -/
theorem cover0_17 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 18's staging buffer after the body, from the input windows' blocks: its 1 store as pieces, LAST
    FIRST (Lib/Pipeline/FrameBody.lean `View.canon`; the payloads are the skeleton's). -/
def out0_18 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay1 (View.ld x0 r0_0) (View.ld x6 r0_1)⟩]

/-- Its stores tile the buffer (checked by evaluation), so they cover it. -/
theorem cover0_18 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 19's staging buffer after the body, from the input windows' blocks: its 1 store as pieces, LAST
    FIRST (Lib/Pipeline/FrameBody.lean `View.canon`; the payloads are the skeleton's). -/
def out0_19 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay2 (View.ld x0 r0_0) (View.ld x11 r0_1)⟩]

/-- Its stores tile the buffer (checked by evaluation), so they cover it. -/
theorem cover0_19 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 20's staging buffer after the body, from the input windows' blocks: its 1 store as pieces, LAST
    FIRST (Lib/Pipeline/FrameBody.lean `View.canon`; the payloads are the skeleton's). -/
def out0_20 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x2048 .f32 :=
  View.canon [⟨r0_3, View.ld x0 r0_2⟩]

/-- Its stores tile the buffer (checked by evaluation), so they cover it. -/
theorem cover0_20 (p0 : Vec F S1x2048 .f32) (y : S1x2048.Idx) :
    ∃ pc ∈ ([⟨r0_3, p0⟩] : List (View.Piece (Elt F) S1x2048 .f32)), y ∈ pc.1.set :=
  View.cover_of_tiled [⟨r0_3, p0⟩] S1x2048.size (by rfl) y

/-- Window 21's staging buffer after the body, from the input windows' blocks: its 1 store as pieces, LAST
    FIRST (Lib/Pipeline/FrameBody.lean `View.canon`; the payloads are the skeleton's). -/
def out0_21 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x2048 .f32 :=
  View.canon [⟨r0_3, k0_pay6 (View.ld x0 r0_2) (View.ld x2 r0_3) (View.ld x7 r0_3) (View.ld x12 r0_3)⟩]

/-- Its stores tile the buffer (checked by evaluation), so they cover it. -/
theorem cover0_21 (p0 : Vec F S1x2048 .f32) (y : S1x2048.Idx) :
    ∃ pc ∈ ([⟨r0_3, p0⟩] : List (View.Piece (Elt F) S1x2048 .f32)), y ∈ pc.1.set :=
  View.cover_of_tiled [⟨r0_3, p0⟩] S1x2048.size (by rfl) y

/-- Window 22's staging buffer after the body, from the input windows' blocks: its 1 store as pieces, LAST
    FIRST (Lib/Pipeline/FrameBody.lean `View.canon`; the payloads are the skeleton's). -/
def out0_22 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x2048 .f32 :=
  View.canon [⟨r0_3, k0_pay4 (View.ld x0 r0_2) (View.ld x7 r0_3)⟩]

/-- Its stores tile the buffer (checked by evaluation), so they cover it. -/
theorem cover0_22 (p0 : Vec F S1x2048 .f32) (y : S1x2048.Idx) :
    ∃ pc ∈ ([⟨r0_3, p0⟩] : List (View.Piece (Elt F) S1x2048 .f32)), y ∈ pc.1.set :=
  View.cover_of_tiled [⟨r0_3, p0⟩] S1x2048.size (by rfl) y

/-- Window 23's staging buffer after the body, from the input windows' blocks: its 1 store as pieces, LAST
    FIRST (Lib/Pipeline/FrameBody.lean `View.canon`; the payloads are the skeleton's). -/
def out0_23 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x2048 .f32 :=
  View.canon [⟨r0_3, k0_pay5 (View.ld x0 r0_2) (View.ld x12 r0_3)⟩]

/-- Its stores tile the buffer (checked by evaluation), so they cover it. -/
theorem cover0_23 (p0 : Vec F S1x2048 .f32) (y : S1x2048.Idx) :
    ∃ pc ∈ ([⟨r0_3, p0⟩] : List (View.Piece (Elt F) S1x2048 .f32)), y ∈ pc.1.set :=
  View.cover_of_tiled [⟨r0_3, p0⟩] S1x2048.size (by rfl) y

/-- Window 24's staging buffer after the body, from the input windows' blocks: its 1 store as pieces, LAST
    FIRST (Lib/Pipeline/FrameBody.lean `View.canon`; the payloads are the skeleton's). -/
def out0_24 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x2048 .f32 :=
  View.canon [⟨r0_3, View.ld x0 r0_4⟩]

/-- Its stores tile the buffer (checked by evaluation), so they cover it. -/
theorem cover0_24 (p0 : Vec F S1x2048 .f32) (y : S1x2048.Idx) :
    ∃ pc ∈ ([⟨r0_3, p0⟩] : List (View.Piece (Elt F) S1x2048 .f32)), y ∈ pc.1.set :=
  View.cover_of_tiled [⟨r0_3, p0⟩] S1x2048.size (by rfl) y

/-- Window 25's staging buffer after the body, from the input windows' blocks: its 1 store as pieces, LAST
    FIRST (Lib/Pipeline/FrameBody.lean `View.canon`; the payloads are the skeleton's). -/
def out0_25 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x2048 .f32 :=
  View.canon [⟨r0_3, k0_pay9 (View.ld x0 r0_4) (View.ld x3 r0_3) (View.ld x8 r0_3) (View.ld x13 r0_3)⟩]

/-- Its stores tile the buffer (checked by evaluation), so they cover it. -/
theorem cover0_25 (p0 : Vec F S1x2048 .f32) (y : S1x2048.Idx) :
    ∃ pc ∈ ([⟨r0_3, p0⟩] : List (View.Piece (Elt F) S1x2048 .f32)), y ∈ pc.1.set :=
  View.cover_of_tiled [⟨r0_3, p0⟩] S1x2048.size (by rfl) y

/-- Window 26's staging buffer after the body, from the input windows' blocks: its 1 store as pieces, LAST
    FIRST (Lib/Pipeline/FrameBody.lean `View.canon`; the payloads are the skeleton's). -/
def out0_26 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x2048 .f32 :=
  View.canon [⟨r0_3, k0_pay7 (View.ld x0 r0_4) (View.ld x8 r0_3)⟩]

/-- Its stores tile the buffer (checked by evaluation), so they cover it. -/
theorem cover0_26 (p0 : Vec F S1x2048 .f32) (y : S1x2048.Idx) :
    ∃ pc ∈ ([⟨r0_3, p0⟩] : List (View.Piece (Elt F) S1x2048 .f32)), y ∈ pc.1.set :=
  View.cover_of_tiled [⟨r0_3, p0⟩] S1x2048.size (by rfl) y

/-- Window 27's staging buffer after the body, from the input windows' blocks: its 1 store as pieces, LAST
    FIRST (Lib/Pipeline/FrameBody.lean `View.canon`; the payloads are the skeleton's). -/
def out0_27 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x2048 .f32 :=
  View.canon [⟨r0_3, k0_pay8 (View.ld x0 r0_4) (View.ld x13 r0_3)⟩]

/-- Its stores tile the buffer (checked by evaluation), so they cover it. -/
theorem cover0_27 (p0 : Vec F S1x2048 .f32) (y : S1x2048.Idx) :
    ∃ pc ∈ ([⟨r0_3, p0⟩] : List (View.Piece (Elt F) S1x2048 .f32)), y ∈ pc.1.set :=
  View.cover_of_tiled [⟨r0_3, p0⟩] S1x2048.size (by rfl) y

/-- Window 28's staging buffer after the body, from the input windows' blocks: its 1 store as pieces, LAST
    FIRST (Lib/Pipeline/FrameBody.lean `View.canon`; the payloads are the skeleton's). -/
def out0_28 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, View.ld x0 r0_5⟩]

/-- Its stores tile the buffer (checked by evaluation), so they cover it. -/
theorem cover0_28 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 29's staging buffer after the body, from the input windows' blocks: its 1 store as pieces, LAST
    FIRST (Lib/Pipeline/FrameBody.lean `View.canon`; the payloads are the skeleton's). -/
def out0_29 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay12 (View.ld x0 r0_5) (View.ld x4 r0_1) (View.ld x9 r0_1) (View.ld x14 r0_1)⟩]

/-- Its stores tile the buffer (checked by evaluation), so they cover it. -/
theorem cover0_29 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 30's staging buffer after the body, from the input windows' blocks: its 1 store as pieces, LAST
    FIRST (Lib/Pipeline/FrameBody.lean `View.canon`; the payloads are the skeleton's). -/
def out0_30 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay10 (View.ld x0 r0_5) (View.ld x9 r0_1)⟩]

/-- Its stores tile the buffer (checked by evaluation), so they cover it. -/
theorem cover0_30 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 31's staging buffer after the body, from the input windows' blocks: its 1 store as pieces, LAST
    FIRST (Lib/Pipeline/FrameBody.lean `View.canon`; the payloads are the skeleton's). -/
def out0_31 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay11 (View.ld x0 r0_5) (View.ld x14 r0_1)⟩]

/-- Its stores tile the buffer (checked by evaluation), so they cover it. -/
theorem cover0_31 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 32's staging buffer after the body, from the input windows' blocks: its 1 store as pieces, LAST
    FIRST (Lib/Pipeline/FrameBody.lean `View.canon`; the payloads are the skeleton's). -/
def out0_32 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, View.ld x0 r0_6⟩]

/-- Its stores tile the buffer (checked by evaluation), so they cover it. -/
theorem cover0_32 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 33's staging buffer after the body, from the input windows' blocks: its 1 store as pieces, LAST
    FIRST (Lib/Pipeline/FrameBody.lean `View.canon`; the payloads are the skeleton's). -/
def out0_33 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay15 (View.ld x0 r0_6) (View.ld x5 r0_1) (View.ld x10 r0_1) (View.ld x15 r0_1)⟩]

/-- Its stores tile the buffer (checked by evaluation), so they cover it. -/
theorem cover0_33 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 34's staging buffer after the body, from the input windows' blocks: its 1 store as pieces, LAST
    FIRST (Lib/Pipeline/FrameBody.lean `View.canon`; the payloads are the skeleton's). -/
def out0_34 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay13 (View.ld x0 r0_6) (View.ld x10 r0_1)⟩]

/-- Its stores tile the buffer (checked by evaluation), so they cover it. -/
theorem cover0_34 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-- Window 35's staging buffer after the body, from the input windows' blocks: its 1 store as pieces, LAST
    FIRST (Lib/Pipeline/FrameBody.lean `View.canon`; the payloads are the skeleton's). -/
def out0_35 (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) : Vec F S1x4096 .f32 :=
  View.canon [⟨r0_1, k0_pay14 (View.ld x0 r0_6) (View.ld x15 r0_1)⟩]

/-- Its stores tile the buffer (checked by evaluation), so they cover it. -/
theorem cover0_35 (p0 : Vec F S1x4096 .f32) (y : S1x4096.Idx) :
    ∃ pc ∈ ([⟨r0_1, p0⟩] : List (View.Piece (Elt F) S1x4096 .f32)), y ∈ pc.1.set :=
  View.cover_of_tiled [⟨r0_1, p0⟩] S1x4096.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (arg0 : Memref sig .tc .vmem S8x4096 .f32) (harg0 : arg0.IsWhole) (arg1 : Memref sig .tc .vmem S1x4096 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x4096 .f32) (harg14 : arg14.IsWhole) (arg15 : Memref sig .tc .vmem S1x4096 .f32) (harg15 : arg15.IsWhole) (arg16 : Memref sig .tc .vmem S1x4096 .f32) (harg16 : arg16.IsWhole) (arg17 : Memref sig .tc .vmem S1x4096 .f32) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S1x2048 .f32) (harg23 : arg23.IsWhole) (arg24 : Memref sig .tc .vmem S1x2048 .f32) (harg24 : arg24.IsWhole) (arg25 : Memref sig .tc .vmem S1x2048 .f32) (harg25 : arg25.IsWhole) (arg26 : Memref sig .tc .vmem S1x2048 .f32) (harg26 : arg26.IsWhole) (arg27 : Memref sig .tc .vmem S1x2048 .f32) (harg27 : arg27.IsWhole) (arg28 : Memref sig .tc .vmem S1x4096 .f32) (harg28 : arg28.IsWhole) (arg29 : Memref sig .tc .vmem S1x4096 .f32) (harg29 : arg29.IsWhole) (arg30 : Memref sig .tc .vmem S1x4096 .f32) (harg30 : arg30.IsWhole) (arg31 : Memref sig .tc .vmem S1x4096 .f32) (harg31 : arg31.IsWhole) (arg32 : Memref sig .tc .vmem S1x4096 .f32) (harg32 : arg32.IsWhole) (arg33 : Memref sig .tc .vmem S1x4096 .f32) (harg33 : arg33.IsWhole) (arg34 : Memref sig .tc .vmem S1x4096 .f32) (harg34 : arg34.IsWhole) (arg35 : Memref sig .tc .vmem S1x4096 .f32) (harg35 : arg35.IsWhole)
    (x0 : Vec F S8x4096 .f32) (x1 : Vec F S1x4096 .f32) (x2 : Vec F S1x2048 .f32) (x3 : Vec F S1x2048 .f32) (x4 : Vec F S1x4096 .f32) (x5 : Vec F S1x4096 .f32) (x6 : Vec F S1x4096 .f32) (x7 : Vec F S1x2048 .f32) (x8 : Vec F S1x2048 .f32) (x9 : Vec F S1x4096 .f32) (x10 : Vec F S1x4096 .f32) (x11 : Vec F S1x4096 .f32) (x12 : Vec F S1x2048 .f32) (x13 : Vec F S1x2048 .f32) (x14 : Vec F S1x4096 .f32) (x15 : Vec F S1x4096 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (out0_16 x0 x1 x2 x3 x4 x5 x6 x7 x8 x9 x10 x11 x12 x13 x14 x15) ∗ owns (c : Thread nD τ) arg17 fullShare (out0_17 x0 x1 x2 x3 x4 x5 x6 x7 x8 x9 x10 x11 x12 x13 x14 x15) ∗ owns (c : Thread nD τ) arg18 fullShare (out0_18 x0 x1 x2 x3 x4 x5 x6 x7 x8 x9 x10 x11 x12 x13 x14 x15) ∗ owns (c : Thread nD τ) arg19 fullShare (out0_19 x0 x1 x2 x3 x4 x5 x6 x7 x8 x9 x10 x11 x12 x13 x14 x15) ∗ owns (c : Thread nD τ) arg20 fullShare (out0_20 x0 x1 x2 x3 x4 x5 x6 x7 x8 x9 x10 x11 x12 x13 x14 x15) ∗ owns (c : Thread nD τ) arg21 fullShare (out0_21 x0 x1 x2 x3 x4 x5 x6 x7 x8 x9 x10 x11 x12 x13 x14 x15) ∗ owns (c : Thread nD τ) arg22 fullShare (out0_22 x0 x1 x2 x3 x4 x5 x6 x7 x8 x9 x10 x11 x12 x13 x14 x15) ∗ owns (c : Thread nD τ) arg23 fullShare (out0_23 x0 x1 x2 x3 x4 x5 x6 x7 x8 x9 x10 x11 x12 x13 x14 x15) ∗ owns (c : Thread nD τ) arg24 fullShare (out0_24 x0 x1 x2 x3 x4 x5 x6 x7 x8 x9 x10 x11 x12 x13 x14 x15) ∗ owns (c : Thread nD τ) arg25 fullShare (out0_25 x0 x1 x2 x3 x4 x5 x6 x7 x8 x9 x10 x11 x12 x13 x14 x15) ∗ owns (c : Thread nD τ) arg26 fullShare (out0_26 x0 x1 x2 x3 x4 x5 x6 x7 x8 x9 x10 x11 x12 x13 x14 x15) ∗ owns (c : Thread nD τ) arg27 fullShare (out0_27 x0 x1 x2 x3 x4 x5 x6 x7 x8 x9 x10 x11 x12 x13 x14 x15) ∗ owns (c : Thread nD τ) arg28 fullShare (out0_28 x0 x1 x2 x3 x4 x5 x6 x7 x8 x9 x10 x11 x12 x13 x14 x15) ∗ owns (c : Thread nD τ) arg29 fullShare (out0_29 x0 x1 x2 x3 x4 x5 x6 x7 x8 x9 x10 x11 x12 x13 x14 x15) ∗ owns (c : Thread nD τ) arg30 fullShare (out0_30 x0 x1 x2 x3 x4 x5 x6 x7 x8 x9 x10 x11 x12 x13 x14 x15) ∗ owns (c : Thread nD τ) arg31 fullShare (out0_31 x0 x1 x2 x3 x4 x5 x6 x7 x8 x9 x10 x11 x12 x13 x14 x15) ∗ owns (c : Thread nD τ) arg32 fullShare (out0_32 x0 x1 x2 x3 x4 x5 x6 x7 x8 x9 x10 x11 x12 x13 x14 x15) ∗ owns (c : Thread nD τ) arg33 fullShare (out0_33 x0 x1 x2 x3 x4 x5 x6 x7 x8 x9 x10 x11 x12 x13 x14 x15) ∗ owns (c : Thread nD τ) arg34 fullShare (out0_34 x0 x1 x2 x3 x4 x5 x6 x7 x8 x9 x10 x11 x12 x13 x14 x15) ∗ owns (c : Thread nD τ) arg35 fullShare (out0_35 x0 x1 x2 x3 x4 x5 x6 x7 x8 x9 x10 x11 x12 x13 x14 x15)) -∗ K ⟨⟩))
      ⊢ wp frame (wpE (defs₀ (F := F)) Variants.none c none) E (cc0_small_adam arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_small_adam_eq_skeleton]; unfold cc0_small_adam_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  isplitl [H31]
  · iexists _; isplitr
    swap; · iexact H31
    ipureintro
    exact View.read_writes_eq_canon _ _ _ (cover0_31 _)
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  isplitl [H34]
  · iexists _; isplitr
    swap; · iexact H34
    ipureintro
    exact View.read_writes_eq_canon _ _ _ (cover0_34 _)
  iexists _; isplitr
  swap; · iexact H35
  ipureintro
  exact View.read_writes_eq_canon _ _ _ (cover0_35 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The call ends without fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.SmallAdamIdeal.Small

end
-- ==== Proof.SmallAdamSame.lean ====
/-
  The small optimiser call and its ideal are one text, printed at two instances. Their window tables, body tables and host programs are
  equal, so the run of SmallAdamFrame.lean, which holds over any float values, is also the kernel's over machine words.
-/
module
public import proofs.«01_k».proof.Defs
public import proofs.«01_k».proof.Proof.SmallAdamFrame
public import proofs.«01_k».proof.Proof.Gen.SmallAdam

@[expose] public section

set_option maxHeartbeats 8000000

noncomputable section

namespace Cert.SmallAdamIdeal.Same

open Idealize.ShloMosaic Idealize.ShloMosaic.TcCoe Idealize.SL.Sem

/-- The two body tables. -/
theorem body_same : Cert.SmallAdam.defs₀ (F := Bits) = Cert.SmallAdamIdeal.defs₀ (F := Bits) := by
  unfold Cert.SmallAdam.defs₀ Cert.SmallAdamIdeal.defs₀
  congr 1
  funext x y
  match x, y with
  | 0, (t, s) => rfl

/-- The tables with the pipeline. -/
theorem defs_same : Cert.SmallAdam.defs (F := Bits) = Cert.SmallAdamIdeal.defs (F := Bits) :=
  congrArg (Pipeline.defs (Cert.SmallAdam.pcfgs (F := Bits))) body_same

/-- The host programs. -/
theorem main_same : Cert.SmallAdam.main (F := Bits) = Cert.SmallAdamIdeal.main (F := Bits) := rfl

/-- Equal tables and equal host programs run alike. -/
theorem run_same {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s Q}
    (h : θ_run d' (onTc (τ := τ) p') s Q) : θ_run d (onTc (τ := τ) p) s Q := by
  subst hd hp
  exact h

/-- The kernel ends without fault, its arguments unchanged and every counter at zero. -/
theorem frame_kernel : Cert.quiescent_SmallAdam := fun m ρ _ =>
  run_same defs_same main_same (Cert.SmallAdamIdeal.Small.frame (F := Bits) m ρ)

end Cert.SmallAdamIdeal.Same

end
-- ==== Proof.SmallAdam.lean ====
/-
  The optimiser's step of the five norms' gains: from the rows of the summed gradients, each gain's gradient, step and two moments.
-/
module

public import proofs.«01_k».proof.Defs
public import proofs.«01_k».proof.Proof.Adam
public import proofs.«01_k».proof.Proof.SmallAdamFrame
public import proofs.«01_k».proof.Proof.SmallAdamSame
public import proofs.«01_k».proof.Proof.Gen.SmallAdam
public import proofs.«01_k».proof.Proof.Gen.SmallAdamRefIdeal.Run
public import Idealize.ShloMosaic.Lib.Quiescent
public import Idealize.ShloMosaic.Lib.Pipeline.ValueKit

@[expose] public section

set_option maxRecDepth 16384

noncomputable section

namespace Cert.SmallAdamIdeal.Prod

open Idealize.ShloMosaic Idealize.ShloMosaic.TcCoe Idealize.SL.Sem Cert.SmallAdamIdeal Cert.SmallAdamIdeal.Gen Cert.SmallAdamIdeal.Small Cert.Mat Cert.AdamW

variable {n : ℕ}

variable {n : ℕ}

/-- Row `r` of the summed gradients, and the two halves of row 1. -/
def row (r : Fin 8) (a : Mat 8 4096) : Mat 1 4096 := fun i => a (ix2 r (i 1))
def left (a : Mat 8 4096) : Mat 1 2048 := fun i => a (ix2 1 ⟨(i 1).val, by have := (i 1).isLt; change (i 1).val < 2048 at this; omega⟩)
def right (a : Mat 8 4096) : Mat 1 2048 := fun i => a (ix2 1 ⟨2048 + (i 1).val, by have := (i 1).isLt; change (i 1).val < 2048 at this; omega⟩)

/-- The update of a whole gain. -/
def firsts (g m : Mat 1 n) : Mat 1 n := fun i => first (g i) (m i)
def seconds (g v : Mat 1 n) : Mat 1 n := fun i => second (g i) (v i)
def deltas (w g m v : Mat 1 n) : Mat 1 n := fun i => delta (w i) (g i) (m i) (v i)

/-! What the kernel loads of the summed gradients. -/

theorem ld_mix (a : Vec Ideal S8x4096 .f32) : View.ld a r0_0 = row 0 a := by
  funext i
  have h : (i 0).val < 1 := (i 0).isLt
  refine congrArg a (funext fun k => Fin.ext ?_)
  fin_cases k
  · show 0 + 1 * (i 0).val = 0
    omega
  · show 0 + 1 * (i 1).val = (i 1).val
    omega

theorem ld_left (a : Vec Ideal S8x4096 .f32) : View.ld a r0_2 = left a := by
  funext i
  have h : (i 0).val < 1 := (i 0).isLt
  refine congrArg a (funext fun k => Fin.ext ?_)
  fin_cases k
  · show 1 + 1 * (i 0).val = 1
    omega
  · show 0 + 1 * (i 1).val = (i 1).val
    omega

theorem ld_right (a : Vec Ideal S8x4096 .f32) : View.ld a r0_4 = right a := by
  funext i
  have h : (i 0).val < 1 := (i 0).isLt
  refine congrArg a (funext fun k => Fin.ext ?_)
  fin_cases k
  · show 1 + 1 * (i 0).val = 1
    omega
  · show 2048 + 1 * (i 1).val = 2048 + (i 1).val
    omega

theorem ld_ffn (a : Vec Ideal S8x4096 .f32) : View.ld a r0_5 = row 2 a := by
  funext i
  have h : (i 0).val < 1 := (i 0).isLt
  refine congrArg a (funext fun k => Fin.ext ?_)
  fin_cases k
  · show 2 + 1 * (i 0).val = 2
    omega
  · show 0 + 1 * (i 1).val = (i 1).val
    omega

theorem ld_final (a : Vec Ideal S8x4096 .f32) : View.ld a r0_6 = row 3 a := by
  funext i
  have h : (i 0).val < 1 := (i 0).isLt
  refine congrArg a (funext fun k => Fin.ext ?_)
  fin_cases k
  · show 3 + 1 * (i 0).val = 3
    omega
  · show 0 + 1 * (i 1).val = (i 1).val
    omega

/-! What the host cuts out of them. -/

theorem cut_mix (a : Vec Ideal S8x4096 .f32) (h) : extractStridedSlice Cert.SmallAdamRefIdeal.S1x4096 ![0, 0] a h = row 0 a := by
  funext i
  unfold row
  pointwise

theorem cut_left (a : Vec Ideal S8x4096 .f32) (h) : extractStridedSlice Cert.SmallAdamRefIdeal.S1x2048 ![1, 0] a h = left a := by
  funext i
  unfold left
  pointwise

theorem cut_right (a : Vec Ideal S8x4096 .f32) (h) : extractStridedSlice Cert.SmallAdamRefIdeal.S1x2048 ![1, 2048] a h = right a := by
  funext i
  unfold right
  pointwise

theorem cut_ffn (a : Vec Ideal S8x4096 .f32) (h) : extractStridedSlice Cert.SmallAdamRefIdeal.S1x4096 ![2, 0] a h = row 2 a := by
  funext i
  unfold row
  pointwise

theorem cut_final (a : Vec Ideal S8x4096 .f32) (h) : extractStridedSlice Cert.SmallAdamRefIdeal.S1x4096 ![3, 0] a h = row 3 a := by
  funext i
  unfold row
  pointwise

/-! The host's update, at both widths. -/

theorem host_first_4096 (g m : Vec Ideal Cert.SmallAdamRefIdeal.S1x4096 .f32) (h) : addf (mulf (broadcastInDim Cert.SmallAdamRefIdeal.S1x4096 ![] h (constant (F := Ideal) Cert.SmallAdamRefIdeal.S_ .f32 0x3F666666#32)) m) (mulf (broadcastInDim Cert.SmallAdamRefIdeal.S1x4096 ![] h (constant (F := Ideal) Cert.SmallAdamRefIdeal.S_ .f32 0x3DCCCCCD#32)) g) = firsts g m := by
  funext i
  unfold firsts first
  pointwise

theorem host_second_4096 (g v : Vec Ideal Cert.SmallAdamRefIdeal.S1x4096 .f32) (h) : addf (mulf (broadcastInDim Cert.SmallAdamRefIdeal.S1x4096 ![] h (constant (F := Ideal) Cert.SmallAdamRefIdeal.S_ .f32 0x3F7FBE77#32)) v) (mulf (broadcastInDim Cert.SmallAdamRefIdeal.S1x4096 ![] h (constant (F := Ideal) Cert.SmallAdamRefIdeal.S_ .f32 0x3A83126F#32)) (mulf g g)) = seconds g v := by
  funext i
  unfold seconds second
  pointwise

theorem host_delta_4096 (w g m v : Vec Ideal Cert.SmallAdamRefIdeal.S1x4096 .f32) (h) : mulf (broadcastInDim Cert.SmallAdamRefIdeal.S1x4096 ![] h (constant (F := Ideal) Cert.SmallAdamRefIdeal.S_ .f32 0xBA83126F#32)) (addf (Host.divf (Host.divf (addf (mulf (broadcastInDim Cert.SmallAdamRefIdeal.S1x4096 ![] h (constant (F := Ideal) Cert.SmallAdamRefIdeal.S_ .f32 0x3F666666#32)) m) (mulf (broadcastInDim Cert.SmallAdamRefIdeal.S1x4096 ![] h (constant (F := Ideal) Cert.SmallAdamRefIdeal.S_ .f32 0x3DCCCCCD#32)) g)) (broadcastInDim Cert.SmallAdamRefIdeal.S1x4096 ![] h (constant (F := Ideal) Cert.SmallAdamRefIdeal.S_ .f32 0x3F26BD02#32))) (addf (Host.sqrt (Host.divf (addf (mulf (broadcastInDim Cert.SmallAdamRefIdeal.S1x4096 ![] h (constant (F := Ideal) Cert.SmallAdamRefIdeal.S_ .f32 0x3F7FBE77#32)) v) (mulf (broadcastInDim Cert.SmallAdamRefIdeal.S1x4096 ![] h (constant (F := Ideal) Cert.SmallAdamRefIdeal.S_ .f32 0x3A83126F#32)) (mulf g g))) (broadcastInDim Cert.SmallAdamRefIdeal.S1x4096 ![] h (constant (F := Ideal) Cert.SmallAdamRefIdeal.S_ .f32 0x3C231ACC#32)))) (broadcastInDim Cert.SmallAdamRefIdeal.S1x4096 ![] h (constant (F := Ideal) Cert.SmallAdamRefIdeal.S_ .f32 0x322BCC77#32)))) (mulf (broadcastInDim Cert.SmallAdamRefIdeal.S1x4096 ![] h (constant (F := Ideal) Cert.SmallAdamRefIdeal.S_ .f32 0x3C23D70A#32)) w)) = deltas w g m v := by
  funext i
  unfold deltas delta first second
  pointwise

theorem host_first_2048 (g m : Vec Ideal Cert.SmallAdamRefIdeal.S1x2048 .f32) (h) : addf (mulf (broadcastInDim Cert.SmallAdamRefIdeal.S1x2048 ![] h (constant (F := Ideal) Cert.SmallAdamRefIdeal.S_ .f32 0x3F666666#32)) m) (mulf (broadcastInDim Cert.SmallAdamRefIdeal.S1x2048 ![] h (constant (F := Ideal) Cert.SmallAdamRefIdeal.S_ .f32 0x3DCCCCCD#32)) g) = firsts g m := by
  funext i
  unfold firsts first
  pointwise

theorem host_second_2048 (g v : Vec Ideal Cert.SmallAdamRefIdeal.S1x2048 .f32) (h) : addf (mulf (broadcastInDim Cert.SmallAdamRefIdeal.S1x2048 ![] h (constant (F := Ideal) Cert.SmallAdamRefIdeal.S_ .f32 0x3F7FBE77#32)) v) (mulf (broadcastInDim Cert.SmallAdamRefIdeal.S1x2048 ![] h (constant (F := Ideal) Cert.SmallAdamRefIdeal.S_ .f32 0x3A83126F#32)) (mulf g g)) = seconds g v := by
  funext i
  unfold seconds second
  pointwise

theorem host_delta_2048 (w g m v : Vec Ideal Cert.SmallAdamRefIdeal.S1x2048 .f32) (h) : mulf (broadcastInDim Cert.SmallAdamRefIdeal.S1x2048 ![] h (constant (F := Ideal) Cert.SmallAdamRefIdeal.S_ .f32 0xBA83126F#32)) (addf (Host.divf (Host.divf (addf (mulf (broadcastInDim Cert.SmallAdamRefIdeal.S1x2048 ![] h (constant (F := Ideal) Cert.SmallAdamRefIdeal.S_ .f32 0x3F666666#32)) m) (mulf (broadcastInDim Cert.SmallAdamRefIdeal.S1x2048 ![] h (constant (F := Ideal) Cert.SmallAdamRefIdeal.S_ .f32 0x3DCCCCCD#32)) g)) (broadcastInDim Cert.SmallAdamRefIdeal.S1x2048 ![] h (constant (F := Ideal) Cert.SmallAdamRefIdeal.S_ .f32 0x3F26BD02#32))) (addf (Host.sqrt (Host.divf (addf (mulf (broadcastInDim Cert.SmallAdamRefIdeal.S1x2048 ![] h (constant (F := Ideal) Cert.SmallAdamRefIdeal.S_ .f32 0x3F7FBE77#32)) v) (mulf (broadcastInDim Cert.SmallAdamRefIdeal.S1x2048 ![] h (constant (F := Ideal) Cert.SmallAdamRefIdeal.S_ .f32 0x3A83126F#32)) (mulf g g))) (broadcastInDim Cert.SmallAdamRefIdeal.S1x2048 ![] h (constant (F := Ideal) Cert.SmallAdamRefIdeal.S_ .f32 0x3C231ACC#32)))) (broadcastInDim Cert.SmallAdamRefIdeal.S1x2048 ![] h (constant (F := Ideal) Cert.SmallAdamRefIdeal.S_ .f32 0x322BCC77#32)))) (mulf (broadcastInDim Cert.SmallAdamRefIdeal.S1x2048 ![] h (constant (F := Ideal) Cert.SmallAdamRefIdeal.S_ .f32 0x3C23D70A#32)) w)) = deltas w g m v := by
  funext i
  unfold deltas delta first second
  pointwise

variable (m : (ℓ : Loc nD τ sig) → Buf (Elt Ideal) ℓ) (c : Dev nD)

/-- The summed gradients: a row for each of the norms, the heads' two in one. -/
abbrev tot : Mat 8 4096 := m ((c : Thread nD τ).loc main_arg0)

theorem blk0 (t : Fin cfg0.N) : iblk m c 0 t = m ((c : Thread nD τ).loc main_arg0) := by
  refine funext fun y => congrArg (m ((c : Thread nD τ).loc main_arg0)) (funext fun k => Fin.ext ?_)
  refine ((cfg0.win 0).rect_emb_val t y k rfl).trans ?_
  show 0 * _ + (y k).val = _
  omega

theorem blk1 (t : Fin cfg0.N) : iblk m c 1 t = m ((c : Thread nD τ).loc main_arg1) := by
  refine funext fun y => congrArg (m ((c : Thread nD τ).loc main_arg1)) (funext fun k => Fin.ext ?_)
  refine ((cfg0.win 1).rect_emb_val t y k rfl).trans ?_
  show 0 * _ + (y k).val = _
  omega

theorem blk2 (t : Fin cfg0.N) : iblk m c 2 t = m ((c : Thread nD τ).loc main_arg2) := by
  refine funext fun y => congrArg (m ((c : Thread nD τ).loc main_arg2)) (funext fun k => Fin.ext ?_)
  refine ((cfg0.win 2).rect_emb_val t y k rfl).trans ?_
  show 0 * _ + (y k).val = _
  omega

theorem blk3 (t : Fin cfg0.N) : iblk m c 3 t = m ((c : Thread nD τ).loc main_arg3) := by
  refine funext fun y => congrArg (m ((c : Thread nD τ).loc main_arg3)) (funext fun k => Fin.ext ?_)
  refine ((cfg0.win 3).rect_emb_val t y k rfl).trans ?_
  show 0 * _ + (y k).val = _
  omega

theorem blk4 (t : Fin cfg0.N) : iblk m c 4 t = m ((c : Thread nD τ).loc main_arg4) := by
  refine funext fun y => congrArg (m ((c : Thread nD τ).loc main_arg4)) (funext fun k => Fin.ext ?_)
  refine ((cfg0.win 4).rect_emb_val t y k rfl).trans ?_
  show 0 * _ + (y k).val = _
  omega

theorem blk5 (t : Fin cfg0.N) : iblk m c 5 t = m ((c : Thread nD τ).loc main_arg5) := by
  refine funext fun y => congrArg (m ((c : Thread nD τ).loc main_arg5)) (funext fun k => Fin.ext ?_)
  refine ((cfg0.win 5).rect_emb_val t y k rfl).trans ?_
  show 0 * _ + (y k).val = _
  omega

theorem blk6 (t : Fin cfg0.N) : iblk m c 6 t = m ((c : Thread nD τ).loc main_arg6) := by
  refine funext fun y => congrArg (m ((c : Thread nD τ).loc main_arg6)) (funext fun k => Fin.ext ?_)
  refine ((cfg0.win 6).rect_emb_val t y k rfl).trans ?_
  show 0 * _ + (y k).val = _
  omega

theorem blk7 (t : Fin cfg0.N) : iblk m c 7 t = m ((c : Thread nD τ).loc main_arg7) := by
  refine funext fun y => congrArg (m ((c : Thread nD τ).loc main_arg7)) (funext fun k => Fin.ext ?_)
  refine ((cfg0.win 7).rect_emb_val t y k rfl).trans ?_
  show 0 * _ + (y k).val = _
  omega

theorem blk8 (t : Fin cfg0.N) : iblk m c 8 t = m ((c : Thread nD τ).loc main_arg8) := by
  refine funext fun y => congrArg (m ((c : Thread nD τ).loc main_arg8)) (funext fun k => Fin.ext ?_)
  refine ((cfg0.win 8).rect_emb_val t y k rfl).trans ?_
  show 0 * _ + (y k).val = _
  omega

theorem blk9 (t : Fin cfg0.N) : iblk m c 9 t = m ((c : Thread nD τ).loc main_arg9) := by
  refine funext fun y => congrArg (m ((c : Thread nD τ).loc main_arg9)) (funext fun k => Fin.ext ?_)
  refine ((cfg0.win 9).rect_emb_val t y k rfl).trans ?_
  show 0 * _ + (y k).val = _
  omega

theorem blk10 (t : Fin cfg0.N) : iblk m c 10 t = m ((c : Thread nD τ).loc main_arg10) := by
  refine funext fun y => congrArg (m ((c : Thread nD τ).loc main_arg10)) (funext fun k => Fin.ext ?_)
  refine ((cfg0.win 10).rect_emb_val t y k rfl).trans ?_
  show 0 * _ + (y k).val = _
  omega

theorem blk11 (t : Fin cfg0.N) : iblk m c 11 t = m ((c : Thread nD τ).loc main_arg11) := by
  refine funext fun y => congrArg (m ((c : Thread nD τ).loc main_arg11)) (funext fun k => Fin.ext ?_)
  refine ((cfg0.win 11).rect_emb_val t y k rfl).trans ?_
  show 0 * _ + (y k).val = _
  omega

theorem blk12 (t : Fin cfg0.N) : iblk m c 12 t = m ((c : Thread nD τ).loc main_arg12) := by
  refine funext fun y => congrArg (m ((c : Thread nD τ).loc main_arg12)) (funext fun k => Fin.ext ?_)
  refine ((cfg0.win 12).rect_emb_val t y k rfl).trans ?_
  show 0 * _ + (y k).val = _
  omega

theorem blk13 (t : Fin cfg0.N) : iblk m c 13 t = m ((c : Thread nD τ).loc main_arg13) := by
  refine funext fun y => congrArg (m ((c : Thread nD τ).loc main_arg13)) (funext fun k => Fin.ext ?_)
  refine ((cfg0.win 13).rect_emb_val t y k rfl).trans ?_
  show 0 * _ + (y k).val = _
  omega

theorem blk14 (t : Fin cfg0.N) : iblk m c 14 t = m ((c : Thread nD τ).loc main_arg14) := by
  refine funext fun y => congrArg (m ((c : Thread nD τ).loc main_arg14)) (funext fun k => Fin.ext ?_)
  refine ((cfg0.win 14).rect_emb_val t y k rfl).trans ?_
  show 0 * _ + (y k).val = _
  omega

theorem blk15 (t : Fin cfg0.N) : iblk m c 15 t = m ((c : Thread nD τ).loc main_arg15) := by
  refine funext fun y => congrArg (m ((c : Thread nD τ).loc main_arg15)) (funext fun k => Fin.ext ?_)
  refine ((cfg0.win 15).rect_emb_val t y k rfl).trans ?_
  show 0 * _ + (y k).val = _
  omega

/-! The mixer's norm: the gradient, the step, the moments. -/

theorem arr16 : (dats m 0 c).arrAt 16 cfg0.N = row 0 (tot m c) := by
  refine (dats m 0 c).arrAt_eq_of_after_last 16 t0_0 (by decide +kernel) _ fun j => ?_
  rw [after0_16]
  unfold out0_16
  rw [View.canon_unit_zero (S := S1x4096) zero_off]
  simp only [View.ld_unit_zero (S := S1x4096) zero_off, blk0]
  exact congrFun (ld_mix (tot m c)) j

theorem arr17 : (dats m 0 c).arrAt 17 cfg0.N = deltas (m ((c : Thread nD τ).loc main_arg1)) (row 0 (tot m c)) (m ((c : Thread nD τ).loc main_arg6)) (m ((c : Thread nD τ).loc main_arg11)) := by
  refine (dats m 0 c).arrAt_eq_of_after_last 17 t0_0 (by decide +kernel) _ fun j => ?_
  rw [after0_17]
  unfold out0_17
  rw [View.canon_unit_zero (S := S1x4096) zero_off]
  simp only [View.ld_unit_zero (S := S1x4096) zero_off, ld_mix, blk0, blk1, blk6, blk11]
  rfl

theorem arr18 : (dats m 0 c).arrAt 18 cfg0.N = firsts (row 0 (tot m c)) (m ((c : Thread nD τ).loc main_arg6)) := by
  refine (dats m 0 c).arrAt_eq_of_after_last 18 t0_0 (by decide +kernel) _ fun j => ?_
  rw [after0_18]
  unfold out0_18
  rw [View.canon_unit_zero (S := S1x4096) zero_off]
  simp only [View.ld_unit_zero (S := S1x4096) zero_off, ld_mix, blk0, blk6]
  rfl

theorem arr19 : (dats m 0 c).arrAt 19 cfg0.N = seconds (row 0 (tot m c)) (m ((c : Thread nD τ).loc main_arg11)) := by
  refine (dats m 0 c).arrAt_eq_of_after_last 19 t0_0 (by decide +kernel) _ fun j => ?_
  rw [after0_19]
  unfold out0_19
  rw [View.canon_unit_zero (S := S1x4096) zero_off]
  simp only [View.ld_unit_zero (S := S1x4096) zero_off, ld_mix, blk0, blk11]
  rfl

/-! The dilated heads' norm: the gradient, the step, the moments. -/

theorem arr20 : (dats m 0 c).arrAt 20 cfg0.N = left (tot m c) := by
  refine (dats m 0 c).arrAt_eq_of_after_last 20 t0_0 (by decide +kernel) _ fun j => ?_
  rw [after0_20]
  unfold out0_20
  rw [View.canon_unit_zero (S := S1x2048) zero_off]
  simp only [View.ld_unit_zero (S := S1x2048) zero_off, blk0]
  exact congrFun (ld_left (tot m c)) j

theorem arr21 : (dats m 0 c).arrAt 21 cfg0.N = deltas (m ((c : Thread nD τ).loc main_arg2)) (left (tot m c)) (m ((c : Thread nD τ).loc main_arg7)) (m ((c : Thread nD τ).loc main_arg12)) := by
  refine (dats m 0 c).arrAt_eq_of_after_last 21 t0_0 (by decide +kernel) _ fun j => ?_
  rw [after0_21]
  unfold out0_21
  rw [View.canon_unit_zero (S := S1x2048) zero_off]
  simp only [View.ld_unit_zero (S := S1x2048) zero_off, ld_left, blk0, blk2, blk7, blk12]
  rfl

theorem arr22 : (dats m 0 c).arrAt 22 cfg0.N = firsts (left (tot m c)) (m ((c : Thread nD τ).loc main_arg7)) := by
  refine (dats m 0 c).arrAt_eq_of_after_last 22 t0_0 (by decide +kernel) _ fun j => ?_
  rw [after0_22]
  unfold out0_22
  rw [View.canon_unit_zero (S := S1x2048) zero_off]
  simp only [View.ld_unit_zero (S := S1x2048) zero_off, ld_left, blk0, blk7]
  rfl

theorem arr23 : (dats m 0 c).arrAt 23 cfg0.N = seconds (left (tot m c)) (m ((c : Thread nD τ).loc main_arg12)) := by
  refine (dats m 0 c).arrAt_eq_of_after_last 23 t0_0 (by decide +kernel) _ fun j => ?_
  rw [after0_23]
  unfold out0_23
  rw [View.canon_unit_zero (S := S1x2048) zero_off]
  simp only [View.ld_unit_zero (S := S1x2048) zero_off, ld_left, blk0, blk12]
  rfl

/-! The stick-breaking heads' norm: the gradient, the step, the moments. -/

theorem arr24 : (dats m 0 c).arrAt 24 cfg0.N = right (tot m c) := by
  refine (dats m 0 c).arrAt_eq_of_after_last 24 t0_0 (by decide +kernel) _ fun j => ?_
  rw [after0_24]
  unfold out0_24
  rw [View.canon_unit_zero (S := S1x2048) zero_off]
  simp only [View.ld_unit_zero (S := S1x2048) zero_off, blk0]
  exact congrFun (ld_right (tot m c)) j

theorem arr25 : (dats m 0 c).arrAt 25 cfg0.N = deltas (m ((c : Thread nD τ).loc main_arg3)) (right (tot m c)) (m ((c : Thread nD τ).loc main_arg8)) (m ((c : Thread nD τ).loc main_arg13)) := by
  refine (dats m 0 c).arrAt_eq_of_after_last 25 t0_0 (by decide +kernel) _ fun j => ?_
  rw [after0_25]
  unfold out0_25
  rw [View.canon_unit_zero (S := S1x2048) zero_off]
  simp only [View.ld_unit_zero (S := S1x2048) zero_off, ld_right, blk0, blk3, blk8, blk13]
  rfl

theorem arr26 : (dats m 0 c).arrAt 26 cfg0.N = firsts (right (tot m c)) (m ((c : Thread nD τ).loc main_arg8)) := by
  refine (dats m 0 c).arrAt_eq_of_after_last 26 t0_0 (by decide +kernel) _ fun j => ?_
  rw [after0_26]
  unfold out0_26
  rw [View.canon_unit_zero (S := S1x2048) zero_off]
  simp only [View.ld_unit_zero (S := S1x2048) zero_off, ld_right, blk0, blk8]
  rfl

theorem arr27 : (dats m 0 c).arrAt 27 cfg0.N = seconds (right (tot m c)) (m ((c : Thread nD τ).loc main_arg13)) := by
  refine (dats m 0 c).arrAt_eq_of_after_last 27 t0_0 (by decide +kernel) _ fun j => ?_
  rw [after0_27]
  unfold out0_27
  rw [View.canon_unit_zero (S := S1x2048) zero_off]
  simp only [View.ld_unit_zero (S := S1x2048) zero_off, ld_right, blk0, blk13]
  rfl

/-! The feed-forward layer's norm: the gradient, the step, the moments. -/

theorem arr28 : (dats m 0 c).arrAt 28 cfg0.N = row 2 (tot m c) := by
  refine (dats m 0 c).arrAt_eq_of_after_last 28 t0_0 (by decide +kernel) _ fun j => ?_
  rw [after0_28]
  unfold out0_28
  rw [View.canon_unit_zero (S := S1x4096) zero_off]
  simp only [View.ld_unit_zero (S := S1x4096) zero_off, blk0]
  exact congrFun (ld_ffn (tot m c)) j

theorem arr29 : (dats m 0 c).arrAt 29 cfg0.N = deltas (m ((c : Thread nD τ).loc main_arg4)) (row 2 (tot m c)) (m ((c : Thread nD τ).loc main_arg9)) (m ((c : Thread nD τ).loc main_arg14)) := by
  refine (dats m 0 c).arrAt_eq_of_after_last 29 t0_0 (by decide +kernel) _ fun j => ?_
  rw [after0_29]
  unfold out0_29
  rw [View.canon_unit_zero (S := S1x4096) zero_off]
  simp only [View.ld_unit_zero (S := S1x4096) zero_off, ld_ffn, blk0, blk4, blk9, blk14]
  rfl

theorem arr30 : (dats m 0 c).arrAt 30 cfg0.N = firsts (row 2 (tot m c)) (m ((c : Thread nD τ).loc main_arg9)) := by
  refine (dats m 0 c).arrAt_eq_of_after_last 30 t0_0 (by decide +kernel) _ fun j => ?_
  rw [after0_30]
  unfold out0_30
  rw [View.canon_unit_zero (S := S1x4096) zero_off]
  simp only [View.ld_unit_zero (S := S1x4096) zero_off, ld_ffn, blk0, blk9]
  rfl

theorem arr31 : (dats m 0 c).arrAt 31 cfg0.N = seconds (row 2 (tot m c)) (m ((c : Thread nD τ).loc main_arg14)) := by
  refine (dats m 0 c).arrAt_eq_of_after_last 31 t0_0 (by decide +kernel) _ fun j => ?_
  rw [after0_31]
  unfold out0_31
  rw [View.canon_unit_zero (S := S1x4096) zero_off]
  simp only [View.ld_unit_zero (S := S1x4096) zero_off, ld_ffn, blk0, blk14]
  rfl

/-! The last norm: the gradient, the step, the moments. -/

theorem arr32 : (dats m 0 c).arrAt 32 cfg0.N = row 3 (tot m c) := by
  refine (dats m 0 c).arrAt_eq_of_after_last 32 t0_0 (by decide +kernel) _ fun j => ?_
  rw [after0_32]
  unfold out0_32
  rw [View.canon_unit_zero (S := S1x4096) zero_off]
  simp only [View.ld_unit_zero (S := S1x4096) zero_off, blk0]
  exact congrFun (ld_final (tot m c)) j

theorem arr33 : (dats m 0 c).arrAt 33 cfg0.N = deltas (m ((c : Thread nD τ).loc main_arg5)) (row 3 (tot m c)) (m ((c : Thread nD τ).loc main_arg10)) (m ((c : Thread nD τ).loc main_arg15)) := by
  refine (dats m 0 c).arrAt_eq_of_after_last 33 t0_0 (by decide +kernel) _ fun j => ?_
  rw [after0_33]
  unfold out0_33
  rw [View.canon_unit_zero (S := S1x4096) zero_off]
  simp only [View.ld_unit_zero (S := S1x4096) zero_off, ld_final, blk0, blk5, blk10, blk15]
  rfl

theorem arr34 : (dats m 0 c).arrAt 34 cfg0.N = firsts (row 3 (tot m c)) (m ((c : Thread nD τ).loc main_arg10)) := by
  refine (dats m 0 c).arrAt_eq_of_after_last 34 t0_0 (by decide +kernel) _ fun j => ?_
  rw [after0_34]
  unfold out0_34
  rw [View.canon_unit_zero (S := S1x4096) zero_off]
  simp only [View.ld_unit_zero (S := S1x4096) zero_off, ld_final, blk0, blk10]
  rfl

theorem arr35 : (dats m 0 c).arrAt 35 cfg0.N = seconds (row 3 (tot m c)) (m ((c : Thread nD τ).loc main_arg15)) := by
  refine (dats m 0 c).arrAt_eq_of_after_last 35 t0_0 (by decide +kernel) _ fun j => ?_
  rw [after0_35]
  unfold out0_35
  rw [View.canon_unit_zero (S := S1x4096) zero_off]
  simp only [View.ld_unit_zero (S := S1x4096) zero_off, ld_final, blk0, blk15]
  rfl

/-- The kernel ends without fault, its arguments unchanged and every counter at zero: the run over any float values, over machine words. -/
theorem frame_kernel : Cert.quiescent_SmallAdam := Cert.SmallAdamIdeal.Same.frame_kernel

/-- Over the reals likewise. -/
theorem frame_ideal : Cert.quiescent_SmallAdamIdeal := fun m ρ _ => Cert.SmallAdamIdeal.Small.frame m ρ

/-- The reference likewise. -/
theorem frame_ref : Cert.quiescent_SmallAdamRefIdeal := fun m ρ _ => (θ_run Cert.SmallAdamRefIdeal.defs _ _).mono
  (fun r h => ⟨fun c => (h c).2.2.2.2.2.2.2.2.2.2.2.2.2.2.2.2.2.2.2.2, sem_eq_zero_of_no_sems (by decide) r.2⟩) (Cert.SmallAdamRefIdeal.Value.run m ρ)

set_option maxHeartbeats 4000000 in
/-- Kernel and reference leave the same gradients, steps and moments. -/
theorem value : Cert.algebraic_SmallAdamIdeal_SmallAdamRefIdeal := fun m g m' g' _ hargs => by
  refine ⟨fun c => row 0 (tot m c),
    fun c => deltas (m ((c : Thread nD τ).loc main_arg1)) (row 0 (tot m c)) (m ((c : Thread nD τ).loc main_arg6)) (m ((c : Thread nD τ).loc main_arg11)),
    fun c => firsts (row 0 (tot m c)) (m ((c : Thread nD τ).loc main_arg6)),
    fun c => seconds (row 0 (tot m c)) (m ((c : Thread nD τ).loc main_arg11)),
    fun c => left (tot m c),
    fun c => deltas (m ((c : Thread nD τ).loc main_arg2)) (left (tot m c)) (m ((c : Thread nD τ).loc main_arg7)) (m ((c : Thread nD τ).loc main_arg12)),
    fun c => firsts (left (tot m c)) (m ((c : Thread nD τ).loc main_arg7)),
    fun c => seconds (left (tot m c)) (m ((c : Thread nD τ).loc main_arg12)),
    fun c => right (tot m c),
    fun c => deltas (m ((c : Thread nD τ).loc main_arg3)) (right (tot m c)) (m ((c : Thread nD τ).loc main_arg8)) (m ((c : Thread nD τ).loc main_arg13)),
    fun c => firsts (right (tot m c)) (m ((c : Thread nD τ).loc main_arg8)),
    fun c => seconds (right (tot m c)) (m ((c : Thread nD τ).loc main_arg13)),
    fun c => row 2 (tot m c),
    fun c => deltas (m ((c : Thread nD τ).loc main_arg4)) (row 2 (tot m c)) (m ((c : Thread nD τ).loc main_arg9)) (m ((c : Thread nD τ).loc main_arg14)),
    fun c => firsts (row 2 (tot m c)) (m ((c : Thread nD τ).loc main_arg9)),
    fun c => seconds (row 2 (tot m c)) (m ((c : Thread nD τ).loc main_arg14)),
    fun c => row 3 (tot m c),
    fun c => deltas (m ((c : Thread nD τ).loc main_arg5)) (row 3 (tot m c)) (m ((c : Thread nD τ).loc main_arg10)) (m ((c : Thread nD τ).loc main_arg15)),
    fun c => firsts (row 3 (tot m c)) (m ((c : Thread nD τ).loc main_arg10)),
    fun c => seconds (row 3 (tot m c)) (m ((c : Thread nD τ).loc main_arg15)),
    (θ_run _ _ _).mono (fun r h c => ⟨((h.2 c).1 16).trans (arr16 m c),
      ((h.2 c).1 17).trans (arr17 m c),
      ((h.2 c).1 18).trans (arr18 m c),
      ((h.2 c).1 19).trans (arr19 m c),
      ((h.2 c).1 20).trans (arr20 m c),
      ((h.2 c).1 21).trans (arr21 m c),
      ((h.2 c).1 22).trans (arr22 m c),
      ((h.2 c).1 23).trans (arr23 m c),
      ((h.2 c).1 24).trans (arr24 m c),
      ((h.2 c).1 25).trans (arr25 m c),
      ((h.2 c).1 26).trans (arr26 m c),
      ((h.2 c).1 27).trans (arr27 m c),
      ((h.2 c).1 28).trans (arr28 m c),
      ((h.2 c).1 29).trans (arr29 m c),
      ((h.2 c).1 30).trans (arr30 m c),
      ((h.2 c).1 31).trans (arr31 m c),
      ((h.2 c).1 32).trans (arr32 m c),
      ((h.2 c).1 33).trans (arr33 m c),
      ((h.2 c).1 34).trans (arr34 m c),
      ((h.2 c).1 35).trans (arr35 m c), h.1 c⟩) (θ_run_and (unchanged m g) (run_main m g)),
    (θ_run _ _ _).mono (fun r h c => ?_) (Cert.SmallAdamRefIdeal.Value.run m' g')⟩
  obtain ⟨a0, a1, a2, a3, a4, a5, a6, a7, a8, a9, a10, a11, a12, a13, a14, a15⟩ := hargs c
  obtain ⟨h16, h17, h18, h19, h20, h21, h22, h23, h24, h25, h26, h27, h28, h29, h30, h31, h32, h33, h34, h35, hkept⟩ := h c
  exact ⟨h16.trans (by rw [a0, cut_mix]),
    h17.trans (by rw [a0, a1, a6, a11, cut_mix]; exact host_delta_4096 _ _ _ _ _),
    h18.trans (by rw [a0, a6, cut_mix]; exact host_first_4096 _ _ _),
    h19.trans (by rw [a0, a11, cut_mix]; exact host_second_4096 _ _ _),
    h20.trans (by rw [a0, cut_left]),
    h21.trans (by rw [a0, a2, a7, a12, cut_left]; exact host_delta_2048 _ _ _ _ _),
    h22.trans (by rw [a0, a7, cut_left]; exact host_first_2048 _ _ _),
    h23.trans (by rw [a0, a12, cut_left]; exact host_second_2048 _ _ _),
    h24.trans (by rw [a0, cut_right]),
    h25.trans (by rw [a0, a3, a8, a13, cut_right]; exact host_delta_2048 _ _ _ _ _),
    h26.trans (by rw [a0, a8, cut_right]; exact host_first_2048 _ _ _),
    h27.trans (by rw [a0, a13, cut_right]; exact host_second_2048 _ _ _),
    h28.trans (by rw [a0, cut_ffn]),
    h29.trans (by rw [a0, a4, a9, a14, cut_ffn]; exact host_delta_4096 _ _ _ _ _),
    h30.trans (by rw [a0, a9, cut_ffn]; exact host_first_4096 _ _ _),
    h31.trans (by rw [a0, a14, cut_ffn]; exact host_second_4096 _ _ _),
    h32.trans (by rw [a0, cut_final]),
    h33.trans (by rw [a0, a5, a10, a15, cut_final]; exact host_delta_4096 _ _ _ _ _),
    h34.trans (by rw [a0, a10, cut_final]; exact host_first_4096 _ _ _),
    h35.trans (by rw [a0, a15, cut_final]; exact host_second_4096 _ _ _), hkept⟩

end Cert.SmallAdamIdeal.Prod
end
-- ==== Proof.NormFwd.lean ====
/-
  The norm before the mixer and the norm before the feed-forward part: each row over the root of its mean square, times the gain.
-/
module

public import proofs.«01_k».proof.Defs
public import proofs.«01_k».proof.Proof.Norm
public import proofs.«01_k».proof.Proof.Gen.NormFwdIdeal.Value
public import proofs.«01_k».proof.Proof.Gen.NormFwdRefIdeal.Run
public import Idealize.ShloMosaic.Lib.Quiescent

@[expose] public section

set_option maxRecDepth 16384

noncomputable section

namespace Cert.NormFwdIdeal.Prod

open Idealize.ShloMosaic Idealize.ShloMosaic.TcCoe Idealize.SL.Sem Cert.NormFwdIdeal Cert.NormFwdIdeal.Gen Cert.Mat Cert.Norm

/-- The normed rows. -/
def normed {R : ℕ} (x : Mat R 4096) (g : Mat 1 4096) : Mat R 4096 := fun i => x i * root (row x (i 0)) * g (ix2 0 (i 1))

theorem pay1 (x : Vec Ideal S256x4096 .f32) (g : Vec Ideal S1x4096 .f32) (y : S256x4096.Idx) : k0_pay1 x g y = normed (R := 256) x g y := by
  unfold k0_pay1
  pointwise
  rfl

/-- The windows' blocks. -/
theorem index_all : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ) (c : Dev nD)

/-- The arguments: the norm's input and the gain. -/
abbrev xArr : Mat 4096 4096 := m ((c : Thread nD τ).loc main_arg0)
abbrev gArr : Mat 1 4096 := m ((c : Thread nD τ).loc main_arg1)

/-- The blocks of point `t`. -/
theorem x_blk (t : Fin cfg0.N) (y : S256x4096.Idx) (i : S4096x4096.Idx) (h0 : (i 0).val = 256 * t.val + (y 0).val) (h1 : (i 1).val = (y 1).val) :
    iblk m c 0 t y = xArr m c i := by
  have e0 := (index_all t).1
  have e := V_main_arg0 m c
  unfold xArr
  rw [← e]
  blk_ext [iblk, e0]

theorem g_blk (t : Fin cfg0.N) (y : S1x4096.Idx) (i : S1x4096.Idx) (h1 : (i 1).val = (y 1).val) : iblk m c 1 t y = gArr m c i := by
  have e1 := (index_all t).2.1
  have e := V_main_arg1 m c
  have h0 : (i 0).val = (y 0).val := by have := (i 0).isLt; have := (y 0).isLt; change (i 0).val < 1 at *; change (y 0).val < 1 at *; omega
  unfold gArr
  rw [← e]
  blk_ext [iblk, e1]

theorem x_row (t : Fin cfg0.N) (a : Fin 256) (b : Fin 4096) (h : b.val = 256 * t.val + a.val) : row (R := 256) (iblk m c 0 t) a = row (xArr m c) b :=
  funext fun k => x_blk m c t (ix2 a k) (ix2 b k) h rfl

theorem normed_blk (t : Fin cfg0.N) (y : S256x4096.Idx) (i : S4096x4096.Idx) (h0 : (i 0).val = 256 * t.val + (y 0).val) (h1 : (i 1).val = (y 1).val) :
    normed (R := 256) (iblk m c 0 t) (iblk m c 1 t) y = normed (xArr m c) (gArr m c) i := by
  unfold normed
  rw [x_row m c t (y 0) (i 0) h0, x_blk m c t y i h0 h1, g_blk m c t (ix2 0 (y 1)) (ix2 0 (i 1)) h1]

/-- The array. -/
theorem arr2 : (dats m 0 c).arrAt 2 cfg0.N = normed (xArr m c) (gArr m c) := by
  refine (dats m 0 c).arrAt_eq_of_covers 2 _ (by decide +kernel) fun t hf y => ?_
  have e := (index_all t).2.2
  have h0 : ((((View.whole main_v0).slice ((win0 2).rect t)).emb y) 0).val = 256 * t.val + (y 0).val := by
    show win0_2.index t 0 * 256 + 1 * (y 0).val = 256 * t.val + (y 0).val
    rw [e]
    show t.val * 256 + 1 * (y 0).val = _
    omega
  have h1 : ((((View.whole main_v0).slice ((win0 2).rect t)).emb y) 1).val = (y 1).val := by
    show win0_2.index t 1 * 4096 + 1 * (y 1).val = (y 1).val
    rw [e]
    show 0 * 4096 + 1 * (y 1).val = _
    omega
  rw [after0_2]
  unfold out0_2
  rw [View.canon_unit_zero (S := S256x4096) zero_off]
  simp only [View.ld_unit_zero (S := S256x4096) zero_off, View.ld_unit_zero (S := S1x4096) zero_off]
  exact (pay1 _ _ y).trans (normed_blk m c t y _ h0 h1)

/-- The kernel over the reals ends without fault, its arguments unchanged and every counter at zero. -/
theorem frame_ideal : Cert.quiescent_NormFwdIdeal := fun m ρ _ => Cert.NormFwdIdeal.Gen.frame m ρ

/-- The reference likewise. -/
theorem frame_ref : Cert.quiescent_NormFwdRefIdeal := fun m ρ _ => (θ_run Cert.NormFwdRefIdeal.defs _ _).mono
  (fun r h => ⟨fun c => (h c).2, sem_eq_zero_of_no_sems (by decide) r.2⟩) (Cert.NormFwdRefIdeal.Value.run m ρ)

/-- Kernel and reference leave the same array. -/
theorem value : Cert.algebraic_NormFwdIdeal_NormFwdRefIdeal := fun m g m' g' _ hargs => by
  refine ⟨fun c => normed (xArr m c) (gArr m c),
    (θ_run _ _ _).mono (fun r h c => ⟨(h c).1.trans (arr2 m c), (h c).2⟩) (Cert.NormFwdIdeal.Value.run_blocks m g),
    (θ_run _ _ _).mono (fun r h c => ⟨(h c).1.trans ?_, (h c).2⟩) (Cert.NormFwdRefIdeal.Value.run m' g')⟩
  rw [(hargs c).1, (hargs c).2]
  funext i
  pointwise
  rfl

end Cert.NormFwdIdeal.Prod
end
-- ==== Proof.LossHead.lean ====
/-
  The loss and the last norm: the gradient of the norm's input, twice, the gain's gradient summed over the rows of each class modulo
  eight, and the loss, one half of the sum over the tokens of the mean squared error.
-/
module

public import proofs.«01_k».proof.Defs
public import proofs.«01_k».proof.Proof.Norm
public import proofs.«01_k».proof.Proof.Gen.LossHeadIdeal.Value
public import proofs.«01_k».proof.Proof.Gen.LossHeadRefIdeal.Run
public import Idealize.ShloMosaic.Lib.Quiescent

@[expose] public section

set_option maxRecDepth 16384

noncomputable section

namespace Cert.LossHeadIdeal.Prod

open Idealize.ShloMosaic Idealize.ShloMosaic.TcCoe Idealize.SL.Sem Cert.LossHeadIdeal Cert.LossHeadIdeal.Gen Cert.Mat Cert.Norm

/-- The error of the normed rows against the target, and the loss's cotangent: the error over the width. -/
def err {R : ℕ} (x t : Mat R 4096) (g : Mat 1 4096) : Mat R 4096 := fun i => x i * root (row x (i 0)) * g (ix2 0 (i 1)) - t i
def ct {R : ℕ} (x t : Mat R 4096) (g : Mat 1 4096) : Mat R 4096 := fun i => err x t g i * Ideal.ofBits FTy.f32 0x39800000#32

/-- A row's share of the loss: its sum of squares, times one half over the width. -/
def rowLoss {R : ℕ} (x t : Mat R 4096) (g : Mat 1 4096) : Mat R 1 := fun i =>
  (∑ k : Fin 4096, err x t g (ix2 (i 0) k) * err x t g (ix2 (i 0) k)) * Ideal.ofBits FTy.f32 0x39000000#32

/-- A sum of squares times a number is the sum of the products. -/
theorem sum_mul_of_nonneg {ι : Type} (s : Finset ι) (f : ι → EReal) (h : ∀ i, 0 ≤ f i) (a : EReal) : (∑ i ∈ s, f i) * a = ∑ i ∈ s, f i * a := by
  classical
  induction s using Finset.induction_on with
  | empty => simp
  | insert i s hi ih => rw [Finset.sum_insert hi, Finset.sum_insert hi, EReal.right_distrib_of_nonneg (h i) (Finset.sum_nonneg fun j _ => h j), ih]

theorem sq_sum_nonneg {R : ℕ} (e : Mat R 4096) (r : Fin R) : 0 ≤ ∑ k : Fin 4096, (e (ix2 r k) * e (ix2 r k) : EReal) :=
  Finset.sum_nonneg fun k _ => sq_nonneg _

theorem lit_two : (Ideal.ofBits FTy.f32 0x40000000#32 : EReal) = ((2 : ℝ) : EReal) := by
  simp [Ideal.ofBits, Ideal.ieee, -EReal.coe_mul]; norm_num
theorem lit_hf : (Ideal.ofBits FTy.f32 0x3F000000#32 : EReal) = ((1 / 2 : ℝ) : EReal) := by
  simp [Ideal.ofBits, Ideal.ieee, -EReal.coe_mul]; norm_num
theorem lit_hn : (Ideal.ofBits FTy.f32 0x39000000#32 : EReal) = ((1 / 8192 : ℝ) : EReal) := by
  simp [Ideal.ofBits, Ideal.ieee, -EReal.coe_mul]; norm_num

/-- The derivative's way of writing the cotangent. -/
theorem ct_halves (e : EReal) : Ideal.div (Ideal.ofBits FTy.f32 0x3F000000#32) (Ideal.ofBits FTy.f32 0x45800000#32)
    * (Ideal.ofBits FTy.f32 0x40000000#32 * e) = e * Ideal.ofBits FTy.f32 0x39800000#32 := by
  rw [lit_hf, lit_n, lit_two, lit_inv, Ideal.div_coe (by norm_num), ← mul_assoc, ← EReal.coe_mul, ← EReal.coe_mul, mul_comm]
  refine congrArg (fun z : ℝ => e * (z : EReal)) ?_
  norm_num

/-- One half of a sum of means is the sum of the rows' shares. -/
theorem half_sum {ι : Type} (s : Finset ι) (f : ι → EReal) (h : ∀ i, 0 ≤ f i) :
    Ideal.ofBits FTy.f32 0x3F000000#32 * (∑ i ∈ s, Ideal.div (f i) (Ideal.ofBits FTy.f32 0x45800000#32)) = ∑ i ∈ s, f i * Ideal.ofBits FTy.f32 0x39000000#32 := by
  rw [lit_hf, lit_n, lit_hn, mul_comm]
  simp only [Ideal.div_coe (show (4096 : ℝ) ≠ 0 by norm_num)]
  rw [sum_mul_of_nonneg s _ fun i => mul_nonneg (h i) (EReal.coe_nonneg.mpr (by norm_num))]
  refine Finset.sum_congr rfl fun i _ => ?_
  rw [mul_assoc, ← EReal.coe_mul]
  refine congrArg (fun z : ℝ => f i * (z : EReal)) ?_
  norm_num

theorem pay5 (x : Vec Ideal S128x4096 .f32) (y : S128x1.Idx) : k0_pay5 x y = root (row (R := 128) x (y 0)) := by
  unfold k0_pay5
  pointwise
  rfl

theorem pay6 (x : Vec Ideal S128x4096 .f32) (y : S128x4096.Idx) : k0_pay6 x y = (x y * root (row (R := 128) x (y 0)) : EReal) := by
  unfold k0_pay6
  pointwise
  rw [pay5]
  rfl

theorem pay7 (x : Vec Ideal S128x4096 .f32) (g : Vec Ideal S1x4096 .f32) (t : Vec Ideal S128x4096 .f32) (y : S128x4096.Idx) :
    k0_pay7 x g t y = err (R := 128) x t g y := by
  unfold k0_pay7
  pointwise
  rw [pay6]
  rfl

theorem pay8 (x : Vec Ideal S128x4096 .f32) (g : Vec Ideal S1x4096 .f32) (t : Vec Ideal S128x4096 .f32) (y : S128x4096.Idx) :
    k0_pay8 x g t y = ct (R := 128) x t g y := by
  unfold k0_pay8
  pointwise
  rw [pay7]
  rfl

theorem pay9 (x : Vec Ideal S128x4096 .f32) (g : Vec Ideal S1x4096 .f32) (t : Vec Ideal S128x4096 .f32) (y : S128x4096.Idx) :
    k0_pay9 x g t y = dx (R := 128) x (ct (R := 128) x t g) g y := by
  unfold k0_pay9
  pointwise
  simp only [pay5, pay8]
  exact slope_cube _ _ _ _

theorem pay10 (x : Vec Ideal S128x4096 .f32) (g : Vec Ideal S1x4096 .f32) (t : Vec Ideal S128x4096 .f32) (y : S128x4096.Idx) :
    k0_pay10 x g t y = dx (R := 128) x (ct (R := 128) x t g) g y := pay9 x g t y

theorem pay11 (x : Vec Ideal S128x4096 .f32) (g : Vec Ideal S1x4096 .f32) (t : Vec Ideal S128x4096 .f32) (y : S128x1.Idx) :
    k0_pay11 x g t y = (∑ k : Fin 4096, err (R := 128) x t g (ix2 (y 0) k) * err (R := 128) x t g (ix2 (y 0) k) : EReal) := by
  unfold k0_pay11
  pointwise
  simp only [pay7]

theorem pay1 (x : Vec Ideal S128x4096 .f32) (g : Vec Ideal S1x4096 .f32) (t : Vec Ideal S128x4096 .f32) (y : S8x128.Idx) :
    k0_pay1 (k0_pay11 x g t) y = ∑ r : Fin 128, at2 (rowLoss (R := 128) x t g) r.val 0 := by
  unfold k0_pay1
  pointwise
  simp only [pay11]
  refine (sum_mul_of_nonneg Finset.univ (fun r : Fin 128 => ∑ k : Fin 4096, (err (R := 128) x t g (ix2 r k) * err (R := 128) x t g (ix2 r k) : EReal)) (fun r => sq_sum_nonneg (err (R := 128) x t g) r) _).trans ?_
  refine Finset.sum_congr rfl fun r _ => ?_
  rw [at2_eq _ r.isLt Nat.zero_lt_one]
  rfl

theorem pay2 (x : Vec Ideal S128x4096 .f32) (g : Vec Ideal S1x4096 .f32) (t : Vec Ideal S128x4096 .f32) (y : S8x4096.Idx) :
    k0_pay2 (k0_pay6 x) (k0_pay8 x g t) y = ∑ k : Fin 16, at2 (dg (R := 128) x (ct (R := 128) x t g)) (8 * k.val + (y 0).val) (y 1).val := by
  unfold k0_pay2
  pointwise
  refine Finset.sum_congr rfl fun k _ => ?_
  have hy0 : (y 0).val < 8 := (y 0).isLt
  have hy1 : (y 1).val < 4096 := (y 1).isLt
  rw [at2_eq _ (by omega) hy1, pay6, pay8]
  unfold dg
  refine (mul_assoc (_ : EReal) _ _).symm.trans ?_
  refine congrArg (fun i : S128x4096.Idx => (ct (R := 128) x t g i * x i * root (row (R := 128) x (i 0)) : EReal)) ?_
  funext a
  fin_cases a
  · exact Fin.ext (by dsimp; omega)
  · rfl

/-- The windows' blocks. -/
theorem index_all : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![0, 0])

variable (m : (ℓ : Loc nD τ sig) → Buf (Elt Ideal) ℓ) (c : Dev nD)

/-- The arguments: the norm's input, the target, the gain. -/
abbrev hArr : Mat 4096 4096 := m ((c : Thread nD τ).loc main_arg0)
abbrev tArr : Mat 4096 4096 := m ((c : Thread nD τ).loc main_arg1)
abbrev gArr : Mat 1 4096 := m ((c : Thread nD τ).loc main_arg2)

/-- The blocks of point `t`. -/
theorem h_blk (t : Fin cfg0.N) (y : S128x4096.Idx) (i : S4096x4096.Idx) (h0 : (i 0).val = 128 * t.val + (y 0).val) (h1 : (i 1).val = (y 1).val) :
    iblk m c 0 t y = hArr m c i := by
  have e0 := (index_all t).1
  have e := V_main_arg0 m c
  unfold hArr
  rw [← e]
  blk_ext [iblk, e0]

theorem t_blk (t : Fin cfg0.N) (y : S128x4096.Idx) (i : S4096x4096.Idx) (h0 : (i 0).val = 128 * t.val + (y 0).val) (h1 : (i 1).val = (y 1).val) :
    iblk m c 1 t y = tArr m c i := by
  have e1 := (index_all t).2.1
  have e := V_main_arg1 m c
  unfold tArr
  rw [← e]
  blk_ext [iblk, e1]

theorem g_blk (t : Fin cfg0.N) (y : S1x4096.Idx) (i : S1x4096.Idx) (h1 : (i 1).val = (y 1).val) : iblk m c 2 t y = gArr m c i := by
  have e2 := (index_all t).2.2.1
  have e := V_main_arg2 m c
  have h0 : (i 0).val = (y 0).val := by have := (i 0).isLt; have := (y 0).isLt; change (i 0).val < 1 at *; change (y 0).val < 1 at *; omega
  unfold gArr
  rw [← e]
  blk_ext [iblk, e2]

/-- A row of a block is a row of the array, and so are its errors. -/
theorem h_row (t : Fin cfg0.N) (a : Fin 128) (b : Fin 4096) (h : b.val = 128 * t.val + a.val) : row (R := 128) (iblk m c 0 t) a = row (hArr m c) b :=
  funext fun k => h_blk m c t (ix2 a k) (ix2 b k) h rfl

theorem err_blk (t : Fin cfg0.N) (y : S128x4096.Idx) (i : S4096x4096.Idx) (h0 : (i 0).val = 128 * t.val + (y 0).val) (h1 : (i 1).val = (y 1).val) :
    err (R := 128) (iblk m c 0 t) (iblk m c 1 t) (iblk m c 2 t) y = err (hArr m c) (tArr m c) (gArr m c) i := by
  unfold err
  rw [h_row m c t (y 0) (i 0) h0, h_blk m c t y i h0 h1, t_blk m c t y i h0 h1, g_blk m c t (ix2 0 (y 1)) (ix2 0 (i 1)) h1]

theorem ct_blk (t : Fin cfg0.N) (y : S128x4096.Idx) (i : S4096x4096.Idx) (h0 : (i 0).val = 128 * t.val + (y 0).val) (h1 : (i 1).val = (y 1).val) :
    ct (R := 128) (iblk m c 0 t) (iblk m c 1 t) (iblk m c 2 t) y = ct (hArr m c) (tArr m c) (gArr m c) i := by
  unfold ct
  rw [err_blk m c t y i h0 h1]

theorem dx_blk (t : Fin cfg0.N) (y : S128x4096.Idx) (i : S4096x4096.Idx) (h0 : (i 0).val = 128 * t.val + (y 0).val) (h1 : (i 1).val = (y 1).val) :
    dx (R := 128) (iblk m c 0 t) (ct (R := 128) (iblk m c 0 t) (iblk m c 1 t) (iblk m c 2 t)) (iblk m c 2 t) y
      = dx (hArr m c) (ct (hArr m c) (tArr m c) (gArr m c)) (gArr m c) i := by
  unfold dx
  rw [h_row m c t (y 0) (i 0) h0, h_blk m c t y i h0 h1, ct_blk m c t y i h0 h1, g_blk m c t (ix2 0 (y 1)) (ix2 0 (i 1)) h1]
  refine congrArg (fun u => slope (row (hArr m c) (i 0)) u (hArr m c i) (ct (hArr m c) (tArr m c) (gArr m c) i * gArr m c (ix2 0 (i 1)))) (funext fun k => ?_)
  rw [ct_blk m c t (ix2 (y 0) k) (ix2 (i 0) k) h0 rfl, g_blk m c t (ix2 0 k) (ix2 0 k) rfl]

theorem dg_blk (t : Fin cfg0.N) (y : S128x4096.Idx) (i : S4096x4096.Idx) (h0 : (i 0).val = 128 * t.val + (y 0).val) (h1 : (i 1).val = (y 1).val) :
    dg (R := 128) (iblk m c 0 t) (ct (R := 128) (iblk m c 0 t) (iblk m c 1 t) (iblk m c 2 t)) y
      = dg (hArr m c) (ct (hArr m c) (tArr m c) (gArr m c)) i := by
  unfold dg
  rw [h_row m c t (y 0) (i 0) h0, h_blk m c t y i h0 h1, ct_blk m c t y i h0 h1]

theorem rowLoss_blk (t : Fin cfg0.N) (a : Fin 128) (b : Fin 4096) (h : b.val = 128 * t.val + a.val) :
    rowLoss (R := 128) (iblk m c 0 t) (iblk m c 1 t) (iblk m c 2 t) (ix2 a 0) = rowLoss (hArr m c) (tArr m c) (gArr m c) (ix2 b 0) := by
  unfold rowLoss
  refine congrArg (fun z : EReal => z * Ideal.ofBits FTy.f32 0x39000000#32) (Finset.sum_congr rfl fun k _ => ?_)
  have e := err_blk m c t (ix2 a k) (ix2 b k) h rfl
  exact congrArg₂ (fun p q : EReal => p * q) e e

/-- What grid point `t` leaves in the blocks of the input's gradient. -/
theorem held3 (t : Fin cfg0.N) : (outsAt0 m c t.val t.isLt).1 = k0_pay9 (iblk m c 0 t) (iblk m c 2 t) (iblk m c 1 t) := by
  by_cases h0 : t.val % 32 = 0
  · rw [outsAt0_A m c t h0 (by have hN : t.val < 32 := lt_of_lt_of_eq t.isLt N_0; omega)]
    dsimp only
    unfold out0_A_3
    rw [View.read_writes_eq_canon _ _ _ (fun y => cover0_A_3 (y := y) ..)]
    unfold kernelRun0_A
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]
  · rw [outsAt0_B m c t h0 (by omega)]
    dsimp only
    unfold out0_B_3
    rw [View.read_writes_eq_canon _ _ _ (fun y => cover0_B_3 (y := y) ..)]
    unfold kernelRun0_B
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]

/-- Likewise in the second copy. -/
theorem held4 (t : Fin cfg0.N) : (outsAt0 m c t.val t.isLt).2.1 = k0_pay10 (iblk m c 0 t) (iblk m c 2 t) (iblk m c 1 t) := by
  by_cases h0 : t.val % 32 = 0
  · rw [outsAt0_A m c t h0 (by have hN : t.val < 32 := lt_of_lt_of_eq t.isLt N_0; omega)]
    dsimp only
    unfold out0_A_4
    rw [View.read_writes_eq_canon _ _ _ (fun y => cover0_A_4 (y := y) ..)]
    unfold kernelRun0_A
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]
  · rw [outsAt0_B m c t h0 (by omega)]
    dsimp only
    unfold out0_B_4
    rw [View.read_writes_eq_canon _ _ _ (fun y => cover0_B_4 (y := y) ..)]
    unfold kernelRun0_B
    dsimp only
    sl_unfold_words
    rw [View.canon_unit_zero (S := S128x4096) zero_off]
    simp only [View.readAt_eq_ld, Memref.IsWhole.read_unread, View.ld_unit_zero (S := S128x4096) zero_off, View.ld_unit_zero (S := S1x4096) zero_off]

/-- The loss after the first point, and after a later one. -/
theorem first5 (t : Fin cfg0.N) (h0 : t.val % 32 = 0) : (outsAt0 m c t.val t.isLt).2.2.1 = k0_pay1 (k0_pay11 (iblk m c 0 t) (iblk m c 2 t) (iblk m c 1 t)) := by
  rw [outsAt0_A m c t h0 (by have hN : t.val < 32 := lt_of_lt_of_eq t.isLt N_0; omega)]
  dsimp only
  unfold out0_A_5
  rw [View.read_writes_eq_canon _ _ _ (fun y => cover0_A_5 (y := y) ..)]
  unfold kernelRun0_A
  dsimp only
  sl_unfold_words
  rw [View.canon_unit_zero (S := S8x128) zero_off]
  simp only [View.readAt_eq_ld, Memref.IsWhole.read_unread, View.ld_unit_zero (S := S128x4096) zero_off, View.ld_unit_zero (S := S1x4096) zero_off, View.ld_unit_zero (S := S8x128) zero_off]

theorem later5 (t : Fin cfg0.N) (h0 : ¬t.val % 32 = 0) :
    (outsAt0 m c t.val t.isLt).2.2.1 = k0_pay3 (k0_pay11 (iblk m c 0 t) (iblk m c 2 t) (iblk m c 1 t)) (outsAt0 m c (t.val - 1) (by omega)).2.2.1 := by
  rw [outsAt0_B m c t h0 (by omega)]
  dsimp only
  unfold out0_B_5
  rw [View.read_writes_eq_canon _ _ _ (fun y => cover0_B_5 (y := y) ..)]
  unfold kernelRun0_B
  dsimp only
  sl_unfold_words
  rw [View.canon_unit_zero (S := S8x128) zero_off]
  simp only [View.readAt_eq_ld, Memref.IsWhole.read_unread, View.ld_unit_zero (S := S128x4096) zero_off, View.ld_unit_zero (S := S1x4096) zero_off, View.ld_unit_zero (S := S8x128) zero_off]

/-- The gain's gradient likewise. -/
theorem first6 (t : Fin cfg0.N) (h0 : t.val % 32 = 0) : (outsAt0 m c t.val t.isLt).2.2.2 = k0_pay2 (k0_pay6 (iblk m c 0 t)) (k0_pay8 (iblk m c 0 t) (iblk m c 2 t) (iblk m c 1 t)) := by
  rw [outsAt0_A m c t h0 (by have hN : t.val < 32 := lt_of_lt_of_eq t.isLt N_0; omega)]
  dsimp only
  unfold out0_A_6
  rw [View.read_writes_eq_canon _ _ _ (fun y => cover0_A_6 (y := y) ..)]
  unfold kernelRun0_A
  dsimp only
  sl_unfold_words
  rw [View.canon_unit_zero (S := S8x4096) zero_off]
  simp only [View.readAt_eq_ld, Memref.IsWhole.read_unread, View.ld_unit_zero (S := S128x4096) zero_off, View.ld_unit_zero (S := S1x4096) zero_off, View.ld_unit_zero (S := S8x4096) zero_off]

theorem later6 (t : Fin cfg0.N) (h0 : ¬t.val % 32 = 0) :
    (outsAt0 m c t.val t.isLt).2.2.2 = k0_pay4 (k0_pay6 (iblk m c 0 t)) (k0_pay8 (iblk m c 0 t) (iblk m c 2 t) (iblk m c 1 t)) (outsAt0 m c (t.val - 1) (by omega)).2.2.2 := by
  rw [outsAt0_B m c t h0 (by omega)]
  dsimp only
  unfold out0_B_6
  rw [View.read_writes_eq_canon _ _ _ (fun y => cover0_B_6 (y := y) ..)]
  unfold kernelRun0_B
  dsimp only
  sl_unfold_words
  rw [View.canon_unit_zero (S := S8x4096) zero_off]
  simp only [View.readAt_eq_ld, Memref.IsWhole.read_unread, View.ld_unit_zero (S := S128x4096) zero_off, View.ld_unit_zero (S := S1x4096) zero_off, View.ld_unit_zero (S := S8x4096) zero_off]

/-- The rows' shares, and the row's part that the class of `y` sums at its `k`-th group of eight rows. -/
def lterm (_ k : ℕ) : EReal := at2 (rowLoss (hArr m c) (tArr m c) (gArr m c)) k 0
def term (y : S8x4096.Idx) (_ k : ℕ) : EReal := at2 (dg (hArr m c) (ct (hArr m c) (tArr m c) (gArr m c))) (8 * k + (y 0).val) (y 1).val

theorem lpart (t : Fin cfg0.N) (y : S8x128.Idx) :
    k0_pay1 (k0_pay11 (iblk m c 0 t) (iblk m c 2 t) (iblk m c 1 t)) y = ∑ x : Fin 128, lterm m c (t.val / 32) (128 * (t.val % 32) + x.val) := by
  have hN : t.val < 32 := lt_of_lt_of_eq t.isLt N_0
  rw [pay1]
  refine Finset.sum_congr rfl fun k _ => ?_
  have hk := k.isLt
  unfold lterm
  rw [at2_eq _ hk Nat.zero_lt_one, at2_eq _ (by omega) Nat.zero_lt_one]
  refine rowLoss_blk m c t _ _ ?_
  show 128 * (t.val % 32) + k.val = 128 * t.val + k.val
  omega

theorem part (t : Fin cfg0.N) (y : S8x4096.Idx) :
    k0_pay2 (k0_pay6 (iblk m c 0 t)) (k0_pay8 (iblk m c 0 t) (iblk m c 2 t) (iblk m c 1 t)) y = ∑ x : Fin 16, term m c y (t.val / 32) (16 * (t.val % 32) + x.val) := by
  have hN : t.val < 32 := lt_of_lt_of_eq t.isLt N_0
  have hy0 : (y 0).val < 8 := (y 0).isLt
  have hy1 : (y 1).val < 4096 := (y 1).isLt
  rw [pay2]
  refine Finset.sum_congr rfl fun k _ => ?_
  unfold term
  rw [at2_eq _ (by omega) hy1, at2_eq _ (by omega) hy1]
  refine dg_blk m c t _ _ ?_ rfl
  show 8 * (16 * (t.val % 32) + k.val) + (y 0).val = 128 * t.val + (8 * k.val + (y 0).val)
  omega

theorem lstep (a : FVec Ideal S128x1 .f32) (b : Vec Ideal S8x128 .f32) (y : S8x128.Idx) : k0_pay3 a b y = (b y + k0_pay1 a y : EReal) := by
  unfold k0_pay3
  pointwise

theorem step (a a' : FVec Ideal S128x4096 .f32) (b : Vec Ideal S8x4096 .f32) (y : S8x4096.Idx) : k0_pay4 a a' b y = (b y + k0_pay2 a a' y : EReal) := by
  unfold k0_pay4
  pointwise

theorem lacc (y : S8x128.Idx) (n : ℕ) (h : n < cfg0.N) : (outsAt0 m c n h).2.2.1 y = ∑ k ∈ Finset.range (128 * (n % 32 + 1)), lterm m c (n / 32) k := by
  refine acc_sum (fun n h => (outsAt0 m c n h).2.2.1 y) (lterm m c) (fun n h h0 => ?_) (fun n h h' h0 => ?_) n h
  · have e := first5 m c ⟨n, h⟩ h0
    dsimp only at e ⊢
    rw [e]
    exact lpart m c ⟨n, h⟩ y
  · have e := later5 m c ⟨n + 1, h⟩ h0
    dsimp only [Nat.add_sub_cancel] at e ⊢
    rw [e, lstep]
    exact congrArg _ (lpart m c ⟨n + 1, h⟩ y)

theorem acc (y : S8x4096.Idx) (n : ℕ) (h : n < cfg0.N) : (outsAt0 m c n h).2.2.2 y = ∑ k ∈ Finset.range (16 * (n % 32 + 1)), term m c y (n / 32) k := by
  refine acc_sum (fun n h => (outsAt0 m c n h).2.2.2 y) (term m c y) (fun n h h0 => ?_) (fun n h h' h0 => ?_) n h
  · have e := first6 m c ⟨n, h⟩ h0
    dsimp only at e ⊢
    rw [e]
    exact part m c ⟨n, h⟩ y
  · have e := later6 m c ⟨n + 1, h⟩ h0
    dsimp only [Nat.add_sub_cancel] at e ⊢
    rw [e, step]
    exact congrArg _ (part m c ⟨n + 1, h⟩ y)

/-- The gain's gradient, class by class. -/
def classes (x dy : Mat 4096 4096) : Mat 8 4096 := fun i => ∑ p : Fin 512, dg x dy (ix2 ⟨8 * p.val + (i 0).val, by have := (i 0).isLt; change (i 0).val < 8 at this; omega⟩ (i 1))

/-- The loss. -/
def loss (x t : Mat 4096 4096) (g : Mat 1 4096) : EReal := ∑ r : Fin 4096, rowLoss x t g (ix2 r 0)

/-- The arrays of the input's gradient. -/
theorem arr3 : (dats m 0 c).arrAt 3 cfg0.N = dx (hArr m c) (ct (hArr m c) (tArr m c) (gArr m c)) (gArr m c) := by
  refine (dats m 0 c).arrAt_eq_of_covers 3 _ (by decide +kernel) fun t hf y => ?_
  have e := (index_all t).2.2.2.1
  have h0 : ((((View.whole main_v0_0).slice ((win0 3).rect t)).emb y) 0).val = 128 * t.val + (y 0).val := by
    show win0_3.index t 0 * 128 + 1 * (y 0).val = 128 * t.val + (y 0).val
    rw [e]
    show t.val * 128 + 1 * (y 0).val = _
    omega
  have h1 : ((((View.whole main_v0_0).slice ((win0 3).rect t)).emb y) 1).val = (y 1).val := by
    show win0_3.index t 1 * 4096 + 1 * (y 1).val = (y 1).val
    rw [e]
    show 0 * 4096 + 1 * (y 1).val = _
    omega
  rw [after0_3, held3]
  exact (pay9 _ _ _ y).trans (dx_blk m c t y _ h0 h1)

theorem arr4 : (dats m 0 c).arrAt 4 cfg0.N = dx (hArr m c) (ct (hArr m c) (tArr m c) (gArr m c)) (gArr m c) := by
  refine (dats m 0 c).arrAt_eq_of_covers 4 _ (by decide +kernel) fun t hf y => ?_
  have e := (index_all t).2.2.2.2.1
  have h0 : ((((View.whole main_v0_1).slice ((win0 4).rect t)).emb y) 0).val = 128 * t.val + (y 0).val := by
    show win0_4.index t 0 * 128 + 1 * (y 0).val = 128 * t.val + (y 0).val
    rw [e]
    show t.val * 128 + 1 * (y 0).val = _
    omega
  have h1 : ((((View.whole main_v0_1).slice ((win0 4).rect t)).emb y) 1).val = (y 1).val := by
    show win0_4.index t 1 * 4096 + 1 * (y 1).val = (y 1).val
    rw [e]
    show 0 * 4096 + 1 * (y 1).val = _
    omega
  rw [after0_4, held4]
  exact (pay10 _ _ _ y).trans (dx_blk m c t y _ h0 h1)

/-- The loss's array. -/
theorem arr5 : (dats m 0 c).arrAt 5 cfg0.N = fun _ => loss (hArr m c) (tArr m c) (gArr m c) := by
  refine (dats m 0 c).arrAt_eq_of_covers 5 _ (by decide +kernel) fun t hf y => ?_
  have ht := (flush0_5 t).mp hf
  rw [after0_5]
  refine (lacc m c _ _ _).trans ?_
  rw [show 128 * (t.val % 32 + 1) = 4096 by omega, Finset.sum_range (_ : ℕ → EReal)]
  exact Finset.sum_congr rfl fun p _ => at2_eq _ p.isLt Nat.zero_lt_one

/-- The array of the gain's gradient. -/
theorem arr6 : (dats m 0 c).arrAt 6 cfg0.N = classes (hArr m c) (ct (hArr m c) (tArr m c) (gArr m c)) := by
  refine (dats m 0 c).arrAt_eq_of_covers 6 _ (by decide +kernel) fun t hf y => ?_
  have ht := (flush0_6 t).mp hf
  have e := (index_all t).2.2.2.2.2.2
  have hy0 : (y 0).val < 8 := (y 0).isLt
  have hy1 : (y 1).val < 4096 := (y 1).isLt
  have h0 : ((((View.whole main_v0_3).slice ((win0 6).rect t)).emb y) 0).val = (y 0).val := by
    show win0_6.index t 0 * 8 + 1 * (y 0).val = (y 0).val
    rw [e]
    show 0 * 8 + 1 * (y 0).val = _
    omega
  have h1 : ((((View.whole main_v0_3).slice ((win0 6).rect t)).emb y) 1).val = (y 1).val := by
    show win0_6.index t 1 * 4096 + 1 * (y 1).val = (y 1).val
    rw [e]
    show 0 * 4096 + 1 * (y 1).val = _
    omega
  rw [after0_6]
  refine (acc m c _ _ _).trans ?_
  rw [show 16 * (t.val % 32 + 1) = 512 by omega, Finset.sum_range (_ : ℕ → EReal)]
  refine Finset.sum_congr rfl fun p _ => ?_
  have hp := p.isLt
  unfold term
  refine (at2_eq _ (show 8 * p.val + (y 0).val < 4096 by omega) hy1).trans (congrArg (dg (hArr m c) (ct (hArr m c) (tArr m c) (gArr m c))) ?_)
  funext a
  fin_cases a
  · exact Fin.ext (congrArg (fun q => 8 * p.val + q) h0.symm)
  · exact Fin.ext h1.symm

/-- The kernel over the reals ends without fault, its arguments unchanged and every counter at zero. -/
theorem frame_ideal : Cert.quiescent_LossHeadIdeal := fun m ρ _ => Cert.LossHeadIdeal.Gen.frame m ρ

/-- The reference likewise. -/
theorem frame_ref : Cert.quiescent_LossHeadRefIdeal := fun m ρ _ => (θ_run Cert.LossHeadRefIdeal.defs _ _).mono
  (fun r h => ⟨fun c => (h c).2.2.2.2, sem_eq_zero_of_no_sems (by decide) r.2⟩) (Cert.LossHeadRefIdeal.Value.run m ρ)

/-- Kernel and reference leave the same gradients and the same loss. -/
theorem value : Cert.algebraic_LossHeadIdeal_LossHeadRefIdeal := fun m g m' g' _ hargs => by
  refine ⟨fun c => dx (hArr m c) (ct (hArr m c) (tArr m c) (gArr m c)) (gArr m c), fun c => dx (hArr m c) (ct (hArr m c) (tArr m c) (gArr m c)) (gArr m c),
    fun c _ => loss (hArr m c) (tArr m c) (gArr m c), fun c => classes (hArr m c) (ct (hArr m c) (tArr m c) (gArr m c)),
    (θ_run _ _ _).mono (fun r h c => ⟨(h c).1.trans (arr3 m c), (h c).2.1.trans (arr4 m c), (h c).2.2.1.trans (arr5 m c), (h c).2.2.2.1.trans (arr6 m c), (h c).2.2.2.2⟩) (Cert.LossHeadIdeal.Value.run_blocks m g),
    (θ_run _ _ _).mono (fun r h c => ⟨(h c).1.trans ?_, (h c).2.1.trans ?_, (h c).2.2.1.trans ?_, (h c).2.2.2.1.trans ?_, (h c).2.2.2.2⟩) (Cert.LossHeadRefIdeal.Value.run m' g')⟩
  · unfold LossHeadRefIdeal.Value.res_main_v45
    rw [(hargs c).1, (hargs c).2.1, (hargs c).2.2]
    funext i
    pointwise
    simp only [ct_halves, Finset.univ_unique, Finset.sum_singleton]
    exact slope_halves (row (hArr m c) (i 0)) (fun k => ct (hArr m c) (tArr m c) (gArr m c) (ix2 (i 0) k) * gArr m c (ix2 0 k)) _ _ _ rfl
  · unfold LossHeadRefIdeal.Value.res_main_v81
    rw [(hargs c).1, (hargs c).2.1, (hargs c).2.2]
    funext i
    pointwise
    simp only [ct_halves, Finset.univ_unique, Finset.sum_singleton]
    exact slope_halves (row (hArr m c) (i 0)) (fun k => ct (hArr m c) (tArr m c) (gArr m c) (ix2 (i 0) k) * gArr m c (ix2 0 k)) _ _ _ rfl
  · rw [(hargs c).1, (hargs c).2.1, (hargs c).2.2]
    funext i
    pointwise
    exact half_sum Finset.univ (fun x : Fin 4096 => ∑ k : Fin 4096, (err (hArr m c) (tArr m c) (gArr m c) (ix2 x k) * err (hArr m c) (tArr m c) (gArr m c) (ix2 x k) : EReal))
      fun x => sq_sum_nonneg (err (hArr m c) (tArr m c) (gArr m c)) x
  · rw [(hargs c).1, (hargs c).2.1, (hargs c).2.2]
    have hx := by_eights (hArr m c) LossHeadRefIdeal.Gen.shapeCasts_S4096x4096_S512x8x4096
    have hy := by_eights (tArr m c) LossHeadRefIdeal.Gen.shapeCasts_S4096x4096_S512x8x4096
    unfold hArr at hx
    unfold tArr at hy
    rw [hx, hy]
    funext i
    pointwise
    simp only [ct_halves, Finset.univ_unique, Finset.sum_singleton]
    refine Finset.sum_congr rfl fun p _ => ?_
    exact (mul_comm (_ : EReal) _).trans (mul_assoc (_ : EReal) _ _).symm

end Cert.LossHeadIdeal.Prod
end
-- ==== Proof.InProjBlock.lean ====
/-
  What one grid point of the input projection leaves in its block.
-/
module

public import proofs.«01_k».proof.Defs
public import proofs.«01_k».proof.Proof.Mat
public import proofs.«01_k».proof.Proof.Gen.InProjIdeal.Value

@[expose] public section

set_option maxRecDepth 16384

noncomputable section

namespace Cert.InProjIdeal.Prod

open Idealize.ShloMosaic Idealize.ShloMosaic.TcCoe Idealize.SL.Sem Cert.InProjIdeal Cert.InProjIdeal.Gen Cert.Mat

variable (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .f32) (harg9 : arg9.IsWhole)
    (x0 : Vec Ideal S1024x4096 .bf16) (x1 : Vec Ideal S4096x1024 .bf16) (x2 x3 x4 : Vec Ideal S1024x128 .f32)

/-- Entry `z` of a slab, rotated: a lane of 16 to the right and one of 16 to the left, around the end, times their tables. -/
def turn (w u s t : Mat 1024 128) : Mat 1024 128 := fun z =>
  w z * u z + w (ix2 (z 0) ⟨((z 1).val + 128 - 112) % 128, Nat.mod_lt _ (by decide)⟩) * s z + w (ix2 (z 0) ⟨((z 1).val + 128 - 16) % 128, Nat.mod_lt _ (by decide)⟩) * t z

theorem pay8 (w : Vec Ideal S1024x128 .f32) : k0_pay8 x2 x3 x4 w = turn w x2 x3 x4 := by
  funext z
  unfold k0_pay8 k0_pay7 k0_pay6 k0_pay5
  pointwise
  rfl

theorem pay9 (w : Vec Ideal S1024x128 .f32) : k0_pay9 x2 x3 x4 w = turn w x2 x3 x4 := pay8 x2 x3 x4 w
theorem pay10 (w : Vec Ideal S1024x128 .f32) : k0_pay10 x2 x3 x4 w = turn w x2 x3 x4 := pay8 x2 x3 x4 w
theorem pay11 (w : Vec Ideal S1024x128 .f32) : k0_pay11 (k0_pay5 x2) (k0_pay6 x3) (k0_pay7 x4) w = turn w x2 x3 x4 := pay8 x2 x3 x4 w
theorem pay12 (w : Vec Ideal S1024x128 .f32) : k0_pay12 (k0_pay5 x2) (k0_pay6 x3) (k0_pay7 x4) w = turn w x2 x3 x4 := pay8 x2 x3 x4 w
theorem pay13 (w : Vec Ideal S1024x128 .f32) : k0_pay13 (k0_pay5 x2) (k0_pay6 x3) (k0_pay7 x4) w = turn w x2 x3 x4 := pay8 x2 x3 x4 w
theorem pay2 (w : Vec Ideal S1024x128 .f32) : k0_pay2 (k0_pay6 x3) (k0_pay7 x4) w (k0_pay14 (k0_pay5 x2) w) (k0_pay15 w) = turn w x2 x3 x4 := pay8 x2 x3 x4 w
theorem pay3 (w : Vec Ideal S1024x128 .f32) : k0_pay3 (k0_pay5 x2) (k0_pay6 x3) (k0_pay7 x4) w = turn w x2 x3 x4 := pay8 x2 x3 x4 w

/-- Slab `k` of a block: its 128 columns from column `128 k` on. -/
def slab (r : Mat 1024 1024) (k : Fin 8) : Mat 1024 128 := fun z => r (ix2 (z 0) ⟨128 * k.val + (z 1).val, by have h : (z 1).val < 128 := (z 1).isLt; have := k.isLt; omega⟩)

/-- The block with each slab rotated. -/
def turned (r : Mat 1024 1024) (u s t : Mat 1024 128) : Mat 1024 1024 := fun y =>
  turn (slab r ⟨(y 1).val / 128, by have h : (y 1).val < 1024 := (y 1).isLt; omega⟩) u s t (ix2 (y 0) ⟨(y 1).val % 128, Nat.mod_lt _ (by decide)⟩)

/-- The slab stored at column `o` is the block's part there. -/
theorem piece (r : Vec Ideal S1024x1024 .f32) (k : Fin 8) (o : ℕ) (h : o = 128 * k.val) (inb : ∀ a, (![0, o] : Fin 2 → ℕ) a + (![1024, 128] : Fin 2 → ℕ) a ≤ S1024x1024.size a)
    (z : (Rect.unit (s := S1024x1024) ![0, o] ![1024, 128] inb).shape.Idx) :
    turn (View.ld (Val := Elt Ideal) (e' := .f32) r (Rect.unit (s := S1024x1024) ![0, o] ![1024, 128] inb)) x2 x3 x4 z = turned r x2 x3 x4 ((Rect.unit (s := S1024x1024) ![0, o] ![1024, 128] inb).emb z) := by
  subst h
  have hz0 : (z 0).val < 1024 := (z 0).isLt
  have hz1 : (z 1).val < 128 := (z 1).isLt
  have e : View.ld (Val := Elt Ideal) (e' := .f32) r (Rect.unit (s := S1024x1024) ![0, 128 * k.val] ![1024, 128] inb) = slab r k := by
    funext y
    refine congrArg r (funext fun a => Fin.ext ?_)
    fin_cases a
    · show 0 + 1 * (y 0).val = (y 0).val
      omega
    · show 128 * k.val + 1 * (y 1).val = 128 * k.val + (y 1).val
      omega
  rw [e]
  unfold turned
  have e0 : (((Rect.unit (s := S1024x1024) ![0, 128 * k.val] ![1024, 128] inb).emb z) 0).val = (z 0).val := by
    show 0 + 1 * (z 0).val = (z 0).val
    omega
  have e1 : (((Rect.unit (s := S1024x1024) ![0, 128 * k.val] ![1024, 128] inb).emb z) 1).val = 128 * k.val + (z 1).val := by
    show 128 * k.val + 1 * (z 1).val = _
    omega
  have hk : (⟨(((Rect.unit (s := S1024x1024) ![0, 128 * k.val] ![1024, 128] inb).emb z) 1).val / 128, by rw [e1]; omega⟩ : Fin 8) = k := Fin.ext (by dsimp only; rw [e1]; omega)
  have hz : (ix2 (((Rect.unit (s := S1024x1024) ![0, 128 * k.val] ![1024, 128] inb).emb z) 0) ⟨(((Rect.unit (s := S1024x1024) ![0, 128 * k.val] ![1024, 128] inb).emb z) 1).val % 128, Nat.mod_lt _ (by decide)⟩ : (⟨2, ![1024, 128]⟩ : Shape).Idx) = z := by
    refine funext fun a => Fin.ext ?_
    fin_cases a
    · exact e0
    · show (((Rect.unit (s := S1024x1024) ![0, 128 * k.val] ![1024, 128] inb).emb z) 1).val % 128 = (z 1).val
      rw [e1]
      omega
  exact (congrArg₂ (fun a b => turn (slab r a) x2 x3 x4 b) hk hz).symm

/-- The accumulator read back after its one store. -/
theorem held (v : View sig .tc .vmem S1024x1024 .f32) (r : Vec Ideal S1024x1024 .f32) (R : Rect S1024x1024) :
    v.readCov (Val := Elt Ideal) [⟨Rect.unit (s := S1024x1024) ![0, 0] ![1024, 1024] inb_S1024x1024_S1024x1024_0_0, r⟩] R.toLoadRect = View.ld (Val := Elt Ideal) (e' := .f32) r R := by
  rw [View.readCov_eq_canon', View.canon_unit_zero (S := S1024x1024) zero_off]

/-- What is stored of a block of the queries and keys: the product, each head's slab rotated. -/
theorem out_A (hc0 : cond0_0 i) (hc1 : ¬cond0_1 i) (y : S1024x1024.Idx) :
    out0_A_5 c i arg3 harg3 arg4 harg4 arg5 harg5 arg6 harg6 arg7 harg7 arg8 harg8 arg9 harg9 hc0 hc1 x0 x1 x2 x3 x4 y = turned (k0_pay1 x0 x1) x2 x3 x4 y := by
  unfold out0_A_5
  rw [View.read_writes_eq_canon _ _ _ (fun y => cover0_A_5 (y := y) ..)]
  refine View.canon_apply_of_pieces _ _ ?_ y (cover0_A_5 (y := y) ..)
  unfold kernelRun0_A
  dsimp only
  sl_unfold_words
  simp only [View.readAt_eq_ld, Memref.IsWhole.read_unread, View.ld_unit_zero (S := S1024x128) zero_off, View.ld_unit_zero (S := S1024x4096) zero_off, View.ld_unit_zero (S := S4096x1024) zero_off, pay2, pay3, pay8, pay9, pay10, pay11, pay12, pay13,
    held]
  intro p hp
  simp only [List.mem_cons, List.not_mem_nil, or_false] at hp
  rcases hp with rfl | rfl | rfl | rfl | rfl | rfl | rfl | rfl
  · exact piece x2 x3 x4 _ 7 896 rfl _
  · exact piece x2 x3 x4 _ 6 768 rfl _
  · exact piece x2 x3 x4 _ 5 640 rfl _
  · exact piece x2 x3 x4 _ 4 512 rfl _
  · exact piece x2 x3 x4 _ 3 384 rfl _
  · exact piece x2 x3 x4 _ 2 256 rfl _
  · exact piece x2 x3 x4 _ 1 128 rfl _
  · exact piece x2 x3 x4 _ 0 0 rfl _

/-- What is stored of a block of the values and of the other mixer's columns: the product. -/
theorem out_B (hc0 : ¬cond0_0 i) (hc1 : cond0_1 i) (y : S1024x1024.Idx) :
    out0_B_5 c i arg3 harg3 arg4 harg4 arg5 harg5 arg6 harg6 arg7 harg7 arg8 harg8 arg9 harg9 hc0 hc1 x0 x1 x2 x3 x4 y = k0_pay1 x0 x1 y := by
  unfold out0_B_5
  rw [View.read_writes_eq_canon _ _ _ (fun y => cover0_B_5 (y := y) ..)]
  unfold kernelRun0_B
  dsimp only
  sl_unfold_words
  rw [View.canon_unit_zero (S := S1024x1024) zero_off]
  simp only [View.readAt_eq_ld, Memref.IsWhole.read_unread, View.ld_unit_zero (S := S1024x4096) zero_off, View.ld_unit_zero (S := S4096x1024) zero_off, held, View.ld_unit_zero (S := S1024x1024) zero_off]
  unfold k0_pay4
  pointwise

end Cert.InProjIdeal.Prod
end
-- ==== Proof.InProjRead.lean ====
/-
  The input projection's reference: the product, with the heads of its first 4096 columns rotated.
-/
module

public import proofs.«01_k».proof.Defs
public import proofs.«01_k».proof.Proof.Mat
public import proofs.«01_k».proof.Proof.InProjBlock
public import proofs.«01_k».proof.Proof.Gen.InProjIdeal.Value
public import proofs.«01_k».proof.Proof.Gen.InProjRefIdeal.Run
public import Idealize.ShloMosaic.Lib.Quiescent

@[expose] public section

set_option maxRecDepth 16384

noncomputable section

namespace Cert.InProjRead

open Idealize.ShloMosaic Idealize.ShloMosaic.TcCoe Idealize.SL.Sem Cert.InProjRefIdeal Cert.Mat

/-- The positions: one for each row of the two sequences. -/
abbrev Pos := (⟨2, ![2, 2048]⟩ : Shape).Idx → BitVec 32

theorem row_div (a : Fin 4096) : a.val / 2048 < 2 := by omega
theorem row_mod (a : Fin 4096) : a.val % 2048 < 2048 := by omega

/-- The angle of row `a` and frequency `l`: the row's position times the base to the power `−l/16`. -/
def angle (p : Pos) (a : Fin 4096) (l : ℕ) : EReal :=
  (FloatOps.sitofp (F := Ideal) .f32 (p (ix2 (⟨a.val / 2048, row_div a⟩ : Fin 2) (⟨a.val % 2048, row_mod a⟩ : Fin 2048))) : EReal) *
    Ideal.pow (Ideal.ofBits .f32 1223959552#32) (Ideal.div (-(FloatOps.sitofp (F := Ideal) .f32 (BitVec.ofNat 32 l) : EReal)) (Ideal.ofBits .f32 1098907648#32))

/-- The product with its first 4096 columns' heads rotated: of a head's 128 lanes the first 16 pair with the next 16. -/
def spun (r : Mat 4096 12288) (p : Pos) : Mat 4096 12288 := fun i =>
  if (i 1).val < 4096 then
    if (i 1).val % 128 < 16 then
      r i * Ideal.cos (angle p (i 0) ((i 1).val % 128)) + r (ix2 (i 0) ⟨((i 1).val + 16) % 12288, Nat.mod_lt _ (by decide)⟩) * -Ideal.sin (angle p (i 0) ((i 1).val % 128))
    else if (i 1).val % 128 < 32 then
      r i * Ideal.cos (angle p (i 0) ((i 1).val % 128 - 16)) + r (ix2 (i 0) ⟨((i 1).val + 12272) % 12288, Nat.mod_lt _ (by decide)⟩) * Ideal.sin (angle p (i 0) ((i 1).val % 128 - 16))
    else r i
  else r i

/-- The host's product of two matrices. -/
theorem ref_dot (a : Vec Ideal S4096x4096 .bf16) (b : Vec Ideal S4096x12288 .bf16) :
    Host.dotGeneral (F := Ideal) dot_S4096x4096_S4096x12288_S4096x12288_1_0_0_1_n_n none (extf .f32 a Gen.bitsLt_bf16_f32) (extf .f32 b Gen.bitsLt_bf16_f32) = nn a b := by
  funext i
  pointwise
  rfl

theorem same_sub (g C S : ℕ → EReal) {a a' b b' d d' : ℕ} (h1 : a = a') (h2 : b = b') (h3 : d = d') : g a * C b - g d * S b = g a' * C b' + g d' * -S b' := by
  subst h1 h2 h3
  rw [mul_neg, sub_eq_add_neg]

theorem same_add (g C S : ℕ → EReal) {a a' b b' d d' : ℕ} (h1 : a = a') (h2 : b = b') (h3 : d = d') : g a * C b + g d * S b = g a' * C b' + g d' * S b' := by
  subst h1 h2 h3
  rfl

/-- One row: the queries' and the keys' heads rotated one after the other, or column by column. -/
theorem row_same (g C S : ℕ → EReal) (n : ℕ) (hn : n < 12288) :
    (if n < 2048 then
      if n % 128 < 32 then
        if n % 128 < 16 then g (n / 128 * 128 + n % 128) * C (n % 128) - g (n / 128 * 128 + (16 + n % 128)) * S (n % 128)
        else g (n / 128 * 128 + (16 + (n % 128 - 16))) * C (n % 128 - 16) + g (n / 128 * 128 + (n % 128 - 16)) * S (n % 128 - 16)
      else g (n / 128 * 128 + (32 + (n % 128 - 32)))
    else
      if n - 2048 < 2048 then
        if (n - 2048) % 128 < 32 then
          if (n - 2048) % 128 < 16 then g (2048 + ((n - 2048) / 128 * 128 + (n - 2048) % 128)) * C ((n - 2048) % 128) - g (2048 + ((n - 2048) / 128 * 128 + (16 + (n - 2048) % 128))) * S ((n - 2048) % 128)
          else g (2048 + ((n - 2048) / 128 * 128 + (16 + ((n - 2048) % 128 - 16)))) * C ((n - 2048) % 128 - 16) + g (2048 + ((n - 2048) / 128 * 128 + ((n - 2048) % 128 - 16))) * S ((n - 2048) % 128 - 16)
        else g (2048 + ((n - 2048) / 128 * 128 + (32 + ((n - 2048) % 128 - 32))))
      else g (4096 + (n - 2048 - 2048)))
    = if n < 4096 then
        if n % 128 < 16 then g n * C (n % 128) + g ((n + 16) % 12288) * -S (n % 128)
        else if n % 128 < 32 then g n * C (n % 128 - 16) + g ((n + 12272) % 12288) * S (n % 128 - 16)
        else g n
      else g n := by
  split_ifs <;> first
    | omega
    | exact same_sub g C S (by omega) (by omega) (by omega)
    | exact same_add g C S (by omega) (by omega) (by omega)
    | exact congrArg g (by omega)

/-- Row `a` as a function of the number of the column. -/
def rowFn (r : Mat 4096 12288) (a : Fin 4096) (k : ℕ) : EReal := if h : k < 12288 then r (ix2 a ⟨k, h⟩) else 0

theorem rowFn_eq (r : Mat 4096 12288) (a : Fin 4096) (k : ℕ) (h : k < 12288) : r (ix2 a ⟨k, h⟩) = rowFn r a k := by
  unfold rowFn
  rw [dif_pos h]

theorem rowFn_self (r : Mat 4096 12288) (i : (⟨2, ![4096, 12288]⟩ : Shape).Idx) : r i = rowFn r (i 0) (i 1).val :=
  (congrArg r (funext fun a => by fin_cases a <;> rfl)).trans (rowFn_eq r (i 0) (i 1).val (i 1).isLt)

set_option maxHeartbeats 4000000 in
/-- The reference's result. -/
theorem ref_read (m : (ℓ : Loc nD τ sig) → Buf (Elt Ideal) ℓ) (c : Dev nD) (i : (⟨2, ![4096, 12288]⟩ : Shape).Idx) :
    Cert.InProjRefIdeal.Value.res_main_v79 m c i = spun (nn (m ((c.tc : Thread nD τ).loc main_arg0)) (m ((c.tc : Thread nD τ).loc main_arg1))) (m ((c.tc : Thread nD τ).loc main_arg2)) i := by
  unfold Cert.InProjRefIdeal.Value.res_main_v79
  rw [ref_dot]
  generalize nn (m ((c.tc : Thread nD τ).loc main_arg0)) (m ((c.tc : Thread nD τ).loc main_arg1)) = r
  generalize (m ((c.tc : Thread nD τ).loc main_arg2)) = p
  pointwise
  have ea : ∀ l : ℕ, (FloatOps.sitofp (F := Ideal) .f32 (p (ix2 (⟨(i 0).val / 2048, row_div (i 0)⟩ : Fin 2) (⟨(i 0).val % 2048, row_mod (i 0)⟩ : Fin 2048))) : EReal) *
      Ideal.pow (Ideal.ofBits .f32 1223959552#32) (Ideal.div (-(FloatOps.sitofp (F := Ideal) .f32 (BitVec.ofNat 32 l) : EReal)) (Ideal.ofBits .f32 1098907648#32)) = angle p (i 0) l := fun _ => rfl
  simp only [ea]
  have er := rowFn_eq r (i 0)
  simp only [er, dite_eq_ite]
  unfold spun
  rw [rowFn_self r i]
  simp only [er]
  exact row_same (rowFn r (i 0)) (fun l => Ideal.cos (angle p (i 0) l)) (fun l => Ideal.sin (angle p (i 0) l)) (i 1).val (i 1).isLt

end Cert.InProjRead
end
-- ==== Proof.InProj.lean ====
/-
  The input projection with the rotary embedding: the product of the normed rows and the weight, the queries' and the keys'
  dilated heads rotated by their row's position.
-/
module

public import proofs.«01_k».proof.Defs
public import proofs.«01_k».proof.Proof.Mat
public import proofs.«01_k».proof.Proof.InProjBlock
public import proofs.«01_k».proof.Proof.InProjRead
public import proofs.«01_k».proof.Proof.Gen.InProjIdeal.Value
public import proofs.«01_k».proof.Proof.Gen.InProjRefIdeal.Run
public import Idealize.ShloMosaic.Lib.Quiescent

@[expose] public section

set_option maxRecDepth 16384

noncomputable section

namespace Cert.InProjIdeal.Prod

open Idealize.ShloMosaic Idealize.ShloMosaic.TcCoe Idealize.SL.Sem Cert.InProjIdeal Cert.InProjIdeal.Gen Cert.Mat Cert.InProjRead

/-- The host's angles. -/
def angles (p : IVec S2x2048 32) : FVec Ideal S2x2048x16 .f32 :=
  mulf (broadcastInDim S2x2048x16 ![0, 1, 2] bcast_S2x2048x1_S2x2048x16_0_1_2 (broadcastInDim S2x2048x1 ![0, 1] bcast_S2x2048_S2x2048x1_0_1 (sitofp .f32 p)))
    (broadcastInDim S2x2048x16 ![0, 1, 2] bcast_S1x1x16_S2x2048x16_0_1_2 (broadcastInDim S1x1x16 ![2] bcast_S16_S1x1x16_2
      (Host.powf (broadcastInDim S16 ![] bcast_S_S16 (constant (F := Ideal) S_ .f32 0x48F42400#32)) (Host.divf (Host.negf (sitofp .f32 (iotaInDim S16 32 0))) (broadcastInDim S16 ![] bcast_S_S16 (constant (F := Ideal) S_ .f32 0x41800000#32))))))

/-- Three pieces side by side, by rows. -/
def joined (a b : FVec Ideal S2x2048x16 .f32) (d : FVec Ideal S2x2048x96 .f32) : FVec Ideal S4096x128 .f32 :=
  shapeCast S4096x128 (concatenate S2x2048x128 2 [⟨S2x2048x16, a⟩, ⟨S2x2048x16, b⟩, ⟨S2x2048x96, d⟩] concatenates_S2x2048x16_S2x2048x16_S2x2048x96_S2x2048x128_d2) shapeCasts_S2x2048x128_S4096x128

variable (m : (ℓ : Loc nD τ sig) → Buf (Elt Ideal) ℓ) (c : Dev nD)

set_option maxHeartbeats 8000000 in
/-- The three tables as the host computes them. -/
theorem tab21 : V m c main_v21 = joined (Host.cos (angles (m ((c : Thread nD τ).loc main_arg2)))) (Host.cos (angles (m ((c : Thread nD τ).loc main_arg2)))) (broadcastInDim S2x2048x96 ![] bcast_S_S2x2048x96 (constant (F := Ideal) S_ .f32 0x3F800000#32)) := by
  unfold V
  after_results_simp <;> (try dsimp only [Matrix.cons_val]) <;> (try after_results_simp) <;> rfl

set_option maxHeartbeats 8000000 in
theorem tab22 : V m c main_v22 = joined (Host.negf (Host.sin (angles (m ((c : Thread nD τ).loc main_arg2))))) (broadcastInDim S2x2048x16 ![] bcast_S_S2x2048x16 (constant (F := Ideal) S_ .f32 0x00000000#32)) (broadcastInDim S2x2048x96 ![] bcast_S_S2x2048x96 (constant (F := Ideal) S_ .f32 0x00000000#32)) := by
  unfold V
  after_results_simp <;> (try dsimp only [Matrix.cons_val]) <;> (try after_results_simp) <;> rfl

set_option maxHeartbeats 8000000 in
theorem tab23 : V m c main_v23 = joined (broadcastInDim S2x2048x16 ![] bcast_S_S2x2048x16 (constant (F := Ideal) S_ .f32 0x00000000#32)) (Host.sin (angles (m ((c : Thread nD τ).loc main_arg2)))) (broadcastInDim S2x2048x96 ![] bcast_S_S2x2048x96 (constant (F := Ideal) S_ .f32 0x00000000#32)) := by
  unfold V
  after_results_simp <;> (try dsimp only [Matrix.cons_val]) <;> (try after_results_simp) <;> rfl

/-- An entry of three joined pieces. -/
theorem joined_read (a b : FVec Ideal S2x2048x16 .f32) (d : FVec Ideal S2x2048x96 .f32) (i : S4096x128.Idx) : joined a b d i =
    (if h : (i 1).val < 16 then a (ix3 ⟨(i 0).val / 2048, row_div (i 0)⟩ ⟨(i 0).val % 2048, row_mod (i 0)⟩ ⟨(i 1).val, h⟩)
    else if h : (i 1).val - 16 < 16 then b (ix3 ⟨(i 0).val / 2048, row_div (i 0)⟩ ⟨(i 0).val % 2048, row_mod (i 0)⟩ ⟨(i 1).val - 16, h⟩)
    else d (ix3 ⟨(i 0).val / 2048, row_div (i 0)⟩ ⟨(i 0).val % 2048, row_mod (i 0)⟩ ⟨(i 1).val - 16 - 16, by have h : (i 1).val < 128 := (i 1).isLt; omega⟩) : EReal) := by
  unfold joined
  pointwise

/-- An entry of the host's angles. -/
theorem angles_read (p : IVec S2x2048 32) (a : Fin 4096) (l : Fin 16) : angles p (ix3 ⟨a.val / 2048, row_div a⟩ ⟨a.val % 2048, row_mod a⟩ l) = angle p a l.val := by
  unfold angles
  pointwise
  rfl

/-- Lanes 0 to 15 and 16 to 31 of a row of the first table hold the cosines, the others 1. -/
theorem cos_lane (i : S4096x128.Idx) : V m c main_v21 i = (if (i 1).val < 16 then Ideal.cos (angle (m ((c : Thread nD τ).loc main_arg2)) (i 0) (i 1).val)
    else if (i 1).val < 32 then Ideal.cos (angle (m ((c : Thread nD τ).loc main_arg2)) (i 0) ((i 1).val - 16)) else 1 : EReal) := by
  rw [tab21]
  refine (joined_read _ _ _ i).trans ?_
  split_ifs <;> first
    | omega
    | exact congrArg Ideal.cos (angles_read _ (i 0) _)
    | pointwise

/-- The second table: the sines' negatives in lanes 0 to 15. -/
theorem neg_lane (i : S4096x128.Idx) : V m c main_v22 i = (if (i 1).val < 16 then -Ideal.sin (angle (m ((c : Thread nD τ).loc main_arg2)) (i 0) (i 1).val) else 0 : EReal) := by
  rw [tab22]
  refine (joined_read _ _ _ i).trans ?_
  split_ifs <;> first
    | omega
    | exact congrArg (fun e : EReal => -Ideal.sin e) (angles_read _ (i 0) _)
    | pointwise

/-- The third: the sines in lanes 16 to 31. -/
theorem sin_lane (i : S4096x128.Idx) : V m c main_v23 i = (if (i 1).val < 16 then 0 else if (i 1).val < 32 then Ideal.sin (angle (m ((c : Thread nD τ).loc main_arg2)) (i 0) ((i 1).val - 16)) else 0 : EReal) := by
  rw [tab23]
  refine (joined_read _ _ _ i).trans ?_
  split_ifs <;> first
    | omega
    | exact congrArg Ideal.sin (angles_read _ (i 0) _)
    | pointwise

/-- The block that each window reads or writes at each grid point. -/
theorem index_all : ∀ t : Fin cfg0.N, win0_0.index t = ![t.val / 12, 0] ∧ win0_1.index t = ![0, t.val % 12] ∧ win0_2.index t = ![t.val / 12, 0] ∧ win0_3.index t = ![t.val / 12, 0] ∧ win0_4.index t = ![t.val / 12, 0] ∧ win0_5.index t = ![t.val / 12, t.val % 12] :=
  (by decide +kernel : ∀ t : Fin grid0.N, win0_0.index t = ![t.val / 12, 0] ∧ win0_1.index t = ![0, t.val % 12] ∧ win0_2.index t = ![t.val / 12, 0] ∧ win0_3.index t = ![t.val / 12, 0] ∧ win0_4.index t = ![t.val / 12, 0] ∧ win0_5.index t = ![t.val / 12, t.val % 12])

variable (t : Fin cfg0.N)

/-- The arguments: the normed rows, the weight and the positions. -/
abbrev xArr : Mat 4096 4096 := m ((c : Thread nD τ).loc main_arg0)
abbrev wArr : Mat 4096 12288 := m ((c : Thread nD τ).loc main_arg1)
abbrev pArr : Pos := m ((c : Thread nD τ).loc main_arg2)

theorem x_of (W : (b : Ref sig .tc) → Buf (Elt Ideal) ((c : Thread nD τ).loc b)) (y : S1024x4096.Idx) (i : S4096x4096.Idx) (h0 : (i 0).val = 1024 * (t.val / 12) + (y 0).val) (h1 : (i 1).val = (y 1).val) :
    ((cfg0.win 0).blk t).view.read (Elt Ideal) (W (Pipeline.arrRef spec0 0)) y = W main_arg0 i := by
  obtain ⟨e0, e1, e2, e3, e4, e5⟩ := index_all t
  blk_ext [e0]

theorem w_of (W : (b : Ref sig .tc) → Buf (Elt Ideal) ((c : Thread nD τ).loc b)) (y : S4096x1024.Idx) (i : S4096x12288.Idx) (h0 : (i 0).val = (y 0).val) (h1 : (i 1).val = 1024 * (t.val % 12) + (y 1).val) :
    ((cfg0.win 1).blk t).view.read (Elt Ideal) (W (Pipeline.arrRef spec0 1)) y = W main_arg1 i := by
  obtain ⟨e0, e1, e2, e3, e4, e5⟩ := index_all t
  blk_ext [e1]

theorem u_of (W : (b : Ref sig .tc) → Buf (Elt Ideal) ((c : Thread nD τ).loc b)) (y : S1024x128.Idx) (i : S4096x128.Idx) (h0 : (i 0).val = 1024 * (t.val / 12) + (y 0).val) (h1 : (i 1).val = (y 1).val) :
    ((cfg0.win 2).blk t).view.read (Elt Ideal) (W (Pipeline.arrRef spec0 2)) y = W main_v21 i := by
  obtain ⟨e0, e1, e2, e3, e4, e5⟩ := index_all t
  blk_ext [e2]

theorem s_of (W : (b : Ref sig .tc) → Buf (Elt Ideal) ((c : Thread nD τ).loc b)) (y : S1024x128.Idx) (i : S4096x128.Idx) (h0 : (i 0).val = 1024 * (t.val / 12) + (y 0).val) (h1 : (i 1).val = (y 1).val) :
    ((cfg0.win 3).blk t).view.read (Elt Ideal) (W (Pipeline.arrRef spec0 3)) y = W main_v22 i := by
  obtain ⟨e0, e1, e2, e3, e4, e5⟩ := index_all t
  blk_ext [e3]

theorem t_of (W : (b : Ref sig .tc) → Buf (Elt Ideal) ((c : Thread nD τ).loc b)) (y : S1024x128.Idx) (i : S4096x128.Idx) (h0 : (i 0).val = 1024 * (t.val / 12) + (y 0).val) (h1 : (i 1).val = (y 1).val) :
    ((cfg0.win 4).blk t).view.read (Elt Ideal) (W (Pipeline.arrRef spec0 4)) y = W main_v23 i := by
  obtain ⟨e0, e1, e2, e3, e4, e5⟩ := index_all t
  blk_ext [e4]

/-- The block's product is the whole product's block. -/
theorem pay_blk (y : S1024x1024.Idx) (i : S4096x12288.Idx) (h0 : (i 0).val = 1024 * (t.val / 12) + (y 0).val) (h1 : (i 1).val = 1024 * (t.val % 12) + (y 1).val) :
    k0_pay1 (iblk m c 0 t) (iblk m c 1 t) y = nn (xArr m c) (wArr m c) i := by
  unfold k0_pay1
  pointwise
  refine sum_mul_congr (fun k => ?_) fun k => ?_
  · unfold iblk
    exact (x_of c t (V m c) (ix2 (y 0) k) (ix2 (i 0) k) h0 rfl).trans (congrFun (V_main_arg0 m c) _)
  · unfold iblk
    exact (w_of c t (V m c) (ix2 k (y 1)) (ix2 k (i 1)) rfl h1).trans (congrFun (V_main_arg1 m c) _)

/-- The rotated block is the rotated product's block. -/
theorem turned_blk (ht : t.val % 12 ≤ 3) (y : S1024x1024.Idx) (i : S4096x12288.Idx) (h0 : (i 0).val = 1024 * (t.val / 12) + (y 0).val) (h1 : (i 1).val = 1024 * (t.val % 12) + (y 1).val) :
    turned (k0_pay1 (iblk m c 0 t) (iblk m c 1 t)) (iblk m c 2 t) (iblk m c 3 t) (iblk m c 4 t) y = spun (nn (xArr m c) (wArr m c)) (pArr m c) i := by
  have hy : (y 1).val < 1024 := (y 1).isLt
  have hp : ∀ (l : Fin 1024) (k : Fin 12288), k.val = 1024 * (t.val % 12) + l.val → k0_pay1 (iblk m c 0 t) (iblk m c 1 t) (ix2 (y 0) l) = nn (xArr m c) (wArr m c) (ix2 (i 0) k) := fun l k h => pay_blk m c t (ix2 (y 0) l) (ix2 (i 0) k) h0 h
  have hl : (y 1).val % 128 = (i 1).val % 128 := by omega
  have hu := (u_of c t (V m c) (ix2 (y 0) ⟨(y 1).val % 128, Nat.mod_lt _ (by decide)⟩) (ix2 (i 0) ⟨(i 1).val % 128, Nat.mod_lt _ (by decide)⟩) h0 hl.symm).trans (cos_lane m c _)
  have hs := (s_of c t (V m c) (ix2 (y 0) ⟨(y 1).val % 128, Nat.mod_lt _ (by decide)⟩) (ix2 (i 0) ⟨(i 1).val % 128, Nat.mod_lt _ (by decide)⟩) h0 hl.symm).trans (neg_lane m c _)
  have hv := (t_of c t (V m c) (ix2 (y 0) ⟨(y 1).val % 128, Nat.mod_lt _ (by decide)⟩) (ix2 (i 0) ⟨(i 1).val % 128, Nat.mod_lt _ (by decide)⟩) h0 hl.symm).trans (sin_lane m c _)
  change iblk m c 2 t (ix2 (y 0) ⟨(y 1).val % 128, Nat.mod_lt _ (by decide)⟩) = _ at hu
  change iblk m c 3 t (ix2 (y 0) ⟨(y 1).val % 128, Nat.mod_lt _ (by decide)⟩) = _ at hs
  change iblk m c 4 t (ix2 (y 0) ⟨(y 1).val % 128, Nat.mod_lt _ (by decide)⟩) = _ at hv
  unfold turned turn slab
  rw [hu, hs, hv]
  generalize k0_pay1 (iblk m c 0 t) (iblk m c 1 t) = r at hp ⊢
  generalize nn (xArr m c) (wArr m c) = q at hp ⊢
  have hi : (i 1).val < 4096 := by omega
  have eq : q i = q (ix2 (i 0) (i 1)) := congrArg q (funext fun a => by fin_cases a <;> rfl)
  unfold spun
  rw [if_pos hi, eq]
  by_cases h3 : (i 1).val % 128 < 16
  · rw [if_pos h3]
    simp only [ix2, h3, if_true]
    rw [mul_zero, add_zero]
    exact congrArg₂ (fun u v : EReal => u * _ + v * _) (hp _ _ (by dsimp only; omega)) (hp _ _ (by dsimp only; omega))
  · rw [if_neg h3]
    by_cases h4 : (i 1).val % 128 < 32
    · rw [if_pos h4]
      simp only [ix2, h3, h4, if_true, if_false]
      rw [mul_zero, add_zero]
      exact congrArg₂ (fun u v : EReal => u * _ + v * _) (hp _ _ (by dsimp only; omega)) (hp _ _ (by dsimp only; omega))
    · rw [if_neg h4]
      simp only [ix2, h3, h4, if_false]
      rw [mul_zero, mul_zero, add_zero, add_zero, mul_one]
      exact hp _ _ (by dsimp only; omega)

/-- What a point of the first four column blocks leaves. -/
theorem outs_A (h : t.val % 12 ≤ 3) (y : S1024x1024.Idx) :
    outsAt0 m c t.val t.isLt y = turned (k0_pay1 (iblk m c 0 t) (iblk m c 1 t)) (iblk m c 2 t) (iblk m c 3 t) (iblk m c 4 t) y := by
  rw [outsAt0_A m c t h (by omega)]
  exact out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _ y

/-- What a point of the others leaves. -/
theorem outs_B (h : ¬t.val % 12 ≤ 3) (y : S1024x1024.Idx) : outsAt0 m c t.val t.isLt y = k0_pay1 (iblk m c 0 t) (iblk m c 1 t) y := by
  rw [outsAt0_B m c t h (by omega)]
  exact out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _ y

/-- The array. -/
theorem arr5 : (dats m 0 c).arrAt 5 cfg0.N = spun (nn (xArr m c) (wArr m c)) (pArr m c) := by
  refine (dats m 0 c).arrAt_eq_of_covers 5 _ (by decide +kernel) fun t hf y => ?_
  obtain ⟨e0, e1, e2, e3, e4, e⟩ := index_all t
  have h0 : ((((View.whole main_v24).slice ((win0 5).rect t)).emb y) 0).val = 1024 * (t.val / 12) + (y 0).val := by
    show win0_5.index t 0 * 1024 + 1 * (y 0).val = _
    rw [e]
    show t.val / 12 * 1024 + 1 * (y 0).val = _
    omega
  have h1 : ((((View.whole main_v24).slice ((win0 5).rect t)).emb y) 1).val = 1024 * (t.val % 12) + (y 1).val := by
    show win0_5.index t 1 * 1024 + 1 * (y 1).val = _
    rw [e]
    show t.val % 12 * 1024 + 1 * (y 1).val = _
    omega
  rw [after0_5]
  by_cases h : t.val % 12 ≤ 3
  · exact (outs_A m c t h y).trans (turned_blk m c t h y _ h0 h1)
  · refine (outs_B m c t h y).trans ((pay_blk m c t y _ h0 h1).trans ?_)
    unfold spun
    rw [if_neg (by rw [h1]; omega)]

/-- The kernel over the reals ends without fault, its arguments unchanged and every counter at zero. -/
theorem frame_ideal : Cert.quiescent_InProjIdeal := fun m ρ _ => Cert.InProjIdeal.Gen.frame m ρ

/-- The reference likewise. -/
theorem frame_ref : Cert.quiescent_InProjRefIdeal := fun m ρ _ => (θ_run Cert.InProjRefIdeal.defs _ _).mono
  (fun r h => ⟨fun c => (h c).2, sem_eq_zero_of_no_sems (by decide) r.2⟩) (Cert.InProjRefIdeal.Value.run m ρ)

/-- Kernel and reference leave the same array. -/
theorem value : Cert.algebraic_InProjIdeal_InProjRefIdeal := fun m g m' g' _ hargs => by
  refine ⟨fun c => spun (nn (xArr m c) (wArr m c)) (pArr m c),
    (θ_run _ _ _).mono (fun r h c => ⟨(h c).1.trans (arr5 m c), (h c).2⟩) (Cert.InProjIdeal.Value.run_blocks m g),
    (θ_run _ _ _).mono (fun r h c => ⟨(h c).1.trans ?_, (h c).2⟩) (Cert.InProjRefIdeal.Value.run m' g')⟩
  refine (funext fun i => ref_read m' c i).trans ?_
  rw [(hargs c).1, (hargs c).2.1, (hargs c).2.2]

end Cert.InProjIdeal.Prod
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Arrays
public import proofs.«01_k».proof.Proof.Ref
public import proofs.«01_k».proof.Proof.Gen.Wgrad
public import proofs.«01_k».proof.Proof.Gen.Wgrad.Frame
public import proofs.«01_k».proof.Proof.Wgrad
public import proofs.«01_k».proof.Proof.Gen.Swiglu
public import proofs.«01_k».proof.Proof.Gen.Swiglu.Frame
public import proofs.«01_k».proof.Proof.Swiglu
public import proofs.«01_k».proof.Proof.Gen.GateUp
public import proofs.«01_k».proof.Proof.Gen.GateUp.Frame
public import proofs.«01_k».proof.Proof.GateUp
public import proofs.«01_k».proof.Proof.Gen.Down
public import proofs.«01_k».proof.Proof.Gen.Down.Frame
public import proofs.«01_k».proof.Proof.Down
public import proofs.«01_k».proof.Proof.Gen.WinGrad
public import proofs.«01_k».proof.Proof.Gen.WinGrad.Frame
public import proofs.«01_k».proof.Proof.WinGrad
public import proofs.«01_k».proof.Proof.Gen.HnGrad
public import proofs.«01_k».proof.Proof.Gen.HnGrad.Frame
public import proofs.«01_k».proof.Proof.HnGrad
public import proofs.«01_k».proof.Proof.Gen.Hn2Grad
public import proofs.«01_k».proof.Proof.Gen.Hn2Grad.Frame
public import proofs.«01_k».proof.Proof.Hn2Grad
public import proofs.«01_k».proof.Proof.Gen.WoutGrad
public import proofs.«01_k».proof.Proof.Gen.WoutGrad.Frame
public import proofs.«01_k».proof.Proof.WoutGrad
public import proofs.«01_k».proof.Proof.Gen.MixGrad
public import proofs.«01_k».proof.Proof.Gen.MixGrad.Frame
public import proofs.«01_k».proof.Proof.MixGrad
public import proofs.«01_k».proof.Proof.Gen.OutProj
public import proofs.«01_k».proof.Proof.Gen.OutProj.Frame
public import proofs.«01_k».proof.Proof.OutProj
public import proofs.«01_k».proof.Proof.Gen.NormMix
public import proofs.«01_k».proof.Proof.Gen.NormMix.Frame
public import proofs.«01_k».proof.Proof.NormMix
public import proofs.«01_k».proof.Proof.Gen.NormFfn
public import proofs.«01_k».proof.Proof.Gen.NormFfn.Frame
public import proofs.«01_k».proof.Proof.NormFfn
public import proofs.«01_k».proof.Proof.Gen.AdamIn
public import proofs.«01_k».proof.Proof.Gen.AdamIn.Frame
public import proofs.«01_k».proof.Proof.AdamIn
public import proofs.«01_k».proof.Proof.Gen.AdamOut
public import proofs.«01_k».proof.Proof.Gen.AdamOut.Frame
public import proofs.«01_k».proof.Proof.AdamOut
public import proofs.«01_k».proof.Proof.Gen.AdamFfn
public import proofs.«01_k».proof.Proof.Gen.AdamFfn.Frame
public import proofs.«01_k».proof.Proof.AdamFfn
public import proofs.«01_k».proof.Proof.Gen.SmallAdam
public import proofs.«01_k».proof.Proof.SmallAdam
public import proofs.«01_k».proof.Proof.Gen.NormFwd
public import proofs.«01_k».proof.Proof.Gen.NormFwd.Frame
public import proofs.«01_k».proof.Proof.NormFwd
public import proofs.«01_k».proof.Proof.Gen.LossHead
public import proofs.«01_k».proof.Proof.Gen.LossHead.Frame
public import proofs.«01_k».proof.Proof.LossHead
public import proofs.«01_k».proof.Proof.Gen.InProj
public import proofs.«01_k».proof.Proof.Gen.InProj.Frame
public import proofs.«01_k».proof.Proof.InProj
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel over the reals ends without fault, with its arguments unchanged and every counter at zero. -/
theorem frame_ideal : Cert.quiescent_KernelIdeal := fun m ρ _ => Cert.KernelIdeal.Gen.frame m ρ

/-- The reference over the reals likewise. -/
theorem frame_ref : Cert.quiescent_ReferenceIdeal := fun m ρ _ => (θ_run Cert.ReferenceIdeal.defs _ _).mono
  (fun r h => ⟨fun c => ⟨(h c).2.2.2.1, (h c).2.2.2.2⟩, sem_eq_zero_of_no_sems (by decide) r.2⟩) (Cert.ReferenceIdeal.Value.run m ρ)

/-- From real arguments, the kernel and the reference leave the same three gradients. -/
theorem value [Cert.Pre_finite.Facts] : Cert.algebraic_KernelIdeal_ReferenceIdeal_pre_finite := fun m g m' g' hpre hargs => by
  have hfin := fun c => Cert.SB.finite_args _ _ (hpre c)
  choose P hP using fun c => Cert.SB.holds_of (a := 2) (b := 2048) (c := 12288) _ (hfin c).1
  choose O hO using fun c => Cert.SB.holds_of (a := 2) (b := 2048) (c := 4096) _ (hfin c).2
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g,
    (θ_run Cert.ReferenceIdeal.defs _ _).mono (fun r h c => ?_) (Cert.ReferenceIdeal.Value.run m' g')⟩
  have hP' := hP c
  have hO' := hO c
  rw [← (hargs c).1] at hP'
  rw [← (hargs c).2] at hO'
  exact ⟨(h c).1.trans (((Cert.ReferenceIdeal.SB.res_dq m' c).trans (Cert.ReferenceIdeal.SB.rDq_eq hP' hO')).trans (Cert.KernelIdeal.SB.arr_dq m c (hP c) (hO c)).symm),
    (h c).2.1.trans (((Cert.ReferenceIdeal.SB.res_dk m' c).trans (Cert.ReferenceIdeal.SB.rDk_eq hP' hO')).trans (Cert.KernelIdeal.SB.arr_dk m c (hP c) (hO c)).symm),
    (h c).2.2.1.trans (((Cert.ReferenceIdeal.SB.res_dv m' c).trans (Cert.ReferenceIdeal.SB.rDv_eq hP' hO')).trans (Cert.KernelIdeal.SB.arr_dv m c (hP c) (hO c)).symm),
    (h c).2.2.2.1, (h c).2.2.2.2⟩

theorem claim : Cert.Claim := ⟨Cert.Kernel.Gen.facts, Cert.KernelIdeal.Gen.facts, Cert.ReferenceIdeal.Gen.facts,
  Cert.Wgrad.Gen.facts, Cert.WgradIdeal.Gen.facts, Cert.WgradRefIdeal.Gen.facts,
  Cert.Swiglu.Gen.facts, Cert.SwigluIdeal.Gen.facts, Cert.SwigluRefIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts,
  Cert.WinGrad.Gen.facts, Cert.WinGradIdeal.Gen.facts, Cert.WinGradRefIdeal.Gen.facts,
  Cert.HnGrad.Gen.facts, Cert.HnGradIdeal.Gen.facts, Cert.HnGradRefIdeal.Gen.facts,
  Cert.Hn2Grad.Gen.facts, Cert.Hn2GradIdeal.Gen.facts, Cert.Hn2GradRefIdeal.Gen.facts,
  Cert.WoutGrad.Gen.facts, Cert.WoutGradIdeal.Gen.facts, Cert.WoutGradRefIdeal.Gen.facts,
  Cert.MixGrad.Gen.facts, Cert.MixGradIdeal.Gen.facts, Cert.MixGradRefIdeal.Gen.facts,
  Cert.OutProj.Gen.facts, Cert.OutProjIdeal.Gen.facts, Cert.OutProjRefIdeal.Gen.facts,
  Cert.NormMix.Gen.facts, Cert.NormMixIdeal.Gen.facts, Cert.NormMixRefIdeal.Gen.facts,
  Cert.NormFfn.Gen.facts, Cert.NormFfnIdeal.Gen.facts, Cert.NormFfnRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamFfn.Gen.facts, Cert.AdamFfnIdeal.Gen.facts, Cert.AdamFfnRefIdeal.Gen.facts,
  Cert.SmallAdam.Gen.facts, Cert.SmallAdamIdeal.Gen.facts, Cert.SmallAdamRefIdeal.Gen.facts,
  Cert.NormFwd.Gen.facts, Cert.NormFwdIdeal.Gen.facts, Cert.NormFwdRefIdeal.Gen.facts,
  Cert.LossHead.Gen.facts, Cert.LossHeadIdeal.Gen.facts, Cert.LossHeadRefIdeal.Gen.facts,
  Cert.InProj.Gen.facts, Cert.InProjIdeal.Gen.facts, Cert.InProjRefIdeal.Gen.facts,
  Cert.SB.preFacts, Cert.SwigluIdeal.Prod.preFacts,
  fun m ρ _ => Cert.Kernel.Gen.frame m ρ,
  frame_ideal,
  fun m ρ _ => frame_ideal m ρ trivial,
  frame_ref,
  fun m ρ _ => frame_ref m ρ trivial,
  fun m ρ _ => Cert.Wgrad.Gen.frame m ρ,
  Cert.WgradIdeal.Prod.frame_ideal,
  Cert.WgradIdeal.Prod.frame_ref,
  fun m ρ _ => Cert.Swiglu.Gen.frame m ρ,
  Cert.SwigluIdeal.Prod.frame_ideal,
  fun m ρ _ => Cert.SwigluIdeal.Prod.frame_ideal m ρ trivial,
  Cert.SwigluIdeal.Prod.frame_ref,
  fun m ρ _ => Cert.SwigluIdeal.Prod.frame_ref m ρ trivial,
  fun m ρ _ => Cert.GateUp.Gen.frame m ρ,
  Cert.GateUpIdeal.Prod.frame_ideal,
  Cert.GateUpIdeal.Prod.frame_ref,
  fun m ρ _ => Cert.Down.Gen.frame m ρ,
  Cert.DownIdeal.Prod.frame_ideal,
  Cert.DownIdeal.Prod.frame_ref,
  fun m ρ _ => Cert.WinGrad.Gen.frame m ρ,
  Cert.WinGradIdeal.Prod.frame_ideal,
  Cert.WinGradIdeal.Prod.frame_ref,
  fun m ρ _ => Cert.HnGrad.Gen.frame m ρ,
  Cert.HnGradIdeal.Prod.frame_ideal,
  Cert.HnGradIdeal.Prod.frame_ref,
  fun m ρ _ => Cert.Hn2Grad.Gen.frame m ρ,
  Cert.Hn2GradIdeal.Prod.frame_ideal,
  Cert.Hn2GradIdeal.Prod.frame_ref,
  fun m ρ _ => Cert.WoutGrad.Gen.frame m ρ,
  Cert.WoutGradIdeal.Prod.frame_ideal,
  Cert.WoutGradIdeal.Prod.frame_ref,
  fun m ρ _ => Cert.MixGrad.Gen.frame m ρ,
  Cert.MixGradIdeal.Prod.frame_ideal,
  Cert.MixGradIdeal.Prod.frame_ref,
  fun m ρ _ => Cert.OutProj.Gen.frame m ρ,
  Cert.OutProjIdeal.Prod.frame_ideal,
  Cert.OutProjIdeal.Prod.frame_ref,
  fun m ρ _ => Cert.NormMix.Gen.frame m ρ,
  Cert.NormMixIdeal.Prod.frame_ideal,
  Cert.NormMixIdeal.Prod.frame_ref,
  fun m ρ _ => Cert.NormFfn.Gen.frame m ρ,
  Cert.NormFfnIdeal.Prod.frame_ideal,
  Cert.NormFfnIdeal.Prod.frame_ref,
  fun m ρ _ => Cert.AdamIn.Gen.frame m ρ,
  Cert.AdamInIdeal.Prod.frame_ideal,
  Cert.AdamInIdeal.Prod.frame_ref,
  fun m ρ _ => Cert.AdamOut.Gen.frame m ρ,
  Cert.AdamOutIdeal.Prod.frame_ideal,
  Cert.AdamOutIdeal.Prod.frame_ref,
  fun m ρ _ => Cert.AdamFfn.Gen.frame m ρ,
  Cert.AdamFfnIdeal.Prod.frame_ideal,
  Cert.AdamFfnIdeal.Prod.frame_ref,
  Cert.SmallAdamIdeal.Prod.frame_kernel,
  Cert.SmallAdamIdeal.Prod.frame_ideal,
  Cert.SmallAdamIdeal.Prod.frame_ref,
  fun m ρ _ => Cert.NormFwd.Gen.frame m ρ,
  Cert.NormFwdIdeal.Prod.frame_ideal,
  Cert.NormFwdIdeal.Prod.frame_ref,
  fun m ρ _ => Cert.LossHead.Gen.frame m ρ,
  Cert.LossHeadIdeal.Prod.frame_ideal,
  Cert.LossHeadIdeal.Prod.frame_ref,
  fun m ρ _ => Cert.InProj.Gen.frame m ρ,
  Cert.InProjIdeal.Prod.frame_ideal,
  Cert.InProjIdeal.Prod.frame_ref,
  trivial,
  @value Cert.SB.preFacts,
  trivial,
  Cert.WgradIdeal.Prod.value,
  trivial,
  @Cert.SwigluIdeal.Prod.value Cert.SwigluIdeal.Prod.preFacts,
  trivial,
  Cert.GateUpIdeal.Prod.value,
  trivial,
  Cert.DownIdeal.Prod.value,
  trivial,
  Cert.WinGradIdeal.Prod.value,
  trivial,
  Cert.HnGradIdeal.Prod.value,
  trivial,
  Cert.Hn2GradIdeal.Prod.value,
  trivial,
  Cert.WoutGradIdeal.Prod.value,
  trivial,
  Cert.MixGradIdeal.Prod.value,
  trivial,
  Cert.OutProjIdeal.Prod.value,
  trivial,
  Cert.NormMixIdeal.Prod.value,
  trivial,
  Cert.NormFfnIdeal.Prod.value,
  trivial,
  Cert.AdamInIdeal.Prod.value,
  trivial,
  Cert.AdamOutIdeal.Prod.value,
  trivial,
  Cert.AdamFfnIdeal.Prod.value,
  trivial,
  Cert.SmallAdamIdeal.Prod.value,
  trivial,
  Cert.NormFwdIdeal.Prod.value,
  trivial,
  Cert.LossHeadIdeal.Prod.value,
  trivial,
  Cert.InProjIdeal.Prod.value⟩

end Cert.Proof

end
